-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel) (hPre_ids_in_table := hPre_ids_in_table)
    ∧ quiescent_KernelIdeal (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal (hKernelIdeal := hKernelIdeal) (hReferenceIdeal := hReferenceIdeal) (hPre_ids_in_table := hPre_ids_in_table)
-- ==== Pre_ids_in_table.lean ====
abbrev S8x4096 : Shape := ⟨2, ![8, 4096]⟩
abbrev S3072x32000 : Shape := ⟨2, ![3072, 32000]⟩
abbrev S32000 : Shape := ⟨1, ![32000]⟩
abbrev S3072 : Shape := ⟨1, ![3072]⟩
abbrev S_ : Shape := ⟨0, ![]⟩

class Facts : Prop where
  bcast_S_S8x4096 : S_.BroadcastsInDim S8x4096 (![] : Fin 0 → Fin S8x4096.rank)

variable [Facts]

def fn {F : FTy → Type} [FloatOps F] (main_arg0 : IVec S8x4096 32) (main_arg1 : IVec S3072x32000 8) (main_arg2 : FVec F S32000 .f32) (main_arg3 : FVec F S3072 .bf16) : IVec S8x4096 1 :=
  let main_c : IVec S_ 32 := constantI S_ 32 0#32
  let main_v0 : IVec S8x4096 32 := broadcastInDim S8x4096 ![] bcast_S_S8x4096 main_c
  let main_v1 : IVec S8x4096 1 := cmpi .sge main_arg0 main_v0
  let main_c_0 : IVec S_ 32 := constantI S_ 32 32000#32
  let main_v2 : IVec S8x4096 32 := broadcastInDim S8x4096 ![] bcast_S_S8x4096 main_c_0
  let main_v3 : IVec S8x4096 1 := cmpi .slt main_arg0 main_v2
  let main_v4 : IVec S8x4096 1 := andi main_v1 main_v3
  main_v4
-- ==== Kernel.lean ====
abbrev S8x4096 : Shape := ⟨2, ![8, 4096]⟩
abbrev S3072x32000 : Shape := ⟨2, ![3072, 32000]⟩
abbrev S32000 : Shape := ⟨1, ![32000]⟩
abbrev S3072 : Shape := ⟨1, ![3072]⟩
abbrev S250x128 : Shape := ⟨2, ![250, 128]⟩
abbrev S24x128 : Shape := ⟨2, ![24, 128]⟩
abbrev S8x4096x3072 : Shape := ⟨3, ![8, 4096, 3072]⟩
abbrev S96000x128 : Shape := ⟨2, ![96000, 128]⟩
abbrev S6x3072x256 : Shape := ⟨3, ![6, 3072, 256]⟩
abbrev S16x128 : Shape := ⟨2, ![16, 128]⟩
abbrev S6x128x128 : Shape := ⟨3, ![6, 128, 128]⟩
abbrev S120x128 : Shape := ⟨2, ![120, 128]⟩
abbrev S4x256x1536 : Shape := ⟨3, ![4, 256, 1536]⟩
abbrev S6 : Shape := ⟨1, ![6]⟩
abbrev S_ : Shape := ⟨0, ![]⟩
abbrev S4 : Shape := ⟨1, ![4]⟩
abbrev S8x128 : Shape := ⟨2, ![8, 128]⟩
abbrev S1 : Shape := ⟨1, ![1]⟩
abbrev S1x3072x256 : Shape := ⟨3, ![1, 3072, 256]⟩
abbrev S3072x256 : Shape := ⟨2, ![3072, 256]⟩
abbrev S1x32x128 : Shape := ⟨3, ![1, 32, 128]⟩
abbrev S32x128 : Shape := ⟨2, ![32, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x256x1536 : Shape := ⟨3, ![1, 256, 1536]⟩
abbrev S256x1536 : Shape := ⟨2, ![256, 1536]⟩
abbrev S1x1 : Shape := ⟨2, ![1, 1]⟩
abbrev S3x128 : Shape := ⟨2, ![3, 128]⟩
abbrev S1x1536x256 : Shape := ⟨3, ![1, 1536, 256]⟩
abbrev S1536x256 : Shape := ⟨2, ![1536, 256]⟩

abbrev nBuf : Space → Nat
  | .hbm => 8
  | .vmem => 11
  | .smem => 3
  | _ => 0

abbrev bufTy : (tb : Table) → Fin (tcTables nBuf tb) → BufTy
  | .hbm, ⟨0, _⟩ => ⟨S8x4096, .i32⟩
  | .hbm, ⟨1, _⟩ => ⟨S3072x32000, .i8⟩
  | .hbm, ⟨2, _⟩ => ⟨S32000, .f32⟩
  | .hbm, ⟨3, _⟩ => ⟨S3072, .bf16⟩
  | .hbm, ⟨4, _⟩ => ⟨S250x128, .f32⟩
  | .hbm, ⟨5, _⟩ => ⟨S24x128, .bf16⟩
  | .hbm, ⟨6, _⟩ => ⟨S8x4096x3072, .bf16⟩
  | .hbm, ⟨7, _⟩ => ⟨S8x4096x3072, .bf16⟩
  | .local _ .vmem, ⟨0, _⟩ => ⟨S250x128, .f32⟩
  | .local _ .vmem, ⟨1, _⟩ => ⟨S24x128, .bf16⟩
  | .local _ .vmem, ⟨2, _⟩ => ⟨S96000x128, .i32⟩
  | .local _ .vmem, ⟨3, _⟩ => ⟨S6x3072x256, .i8⟩
  | .local _ .vmem, ⟨4, _⟩ => ⟨S250x128, .f32⟩
  | .local _ .vmem, ⟨5, _⟩ => ⟨S16x128, .bf16⟩
  | .local _ .vmem, ⟨6, _⟩ => ⟨S24x128, .f32⟩
  | .local _ .vmem, ⟨7, _⟩ => ⟨S6x128x128, .i32⟩
  | .local _ .vmem, ⟨8, _⟩ => ⟨S120x128, .i32⟩
  | .local _ .vmem, ⟨9, _⟩ => ⟨S4x256x1536, .bf16⟩
  | .local _ .vmem, ⟨10, _⟩ => ⟨S4x256x1536, .bf16⟩
  | .local _ .smem, ⟨0, _⟩ => ⟨S8x4096, .i32⟩
  | .local _ .smem, ⟨1, _⟩ => ⟨S32000, .f32⟩
  | .local _ .smem, ⟨2, _⟩ => ⟨S32000, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg2_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_stg0_0 : Ref sig .tc := ⟨.smem, 0, rfl⟩
abbrev cc0_stg1_0 : Ref sig .tc := ⟨.smem, 1, rfl⟩
abbrev cc0_scratch3 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_mult1 : BitVec 32 :=
  let c0_i32_3 : BitVec 32 := 0#32
  let c256_i32 : BitVec 32 := 256#32
  let v8 : BitVec 32 := Scalar.muli c0_i32_3 c256_i32
  v8
def k0_off1 (c0_i32 : BitVec 32) : Fin 1 → Nat :=
  let c6_i32 : BitVec 32 := 6#32
  let v7 : BitVec 32 := Scalar.remsi c0_i32 c6_i32
  ![v7.toNat]
def k0_off2 (c0_i32 : BitVec 32) : Fin 3 → Nat :=
  let c6_i32 : BitVec 32 := 6#32
  let v7 : BitVec 32 := Scalar.remsi c0_i32 c6_i32
  let c0_i32_4 : BitVec 32 := 0#32
  let c0_i32_5 : BitVec 32 := 0#32
  ![v7.toNat, 0, 0]
def k0_off3 (c0_i32_3 : BitVec 32) : Fin 2 → Nat :=
  let c0_i32_6 : BitVec 32 := 0#32
  let c256_i32 : BitVec 32 := 256#32
  let v8 : BitVec 32 := Scalar.muli c0_i32_3 c256_i32
  let v9 : BitVec 32 := v8
  ![0, v9.toNat]
def k0_mult2 : BitVec 32 :=
  let c1_i32_8 : BitVec 32 := 1#32
  let c256_i32_9 : BitVec 32 := 256#32
  let v16 : BitVec 32 := Scalar.muli c1_i32_8 c256_i32_9
  v16
def k0_mult3 : BitVec 32 :=
  let c2_i32_14 : BitVec 32 := 2#32
  let c256_i32_15 : BitVec 32 := 256#32
  let v24 : BitVec 32 := Scalar.muli c2_i32_14 c256_i32_15
  v24
def k0_mult4 : BitVec 32 :=
  let c3_i32_20 : BitVec 32 := 3#32
  let c256_i32_21 : BitVec 32 := 256#32
  let v32 : BitVec 32 := Scalar.muli c3_i32_20 c256_i32_21
  v32
def k0_mult5 : BitVec 32 :=
  let c4_i32_26 : BitVec 32 := 4#32
  let c256_i32_27 : BitVec 32 := 256#32
  let v40 : BitVec 32 := Scalar.muli c4_i32_26 c256_i32_27
  v40
@[reducible] def k0_t1_loop : Scf.Loop 32 :=
  let c0_i32_31 : BitVec 32 := 0#32
  let c125_i32 : BitVec 32 := 125#32
  let v47 : BitVec 32 := Scalar.addi c0_i32_31 c125_i32
  let c1_i32_32 : BitVec 32 := 1#32
  ⟨c0_i32_31, v47, c1_i32_32⟩
def k0_mult6 (k0_t1 : Fin k0_t1_loop.trips) : BitVec 32 :=
  let c0_i32_31 : BitVec 32 := 0#32
  let c1_i32_32 : BitVec 32 := 1#32
  let arg21 : BitVec 32 := Scf.iv c0_i32_31 c1_i32_32 k0_t1
  let c256_i32_188 : BitVec 32 := 256#32
  let v231 : BitVec 32 := Scalar.muli arg21 c256_i32_188
  v231
def k0_off4 (k0_t1 : Fin k0_t1_loop.trips) : Fin 1 → Nat :=
  let c0_i32_31 : BitVec 32 := 0#32
  let c1_i32_32 : BitVec 32 := 1#32
  let arg21 : BitVec 32 := Scf.iv c0_i32_31 c1_i32_32 k0_t1
  let c6_i32_187 : BitVec 32 := 6#32
  let v230 : BitVec 32 := Scalar.remsi arg21 c6_i32_187
  ![v230.toNat]
def k0_off5 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_187 : BitVec 32 := 6#32
  let v230 : BitVec 32 := Scalar.remsi arg21 c6_i32_187
  let c0_i32_189 : BitVec 32 := 0#32
  let c0_i32_190 : BitVec 32 := 0#32
  ![v230.toNat, 0, 0]
def k0_off6 (k0_t1 : Fin k0_t1_loop.trips) : Fin 2 → Nat :=
  let c0_i32_191 : BitVec 32 := 0#32
  let c0_i32_31 : BitVec 32 := 0#32
  let c1_i32_32 : BitVec 32 := 1#32
  let arg21 : BitVec 32 := Scf.iv c0_i32_31 c1_i32_32 k0_t1
  let c256_i32_188 : BitVec 32 := 256#32
  let v231 : BitVec 32 := Scalar.muli arg21 c256_i32_188
  let v232 : BitVec 32 := v231
  ![0, v232.toNat]
def k0_cond1 (k0_t1 : Fin k0_t1_loop.trips) : BitVec 1 :=
  let c0_i32_31 : BitVec 32 := 0#32
  let c1_i32_32 : BitVec 32 := 1#32
  let arg21 : BitVec 32 := Scf.iv c0_i32_31 c1_i32_32 k0_t1
  let c6_i32_192 : BitVec 32 := 6#32
  let v238 : BitVec 32 := Scalar.addi arg21 c6_i32_192
  let c1_i32_193 : BitVec 32 := 1#32
  let v239 : BitVec 32 := Scalar.subi v238 c1_i32_193
  let c125_i32_194 : BitVec 32 := 125#32
  let v240 : BitVec 1 := Scalar.cmpi .slt v239 c125_i32_194
  let v241 : BitVec 32 := Scalar.extui v240
  let c0_i32_195 : BitVec 32 := 0#32
  let v242 : BitVec 1 := Scalar.cmpi .ne v241 c0_i32_195
  v242

def k0_mult7 (k0_t1 : Fin k0_t1_loop.trips) : BitVec 32 :=
  let c0_i32_31 : BitVec 32 := 0#32
  let c1_i32_32 : BitVec 32 := 1#32
  let arg21 : BitVec 32 := Scf.iv c0_i32_31 c1_i32_32 k0_t1
  let c6_i32_2118 : BitVec 32 := 6#32
  let v7406 : BitVec 32 := Scalar.addi arg21 c6_i32_2118
  let c1_i32_2119 : BitVec 32 := 1#32
  let v7407 : BitVec 32 := Scalar.subi v7406 c1_i32_2119
  let c256_i32_2121 : BitVec 32 := 256#32
  let v7409 : BitVec 32 := Scalar.muli v7407 c256_i32_2121
  v7409
def k0_off7 (k0_t1 : Fin k0_t1_loop.trips) : Fin 1 → Nat :=
  let c0_i32_31 : BitVec 32 := 0#32
  let c1_i32_32 : BitVec 32 := 1#32
  let arg21 : BitVec 32 := Scf.iv c0_i32_31 c1_i32_32 k0_t1
  let c6_i32_2118 : BitVec 32 := 6#32
  let v7406 : BitVec 32 := Scalar.addi arg21 c6_i32_2118
  let c1_i32_2119 : BitVec 32 := 1#32
  let v7407 : BitVec 32 := Scalar.subi v7406 c1_i32_2119
  let c6_i32_2120 : BitVec 32 := 6#32
  let v7408 : BitVec 32 := Scalar.remsi v7407 c6_i32_2120
  ![v7408.toNat]
def k0_off8 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_2118 : BitVec 32 := 6#32
  let v7406 : BitVec 32 := Scalar.addi arg21 c6_i32_2118
  let c1_i32_2119 : BitVec 32 := 1#32
  let v7407 : BitVec 32 := Scalar.subi v7406 c1_i32_2119
  let c6_i32_2120 : BitVec 32 := 6#32
  let v7408 : BitVec 32 := Scalar.remsi v7407 c6_i32_2120
  let c0_i32_2122 : BitVec 32 := 0#32
  let c0_i32_2123 : BitVec 32 := 0#32
  ![v7408.toNat, 0, 0]
def k0_off9 (k0_t1 : Fin k0_t1_loop.trips) : Fin 2 → Nat :=
  let c0_i32_2124 : BitVec 32 := 0#32
  let c0_i32_31 : BitVec 32 := 0#32
  let c1_i32_32 : BitVec 32 := 1#32
  let arg21 : BitVec 32 := Scf.iv c0_i32_31 c1_i32_32 k0_t1
  let c6_i32_2118 : BitVec 32 := 6#32
  let v7406 : BitVec 32 := Scalar.addi arg21 c6_i32_2118
  let c1_i32_2119 : BitVec 32 := 1#32
  let v7407 : BitVec 32 := Scalar.subi v7406 c1_i32_2119
  let c256_i32_2121 : BitVec 32 := 256#32
  let v7409 : BitVec 32 := Scalar.muli v7407 c256_i32_2121
  let v7410 : BitVec 32 := v7409
  ![0, v7410.toNat]
def k0_off10 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v244 : Index := Scalar.indexCast v229
  let c0_197 : Index := 0#32
  let c0_198 : Index := 0#32
  ![v244.toNat, 0, 0]
def k0_off11 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v248 : Index := Scalar.indexCast v229
  let c128 : Index := 128#32
  let c0_199 : Index := 0#32
  ![v248.toNat, 128, 0]
def k0_off12 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v252 : Index := Scalar.indexCast v229
  let c256 : Index := 256#32
  let c0_200 : Index := 0#32
  ![v252.toNat, 256, 0]
def k0_off13 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v256 : Index := Scalar.indexCast v229
  let c384 : Index := 384#32
  let c0_201 : Index := 0#32
  ![v256.toNat, 384, 0]
def k0_off14 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v328 : Index := Scalar.indexCast v229
  let c32 : Index := 32#32
  let c0_234 : Index := 0#32
  ![v328.toNat, 32, 0]
def k0_off15 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v332 : Index := Scalar.indexCast v229
  let c160 : Index := 160#32
  let c0_235 : Index := 0#32
  ![v332.toNat, 160, 0]
def k0_off16 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v336 : Index := Scalar.indexCast v229
  let c288 : Index := 288#32
  let c0_236 : Index := 0#32
  ![v336.toNat, 288, 0]
def k0_off17 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v340 : Index := Scalar.indexCast v229
  let c416 : Index := 416#32
  let c0_237 : Index := 0#32
  ![v340.toNat, 416, 0]
def k0_off18 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v412 : Index := Scalar.indexCast v229
  let c64 : Index := 64#32
  let c0_275 : Index := 0#32
  ![v412.toNat, 64, 0]
def k0_off19 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v416 : Index := Scalar.indexCast v229
  let c192 : Index := 192#32
  let c0_276 : Index := 0#32
  ![v416.toNat, 192, 0]
def k0_off20 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v420 : Index := Scalar.indexCast v229
  let c320 : Index := 320#32
  let c0_277 : Index := 0#32
  ![v420.toNat, 320, 0]
def k0_off21 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v424 : Index := Scalar.indexCast v229
  let c448 : Index := 448#32
  let c0_278 : Index := 0#32
  ![v424.toNat, 448, 0]
def k0_off22 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v496 : Index := Scalar.indexCast v229
  let c96 : Index := 96#32
  let c0_316 : Index := 0#32
  ![v496.toNat, 96, 0]
def k0_off23 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v500 : Index := Scalar.indexCast v229
  let c224 : Index := 224#32
  let c0_317 : Index := 0#32
  ![v500.toNat, 224, 0]
def k0_off24 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v504 : Index := Scalar.indexCast v229
  let c352 : Index := 352#32
  let c0_318 : Index := 0#32
  ![v504.toNat, 352, 0]
def k0_off25 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v508 : Index := Scalar.indexCast v229
  let c480 : Index := 480#32
  let c0_319 : Index := 0#32
  ![v508.toNat, 480, 0]
def k0_off26 (k0_t1 : Fin k0_t1_loop.trips) (c0_i32_360 : BitVec 32) (c0_i32_361 : BitVec 32) (c0_i32_363 : BitVec 32) : Fin 2 → Nat :=
  let c0_i32_31 : BitVec 32 := 0#32
  let c1_i32_32 : BitVec 32 := 1#32
  let arg21 : BitVec 32 := Scf.iv c0_i32_31 c1_i32_32 k0_t1
  let c256_i32_196 : BitVec 32 := 256#32
  let v243 : BitVec 32 := Scalar.muli arg21 c256_i32_196
  let v583 : BitVec 32 := Scalar.addi v243 c0_i32_360
  let v584 : BitVec 32 := Scalar.addi v583 c0_i32_361
  let c3_i32_362 : BitVec 32 := 3#32
  let v585 : BitVec 32 := Scalar.muli v584 c3_i32_362
  let v586 : BitVec 32 := Scalar.addi v585 c0_i32_363
  let v588 : Index := Scalar.indexCast v586
  let c0_364 : Index := 0#32
  ![v588.toNat, 0]
def k0_off27 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v727 : Index := Scalar.indexCast v229
  let c512 : Index := 512#32
  let c0_427 : Index := 0#32
  ![v727.toNat, 512, 0]
def k0_off28 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v731 : Index := Scalar.indexCast v229
  let c640 : Index := 640#32
  let c0_428 : Index := 0#32
  ![v731.toNat, 640, 0]
def k0_off29 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v735 : Index := Scalar.indexCast v229
  let c768 : Index := 768#32
  let c0_429 : Index := 0#32
  ![v735.toNat, 768, 0]
def k0_off30 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v739 : Index := Scalar.indexCast v229
  let c896 : Index := 896#32
  let c0_430 : Index := 0#32
  ![v739.toNat, 896, 0]
def k0_off31 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v811 : Index := Scalar.indexCast v229
  let c544 : Index := 544#32
  let c0_471 : Index := 0#32
  ![v811.toNat, 544, 0]
def k0_off32 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v815 : Index := Scalar.indexCast v229
  let c672 : Index := 672#32
  let c0_472 : Index := 0#32
  ![v815.toNat, 672, 0]
def k0_off33 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v819 : Index := Scalar.indexCast v229
  let c800 : Index := 800#32
  let c0_473 : Index := 0#32
  ![v819.toNat, 800, 0]
def k0_off34 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v823 : Index := Scalar.indexCast v229
  let c928 : Index := 928#32
  let c0_474 : Index := 0#32
  ![v823.toNat, 928, 0]
def k0_off35 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v895 : Index := Scalar.indexCast v229
  let c576 : Index := 576#32
  let c0_515 : Index := 0#32
  ![v895.toNat, 576, 0]
def k0_off36 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v899 : Index := Scalar.indexCast v229
  let c704 : Index := 704#32
  let c0_516 : Index := 0#32
  ![v899.toNat, 704, 0]
def k0_off37 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v903 : Index := Scalar.indexCast v229
  let c832 : Index := 832#32
  let c0_517 : Index := 0#32
  ![v903.toNat, 832, 0]
def k0_off38 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v907 : Index := Scalar.indexCast v229
  let c960 : Index := 960#32
  let c0_518 : Index := 0#32
  ![v907.toNat, 960, 0]
def k0_off39 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v979 : Index := Scalar.indexCast v229
  let c608 : Index := 608#32
  let c0_559 : Index := 0#32
  ![v979.toNat, 608, 0]
def k0_off40 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v983 : Index := Scalar.indexCast v229
  let c736 : Index := 736#32
  let c0_560 : Index := 0#32
  ![v983.toNat, 736, 0]
def k0_off41 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v987 : Index := Scalar.indexCast v229
  let c864 : Index := 864#32
  let c0_561 : Index := 0#32
  ![v987.toNat, 864, 0]
def k0_off42 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v991 : Index := Scalar.indexCast v229
  let c992 : Index := 992#32
  let c0_562 : Index := 0#32
  ![v991.toNat, 992, 0]
def k0_off43 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1210 : Index := Scalar.indexCast v229
  let c1024 : Index := 1024#32
  let c0_686 : Index := 0#32
  ![v1210.toNat, 1024, 0]
def k0_off44 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1214 : Index := Scalar.indexCast v229
  let c1152 : Index := 1152#32
  let c0_687 : Index := 0#32
  ![v1214.toNat, 1152, 0]
def k0_off45 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1218 : Index := Scalar.indexCast v229
  let c1280 : Index := 1280#32
  let c0_688 : Index := 0#32
  ![v1218.toNat, 1280, 0]
def k0_off46 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1222 : Index := Scalar.indexCast v229
  let c1408 : Index := 1408#32
  let c0_689 : Index := 0#32
  ![v1222.toNat, 1408, 0]
def k0_off47 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1294 : Index := Scalar.indexCast v229
  let c1056 : Index := 1056#32
  let c0_730 : Index := 0#32
  ![v1294.toNat, 1056, 0]
def k0_off48 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1298 : Index := Scalar.indexCast v229
  let c1184 : Index := 1184#32
  let c0_731 : Index := 0#32
  ![v1298.toNat, 1184, 0]
def k0_off49 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1302 : Index := Scalar.indexCast v229
  let c1312 : Index := 1312#32
  let c0_732 : Index := 0#32
  ![v1302.toNat, 1312, 0]
def k0_off50 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1306 : Index := Scalar.indexCast v229
  let c1440 : Index := 1440#32
  let c0_733 : Index := 0#32
  ![v1306.toNat, 1440, 0]
def k0_off51 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1378 : Index := Scalar.indexCast v229
  let c1088 : Index := 1088#32
  let c0_774 : Index := 0#32
  ![v1378.toNat, 1088, 0]
def k0_off52 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1382 : Index := Scalar.indexCast v229
  let c1216 : Index := 1216#32
  let c0_775 : Index := 0#32
  ![v1382.toNat, 1216, 0]
def k0_off53 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1386 : Index := Scalar.indexCast v229
  let c1344 : Index := 1344#32
  let c0_776 : Index := 0#32
  ![v1386.toNat, 1344, 0]
def k0_off54 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1390 : Index := Scalar.indexCast v229
  let c1472 : Index := 1472#32
  let c0_777 : Index := 0#32
  ![v1390.toNat, 1472, 0]
def k0_off55 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1462 : Index := Scalar.indexCast v229
  let c1120 : Index := 1120#32
  let c0_818 : Index := 0#32
  ![v1462.toNat, 1120, 0]
def k0_off56 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1466 : Index := Scalar.indexCast v229
  let c1248 : Index := 1248#32
  let c0_819 : Index := 0#32
  ![v1466.toNat, 1248, 0]
def k0_off57 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1470 : Index := Scalar.indexCast v229
  let c1376 : Index := 1376#32
  let c0_820 : Index := 0#32
  ![v1470.toNat, 1376, 0]
def k0_off58 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v1474 : Index := Scalar.indexCast v229
  let c1504 : Index := 1504#32
  let c0_821 : Index := 0#32
  ![v1474.toNat, 1504, 0]
def k0_off59 (k0_t1 : Fin k0_t1_loop.trips) (c0_i32_946 : BitVec 32) : Fin 2 → Nat :=
  let c0_i32_31 : BitVec 32 := 0#32
  let c1_i32_32 : BitVec 32 := 1#32
  let arg21 : BitVec 32 := Scf.iv c0_i32_31 c1_i32_32 k0_t1
  let c2_i32_945 : BitVec 32 := 2#32
  let v1693 : BitVec 32 := Scalar.muli arg21 c2_i32_945
  let v1694 : BitVec 32 := Scalar.addi v1693 c0_i32_946
  let v1695 : Index := Scalar.indexCast v1694
  let c0_947 : Index := 0#32
  ![v1695.toNat, 0]
def k0_off60 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2758 : Index := Scalar.indexCast v229
  let c1536 : Index := 1536#32
  let c0_1044 : Index := 0#32
  ![v2758.toNat, 1536, 0]
def k0_off61 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2779 : Index := Scalar.indexCast v229
  let c1568 : Index := 1568#32
  let c0_1045 : Index := 0#32
  ![v2779.toNat, 1568, 0]
def k0_off62 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2801 : Index := Scalar.indexCast v229
  let c1600 : Index := 1600#32
  let c0_1046 : Index := 0#32
  ![v2801.toNat, 1600, 0]
def k0_off63 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2823 : Index := Scalar.indexCast v229
  let c1632 : Index := 1632#32
  let c0_1047 : Index := 0#32
  ![v2823.toNat, 1632, 0]
def k0_off64 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2845 : Index := Scalar.indexCast v229
  let c1664 : Index := 1664#32
  let c0_1048 : Index := 0#32
  ![v2845.toNat, 1664, 0]
def k0_off65 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2867 : Index := Scalar.indexCast v229
  let c1696 : Index := 1696#32
  let c0_1049 : Index := 0#32
  ![v2867.toNat, 1696, 0]
def k0_off66 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2889 : Index := Scalar.indexCast v229
  let c1728 : Index := 1728#32
  let c0_1050 : Index := 0#32
  ![v2889.toNat, 1728, 0]
def k0_off67 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2911 : Index := Scalar.indexCast v229
  let c1760 : Index := 1760#32
  let c0_1051 : Index := 0#32
  ![v2911.toNat, 1760, 0]
def k0_off68 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2933 : Index := Scalar.indexCast v229
  let c1792 : Index := 1792#32
  let c0_1052 : Index := 0#32
  ![v2933.toNat, 1792, 0]
def k0_off69 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2955 : Index := Scalar.indexCast v229
  let c1824 : Index := 1824#32
  let c0_1053 : Index := 0#32
  ![v2955.toNat, 1824, 0]
def k0_off70 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2977 : Index := Scalar.indexCast v229
  let c1856 : Index := 1856#32
  let c0_1054 : Index := 0#32
  ![v2977.toNat, 1856, 0]
def k0_off71 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v2999 : Index := Scalar.indexCast v229
  let c1888 : Index := 1888#32
  let c0_1055 : Index := 0#32
  ![v2999.toNat, 1888, 0]
def k0_off72 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3021 : Index := Scalar.indexCast v229
  let c1920 : Index := 1920#32
  let c0_1056 : Index := 0#32
  ![v3021.toNat, 1920, 0]
def k0_off73 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3043 : Index := Scalar.indexCast v229
  let c1952 : Index := 1952#32
  let c0_1057 : Index := 0#32
  ![v3043.toNat, 1952, 0]
def k0_off74 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3065 : Index := Scalar.indexCast v229
  let c1984 : Index := 1984#32
  let c0_1058 : Index := 0#32
  ![v3065.toNat, 1984, 0]
def k0_off75 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3087 : Index := Scalar.indexCast v229
  let c2016 : Index := 2016#32
  let c0_1059 : Index := 0#32
  ![v3087.toNat, 2016, 0]
def k0_off76 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3110 : Index := Scalar.indexCast v229
  let c2048 : Index := 2048#32
  let c0_1060 : Index := 0#32
  ![v3110.toNat, 2048, 0]
def k0_off77 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3131 : Index := Scalar.indexCast v229
  let c2080 : Index := 2080#32
  let c0_1061 : Index := 0#32
  ![v3131.toNat, 2080, 0]
def k0_off78 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3153 : Index := Scalar.indexCast v229
  let c2112 : Index := 2112#32
  let c0_1062 : Index := 0#32
  ![v3153.toNat, 2112, 0]
def k0_off79 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3175 : Index := Scalar.indexCast v229
  let c2144 : Index := 2144#32
  let c0_1063 : Index := 0#32
  ![v3175.toNat, 2144, 0]
def k0_off80 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3197 : Index := Scalar.indexCast v229
  let c2176 : Index := 2176#32
  let c0_1064 : Index := 0#32
  ![v3197.toNat, 2176, 0]
def k0_off81 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3219 : Index := Scalar.indexCast v229
  let c2208 : Index := 2208#32
  let c0_1065 : Index := 0#32
  ![v3219.toNat, 2208, 0]
def k0_off82 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3241 : Index := Scalar.indexCast v229
  let c2240 : Index := 2240#32
  let c0_1066 : Index := 0#32
  ![v3241.toNat, 2240, 0]
def k0_off83 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3263 : Index := Scalar.indexCast v229
  let c2272 : Index := 2272#32
  let c0_1067 : Index := 0#32
  ![v3263.toNat, 2272, 0]
def k0_off84 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3285 : Index := Scalar.indexCast v229
  let c2304 : Index := 2304#32
  let c0_1068 : Index := 0#32
  ![v3285.toNat, 2304, 0]
def k0_off85 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3307 : Index := Scalar.indexCast v229
  let c2336 : Index := 2336#32
  let c0_1069 : Index := 0#32
  ![v3307.toNat, 2336, 0]
def k0_off86 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3329 : Index := Scalar.indexCast v229
  let c2368 : Index := 2368#32
  let c0_1070 : Index := 0#32
  ![v3329.toNat, 2368, 0]
def k0_off87 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3351 : Index := Scalar.indexCast v229
  let c2400 : Index := 2400#32
  let c0_1071 : Index := 0#32
  ![v3351.toNat, 2400, 0]
def k0_off88 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3373 : Index := Scalar.indexCast v229
  let c2432 : Index := 2432#32
  let c0_1072 : Index := 0#32
  ![v3373.toNat, 2432, 0]
def k0_off89 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3395 : Index := Scalar.indexCast v229
  let c2464 : Index := 2464#32
  let c0_1073 : Index := 0#32
  ![v3395.toNat, 2464, 0]
def k0_off90 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3417 : Index := Scalar.indexCast v229
  let c2496 : Index := 2496#32
  let c0_1074 : Index := 0#32
  ![v3417.toNat, 2496, 0]
def k0_off91 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3439 : Index := Scalar.indexCast v229
  let c2528 : Index := 2528#32
  let c0_1075 : Index := 0#32
  ![v3439.toNat, 2528, 0]
def k0_off92 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3462 : Index := Scalar.indexCast v229
  let c2560 : Index := 2560#32
  let c0_1076 : Index := 0#32
  ![v3462.toNat, 2560, 0]
def k0_off93 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3483 : Index := Scalar.indexCast v229
  let c2592 : Index := 2592#32
  let c0_1077 : Index := 0#32
  ![v3483.toNat, 2592, 0]
def k0_off94 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3505 : Index := Scalar.indexCast v229
  let c2624 : Index := 2624#32
  let c0_1078 : Index := 0#32
  ![v3505.toNat, 2624, 0]
def k0_off95 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3527 : Index := Scalar.indexCast v229
  let c2656 : Index := 2656#32
  let c0_1079 : Index := 0#32
  ![v3527.toNat, 2656, 0]
def k0_off96 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3549 : Index := Scalar.indexCast v229
  let c2688 : Index := 2688#32
  let c0_1080 : Index := 0#32
  ![v3549.toNat, 2688, 0]
def k0_off97 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3571 : Index := Scalar.indexCast v229
  let c2720 : Index := 2720#32
  let c0_1081 : Index := 0#32
  ![v3571.toNat, 2720, 0]
def k0_off98 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3593 : Index := Scalar.indexCast v229
  let c2752 : Index := 2752#32
  let c0_1082 : Index := 0#32
  ![v3593.toNat, 2752, 0]
def k0_off99 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3615 : Index := Scalar.indexCast v229
  let c2784 : Index := 2784#32
  let c0_1083 : Index := 0#32
  ![v3615.toNat, 2784, 0]
def k0_off100 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3637 : Index := Scalar.indexCast v229
  let c2816 : Index := 2816#32
  let c0_1084 : Index := 0#32
  ![v3637.toNat, 2816, 0]
def k0_off101 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3659 : Index := Scalar.indexCast v229
  let c2848 : Index := 2848#32
  let c0_1085 : Index := 0#32
  ![v3659.toNat, 2848, 0]
def k0_off102 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3681 : Index := Scalar.indexCast v229
  let c2880 : Index := 2880#32
  let c0_1086 : Index := 0#32
  ![v3681.toNat, 2880, 0]
def k0_off103 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3703 : Index := Scalar.indexCast v229
  let c2912 : Index := 2912#32
  let c0_1087 : Index := 0#32
  ![v3703.toNat, 2912, 0]
def k0_off104 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3725 : Index := Scalar.indexCast v229
  let c2944 : Index := 2944#32
  let c0_1088 : Index := 0#32
  ![v3725.toNat, 2944, 0]
def k0_off105 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3747 : Index := Scalar.indexCast v229
  let c2976 : Index := 2976#32
  let c0_1089 : Index := 0#32
  ![v3747.toNat, 2976, 0]
def k0_off106 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3769 : Index := Scalar.indexCast v229
  let c3008 : Index := 3008#32
  let c0_1090 : Index := 0#32
  ![v3769.toNat, 3008, 0]
def k0_off107 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3791 : Index := Scalar.indexCast v229
  let c3040 : Index := 3040#32
  let c0_1091 : Index := 0#32
  ![v3791.toNat, 3040, 0]
def k0_off108 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3825 : Index := Scalar.indexCast v229
  let c0_1096 : Index := 0#32
  let c128_1097 : Index := 128#32
  ![v3825.toNat, 0, 128]
def k0_off109 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3829 : Index := Scalar.indexCast v229
  let c128_1098 : Index := 128#32
  let c128_1099 : Index := 128#32
  ![v3829.toNat, 128, 128]
def k0_off110 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3833 : Index := Scalar.indexCast v229
  let c256_1100 : Index := 256#32
  let c128_1101 : Index := 128#32
  ![v3833.toNat, 256, 128]
def k0_off111 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3837 : Index := Scalar.indexCast v229
  let c384_1102 : Index := 384#32
  let c128_1103 : Index := 128#32
  ![v3837.toNat, 384, 128]
def k0_off112 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3909 : Index := Scalar.indexCast v229
  let c32_1144 : Index := 32#32
  let c128_1145 : Index := 128#32
  ![v3909.toNat, 32, 128]
def k0_off113 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3913 : Index := Scalar.indexCast v229
  let c160_1146 : Index := 160#32
  let c128_1147 : Index := 128#32
  ![v3913.toNat, 160, 128]
def k0_off114 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3917 : Index := Scalar.indexCast v229
  let c288_1148 : Index := 288#32
  let c128_1149 : Index := 128#32
  ![v3917.toNat, 288, 128]
def k0_off115 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3921 : Index := Scalar.indexCast v229
  let c416_1150 : Index := 416#32
  let c128_1151 : Index := 128#32
  ![v3921.toNat, 416, 128]
def k0_off116 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3993 : Index := Scalar.indexCast v229
  let c64_1192 : Index := 64#32
  let c128_1193 : Index := 128#32
  ![v3993.toNat, 64, 128]
def k0_off117 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v3997 : Index := Scalar.indexCast v229
  let c192_1194 : Index := 192#32
  let c128_1195 : Index := 128#32
  ![v3997.toNat, 192, 128]
def k0_off118 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4001 : Index := Scalar.indexCast v229
  let c320_1196 : Index := 320#32
  let c128_1197 : Index := 128#32
  ![v4001.toNat, 320, 128]
def k0_off119 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4005 : Index := Scalar.indexCast v229
  let c448_1198 : Index := 448#32
  let c128_1199 : Index := 128#32
  ![v4005.toNat, 448, 128]
def k0_off120 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4077 : Index := Scalar.indexCast v229
  let c96_1240 : Index := 96#32
  let c128_1241 : Index := 128#32
  ![v4077.toNat, 96, 128]
def k0_off121 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4081 : Index := Scalar.indexCast v229
  let c224_1242 : Index := 224#32
  let c128_1243 : Index := 128#32
  ![v4081.toNat, 224, 128]
def k0_off122 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4085 : Index := Scalar.indexCast v229
  let c352_1244 : Index := 352#32
  let c128_1245 : Index := 128#32
  ![v4085.toNat, 352, 128]
def k0_off123 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4089 : Index := Scalar.indexCast v229
  let c480_1246 : Index := 480#32
  let c128_1247 : Index := 128#32
  ![v4089.toNat, 480, 128]
def k0_off124 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4308 : Index := Scalar.indexCast v229
  let c512_1371 : Index := 512#32
  let c128_1372 : Index := 128#32
  ![v4308.toNat, 512, 128]
def k0_off125 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4312 : Index := Scalar.indexCast v229
  let c640_1373 : Index := 640#32
  let c128_1374 : Index := 128#32
  ![v4312.toNat, 640, 128]
def k0_off126 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4316 : Index := Scalar.indexCast v229
  let c768_1375 : Index := 768#32
  let c128_1376 : Index := 128#32
  ![v4316.toNat, 768, 128]
def k0_off127 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4320 : Index := Scalar.indexCast v229
  let c896_1377 : Index := 896#32
  let c128_1378 : Index := 128#32
  ![v4320.toNat, 896, 128]
def k0_off128 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4392 : Index := Scalar.indexCast v229
  let c544_1419 : Index := 544#32
  let c128_1420 : Index := 128#32
  ![v4392.toNat, 544, 128]
def k0_off129 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4396 : Index := Scalar.indexCast v229
  let c672_1421 : Index := 672#32
  let c128_1422 : Index := 128#32
  ![v4396.toNat, 672, 128]
def k0_off130 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4400 : Index := Scalar.indexCast v229
  let c800_1423 : Index := 800#32
  let c128_1424 : Index := 128#32
  ![v4400.toNat, 800, 128]
def k0_off131 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4404 : Index := Scalar.indexCast v229
  let c928_1425 : Index := 928#32
  let c128_1426 : Index := 128#32
  ![v4404.toNat, 928, 128]
def k0_off132 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4476 : Index := Scalar.indexCast v229
  let c576_1467 : Index := 576#32
  let c128_1468 : Index := 128#32
  ![v4476.toNat, 576, 128]
def k0_off133 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4480 : Index := Scalar.indexCast v229
  let c704_1469 : Index := 704#32
  let c128_1470 : Index := 128#32
  ![v4480.toNat, 704, 128]
def k0_off134 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4484 : Index := Scalar.indexCast v229
  let c832_1471 : Index := 832#32
  let c128_1472 : Index := 128#32
  ![v4484.toNat, 832, 128]
def k0_off135 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4488 : Index := Scalar.indexCast v229
  let c960_1473 : Index := 960#32
  let c128_1474 : Index := 128#32
  ![v4488.toNat, 960, 128]
def k0_off136 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4560 : Index := Scalar.indexCast v229
  let c608_1515 : Index := 608#32
  let c128_1516 : Index := 128#32
  ![v4560.toNat, 608, 128]
def k0_off137 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4564 : Index := Scalar.indexCast v229
  let c736_1517 : Index := 736#32
  let c128_1518 : Index := 128#32
  ![v4564.toNat, 736, 128]
def k0_off138 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4568 : Index := Scalar.indexCast v229
  let c864_1519 : Index := 864#32
  let c128_1520 : Index := 128#32
  ![v4568.toNat, 864, 128]
def k0_off139 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4572 : Index := Scalar.indexCast v229
  let c992_1521 : Index := 992#32
  let c128_1522 : Index := 128#32
  ![v4572.toNat, 992, 128]
def k0_off140 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4791 : Index := Scalar.indexCast v229
  let c1024_1645 : Index := 1024#32
  let c128_1646 : Index := 128#32
  ![v4791.toNat, 1024, 128]
def k0_off141 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4795 : Index := Scalar.indexCast v229
  let c1152_1647 : Index := 1152#32
  let c128_1648 : Index := 128#32
  ![v4795.toNat, 1152, 128]
def k0_off142 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4799 : Index := Scalar.indexCast v229
  let c1280_1649 : Index := 1280#32
  let c128_1650 : Index := 128#32
  ![v4799.toNat, 1280, 128]
def k0_off143 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4803 : Index := Scalar.indexCast v229
  let c1408_1651 : Index := 1408#32
  let c128_1652 : Index := 128#32
  ![v4803.toNat, 1408, 128]
def k0_off144 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4875 : Index := Scalar.indexCast v229
  let c1056_1692 : Index := 1056#32
  let c128_1693 : Index := 128#32
  ![v4875.toNat, 1056, 128]
def k0_off145 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4879 : Index := Scalar.indexCast v229
  let c1184_1694 : Index := 1184#32
  let c128_1695 : Index := 128#32
  ![v4879.toNat, 1184, 128]
def k0_off146 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4883 : Index := Scalar.indexCast v229
  let c1312_1696 : Index := 1312#32
  let c128_1697 : Index := 128#32
  ![v4883.toNat, 1312, 128]
def k0_off147 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4887 : Index := Scalar.indexCast v229
  let c1440_1698 : Index := 1440#32
  let c128_1699 : Index := 128#32
  ![v4887.toNat, 1440, 128]
def k0_off148 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4959 : Index := Scalar.indexCast v229
  let c1088_1740 : Index := 1088#32
  let c128_1741 : Index := 128#32
  ![v4959.toNat, 1088, 128]
def k0_off149 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4963 : Index := Scalar.indexCast v229
  let c1216_1742 : Index := 1216#32
  let c128_1743 : Index := 128#32
  ![v4963.toNat, 1216, 128]
def k0_off150 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4967 : Index := Scalar.indexCast v229
  let c1344_1744 : Index := 1344#32
  let c128_1745 : Index := 128#32
  ![v4967.toNat, 1344, 128]
def k0_off151 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v4971 : Index := Scalar.indexCast v229
  let c1472_1746 : Index := 1472#32
  let c128_1747 : Index := 128#32
  ![v4971.toNat, 1472, 128]
def k0_off152 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v5043 : Index := Scalar.indexCast v229
  let c1120_1788 : Index := 1120#32
  let c128_1789 : Index := 128#32
  ![v5043.toNat, 1120, 128]
def k0_off153 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v5047 : Index := Scalar.indexCast v229
  let c1248_1790 : Index := 1248#32
  let c128_1791 : Index := 128#32
  ![v5047.toNat, 1248, 128]
def k0_off154 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v5051 : Index := Scalar.indexCast v229
  let c1376_1792 : Index := 1376#32
  let c128_1793 : Index := 128#32
  ![v5051.toNat, 1376, 128]
def k0_off155 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v5055 : Index := Scalar.indexCast v229
  let c1504_1794 : Index := 1504#32
  let c128_1795 : Index := 128#32
  ![v5055.toNat, 1504, 128]
def k0_off156 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6339 : Index := Scalar.indexCast v229
  let c1536_2018 : Index := 1536#32
  let c128_2019 : Index := 128#32
  ![v6339.toNat, 1536, 128]
def k0_off157 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6360 : Index := Scalar.indexCast v229
  let c1568_2020 : Index := 1568#32
  let c128_2021 : Index := 128#32
  ![v6360.toNat, 1568, 128]
def k0_off158 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6382 : Index := Scalar.indexCast v229
  let c1600_2022 : Index := 1600#32
  let c128_2023 : Index := 128#32
  ![v6382.toNat, 1600, 128]
def k0_off159 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6404 : Index := Scalar.indexCast v229
  let c1632_2024 : Index := 1632#32
  let c128_2025 : Index := 128#32
  ![v6404.toNat, 1632, 128]
def k0_off160 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6426 : Index := Scalar.indexCast v229
  let c1664_2026 : Index := 1664#32
  let c128_2027 : Index := 128#32
  ![v6426.toNat, 1664, 128]
def k0_off161 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6448 : Index := Scalar.indexCast v229
  let c1696_2028 : Index := 1696#32
  let c128_2029 : Index := 128#32
  ![v6448.toNat, 1696, 128]
def k0_off162 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6470 : Index := Scalar.indexCast v229
  let c1728_2030 : Index := 1728#32
  let c128_2031 : Index := 128#32
  ![v6470.toNat, 1728, 128]
def k0_off163 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6492 : Index := Scalar.indexCast v229
  let c1760_2032 : Index := 1760#32
  let c128_2033 : Index := 128#32
  ![v6492.toNat, 1760, 128]
def k0_off164 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6514 : Index := Scalar.indexCast v229
  let c1792_2034 : Index := 1792#32
  let c128_2035 : Index := 128#32
  ![v6514.toNat, 1792, 128]
def k0_off165 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6536 : Index := Scalar.indexCast v229
  let c1824_2036 : Index := 1824#32
  let c128_2037 : Index := 128#32
  ![v6536.toNat, 1824, 128]
def k0_off166 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6558 : Index := Scalar.indexCast v229
  let c1856_2038 : Index := 1856#32
  let c128_2039 : Index := 128#32
  ![v6558.toNat, 1856, 128]
def k0_off167 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6580 : Index := Scalar.indexCast v229
  let c1888_2040 : Index := 1888#32
  let c128_2041 : Index := 128#32
  ![v6580.toNat, 1888, 128]
def k0_off168 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6602 : Index := Scalar.indexCast v229
  let c1920_2042 : Index := 1920#32
  let c128_2043 : Index := 128#32
  ![v6602.toNat, 1920, 128]
def k0_off169 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6624 : Index := Scalar.indexCast v229
  let c1952_2044 : Index := 1952#32
  let c128_2045 : Index := 128#32
  ![v6624.toNat, 1952, 128]
def k0_off170 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6646 : Index := Scalar.indexCast v229
  let c1984_2046 : Index := 1984#32
  let c128_2047 : Index := 128#32
  ![v6646.toNat, 1984, 128]
def k0_off171 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6668 : Index := Scalar.indexCast v229
  let c2016_2048 : Index := 2016#32
  let c128_2049 : Index := 128#32
  ![v6668.toNat, 2016, 128]
def k0_off172 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6691 : Index := Scalar.indexCast v229
  let c2048_2050 : Index := 2048#32
  let c128_2051 : Index := 128#32
  ![v6691.toNat, 2048, 128]
def k0_off173 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6712 : Index := Scalar.indexCast v229
  let c2080_2052 : Index := 2080#32
  let c128_2053 : Index := 128#32
  ![v6712.toNat, 2080, 128]
def k0_off174 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6734 : Index := Scalar.indexCast v229
  let c2112_2054 : Index := 2112#32
  let c128_2055 : Index := 128#32
  ![v6734.toNat, 2112, 128]
def k0_off175 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6756 : Index := Scalar.indexCast v229
  let c2144_2056 : Index := 2144#32
  let c128_2057 : Index := 128#32
  ![v6756.toNat, 2144, 128]
def k0_off176 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6778 : Index := Scalar.indexCast v229
  let c2176_2058 : Index := 2176#32
  let c128_2059 : Index := 128#32
  ![v6778.toNat, 2176, 128]
def k0_off177 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6800 : Index := Scalar.indexCast v229
  let c2208_2060 : Index := 2208#32
  let c128_2061 : Index := 128#32
  ![v6800.toNat, 2208, 128]
def k0_off178 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6822 : Index := Scalar.indexCast v229
  let c2240_2062 : Index := 2240#32
  let c128_2063 : Index := 128#32
  ![v6822.toNat, 2240, 128]
def k0_off179 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6844 : Index := Scalar.indexCast v229
  let c2272_2064 : Index := 2272#32
  let c128_2065 : Index := 128#32
  ![v6844.toNat, 2272, 128]
def k0_off180 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6866 : Index := Scalar.indexCast v229
  let c2304_2066 : Index := 2304#32
  let c128_2067 : Index := 128#32
  ![v6866.toNat, 2304, 128]
def k0_off181 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6888 : Index := Scalar.indexCast v229
  let c2336_2068 : Index := 2336#32
  let c128_2069 : Index := 128#32
  ![v6888.toNat, 2336, 128]
def k0_off182 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6910 : Index := Scalar.indexCast v229
  let c2368_2070 : Index := 2368#32
  let c128_2071 : Index := 128#32
  ![v6910.toNat, 2368, 128]
def k0_off183 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6932 : Index := Scalar.indexCast v229
  let c2400_2072 : Index := 2400#32
  let c128_2073 : Index := 128#32
  ![v6932.toNat, 2400, 128]
def k0_off184 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6954 : Index := Scalar.indexCast v229
  let c2432_2074 : Index := 2432#32
  let c128_2075 : Index := 128#32
  ![v6954.toNat, 2432, 128]
def k0_off185 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6976 : Index := Scalar.indexCast v229
  let c2464_2076 : Index := 2464#32
  let c128_2077 : Index := 128#32
  ![v6976.toNat, 2464, 128]
def k0_off186 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v6998 : Index := Scalar.indexCast v229
  let c2496_2078 : Index := 2496#32
  let c128_2079 : Index := 128#32
  ![v6998.toNat, 2496, 128]
def k0_off187 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7020 : Index := Scalar.indexCast v229
  let c2528_2080 : Index := 2528#32
  let c128_2081 : Index := 128#32
  ![v7020.toNat, 2528, 128]
def k0_off188 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7043 : Index := Scalar.indexCast v229
  let c2560_2082 : Index := 2560#32
  let c128_2083 : Index := 128#32
  ![v7043.toNat, 2560, 128]
def k0_off189 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7064 : Index := Scalar.indexCast v229
  let c2592_2084 : Index := 2592#32
  let c128_2085 : Index := 128#32
  ![v7064.toNat, 2592, 128]
def k0_off190 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7086 : Index := Scalar.indexCast v229
  let c2624_2086 : Index := 2624#32
  let c128_2087 : Index := 128#32
  ![v7086.toNat, 2624, 128]
def k0_off191 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7108 : Index := Scalar.indexCast v229
  let c2656_2088 : Index := 2656#32
  let c128_2089 : Index := 128#32
  ![v7108.toNat, 2656, 128]
def k0_off192 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7130 : Index := Scalar.indexCast v229
  let c2688_2090 : Index := 2688#32
  let c128_2091 : Index := 128#32
  ![v7130.toNat, 2688, 128]
def k0_off193 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7152 : Index := Scalar.indexCast v229
  let c2720_2092 : Index := 2720#32
  let c128_2093 : Index := 128#32
  ![v7152.toNat, 2720, 128]
def k0_off194 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7174 : Index := Scalar.indexCast v229
  let c2752_2094 : Index := 2752#32
  let c128_2095 : Index := 128#32
  ![v7174.toNat, 2752, 128]
def k0_off195 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7196 : Index := Scalar.indexCast v229
  let c2784_2096 : Index := 2784#32
  let c128_2097 : Index := 128#32
  ![v7196.toNat, 2784, 128]
def k0_off196 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7218 : Index := Scalar.indexCast v229
  let c2816_2098 : Index := 2816#32
  let c128_2099 : Index := 128#32
  ![v7218.toNat, 2816, 128]
def k0_off197 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7240 : Index := Scalar.indexCast v229
  let c2848_2100 : Index := 2848#32
  let c128_2101 : Index := 128#32
  ![v7240.toNat, 2848, 128]
def k0_off198 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7262 : Index := Scalar.indexCast v229
  let c2880_2102 : Index := 2880#32
  let c128_2103 : Index := 128#32
  ![v7262.toNat, 2880, 128]
def k0_off199 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7284 : Index := Scalar.indexCast v229
  let c2912_2104 : Index := 2912#32
  let c128_2105 : Index := 128#32
  ![v7284.toNat, 2912, 128]
def k0_off200 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7306 : Index := Scalar.indexCast v229
  let c2944_2106 : Index := 2944#32
  let c128_2107 : Index := 128#32
  ![v7306.toNat, 2944, 128]
def k0_off201 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7328 : Index := Scalar.indexCast v229
  let c2976_2108 : Index := 2976#32
  let c128_2109 : Index := 128#32
  ![v7328.toNat, 2976, 128]
def k0_off202 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7350 : Index := Scalar.indexCast v229
  let c3008_2110 : Index := 3008#32
  let c128_2111 : Index := 128#32
  ![v7350.toNat, 3008, 128]
def k0_off203 (k0_t1 : Fin k0_t1_loop.trips) : Fin 3 → Nat :=
  let c0_i32_31 : BitVec 32 := 0#32
  let c1_i32_32 : BitVec 32 := 1#32
  let arg21 : BitVec 32 := Scf.iv c0_i32_31 c1_i32_32 k0_t1
  let c6_i32_186 : BitVec 32 := 6#32
  let v229 : BitVec 32 := Scalar.remsi arg21 c6_i32_186
  let v7372 : Index := Scalar.indexCast v229
  let c3040_2112 : Index := 3040#32
  let c128_2113 : Index := 128#32
  ![v7372.toNat, 3040, 128]
@[reducible] def k0_t2_loop : Scf.Loop 32 :=
  let c0_i32_34 : BitVec 32 := 0#32
  let c250_i32 : BitVec 32 := 250#32
  let v48 : BitVec 32 := Scalar.addi c0_i32_34 c250_i32
  let c1_i32_35 : BitVec 32 := 1#32
  ⟨c0_i32_34, v48, c1_i32_35⟩
def k0_mult8 (k0_t2 : Fin k0_t2_loop.trips) : BitVec 32 :=
  let c0_i32_34 : BitVec 32 := 0#32
  let c1_i32_35 : BitVec 32 := 1#32
  let arg21 : BitVec 32 := Scf.iv c0_i32_34 c1_i32_35 k0_t2
  let c128_i32_186 : BitVec 32 := 128#32
  let v229 : BitVec 32 := Scalar.muli arg21 c128_i32_186
  v229
def k0_off204 (k0_t2 : Fin k0_t2_loop.trips) : Fin 1 → Nat :=
  let c0_i32_34 : BitVec 32 := 0#32
  let c1_i32_35 : BitVec 32 := 1#32
  let arg21 : BitVec 32 := Scf.iv c0_i32_34 c1_i32_35 k0_t2
  let c128_i32_186 : BitVec 32 := 128#32
  let v229 : BitVec 32 := Scalar.muli arg21 c128_i32_186
  let v230 : BitVec 32 := v229
  ![v230.toNat]
def k0_off205 (k0_t2 : Fin k0_t2_loop.trips) : Fin 2 → Nat :=
  let c0_i32_34 : BitVec 32 := 0#32
  let c1_i32_35 : BitVec 32 := 1#32
  let arg21 : BitVec 32 := Scf.iv c0_i32_34 c1_i32_35 k0_t2
  let c0_i32_187 : BitVec 32 := 0#32
  ![arg21.toNat, 0]
@[reducible] def k0_t3_loop : Scf.Loop 32 :=
  let c0_i32_37 : BitVec 32 := 0#32
  let c250_i32_38 : BitVec 32 := 250#32
  let v49 : BitVec 32 := Scalar.addi c0_i32_37 c250_i32_38
  let c1_i32_39 : BitVec 32 := 1#32
  ⟨c0_i32_37, v49, c1_i32_39⟩
def k0_mult9 (k0_t3 : Fin k0_t3_loop.trips) : BitVec 32 :=
  let c0_i32_37 : BitVec 32 := 0#32
  let c1_i32_39 : BitVec 32 := 1#32
  let arg21 : BitVec 32 := Scf.iv c0_i32_37 c1_i32_39 k0_t3
  let c128_i32_186 : BitVec 32 := 128#32
  let v229 : BitVec 32 := Scalar.muli arg21 c128_i32_186
  v229
def k0_off206 (k0_t3 : Fin k0_t3_loop.trips) : Fin 1 → Nat :=
  let c0_i32_37 : BitVec 32 := 0#32
  let c1_i32_39 : BitVec 32 := 1#32
  let arg21 : BitVec 32 := Scf.iv c0_i32_37 c1_i32_39 k0_t3
  let c128_i32_186 : BitVec 32 := 128#32
  let v229 : BitVec 32 := Scalar.muli arg21 c128_i32_186
  let v230 : BitVec 32 := v229
  ![v230.toNat]
def k0_off207 (k0_t3 : Fin k0_t3_loop.trips) : Fin 2 → Nat :=
  let c0_i32_37 : BitVec 32 := 0#32
  let c1_i32_39 : BitVec 32 := 1#32
  let arg21 : BitVec 32 := Scf.iv c0_i32_37 c1_i32_39 k0_t3
  let c0_i32_187 : BitVec 32 := 0#32
  ![arg21.toNat, 0]
@[reducible] def k0_t4_loop : Scf.Loop 32 :=
  let c0_i32_41 : BitVec 32 := 0#32
  let c128_i32 : BitVec 32 := 128#32
  let v50 : BitVec 32 := Scalar.addi c0_i32_41 c128_i32
  let c1_i32_42 : BitVec 32 := 1#32
  ⟨c0_i32_41, v50, c1_i32_42⟩
def k0_cond2 (k0_t4 : Fin k0_t4_loop.trips) : BitVec 1 :=
  let c0_i32_41 : BitVec 32 := 0#32
  let c1_i32_42 : BitVec 32 := 1#32
  let arg21 : BitVec 32 := Scf.iv c0_i32_41 c1_i32_42 k0_t4
  let c4_i32_187 : BitVec 32 := 4#32
  let v230 : BitVec 1 := Scalar.cmpi .sge arg21 c4_i32_187
  let v231 : BitVec 32 := Scalar.extui v230
  let c0_i32_188 : BitVec 32 := 0#32
  let v232 : BitVec 1 := Scalar.cmpi .ne v231 c0_i32_188
  v232

def k0_mult10 (k0_t4 : Fin k0_t4_loop.trips) : BitVec 32 :=
  let c0_i32_41 : BitVec 32 := 0#32
  let c1_i32_42 : BitVec 32 := 1#32
  let arg21 : BitVec 32 := Scf.iv c0_i32_41 c1_i32_42 k0_t4
  let c4_i32_205 : BitVec 32 := 4#32
  let v254 : BitVec 32 := Scalar.subi arg21 c4_i32_205
  let c16_i32_208 : BitVec 32 := 16#32
  let v257 : BitVec 32 := Scalar.remsi v254 c16_i32_208
  let c256_i32_209 : BitVec 32 := 256#32
  let v258 : BitVec 32 := Scalar.muli v257 c256_i32_209
  v258
def k0_off208 (k0_t4 : Fin k0_t4_loop.trips) : Fin 1 → Nat :=
  let c0_i32_41 : BitVec 32 := 0#32
  let c1_i32_42 : BitVec 32 := 1#32
  let arg21 : BitVec 32 := Scf.iv c0_i32_41 c1_i32_42 k0_t4
  let c4_i32_205 : BitVec 32 := 4#32
  let v254 : BitVec 32 := Scalar.subi arg21 c4_i32_205
  let c4_i32_206 : BitVec 32 := 4#32
  let v255 : BitVec 32 := Scalar.remsi v254 c4_i32_206
  ![v255.toNat]
def k0_off209 (k0_t4 : Fin k0_t4_loop.trips) : Fin 3 → Nat :=
  let c0_i32_41 : BitVec 32 := 0#32
  let c1_i32_42 : BitVec 32 := 1#32
  let arg21 : BitVec 32 := Scf.iv c0_i32_41 c1_i32_42 k0_t4
  let c4_i32_205 : BitVec 32 := 4#32
  let v254 : BitVec 32 := Scalar.subi arg21 c4_i32_205
  let c16_i32_207 : BitVec 32 := 16#32
  let v256 : BitVec 32 := Scalar.divsi v254 c16_i32_207
  let c16_i32_208 : BitVec 32 := 16#32
  let v257 : BitVec 32 := Scalar.remsi v254 c16_i32_208
  let c256_i32_209 : BitVec 32 := 256#32
  let v258 : BitVec 32 := Scalar.muli v257 c256_i32_209
  let v259 : BitVec 32 := v258
  let c0_i32_210 : BitVec 32 := 0#32
  ![v256.toNat, v259.toNat, 0]
def k0_off210 (k0_t4 : Fin k0_t4_loop.trips) : Fin 3 → Nat :=
  let c0_i32_41 : BitVec 32 := 0#32
  let c1_i32_42 : BitVec 32 := 1#32
  let arg21 : BitVec 32 := Scf.iv c0_i32_41 c1_i32_42 k0_t4
  let c4_i32_205 : BitVec 32 := 4#32
  let v254 : BitVec 32 := Scalar.subi arg21 c4_i32_205
  let c4_i32_206 : BitVec 32 := 4#32
  let v255 : BitVec 32 := Scalar.remsi v254 c4_i32_206
  let c0_i32_211 : BitVec 32 := 0#32
  let c0_i32_212 : BitVec 32 := 0#32
  ![v255.toNat, 0, 0]
@[reducible] def k0_t5_loop : Scf.Loop 32 :=
  let c0_i32_192 : BitVec 32 := 0#32
  let c8_i32 : BitVec 32 := 8#32
  let v236 : BitVec 32 := Scalar.addi c0_i32_192 c8_i32
  let c1_i32_193 : BitVec 32 := 1#32
  ⟨c0_i32_192, v236, c1_i32_193⟩
def k0_off211 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v257 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c0_i32_205 : BitVec 32 := 0#32
  let v256 : BitVec 32 := Scalar.addi v255 c0_i32_205
  let v258 : Index := Scalar.indexCast v256
  ![v257.toNat, v258.toNat]
def k0_off212 (v259 : BitVec 32) : Fin 2 → Nat :=
  let c3_i32_206 : BitVec 32 := 3#32
  let v260 : BitVec 32 := Scalar.muli v259 c3_i32_206
  let v261 : Index := Scalar.indexCast v260
  let c0_207 : Index := 0#32
  ![v261.toNat, 0]

def k0_off213 (v259 : BitVec 32) : Fin 1 → Nat :=
  let v266 : Index := Scalar.indexCast v259
  ![v266.toNat]

def k0_chk1 (v259 : BitVec 32) : Prop :=
  (∀ a, (k0_off212 v259) a + S3x128.size a ≤ S96000x128.size a) ∧
  (∀ a, (k0_off213 v259) a + S1.size a ≤ S32000.size a)
theorem k0_off212_inb : ∀ (v259 : BitVec 32) (k0_hw1 : k0_chk1 v259), ∀ a, (k0_off212 v259) a + S3x128.size a ≤ S96000x128.size a := fun v259 k0_hw1 => k0_hw1.1
theorem k0_off213_inb : ∀ (v259 : BitVec 32) (k0_hw1 : k0_chk1 v259), ∀ a, (k0_off213 v259) a + S1.size a ≤ S32000.size a := fun v259 k0_hw1 => k0_hw1.2

def k0_off214 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v273 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c1_i32_210 : BitVec 32 := 1#32
  let v272 : BitVec 32 := Scalar.addi v255 c1_i32_210
  let v274 : Index := Scalar.indexCast v272
  ![v273.toNat, v274.toNat]
def k0_off215 (v275 : BitVec 32) : Fin 2 → Nat :=
  let c3_i32_211 : BitVec 32 := 3#32
  let v276 : BitVec 32 := Scalar.muli v275 c3_i32_211
  let v277 : Index := Scalar.indexCast v276
  let c0_212 : Index := 0#32
  ![v277.toNat, 0]

def k0_off216 (v275 : BitVec 32) : Fin 1 → Nat :=
  let v282 : Index := Scalar.indexCast v275
  ![v282.toNat]

def k0_chk2 (v275 : BitVec 32) : Prop :=
  (∀ a, (k0_off215 v275) a + S3x128.size a ≤ S96000x128.size a) ∧
  (∀ a, (k0_off216 v275) a + S1.size a ≤ S32000.size a)
theorem k0_off215_inb : ∀ (v275 : BitVec 32) (k0_hw2 : k0_chk2 v275), ∀ a, (k0_off215 v275) a + S3x128.size a ≤ S96000x128.size a := fun v275 k0_hw2 => k0_hw2.1
theorem k0_off216_inb : ∀ (v275 : BitVec 32) (k0_hw2 : k0_chk2 v275), ∀ a, (k0_off216 v275) a + S1.size a ≤ S32000.size a := fun v275 k0_hw2 => k0_hw2.2

def k0_off217 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v295 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c2_i32_216 : BitVec 32 := 2#32
  let v294 : BitVec 32 := Scalar.addi v255 c2_i32_216
  let v296 : Index := Scalar.indexCast v294
  ![v295.toNat, v296.toNat]
def k0_off218 (v297 : BitVec 32) : Fin 2 → Nat :=
  let c3_i32_217 : BitVec 32 := 3#32
  let v298 : BitVec 32 := Scalar.muli v297 c3_i32_217
  let v299 : Index := Scalar.indexCast v298
  let c0_218 : Index := 0#32
  ![v299.toNat, 0]

def k0_off219 (v297 : BitVec 32) : Fin 1 → Nat :=
  let v304 : Index := Scalar.indexCast v297
  ![v304.toNat]

def k0_chk3 (v297 : BitVec 32) : Prop :=
  (∀ a, (k0_off218 v297) a + S3x128.size a ≤ S96000x128.size a) ∧
  (∀ a, (k0_off219 v297) a + S1.size a ≤ S32000.size a)
theorem k0_off218_inb : ∀ (v297 : BitVec 32) (k0_hw3 : k0_chk3 v297), ∀ a, (k0_off218 v297) a + S3x128.size a ≤ S96000x128.size a := fun v297 k0_hw3 => k0_hw3.1
theorem k0_off219_inb : ∀ (v297 : BitVec 32) (k0_hw3 : k0_chk3 v297), ∀ a, (k0_off219 v297) a + S1.size a ≤ S32000.size a := fun v297 k0_hw3 => k0_hw3.2

def k0_off220 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v317 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c3_i32_222 : BitVec 32 := 3#32
  let v316 : BitVec 32 := Scalar.addi v255 c3_i32_222
  let v318 : Index := Scalar.indexCast v316
  ![v317.toNat, v318.toNat]
def k0_off221 (v319 : BitVec 32) : Fin 2 → Nat :=
  let c3_i32_223 : BitVec 32 := 3#32
  let v320 : BitVec 32 := Scalar.muli v319 c3_i32_223
  let v321 : Index := Scalar.indexCast v320
  let c0_224 : Index := 0#32
  ![v321.toNat, 0]

def k0_off222 (v319 : BitVec 32) : Fin 1 → Nat :=
  let v326 : Index := Scalar.indexCast v319
  ![v326.toNat]

def k0_chk4 (v319 : BitVec 32) : Prop :=
  (∀ a, (k0_off221 v319) a + S3x128.size a ≤ S96000x128.size a) ∧
  (∀ a, (k0_off222 v319) a + S1.size a ≤ S32000.size a)
theorem k0_off221_inb : ∀ (v319 : BitVec 32) (k0_hw4 : k0_chk4 v319), ∀ a, (k0_off221 v319) a + S3x128.size a ≤ S96000x128.size a := fun v319 k0_hw4 => k0_hw4.1
theorem k0_off222_inb : ∀ (v319 : BitVec 32) (k0_hw4 : k0_chk4 v319), ∀ a, (k0_off222 v319) a + S1.size a ≤ S32000.size a := fun v319 k0_hw4 => k0_hw4.2

def k0_off223 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v339 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c4_i32_228 : BitVec 32 := 4#32
  let v338 : BitVec 32 := Scalar.addi v255 c4_i32_228
  let v340 : Index := Scalar.indexCast v338
  ![v339.toNat, v340.toNat]
def k0_off224 (v341 : BitVec 32) : Fin 2 → Nat :=
  let c3_i32_229 : BitVec 32 := 3#32
  let v342 : BitVec 32 := Scalar.muli v341 c3_i32_229
  let v343 : Index := Scalar.indexCast v342
  let c0_230 : Index := 0#32
  ![v343.toNat, 0]

def k0_off225 (v341 : BitVec 32) : Fin 1 → Nat :=
  let v348 : Index := Scalar.indexCast v341
  ![v348.toNat]

def k0_chk5 (v341 : BitVec 32) : Prop :=
  (∀ a, (k0_off224 v341) a + S3x128.size a ≤ S96000x128.size a) ∧
  (∀ a, (k0_off225 v341) a + S1.size a ≤ S32000.size a)
theorem k0_off224_inb : ∀ (v341 : BitVec 32) (k0_hw5 : k0_chk5 v341), ∀ a, (k0_off224 v341) a + S3x128.size a ≤ S96000x128.size a := fun v341 k0_hw5 => k0_hw5.1
theorem k0_off225_inb : ∀ (v341 : BitVec 32) (k0_hw5 : k0_chk5 v341), ∀ a, (k0_off225 v341) a + S1.size a ≤ S32000.size a := fun v341 k0_hw5 => k0_hw5.2

def k0_off226 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v361 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c5_i32 : BitVec 32 := 5#32
  let v360 : BitVec 32 := Scalar.addi v255 c5_i32
  let v362 : Index := Scalar.indexCast v360
  ![v361.toNat, v362.toNat]
def k0_off227 (v363 : BitVec 32) : Fin 2 → Nat :=
  let c3_i32_234 : BitVec 32 := 3#32
  let v364 : BitVec 32 := Scalar.muli v363 c3_i32_234
  let v365 : Index := Scalar.indexCast v364
  let c0_235 : Index := 0#32
  ![v365.toNat, 0]

def k0_off228 (v363 : BitVec 32) : Fin 1 → Nat :=
  let v370 : Index := Scalar.indexCast v363
  ![v370.toNat]

def k0_chk6 (v363 : BitVec 32) : Prop :=
  (∀ a, (k0_off227 v363) a + S3x128.size a ≤ S96000x128.size a) ∧
  (∀ a, (k0_off228 v363) a + S1.size a ≤ S32000.size a)
theorem k0_off227_inb : ∀ (v363 : BitVec 32) (k0_hw6 : k0_chk6 v363), ∀ a, (k0_off227 v363) a + S3x128.size a ≤ S96000x128.size a := fun v363 k0_hw6 => k0_hw6.1
theorem k0_off228_inb : ∀ (v363 : BitVec 32) (k0_hw6 : k0_chk6 v363), ∀ a, (k0_off228 v363) a + S1.size a ≤ S32000.size a := fun v363 k0_hw6 => k0_hw6.2

def k0_off229 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v383 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c6_i32_239 : BitVec 32 := 6#32
  let v382 : BitVec 32 := Scalar.addi v255 c6_i32_239
  let v384 : Index := Scalar.indexCast v382
  ![v383.toNat, v384.toNat]
def k0_off230 (v385 : BitVec 32) : Fin 2 → Nat :=
  let c3_i32_240 : BitVec 32 := 3#32
  let v386 : BitVec 32 := Scalar.muli v385 c3_i32_240
  let v387 : Index := Scalar.indexCast v386
  let c0_241 : Index := 0#32
  ![v387.toNat, 0]

def k0_off231 (v385 : BitVec 32) : Fin 1 → Nat :=
  let v392 : Index := Scalar.indexCast v385
  ![v392.toNat]

def k0_chk7 (v385 : BitVec 32) : Prop :=
  (∀ a, (k0_off230 v385) a + S3x128.size a ≤ S96000x128.size a) ∧
  (∀ a, (k0_off231 v385) a + S1.size a ≤ S32000.size a)
theorem k0_off230_inb : ∀ (v385 : BitVec 32) (k0_hw7 : k0_chk7 v385), ∀ a, (k0_off230 v385) a + S3x128.size a ≤ S96000x128.size a := fun v385 k0_hw7 => k0_hw7.1
theorem k0_off231_inb : ∀ (v385 : BitVec 32) (k0_hw7 : k0_chk7 v385), ∀ a, (k0_off231 v385) a + S1.size a ≤ S32000.size a := fun v385 k0_hw7 => k0_hw7.2

def k0_off232 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v405 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c7_i32 : BitVec 32 := 7#32
  let v404 : BitVec 32 := Scalar.addi v255 c7_i32
  let v406 : Index := Scalar.indexCast v404
  ![v405.toNat, v406.toNat]
def k0_off233 (v407 : BitVec 32) : Fin 2 → Nat :=
  let c3_i32_245 : BitVec 32 := 3#32
  let v408 : BitVec 32 := Scalar.muli v407 c3_i32_245
  let v409 : Index := Scalar.indexCast v408
  let c0_246 : Index := 0#32
  ![v409.toNat, 0]

def k0_off234 (v407 : BitVec 32) : Fin 1 → Nat :=
  let v414 : Index := Scalar.indexCast v407
  ![v414.toNat]

def k0_chk8 (v407 : BitVec 32) : Prop :=
  (∀ a, (k0_off233 v407) a + S3x128.size a ≤ S96000x128.size a) ∧
  (∀ a, (k0_off234 v407) a + S1.size a ≤ S32000.size a)
theorem k0_off233_inb : ∀ (v407 : BitVec 32) (k0_hw8 : k0_chk8 v407), ∀ a, (k0_off233 v407) a + S3x128.size a ≤ S96000x128.size a := fun v407 k0_hw8 => k0_hw8.1
theorem k0_off234_inb : ∀ (v407 : BitVec 32) (k0_hw8 : k0_chk8 v407), ∀ a, (k0_off234 v407) a + S1.size a ≤ S32000.size a := fun v407 k0_hw8 => k0_hw8.2

def k0_off235 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v427 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c8_i32_250 : BitVec 32 := 8#32
  let v426 : BitVec 32 := Scalar.addi v255 c8_i32_250
  let v428 : Index := Scalar.indexCast v426
  ![v427.toNat, v428.toNat]
def k0_off236 (v429 : BitVec 32) : Fin 2 → Nat :=
  let c3_i32_251 : BitVec 32 := 3#32
  let v430 : BitVec 32 := Scalar.muli v429 c3_i32_251
  let v431 : Index := Scalar.indexCast v430
  let c0_252 : Index := 0#32
  ![v431.toNat, 0]

def k0_off237 (v429 : BitVec 32) : Fin 1 → Nat :=
  let v436 : Index := Scalar.indexCast v429
  ![v436.toNat]

def k0_chk9 (v429 : BitVec 32) : Prop :=
  (∀ a, (k0_off236 v429) a + S3x128.size a ≤ S96000x128.size a) ∧
  (∀ a, (k0_off237 v429) a + S1.size a ≤ S32000.size a)
theorem k0_off236_inb : ∀ (v429 : BitVec 32) (k0_hw9 : k0_chk9 v429), ∀ a, (k0_off236 v429) a + S3x128.size a ≤ S96000x128.size a := fun v429 k0_hw9 => k0_hw9.1
theorem k0_off237_inb : ∀ (v429 : BitVec 32) (k0_hw9 : k0_chk9 v429), ∀ a, (k0_off237 v429) a + S1.size a ≤ S32000.size a := fun v429 k0_hw9 => k0_hw9.2

def k0_off238 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v443 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c9_i32 : BitVec 32 := 9#32
  let v442 : BitVec 32 := Scalar.addi v255 c9_i32
  let v444 : Index := Scalar.indexCast v442
  ![v443.toNat, v444.toNat]
def k0_off239 (v445 : BitVec 32) : Fin 2 → Nat :=
  let c3_i32_254 : BitVec 32 := 3#32
  let v446 : BitVec 32 := Scalar.muli v445 c3_i32_254
  let v447 : Index := Scalar.indexCast v446
  let c0_255 : Index := 0#32
  ![v447.toNat, 0]

def k0_off240 (v445 : BitVec 32) : Fin 1 → Nat :=
  let v452 : Index := Scalar.indexCast v445
  ![v452.toNat]

def k0_chk10 (v445 : BitVec 32) : Prop :=
  (∀ a, (k0_off239 v445) a + S3x128.size a ≤ S96000x128.size a) ∧
  (∀ a, (k0_off240 v445) a + S1.size a ≤ S32000.size a)
theorem k0_off239_inb : ∀ (v445 : BitVec 32) (k0_hw10 : k0_chk10 v445), ∀ a, (k0_off239 v445) a + S3x128.size a ≤ S96000x128.size a := fun v445 k0_hw10 => k0_hw10.1
theorem k0_off240_inb : ∀ (v445 : BitVec 32) (k0_hw10 : k0_chk10 v445), ∀ a, (k0_off240 v445) a + S1.size a ≤ S32000.size a := fun v445 k0_hw10 => k0_hw10.2

def k0_off241 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v465 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c10_i32 : BitVec 32 := 10#32
  let v464 : BitVec 32 := Scalar.addi v255 c10_i32
  let v466 : Index := Scalar.indexCast v464
  ![v465.toNat, v466.toNat]
def k0_off242 (v467 : BitVec 32) : Fin 2 → Nat :=
  let c3_i32_259 : BitVec 32 := 3#32
  let v468 : BitVec 32 := Scalar.muli v467 c3_i32_259
  let v469 : Index := Scalar.indexCast v468
  let c0_260 : Index := 0#32
  ![v469.toNat, 0]

def k0_off243 (v467 : BitVec 32) : Fin 1 → Nat :=
  let v474 : Index := Scalar.indexCast v467
  ![v474.toNat]

def k0_chk11 (v467 : BitVec 32) : Prop :=
  (∀ a, (k0_off242 v467) a + S3x128.size a ≤ S96000x128.size a) ∧
  (∀ a, (k0_off243 v467) a + S1.size a ≤ S32000.size a)
theorem k0_off242_inb : ∀ (v467 : BitVec 32) (k0_hw11 : k0_chk11 v467), ∀ a, (k0_off242 v467) a + S3x128.size a ≤ S96000x128.size a := fun v467 k0_hw11 => k0_hw11.1
theorem k0_off243_inb : ∀ (v467 : BitVec 32) (k0_hw11 : k0_chk11 v467), ∀ a, (k0_off243 v467) a + S1.size a ≤ S32000.size a := fun v467 k0_hw11 => k0_hw11.2

def k0_off244 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v487 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c11_i32 : BitVec 32 := 11#32
  let v486 : BitVec 32 := Scalar.addi v255 c11_i32
  let v488 : Index := Scalar.indexCast v486
  ![v487.toNat, v488.toNat]
def k0_off245 (v489 : BitVec 32) : Fin 2 → Nat :=
  let c3_i32_264 : BitVec 32 := 3#32
  let v490 : BitVec 32 := Scalar.muli v489 c3_i32_264
  let v491 : Index := Scalar.indexCast v490
  let c0_265 : Index := 0#32
  ![v491.toNat, 0]

def k0_off246 (v489 : BitVec 32) : Fin 1 → Nat :=
  let v496 : Index := Scalar.indexCast v489
  ![v496.toNat]

def k0_chk12 (v489 : BitVec 32) : Prop :=
  (∀ a, (k0_off245 v489) a + S3x128.size a ≤ S96000x128.size a) ∧
  (∀ a, (k0_off246 v489) a + S1.size a ≤ S32000.size a)
theorem k0_off245_inb : ∀ (v489 : BitVec 32) (k0_hw12 : k0_chk12 v489), ∀ a, (k0_off245 v489) a + S3x128.size a ≤ S96000x128.size a := fun v489 k0_hw12 => k0_hw12.1
theorem k0_off246_inb : ∀ (v489 : BitVec 32) (k0_hw12 : k0_chk12 v489), ∀ a, (k0_off246 v489) a + S1.size a ≤ S32000.size a := fun v489 k0_hw12 => k0_hw12.2

def k0_off247 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v509 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c12_i32 : BitVec 32 := 12#32
  let v508 : BitVec 32 := Scalar.addi v255 c12_i32
  let v510 : Index := Scalar.indexCast v508
  ![v509.toNat, v510.toNat]
def k0_off248 (v511 : BitVec 32) : Fin 2 → Nat :=
  let c3_i32_269 : BitVec 32 := 3#32
  let v512 : BitVec 32 := Scalar.muli v511 c3_i32_269
  let v513 : Index := Scalar.indexCast v512
  let c0_270 : Index := 0#32
  ![v513.toNat, 0]

def k0_off249 (v511 : BitVec 32) : Fin 1 → Nat :=
  let v518 : Index := Scalar.indexCast v511
  ![v518.toNat]

def k0_chk13 (v511 : BitVec 32) : Prop :=
  (∀ a, (k0_off248 v511) a + S3x128.size a ≤ S96000x128.size a) ∧
  (∀ a, (k0_off249 v511) a + S1.size a ≤ S32000.size a)
theorem k0_off248_inb : ∀ (v511 : BitVec 32) (k0_hw13 : k0_chk13 v511), ∀ a, (k0_off248 v511) a + S3x128.size a ≤ S96000x128.size a := fun v511 k0_hw13 => k0_hw13.1
theorem k0_off249_inb : ∀ (v511 : BitVec 32) (k0_hw13 : k0_chk13 v511), ∀ a, (k0_off249 v511) a + S1.size a ≤ S32000.size a := fun v511 k0_hw13 => k0_hw13.2

def k0_off250 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v531 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c13_i32 : BitVec 32 := 13#32
  let v530 : BitVec 32 := Scalar.addi v255 c13_i32
  let v532 : Index := Scalar.indexCast v530
  ![v531.toNat, v532.toNat]
def k0_off251 (v533 : BitVec 32) : Fin 2 → Nat :=
  let c3_i32_274 : BitVec 32 := 3#32
  let v534 : BitVec 32 := Scalar.muli v533 c3_i32_274
  let v535 : Index := Scalar.indexCast v534
  let c0_275 : Index := 0#32
  ![v535.toNat, 0]

def k0_off252 (v533 : BitVec 32) : Fin 1 → Nat :=
  let v540 : Index := Scalar.indexCast v533
  ![v540.toNat]

def k0_chk14 (v533 : BitVec 32) : Prop :=
  (∀ a, (k0_off251 v533) a + S3x128.size a ≤ S96000x128.size a) ∧
  (∀ a, (k0_off252 v533) a + S1.size a ≤ S32000.size a)
theorem k0_off251_inb : ∀ (v533 : BitVec 32) (k0_hw14 : k0_chk14 v533), ∀ a, (k0_off251 v533) a + S3x128.size a ≤ S96000x128.size a := fun v533 k0_hw14 => k0_hw14.1
theorem k0_off252_inb : ∀ (v533 : BitVec 32) (k0_hw14 : k0_chk14 v533), ∀ a, (k0_off252 v533) a + S1.size a ≤ S32000.size a := fun v533 k0_hw14 => k0_hw14.2

def k0_off253 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v553 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c14_i32 : BitVec 32 := 14#32
  let v552 : BitVec 32 := Scalar.addi v255 c14_i32
  let v554 : Index := Scalar.indexCast v552
  ![v553.toNat, v554.toNat]
def k0_off254 (v555 : BitVec 32) : Fin 2 → Nat :=
  let c3_i32_279 : BitVec 32 := 3#32
  let v556 : BitVec 32 := Scalar.muli v555 c3_i32_279
  let v557 : Index := Scalar.indexCast v556
  let c0_280 : Index := 0#32
  ![v557.toNat, 0]

def k0_off255 (v555 : BitVec 32) : Fin 1 → Nat :=
  let v562 : Index := Scalar.indexCast v555
  ![v562.toNat]

def k0_chk15 (v555 : BitVec 32) : Prop :=
  (∀ a, (k0_off254 v555) a + S3x128.size a ≤ S96000x128.size a) ∧
  (∀ a, (k0_off255 v555) a + S1.size a ≤ S32000.size a)
theorem k0_off254_inb : ∀ (v555 : BitVec 32) (k0_hw15 : k0_chk15 v555), ∀ a, (k0_off254 v555) a + S3x128.size a ≤ S96000x128.size a := fun v555 k0_hw15 => k0_hw15.1
theorem k0_off255_inb : ∀ (v555 : BitVec 32) (k0_hw15 : k0_chk15 v555), ∀ a, (k0_off255 v555) a + S1.size a ≤ S32000.size a := fun v555 k0_hw15 => k0_hw15.2

def k0_off256 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v575 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c15_i32 : BitVec 32 := 15#32
  let v574 : BitVec 32 := Scalar.addi v255 c15_i32
  let v576 : Index := Scalar.indexCast v574
  ![v575.toNat, v576.toNat]
def k0_off257 (v577 : BitVec 32) : Fin 2 → Nat :=
  let c3_i32_284 : BitVec 32 := 3#32
  let v578 : BitVec 32 := Scalar.muli v577 c3_i32_284
  let v579 : Index := Scalar.indexCast v578
  let c0_285 : Index := 0#32
  ![v579.toNat, 0]

def k0_off258 (v577 : BitVec 32) : Fin 1 → Nat :=
  let v584 : Index := Scalar.indexCast v577
  ![v584.toNat]

def k0_chk16 (v577 : BitVec 32) : Prop :=
  (∀ a, (k0_off257 v577) a + S3x128.size a ≤ S96000x128.size a) ∧
  (∀ a, (k0_off258 v577) a + S1.size a ≤ S32000.size a)
theorem k0_off257_inb : ∀ (v577 : BitVec 32) (k0_hw16 : k0_chk16 v577), ∀ a, (k0_off257 v577) a + S3x128.size a ≤ S96000x128.size a := fun v577 k0_hw16 => k0_hw16.1
theorem k0_off258_inb : ∀ (v577 : BitVec 32) (k0_hw16 : k0_chk16 v577), ∀ a, (k0_off258 v577) a + S1.size a ≤ S32000.size a := fun v577 k0_hw16 => k0_hw16.2

def k0_off259 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v597 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c16_i32_289 : BitVec 32 := 16#32
  let v596 : BitVec 32 := Scalar.addi v255 c16_i32_289
  let v598 : Index := Scalar.indexCast v596
  ![v597.toNat, v598.toNat]
def k0_off260 (v599 : BitVec 32) : Fin 2 → Nat :=
  let c3_i32_290 : BitVec 32 := 3#32
  let v600 : BitVec 32 := Scalar.muli v599 c3_i32_290
  let v601 : Index := Scalar.indexCast v600
  let c0_291 : Index := 0#32
  ![v601.toNat, 0]

def k0_off261 (v599 : BitVec 32) : Fin 1 → Nat :=
  let v606 : Index := Scalar.indexCast v599
  ![v606.toNat]

def k0_chk17 (v599 : BitVec 32) : Prop :=
  (∀ a, (k0_off260 v599) a + S3x128.size a ≤ S96000x128.size a) ∧
  (∀ a, (k0_off261 v599) a + S1.size a ≤ S32000.size a)
theorem k0_off260_inb : ∀ (v599 : BitVec 32) (k0_hw17 : k0_chk17 v599), ∀ a, (k0_off260 v599) a + S3x128.size a ≤ S96000x128.size a := fun v599 k0_hw17 => k0_hw17.1
theorem k0_off261_inb : ∀ (v599 : BitVec 32) (k0_hw17 : k0_chk17 v599), ∀ a, (k0_off261 v599) a + S1.size a ≤ S32000.size a := fun v599 k0_hw17 => k0_hw17.2

def k0_off262 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v613 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c17_i32 : BitVec 32 := 17#32
  let v612 : BitVec 32 := Scalar.addi v255 c17_i32
  let v614 : Index := Scalar.indexCast v612
  ![v613.toNat, v614.toNat]
def k0_off263 (v615 : BitVec 32) : Fin 2 → Nat :=
  let c3_i32_293 : BitVec 32 := 3#32
  let v616 : BitVec 32 := Scalar.muli v615 c3_i32_293
  let v617 : Index := Scalar.indexCast v616
  let c0_294 : Index := 0#32
  ![v617.toNat, 0]

def k0_off264 (v615 : BitVec 32) : Fin 1 → Nat :=
  let v622 : Index := Scalar.indexCast v615
  ![v622.toNat]

def k0_chk18 (v615 : BitVec 32) : Prop :=
  (∀ a, (k0_off263 v615) a + S3x128.size a ≤ S96000x128.size a) ∧
  (∀ a, (k0_off264 v615) a + S1.size a ≤ S32000.size a)
theorem k0_off263_inb : ∀ (v615 : BitVec 32) (k0_hw18 : k0_chk18 v615), ∀ a, (k0_off263 v615) a + S3x128.size a ≤ S96000x128.size a := fun v615 k0_hw18 => k0_hw18.1
theorem k0_off264_inb : ∀ (v615 : BitVec 32) (k0_hw18 : k0_chk18 v615), ∀ a, (k0_off264 v615) a + S1.size a ≤ S32000.size a := fun v615 k0_hw18 => k0_hw18.2

def k0_off265 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v635 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c18_i32 : BitVec 32 := 18#32
  let v634 : BitVec 32 := Scalar.addi v255 c18_i32
  let v636 : Index := Scalar.indexCast v634
  ![v635.toNat, v636.toNat]
def k0_off266 (v637 : BitVec 32) : Fin 2 → Nat :=
  let c3_i32_298 : BitVec 32 := 3#32
  let v638 : BitVec 32 := Scalar.muli v637 c3_i32_298
  let v639 : Index := Scalar.indexCast v638
  let c0_299 : Index := 0#32
  ![v639.toNat, 0]

def k0_off267 (v637 : BitVec 32) : Fin 1 → Nat :=
  let v644 : Index := Scalar.indexCast v637
  ![v644.toNat]

def k0_chk19 (v637 : BitVec 32) : Prop :=
  (∀ a, (k0_off266 v637) a + S3x128.size a ≤ S96000x128.size a) ∧
  (∀ a, (k0_off267 v637) a + S1.size a ≤ S32000.size a)
theorem k0_off266_inb : ∀ (v637 : BitVec 32) (k0_hw19 : k0_chk19 v637), ∀ a, (k0_off266 v637) a + S3x128.size a ≤ S96000x128.size a := fun v637 k0_hw19 => k0_hw19.1
theorem k0_off267_inb : ∀ (v637 : BitVec 32) (k0_hw19 : k0_chk19 v637), ∀ a, (k0_off267 v637) a + S1.size a ≤ S32000.size a := fun v637 k0_hw19 => k0_hw19.2

def k0_off268 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v657 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c19_i32 : BitVec 32 := 19#32
  let v656 : BitVec 32 := Scalar.addi v255 c19_i32
  let v658 : Index := Scalar.indexCast v656
  ![v657.toNat, v658.toNat]
def k0_off269 (v659 : BitVec 32) : Fin 2 → Nat :=
  let c3_i32_303 : BitVec 32 := 3#32
  let v660 : BitVec 32 := Scalar.muli v659 c3_i32_303
  let v661 : Index := Scalar.indexCast v660
  let c0_304 : Index := 0#32
  ![v661.toNat, 0]

def k0_off270 (v659 : BitVec 32) : Fin 1 → Nat :=
  let v666 : Index := Scalar.indexCast v659
  ![v666.toNat]

def k0_chk20 (v659 : BitVec 32) : Prop :=
  (∀ a, (k0_off269 v659) a + S3x128.size a ≤ S96000x128.size a) ∧
  (∀ a, (k0_off270 v659) a + S1.size a ≤ S32000.size a)
theorem k0_off269_inb : ∀ (v659 : BitVec 32) (k0_hw20 : k0_chk20 v659), ∀ a, (k0_off269 v659) a + S3x128.size a ≤ S96000x128.size a := fun v659 k0_hw20 => k0_hw20.1
theorem k0_off270_inb : ∀ (v659 : BitVec 32) (k0_hw20 : k0_chk20 v659), ∀ a, (k0_off270 v659) a + S1.size a ≤ S32000.size a := fun v659 k0_hw20 => k0_hw20.2

def k0_off271 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v679 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c20_i32 : BitVec 32 := 20#32
  let v678 : BitVec 32 := Scalar.addi v255 c20_i32
  let v680 : Index := Scalar.indexCast v678
  ![v679.toNat, v680.toNat]
def k0_off272 (v681 : BitVec 32) : Fin 2 → Nat :=
  let c3_i32_308 : BitVec 32 := 3#32
  let v682 : BitVec 32 := Scalar.muli v681 c3_i32_308
  let v683 : Index := Scalar.indexCast v682
  let c0_309 : Index := 0#32
  ![v683.toNat, 0]

def k0_off273 (v681 : BitVec 32) : Fin 1 → Nat :=
  let v688 : Index := Scalar.indexCast v681
  ![v688.toNat]

def k0_chk21 (v681 : BitVec 32) : Prop :=
  (∀ a, (k0_off272 v681) a + S3x128.size a ≤ S96000x128.size a) ∧
  (∀ a, (k0_off273 v681) a + S1.size a ≤ S32000.size a)
theorem k0_off272_inb : ∀ (v681 : BitVec 32) (k0_hw21 : k0_chk21 v681), ∀ a, (k0_off272 v681) a + S3x128.size a ≤ S96000x128.size a := fun v681 k0_hw21 => k0_hw21.1
theorem k0_off273_inb : ∀ (v681 : BitVec 32) (k0_hw21 : k0_chk21 v681), ∀ a, (k0_off273 v681) a + S1.size a ≤ S32000.size a := fun v681 k0_hw21 => k0_hw21.2

def k0_off274 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v701 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c21_i32 : BitVec 32 := 21#32
  let v700 : BitVec 32 := Scalar.addi v255 c21_i32
  let v702 : Index := Scalar.indexCast v700
  ![v701.toNat, v702.toNat]
def k0_off275 (v703 : BitVec 32) : Fin 2 → Nat :=
  let c3_i32_313 : BitVec 32 := 3#32
  let v704 : BitVec 32 := Scalar.muli v703 c3_i32_313
  let v705 : Index := Scalar.indexCast v704
  let c0_314 : Index := 0#32
  ![v705.toNat, 0]

def k0_off276 (v703 : BitVec 32) : Fin 1 → Nat :=
  let v710 : Index := Scalar.indexCast v703
  ![v710.toNat]

def k0_chk22 (v703 : BitVec 32) : Prop :=
  (∀ a, (k0_off275 v703) a + S3x128.size a ≤ S96000x128.size a) ∧
  (∀ a, (k0_off276 v703) a + S1.size a ≤ S32000.size a)
theorem k0_off275_inb : ∀ (v703 : BitVec 32) (k0_hw22 : k0_chk22 v703), ∀ a, (k0_off275 v703) a + S3x128.size a ≤ S96000x128.size a := fun v703 k0_hw22 => k0_hw22.1
theorem k0_off276_inb : ∀ (v703 : BitVec 32) (k0_hw22 : k0_chk22 v703), ∀ a, (k0_off276 v703) a + S1.size a ≤ S32000.size a := fun v703 k0_hw22 => k0_hw22.2

def k0_off277 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v723 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c22_i32 : BitVec 32 := 22#32
  let v722 : BitVec 32 := Scalar.addi v255 c22_i32
  let v724 : Index := Scalar.indexCast v722
  ![v723.toNat, v724.toNat]
def k0_off278 (v725 : BitVec 32) : Fin 2 → Nat :=
  let c3_i32_318 : BitVec 32 := 3#32
  let v726 : BitVec 32 := Scalar.muli v725 c3_i32_318
  let v727 : Index := Scalar.indexCast v726
  let c0_319 : Index := 0#32
  ![v727.toNat, 0]

def k0_off279 (v725 : BitVec 32) : Fin 1 → Nat :=
  let v732 : Index := Scalar.indexCast v725
  ![v732.toNat]

def k0_chk23 (v725 : BitVec 32) : Prop :=
  (∀ a, (k0_off278 v725) a + S3x128.size a ≤ S96000x128.size a) ∧
  (∀ a, (k0_off279 v725) a + S1.size a ≤ S32000.size a)
theorem k0_off278_inb : ∀ (v725 : BitVec 32) (k0_hw23 : k0_chk23 v725), ∀ a, (k0_off278 v725) a + S3x128.size a ≤ S96000x128.size a := fun v725 k0_hw23 => k0_hw23.1
theorem k0_off279_inb : ∀ (v725 : BitVec 32) (k0_hw23 : k0_chk23 v725), ∀ a, (k0_off279 v725) a + S1.size a ≤ S32000.size a := fun v725 k0_hw23 => k0_hw23.2

def k0_off280 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v745 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c23_i32 : BitVec 32 := 23#32
  let v744 : BitVec 32 := Scalar.addi v255 c23_i32
  let v746 : Index := Scalar.indexCast v744
  ![v745.toNat, v746.toNat]
def k0_off281 (v747 : BitVec 32) : Fin 2 → Nat :=
  let c3_i32_323 : BitVec 32 := 3#32
  let v748 : BitVec 32 := Scalar.muli v747 c3_i32_323
  let v749 : Index := Scalar.indexCast v748
  let c0_324 : Index := 0#32
  ![v749.toNat, 0]

def k0_off282 (v747 : BitVec 32) : Fin 1 → Nat :=
  let v754 : Index := Scalar.indexCast v747
  ![v754.toNat]

def k0_chk24 (v747 : BitVec 32) : Prop :=
  (∀ a, (k0_off281 v747) a + S3x128.size a ≤ S96000x128.size a) ∧
  (∀ a, (k0_off282 v747) a + S1.size a ≤ S32000.size a)
theorem k0_off281_inb : ∀ (v747 : BitVec 32) (k0_hw24 : k0_chk24 v747), ∀ a, (k0_off281 v747) a + S3x128.size a ≤ S96000x128.size a := fun v747 k0_hw24 => k0_hw24.1
theorem k0_off282_inb : ∀ (v747 : BitVec 32) (k0_hw24 : k0_chk24 v747), ∀ a, (k0_off282 v747) a + S1.size a ≤ S32000.size a := fun v747 k0_hw24 => k0_hw24.2

def k0_off283 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v767 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c24_i32 : BitVec 32 := 24#32
  let v766 : BitVec 32 := Scalar.addi v255 c24_i32
  let v768 : Index := Scalar.indexCast v766
  ![v767.toNat, v768.toNat]
def k0_off284 (v769 : BitVec 32) : Fin 2 → Nat :=
  let c3_i32_328 : BitVec 32 := 3#32
  let v770 : BitVec 32 := Scalar.muli v769 c3_i32_328
  let v771 : Index := Scalar.indexCast v770
  let c0_329 : Index := 0#32
  ![v771.toNat, 0]

def k0_off285 (v769 : BitVec 32) : Fin 1 → Nat :=
  let v776 : Index := Scalar.indexCast v769
  ![v776.toNat]

def k0_chk25 (v769 : BitVec 32) : Prop :=
  (∀ a, (k0_off284 v769) a + S3x128.size a ≤ S96000x128.size a) ∧
  (∀ a, (k0_off285 v769) a + S1.size a ≤ S32000.size a)
theorem k0_off284_inb : ∀ (v769 : BitVec 32) (k0_hw25 : k0_chk25 v769), ∀ a, (k0_off284 v769) a + S3x128.size a ≤ S96000x128.size a := fun v769 k0_hw25 => k0_hw25.1
theorem k0_off285_inb : ∀ (v769 : BitVec 32) (k0_hw25 : k0_chk25 v769), ∀ a, (k0_off285 v769) a + S1.size a ≤ S32000.size a := fun v769 k0_hw25 => k0_hw25.2

def k0_off286 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v783 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c25_i32 : BitVec 32 := 25#32
  let v782 : BitVec 32 := Scalar.addi v255 c25_i32
  let v784 : Index := Scalar.indexCast v782
  ![v783.toNat, v784.toNat]
def k0_off287 (v785 : BitVec 32) : Fin 2 → Nat :=
  let c3_i32_331 : BitVec 32 := 3#32
  let v786 : BitVec 32 := Scalar.muli v785 c3_i32_331
  let v787 : Index := Scalar.indexCast v786
  let c0_332 : Index := 0#32
  ![v787.toNat, 0]

def k0_off288 (v785 : BitVec 32) : Fin 1 → Nat :=
  let v792 : Index := Scalar.indexCast v785
  ![v792.toNat]

def k0_chk26 (v785 : BitVec 32) : Prop :=
  (∀ a, (k0_off287 v785) a + S3x128.size a ≤ S96000x128.size a) ∧
  (∀ a, (k0_off288 v785) a + S1.size a ≤ S32000.size a)
theorem k0_off287_inb : ∀ (v785 : BitVec 32) (k0_hw26 : k0_chk26 v785), ∀ a, (k0_off287 v785) a + S3x128.size a ≤ S96000x128.size a := fun v785 k0_hw26 => k0_hw26.1
theorem k0_off288_inb : ∀ (v785 : BitVec 32) (k0_hw26 : k0_chk26 v785), ∀ a, (k0_off288 v785) a + S1.size a ≤ S32000.size a := fun v785 k0_hw26 => k0_hw26.2

def k0_off289 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v805 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c26_i32 : BitVec 32 := 26#32
  let v804 : BitVec 32 := Scalar.addi v255 c26_i32
  let v806 : Index := Scalar.indexCast v804
  ![v805.toNat, v806.toNat]
def k0_off290 (v807 : BitVec 32) : Fin 2 → Nat :=
  let c3_i32_336 : BitVec 32 := 3#32
  let v808 : BitVec 32 := Scalar.muli v807 c3_i32_336
  let v809 : Index := Scalar.indexCast v808
  let c0_337 : Index := 0#32
  ![v809.toNat, 0]

def k0_off291 (v807 : BitVec 32) : Fin 1 → Nat :=
  let v814 : Index := Scalar.indexCast v807
  ![v814.toNat]

def k0_chk27 (v807 : BitVec 32) : Prop :=
  (∀ a, (k0_off290 v807) a + S3x128.size a ≤ S96000x128.size a) ∧
  (∀ a, (k0_off291 v807) a + S1.size a ≤ S32000.size a)
theorem k0_off290_inb : ∀ (v807 : BitVec 32) (k0_hw27 : k0_chk27 v807), ∀ a, (k0_off290 v807) a + S3x128.size a ≤ S96000x128.size a := fun v807 k0_hw27 => k0_hw27.1
theorem k0_off291_inb : ∀ (v807 : BitVec 32) (k0_hw27 : k0_chk27 v807), ∀ a, (k0_off291 v807) a + S1.size a ≤ S32000.size a := fun v807 k0_hw27 => k0_hw27.2

def k0_off292 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v827 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c27_i32 : BitVec 32 := 27#32
  let v826 : BitVec 32 := Scalar.addi v255 c27_i32
  let v828 : Index := Scalar.indexCast v826
  ![v827.toNat, v828.toNat]
def k0_off293 (v829 : BitVec 32) : Fin 2 → Nat :=
  let c3_i32_341 : BitVec 32 := 3#32
  let v830 : BitVec 32 := Scalar.muli v829 c3_i32_341
  let v831 : Index := Scalar.indexCast v830
  let c0_342 : Index := 0#32
  ![v831.toNat, 0]

def k0_off294 (v829 : BitVec 32) : Fin 1 → Nat :=
  let v836 : Index := Scalar.indexCast v829
  ![v836.toNat]

def k0_chk28 (v829 : BitVec 32) : Prop :=
  (∀ a, (k0_off293 v829) a + S3x128.size a ≤ S96000x128.size a) ∧
  (∀ a, (k0_off294 v829) a + S1.size a ≤ S32000.size a)
theorem k0_off293_inb : ∀ (v829 : BitVec 32) (k0_hw28 : k0_chk28 v829), ∀ a, (k0_off293 v829) a + S3x128.size a ≤ S96000x128.size a := fun v829 k0_hw28 => k0_hw28.1
theorem k0_off294_inb : ∀ (v829 : BitVec 32) (k0_hw28 : k0_chk28 v829), ∀ a, (k0_off294 v829) a + S1.size a ≤ S32000.size a := fun v829 k0_hw28 => k0_hw28.2

def k0_off295 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v849 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c28_i32 : BitVec 32 := 28#32
  let v848 : BitVec 32 := Scalar.addi v255 c28_i32
  let v850 : Index := Scalar.indexCast v848
  ![v849.toNat, v850.toNat]
def k0_off296 (v851 : BitVec 32) : Fin 2 → Nat :=
  let c3_i32_346 : BitVec 32 := 3#32
  let v852 : BitVec 32 := Scalar.muli v851 c3_i32_346
  let v853 : Index := Scalar.indexCast v852
  let c0_347 : Index := 0#32
  ![v853.toNat, 0]

def k0_off297 (v851 : BitVec 32) : Fin 1 → Nat :=
  let v858 : Index := Scalar.indexCast v851
  ![v858.toNat]

def k0_chk29 (v851 : BitVec 32) : Prop :=
  (∀ a, (k0_off296 v851) a + S3x128.size a ≤ S96000x128.size a) ∧
  (∀ a, (k0_off297 v851) a + S1.size a ≤ S32000.size a)
theorem k0_off296_inb : ∀ (v851 : BitVec 32) (k0_hw29 : k0_chk29 v851), ∀ a, (k0_off296 v851) a + S3x128.size a ≤ S96000x128.size a := fun v851 k0_hw29 => k0_hw29.1
theorem k0_off297_inb : ∀ (v851 : BitVec 32) (k0_hw29 : k0_chk29 v851), ∀ a, (k0_off297 v851) a + S1.size a ≤ S32000.size a := fun v851 k0_hw29 => k0_hw29.2

def k0_off298 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v871 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c29_i32 : BitVec 32 := 29#32
  let v870 : BitVec 32 := Scalar.addi v255 c29_i32
  let v872 : Index := Scalar.indexCast v870
  ![v871.toNat, v872.toNat]
def k0_off299 (v873 : BitVec 32) : Fin 2 → Nat :=
  let c3_i32_351 : BitVec 32 := 3#32
  let v874 : BitVec 32 := Scalar.muli v873 c3_i32_351
  let v875 : Index := Scalar.indexCast v874
  let c0_352 : Index := 0#32
  ![v875.toNat, 0]

def k0_off300 (v873 : BitVec 32) : Fin 1 → Nat :=
  let v880 : Index := Scalar.indexCast v873
  ![v880.toNat]

def k0_chk30 (v873 : BitVec 32) : Prop :=
  (∀ a, (k0_off299 v873) a + S3x128.size a ≤ S96000x128.size a) ∧
  (∀ a, (k0_off300 v873) a + S1.size a ≤ S32000.size a)
theorem k0_off299_inb : ∀ (v873 : BitVec 32) (k0_hw30 : k0_chk30 v873), ∀ a, (k0_off299 v873) a + S3x128.size a ≤ S96000x128.size a := fun v873 k0_hw30 => k0_hw30.1
theorem k0_off300_inb : ∀ (v873 : BitVec 32) (k0_hw30 : k0_chk30 v873), ∀ a, (k0_off300 v873) a + S1.size a ≤ S32000.size a := fun v873 k0_hw30 => k0_hw30.2

def k0_off301 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v893 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c30_i32 : BitVec 32 := 30#32
  let v892 : BitVec 32 := Scalar.addi v255 c30_i32
  let v894 : Index := Scalar.indexCast v892
  ![v893.toNat, v894.toNat]
def k0_off302 (v895 : BitVec 32) : Fin 2 → Nat :=
  let c3_i32_356 : BitVec 32 := 3#32
  let v896 : BitVec 32 := Scalar.muli v895 c3_i32_356
  let v897 : Index := Scalar.indexCast v896
  let c0_357 : Index := 0#32
  ![v897.toNat, 0]

def k0_off303 (v895 : BitVec 32) : Fin 1 → Nat :=
  let v902 : Index := Scalar.indexCast v895
  ![v902.toNat]

def k0_chk31 (v895 : BitVec 32) : Prop :=
  (∀ a, (k0_off302 v895) a + S3x128.size a ≤ S96000x128.size a) ∧
  (∀ a, (k0_off303 v895) a + S1.size a ≤ S32000.size a)
theorem k0_off302_inb : ∀ (v895 : BitVec 32) (k0_hw31 : k0_chk31 v895), ∀ a, (k0_off302 v895) a + S3x128.size a ≤ S96000x128.size a := fun v895 k0_hw31 => k0_hw31.1
theorem k0_off303_inb : ∀ (v895 : BitVec 32) (k0_hw31 : k0_chk31 v895), ∀ a, (k0_off303 v895) a + S1.size a ≤ S32000.size a := fun v895 k0_hw31 => k0_hw31.2

def k0_off304 (k0_t4 : Fin k0_t4_loop.trips) (k0_t5 : Fin k0_t5_loop.trips) : Fin 2 → Nat :=
  let c0_i32_41 : BitVec 32 := 0#32
  let c1_i32_42 : BitVec 32 := 1#32
  let arg21 : BitVec 32 := Scf.iv c0_i32_41 c1_i32_42 k0_t4
  let c16_i32_189 : BitVec 32 := 16#32
  let v233 : BitVec 32 := Scalar.divsi arg21 c16_i32_189
  let v915 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t5
  let c32_i32 : BitVec 32 := 32#32
  let v254 : BitVec 32 := Scalar.muli arg22 c32_i32
  let v255 : BitVec 32 := Scalar.addi v235 v254
  let c31_i32 : BitVec 32 := 31#32
  let v914 : BitVec 32 := Scalar.addi v255 c31_i32
  let v916 : Index := Scalar.indexCast v914
  ![v915.toNat, v916.toNat]
def k0_off305 (v917 : BitVec 32) : Fin 2 → Nat :=
  let c3_i32_361 : BitVec 32 := 3#32
  let v918 : BitVec 32 := Scalar.muli v917 c3_i32_361
  let v919 : Index := Scalar.indexCast v918
  let c0_362 : Index := 0#32
  ![v919.toNat, 0]

def k0_off306 (v917 : BitVec 32) : Fin 1 → Nat :=
  let v924 : Index := Scalar.indexCast v917
  ![v924.toNat]

def k0_chk32 (v917 : BitVec 32) : Prop :=
  (∀ a, (k0_off305 v917) a + S3x128.size a ≤ S96000x128.size a) ∧
  (∀ a, (k0_off306 v917) a + S1.size a ≤ S32000.size a)
theorem k0_off305_inb : ∀ (v917 : BitVec 32) (k0_hw32 : k0_chk32 v917), ∀ a, (k0_off305 v917) a + S3x128.size a ≤ S96000x128.size a := fun v917 k0_hw32 => k0_hw32.1
theorem k0_off306_inb : ∀ (v917 : BitVec 32) (k0_hw32 : k0_chk32 v917), ∀ a, (k0_off306 v917) a + S1.size a ≤ S32000.size a := fun v917 k0_hw32 => k0_hw32.2

def k0_mult11 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_392 : BitVec 32 := 32#32
  let v1000 : BitVec 32 := Scalar.muli arg22 c32_i32_392
  v1000
def k0_off307 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1002 : Index := Scalar.indexCast v229
  let c0_i32_192 : BitVec 32 := 0#32
  let c1_i32_193 : BitVec 32 := 1#32
  let arg22 : BitVec 32 := Scf.iv c0_i32_192 c1_i32_193 k0_t5
  let c32_i32_392 : BitVec 32 := 32#32
  let v1000 : BitVec 32 := Scalar.muli arg22 c32_i32_392
  let v1001 : BitVec 32 := v1000
  let v1003 : Index := Scalar.indexCast v1001
  let c0_393 : Index := 0#32
  ![v1002.toNat, v1003.toNat, 0]
def k0_mult12 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_397 : BitVec 32 := 32#32
  let v1021 : BitVec 32 := Scalar.muli arg22 c32_i32_397
  v1021
def k0_off308 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1023 : Index := Scalar.indexCast v229
  let c0_i32_192 : BitVec 32 := 0#32
  let c1_i32_193 : BitVec 32 := 1#32
  let arg22 : BitVec 32 := Scf.iv c0_i32_192 c1_i32_193 k0_t5
  let c32_i32_397 : BitVec 32 := 32#32
  let v1021 : BitVec 32 := Scalar.muli arg22 c32_i32_397
  let v1022 : BitVec 32 := v1021
  let v1024 : Index := Scalar.indexCast v1022
  let c128 : Index := 128#32
  ![v1023.toNat, v1024.toNat, 128]
def k0_mult13 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_401 : BitVec 32 := 32#32
  let v1042 : BitVec 32 := Scalar.muli arg22 c32_i32_401
  v1042
def k0_off309 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1044 : Index := Scalar.indexCast v229
  let c0_i32_192 : BitVec 32 := 0#32
  let c1_i32_193 : BitVec 32 := 1#32
  let arg22 : BitVec 32 := Scf.iv c0_i32_192 c1_i32_193 k0_t5
  let c32_i32_401 : BitVec 32 := 32#32
  let v1042 : BitVec 32 := Scalar.muli arg22 c32_i32_401
  let v1043 : BitVec 32 := v1042
  let v1045 : Index := Scalar.indexCast v1043
  let c256 : Index := 256#32
  ![v1044.toNat, v1045.toNat, 256]
def k0_mult14 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_405 : BitVec 32 := 32#32
  let v1063 : BitVec 32 := Scalar.muli arg22 c32_i32_405
  v1063
def k0_off310 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1065 : Index := Scalar.indexCast v229
  let c0_i32_192 : BitVec 32 := 0#32
  let c1_i32_193 : BitVec 32 := 1#32
  let arg22 : BitVec 32 := Scf.iv c0_i32_192 c1_i32_193 k0_t5
  let c32_i32_405 : BitVec 32 := 32#32
  let v1063 : BitVec 32 := Scalar.muli arg22 c32_i32_405
  let v1064 : BitVec 32 := v1063
  let v1066 : Index := Scalar.indexCast v1064
  let c384 : Index := 384#32
  ![v1065.toNat, v1066.toNat, 384]
def k0_mult15 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_433 : BitVec 32 := 32#32
  let v1136 : BitVec 32 := Scalar.muli arg22 c32_i32_433
  v1136
def k0_off311 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1138 : Index := Scalar.indexCast v229
  let c0_i32_192 : BitVec 32 := 0#32
  let c1_i32_193 : BitVec 32 := 1#32
  let arg22 : BitVec 32 := Scf.iv c0_i32_192 c1_i32_193 k0_t5
  let c32_i32_433 : BitVec 32 := 32#32
  let v1136 : BitVec 32 := Scalar.muli arg22 c32_i32_433
  let v1137 : BitVec 32 := v1136
  let v1139 : Index := Scalar.indexCast v1137
  let c512 : Index := 512#32
  ![v1138.toNat, v1139.toNat, 512]
def k0_mult16 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_437 : BitVec 32 := 32#32
  let v1157 : BitVec 32 := Scalar.muli arg22 c32_i32_437
  v1157
def k0_off312 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1159 : Index := Scalar.indexCast v229
  let c0_i32_192 : BitVec 32 := 0#32
  let c1_i32_193 : BitVec 32 := 1#32
  let arg22 : BitVec 32 := Scf.iv c0_i32_192 c1_i32_193 k0_t5
  let c32_i32_437 : BitVec 32 := 32#32
  let v1157 : BitVec 32 := Scalar.muli arg22 c32_i32_437
  let v1158 : BitVec 32 := v1157
  let v1160 : Index := Scalar.indexCast v1158
  let c640 : Index := 640#32
  ![v1159.toNat, v1160.toNat, 640]
def k0_mult17 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_441 : BitVec 32 := 32#32
  let v1178 : BitVec 32 := Scalar.muli arg22 c32_i32_441
  v1178
def k0_off313 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1180 : Index := Scalar.indexCast v229
  let c0_i32_192 : BitVec 32 := 0#32
  let c1_i32_193 : BitVec 32 := 1#32
  let arg22 : BitVec 32 := Scf.iv c0_i32_192 c1_i32_193 k0_t5
  let c32_i32_441 : BitVec 32 := 32#32
  let v1178 : BitVec 32 := Scalar.muli arg22 c32_i32_441
  let v1179 : BitVec 32 := v1178
  let v1181 : Index := Scalar.indexCast v1179
  let c768 : Index := 768#32
  ![v1180.toNat, v1181.toNat, 768]
def k0_mult18 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_445 : BitVec 32 := 32#32
  let v1199 : BitVec 32 := Scalar.muli arg22 c32_i32_445
  v1199
def k0_off314 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1201 : Index := Scalar.indexCast v229
  let c0_i32_192 : BitVec 32 := 0#32
  let c1_i32_193 : BitVec 32 := 1#32
  let arg22 : BitVec 32 := Scf.iv c0_i32_192 c1_i32_193 k0_t5
  let c32_i32_445 : BitVec 32 := 32#32
  let v1199 : BitVec 32 := Scalar.muli arg22 c32_i32_445
  let v1200 : BitVec 32 := v1199
  let v1202 : Index := Scalar.indexCast v1200
  let c896 : Index := 896#32
  ![v1201.toNat, v1202.toNat, 896]
def k0_mult19 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_473 : BitVec 32 := 32#32
  let v1272 : BitVec 32 := Scalar.muli arg22 c32_i32_473
  v1272
def k0_off315 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1274 : Index := Scalar.indexCast v229
  let c0_i32_192 : BitVec 32 := 0#32
  let c1_i32_193 : BitVec 32 := 1#32
  let arg22 : BitVec 32 := Scf.iv c0_i32_192 c1_i32_193 k0_t5
  let c32_i32_473 : BitVec 32 := 32#32
  let v1272 : BitVec 32 := Scalar.muli arg22 c32_i32_473
  let v1273 : BitVec 32 := v1272
  let v1275 : Index := Scalar.indexCast v1273
  let c1024 : Index := 1024#32
  ![v1274.toNat, v1275.toNat, 1024]
def k0_mult20 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_477 : BitVec 32 := 32#32
  let v1293 : BitVec 32 := Scalar.muli arg22 c32_i32_477
  v1293
def k0_off316 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1295 : Index := Scalar.indexCast v229
  let c0_i32_192 : BitVec 32 := 0#32
  let c1_i32_193 : BitVec 32 := 1#32
  let arg22 : BitVec 32 := Scf.iv c0_i32_192 c1_i32_193 k0_t5
  let c32_i32_477 : BitVec 32 := 32#32
  let v1293 : BitVec 32 := Scalar.muli arg22 c32_i32_477
  let v1294 : BitVec 32 := v1293
  let v1296 : Index := Scalar.indexCast v1294
  let c1152 : Index := 1152#32
  ![v1295.toNat, v1296.toNat, 1152]
def k0_mult21 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_481 : BitVec 32 := 32#32
  let v1314 : BitVec 32 := Scalar.muli arg22 c32_i32_481
  v1314
def k0_off317 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1316 : Index := Scalar.indexCast v229
  let c0_i32_192 : BitVec 32 := 0#32
  let c1_i32_193 : BitVec 32 := 1#32
  let arg22 : BitVec 32 := Scf.iv c0_i32_192 c1_i32_193 k0_t5
  let c32_i32_481 : BitVec 32 := 32#32
  let v1314 : BitVec 32 := Scalar.muli arg22 c32_i32_481
  let v1315 : BitVec 32 := v1314
  let v1317 : Index := Scalar.indexCast v1315
  let c1280 : Index := 1280#32
  ![v1316.toNat, v1317.toNat, 1280]
def k0_mult22 (k0_t5 : Fin k0_t5_loop.trips) : BitVec 32 :=
  let c0_i32_192 : BitVec 32 := 0#32
  let c1_i32_193 : BitVec 32 := 1#32
  let arg22 : BitVec 32 := Scf.iv c0_i32_192 c1_i32_193 k0_t5
  let c32_i32_485 : BitVec 32 := 32#32
  let v1335 : BitVec 32 := Scalar.muli arg22 c32_i32_485
  v1335
def k0_off318 (k0_t4 : Fin k0_t4_loop.trips) (k0_t5 : Fin k0_t5_loop.trips) : Fin 3 → Nat :=
  let c0_i32_41 : BitVec 32 := 0#32
  let c1_i32_42 : BitVec 32 := 1#32
  let arg21 : BitVec 32 := Scf.iv c0_i32_41 c1_i32_42 k0_t4
  let c4_i32_186 : BitVec 32 := 4#32
  let v229 : BitVec 32 := Scalar.remsi arg21 c4_i32_186
  let v1337 : Index := Scalar.indexCast v229
  let c0_i32_192 : BitVec 32 := 0#32
  let c1_i32_193 : BitVec 32 := 1#32
  let arg22 : BitVec 32 := Scf.iv c0_i32_192 c1_i32_193 k0_t5
  let c32_i32_485 : BitVec 32 := 32#32
  let v1335 : BitVec 32 := Scalar.muli arg22 c32_i32_485
  let v1336 : BitVec 32 := v1335
  let v1338 : Index := Scalar.indexCast v1336
  let c1408 : Index := 1408#32
  ![v1337.toNat, v1338.toNat, 1408]
def k0_mult23 (k0_t4 : Fin k0_t4_loop.trips) : BitVec 32 :=
  let c0_i32_41 : BitVec 32 := 0#32
  let c1_i32_42 : BitVec 32 := 1#32
  let arg21 : BitVec 32 := Scf.iv c0_i32_41 c1_i32_42 k0_t4
  let c16_i32_197 : BitVec 32 := 16#32
  let v239 : BitVec 32 := Scalar.remsi arg21 c16_i32_197
  let c256_i32_198 : BitVec 32 := 256#32
  let v240 : BitVec 32 := Scalar.muli v239 c256_i32_198
  v240
def k0_off319 (k0_t4 : Fin k0_t4_loop.trips) : Fin 1 → Nat :=
  let c0_i32_41 : BitVec 32 := 0#32
  let c1_i32_42 : BitVec 32 := 1#32
  let arg21 : BitVec 32 := Scf.iv c0_i32_41 c1_i32_42 k0_t4
  let c4_i32_195 : BitVec 32 := 4#32
  let v237 : BitVec 32 := Scalar.remsi arg21 c4_i32_195
  ![v237.toNat]
def k0_off320 (k0_t4 : Fin k0_t4_loop.trips) : Fin 3 → Nat :=
  let c0_i32_41 : BitVec 32 := 0#32
  let c1_i32_42 : BitVec 32 := 1#32
  let arg21 : BitVec 32 := Scf.iv c0_i32_41 c1_i32_42 k0_t4
  let c16_i32_196 : BitVec 32 := 16#32
  let v238 : BitVec 32 := Scalar.divsi arg21 c16_i32_196
  let c16_i32_197 : BitVec 32 := 16#32
  let v239 : BitVec 32 := Scalar.remsi arg21 c16_i32_197
  let c256_i32_198 : BitVec 32 := 256#32
  let v240 : BitVec 32 := Scalar.muli v239 c256_i32_198
  let v241 : BitVec 32 := v240
  let c0_i32_199 : BitVec 32 := 0#32
  ![v238.toNat, v241.toNat, 0]
def k0_off321 (k0_t4 : Fin k0_t4_loop.trips) : Fin 3 → Nat :=
  let c0_i32_41 : BitVec 32 := 0#32
  let c1_i32_42 : BitVec 32 := 1#32
  let arg21 : BitVec 32 := Scf.iv c0_i32_41 c1_i32_42 k0_t4
  let c4_i32_195 : BitVec 32 := 4#32
  let v237 : BitVec 32 := Scalar.remsi arg21 c4_i32_195
  let c0_i32_200 : BitVec 32 := 0#32
  let c0_i32_201 : BitVec 32 := 0#32
  ![v237.toNat, 0, 0]
def k0_mult24 : BitVec 32 :=
  let c124_i32_46 : BitVec 32 := 124#32
  let c16_i32_47 : BitVec 32 := 16#32
  let v53 : BitVec 32 := Scalar.remsi c124_i32_46 c16_i32_47
  let c256_i32_48 : BitVec 32 := 256#32
  let v54 : BitVec 32 := Scalar.muli v53 c256_i32_48
  v54
def k0_off322 (c124_i32 : BitVec 32) : Fin 1 → Nat :=
  let c4_i32_44 : BitVec 32 := 4#32
  let v51 : BitVec 32 := Scalar.remsi c124_i32 c4_i32_44
  ![v51.toNat]
def k0_off323 (c124_i32_45 : BitVec 32) (c124_i32_46 : BitVec 32) : Fin 3 → Nat :=
  let c16_i32 : BitVec 32 := 16#32
  let v52 : BitVec 32 := Scalar.divsi c124_i32_45 c16_i32
  let c16_i32_47 : BitVec 32 := 16#32
  let v53 : BitVec 32 := Scalar.remsi c124_i32_46 c16_i32_47
  let c256_i32_48 : BitVec 32 := 256#32
  let v54 : BitVec 32 := Scalar.muli v53 c256_i32_48
  let v55 : BitVec 32 := v54
  let c0_i32_49 : BitVec 32 := 0#32
  ![v52.toNat, v55.toNat, 0]
def k0_off323_at (r : Fin 4) : BitVec 32 × BitVec 32 :=
  if r.val < 2 then
    if r.val < 1 then
      (124#32, 124#32)
    else
      (125#32, 125#32)
  else
    if r.val < 3 then
      (126#32, 126#32)
    else
      (127#32, 127#32)
def k0_off324 (c124_i32 : BitVec 32) : Fin 3 → Nat :=
  let c4_i32_44 : BitVec 32 := 4#32
  let v51 : BitVec 32 := Scalar.remsi c124_i32 c4_i32_44
  let c0_i32_50 : BitVec 32 := 0#32
  let c0_i32_51 : BitVec 32 := 0#32
  ![v51.toNat, 0, 0]
def k0_mult25 : BitVec 32 :=
  let c125_i32_59 : BitVec 32 := 125#32
  let c16_i32_60 : BitVec 32 := 16#32
  let v70 : BitVec 32 := Scalar.remsi c125_i32_59 c16_i32_60
  let c256_i32_61 : BitVec 32 := 256#32
  let v71 : BitVec 32 := Scalar.muli v70 c256_i32_61
  v71
def k0_mult26 : BitVec 32 :=
  let c126_i32_71 : BitVec 32 := 126#32
  let c16_i32_72 : BitVec 32 := 16#32
  let v87 : BitVec 32 := Scalar.remsi c126_i32_71 c16_i32_72
  let c256_i32_73 : BitVec 32 := 256#32
  let v88 : BitVec 32 := Scalar.muli v87 c256_i32_73
  v88
def k0_mult27 : BitVec 32 :=
  let c127_i32_83 : BitVec 32 := 127#32
  let c16_i32_84 : BitVec 32 := 16#32
  let v104 : BitVec 32 := Scalar.remsi c127_i32_83 c16_i32_84
  let c256_i32_85 : BitVec 32 := 256#32
  let v105 : BitVec 32 := Scalar.muli v104 c256_i32_85
  v105
def k0_mult28 : BitVec 32 :=
  let c0_i32_94 : BitVec 32 := 0#32
  let c256_i32_95 : BitVec 32 := 256#32
  let v120 : BitVec 32 := Scalar.muli c0_i32_94 c256_i32_95
  v120
def k0_off325 (c0_i32_92 : BitVec 32) : Fin 3 → Nat :=
  let c6_i32_93 : BitVec 32 := 6#32
  let v119 : BitVec 32 := Scalar.remsi c0_i32_92 c6_i32_93
  let c1536_i32 : BitVec 32 := 1536#32
  let c0_i32_96 : BitVec 32 := 0#32
  ![v119.toNat, 1536, 0]
def k0_off326 (c0_i32_94 : BitVec 32) : Fin 2 → Nat :=
  let c1536_i32_97 : BitVec 32 := 1536#32
  let c256_i32_95 : BitVec 32 := 256#32
  let v120 : BitVec 32 := Scalar.muli c0_i32_94 c256_i32_95
  let v121 : BitVec 32 := v120
  ![1536, v121.toNat]
def k0_mult29 : BitVec 32 :=
  let c1_i32_100 : BitVec 32 := 1#32
  let c256_i32_101 : BitVec 32 := 256#32
  let v128 : BitVec 32 := Scalar.muli c1_i32_100 c256_i32_101
  v128
def k0_mult30 : BitVec 32 :=
  let c2_i32_107 : BitVec 32 := 2#32
  let c256_i32_108 : BitVec 32 := 256#32
  let v136 : BitVec 32 := Scalar.muli c2_i32_107 c256_i32_108
  v136
def k0_mult31 : BitVec 32 :=
  let c3_i32_114 : BitVec 32 := 3#32
  let c256_i32_115 : BitVec 32 := 256#32
  let v144 : BitVec 32 := Scalar.muli c3_i32_114 c256_i32_115
  v144
def k0_mult32 : BitVec 32 :=
  let c4_i32_121 : BitVec 32 := 4#32
  let c256_i32_122 : BitVec 32 := 256#32
  let v152 : BitVec 32 := Scalar.muli c4_i32_121 c256_i32_122
  v152
@[reducible] def k0_t6_loop : Scf.Loop 32 :=
  let c0_i32_126 : BitVec 32 := 0#32
  let c125_i32_127 : BitVec 32 := 125#32
  let v159 : BitVec 32 := Scalar.addi c0_i32_126 c125_i32_127
  let c1_i32_128 : BitVec 32 := 1#32
  ⟨c0_i32_126, v159, c1_i32_128⟩
def k0_mult33 (k0_t6 : Fin k0_t6_loop.trips) : BitVec 32 :=
  let c0_i32_126 : BitVec 32 := 0#32
  let c1_i32_128 : BitVec 32 := 1#32
  let arg21 : BitVec 32 := Scf.iv c0_i32_126 c1_i32_128 k0_t6
  let c256_i32_188 : BitVec 32 := 256#32
  let v231 : BitVec 32 := Scalar.muli arg21 c256_i32_188
  v231
def k0_off327 (k0_t6 : Fin k0_t6_loop.trips) : Fin 1 → Nat :=
  let c0_i32_126 : BitVec 32 := 0#32
  let c1_i32_128 : BitVec 32 := 1#32
  let arg21 : BitVec 32 := Scf.iv c0_i32_126 c1_i32_128 k0_t6
  let c6_i32_187 : BitVec 32 := 6#32
  let v230 : BitVec 32 := Scalar.remsi arg21 c6_i32_187
  ![v230.toNat]
def k0_off328 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_187 : BitVec 32 := 6#32
  let v230 : BitVec 32 := Scalar.remsi arg21 c6_i32_187
  let c1536_i32_189 : BitVec 32 := 1536#32
  let c0_i32_190 : BitVec 32 := 0#32
  ![v230.toNat, 1536, 0]
def k0_off329 (k0_t6 : Fin k0_t6_loop.trips) : Fin 2 → Nat :=
  let c1536_i32_191 : BitVec 32 := 1536#32
  let c0_i32_126 : BitVec 32 := 0#32
  let c1_i32_128 : BitVec 32 := 1#32
  let arg21 : BitVec 32 := Scf.iv c0_i32_126 c1_i32_128 k0_t6
  let c256_i32_188 : BitVec 32 := 256#32
  let v231 : BitVec 32 := Scalar.muli arg21 c256_i32_188
  let v232 : BitVec 32 := v231
  ![1536, v232.toNat]
def k0_cond3 (k0_t6 : Fin k0_t6_loop.trips) : BitVec 1 :=
  let c0_i32_126 : BitVec 32 := 0#32
  let c1_i32_128 : BitVec 32 := 1#32
  let arg21 : BitVec 32 := Scf.iv c0_i32_126 c1_i32_128 k0_t6
  let c6_i32_192 : BitVec 32 := 6#32
  let v238 : BitVec 32 := Scalar.addi arg21 c6_i32_192
  let c1_i32_193 : BitVec 32 := 1#32
  let v239 : BitVec 32 := Scalar.subi v238 c1_i32_193
  let c125_i32_194 : BitVec 32 := 125#32
  let v240 : BitVec 1 := Scalar.cmpi .slt v239 c125_i32_194
  let v241 : BitVec 32 := Scalar.extui v240
  let c0_i32_195 : BitVec 32 := 0#32
  let v242 : BitVec 1 := Scalar.cmpi .ne v241 c0_i32_195
  v242

def k0_mult34 (k0_t6 : Fin k0_t6_loop.trips) : BitVec 32 :=
  let c0_i32_126 : BitVec 32 := 0#32
  let c1_i32_128 : BitVec 32 := 1#32
  let arg21 : BitVec 32 := Scf.iv c0_i32_126 c1_i32_128 k0_t6
  let c6_i32_1762 : BitVec 32 := 6#32
  let v3142 : BitVec 32 := Scalar.addi arg21 c6_i32_1762
  let c1_i32_1763 : BitVec 32 := 1#32
  let v3143 : BitVec 32 := Scalar.subi v3142 c1_i32_1763
  let c256_i32_1765 : BitVec 32 := 256#32
  let v3145 : BitVec 32 := Scalar.muli v3143 c256_i32_1765
  v3145
def k0_off330 (k0_t6 : Fin k0_t6_loop.trips) : Fin 1 → Nat :=
  let c0_i32_126 : BitVec 32 := 0#32
  let c1_i32_128 : BitVec 32 := 1#32
  let arg21 : BitVec 32 := Scf.iv c0_i32_126 c1_i32_128 k0_t6
  let c6_i32_1762 : BitVec 32 := 6#32
  let v3142 : BitVec 32 := Scalar.addi arg21 c6_i32_1762
  let c1_i32_1763 : BitVec 32 := 1#32
  let v3143 : BitVec 32 := Scalar.subi v3142 c1_i32_1763
  let c6_i32_1764 : BitVec 32 := 6#32
  let v3144 : BitVec 32 := Scalar.remsi v3143 c6_i32_1764
  ![v3144.toNat]
def k0_off331 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_1762 : BitVec 32 := 6#32
  let v3142 : BitVec 32 := Scalar.addi arg21 c6_i32_1762
  let c1_i32_1763 : BitVec 32 := 1#32
  let v3143 : BitVec 32 := Scalar.subi v3142 c1_i32_1763
  let c6_i32_1764 : BitVec 32 := 6#32
  let v3144 : BitVec 32 := Scalar.remsi v3143 c6_i32_1764
  let c1536_i32_1766 : BitVec 32 := 1536#32
  let c0_i32_1767 : BitVec 32 := 0#32
  ![v3144.toNat, 1536, 0]
def k0_off332 (k0_t6 : Fin k0_t6_loop.trips) : Fin 2 → Nat :=
  let c1536_i32_1768 : BitVec 32 := 1536#32
  let c0_i32_126 : BitVec 32 := 0#32
  let c1_i32_128 : BitVec 32 := 1#32
  let arg21 : BitVec 32 := Scf.iv c0_i32_126 c1_i32_128 k0_t6
  let c6_i32_1762 : BitVec 32 := 6#32
  let v3142 : BitVec 32 := Scalar.addi arg21 c6_i32_1762
  let c1_i32_1763 : BitVec 32 := 1#32
  let v3143 : BitVec 32 := Scalar.subi v3142 c1_i32_1763
  let c256_i32_1765 : BitVec 32 := 256#32
  let v3145 : BitVec 32 := Scalar.muli v3143 c256_i32_1765
  let v3146 : BitVec 32 := v3145
  ![1536, v3146.toNat]
def k0_off333 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v244 : Index := Scalar.indexCast v229
  let c1536 : Index := 1536#32
  let c0_197 : Index := 0#32
  ![v244.toNat, 1536, 0]
def k0_off334 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v248 : Index := Scalar.indexCast v229
  let c1664 : Index := 1664#32
  let c0_198 : Index := 0#32
  ![v248.toNat, 1664, 0]
def k0_off335 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v252 : Index := Scalar.indexCast v229
  let c1792 : Index := 1792#32
  let c0_199 : Index := 0#32
  ![v252.toNat, 1792, 0]
def k0_off336 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v256 : Index := Scalar.indexCast v229
  let c1920 : Index := 1920#32
  let c0_200 : Index := 0#32
  ![v256.toNat, 1920, 0]
def k0_off337 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v328 : Index := Scalar.indexCast v229
  let c1568 : Index := 1568#32
  let c0_233 : Index := 0#32
  ![v328.toNat, 1568, 0]
def k0_off338 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v332 : Index := Scalar.indexCast v229
  let c1696 : Index := 1696#32
  let c0_234 : Index := 0#32
  ![v332.toNat, 1696, 0]
def k0_off339 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v336 : Index := Scalar.indexCast v229
  let c1824 : Index := 1824#32
  let c0_235 : Index := 0#32
  ![v336.toNat, 1824, 0]
def k0_off340 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v340 : Index := Scalar.indexCast v229
  let c1952 : Index := 1952#32
  let c0_236 : Index := 0#32
  ![v340.toNat, 1952, 0]
def k0_off341 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v412 : Index := Scalar.indexCast v229
  let c1600 : Index := 1600#32
  let c0_273 : Index := 0#32
  ![v412.toNat, 1600, 0]
def k0_off342 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v416 : Index := Scalar.indexCast v229
  let c1728 : Index := 1728#32
  let c0_274 : Index := 0#32
  ![v416.toNat, 1728, 0]
def k0_off343 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v420 : Index := Scalar.indexCast v229
  let c1856 : Index := 1856#32
  let c0_275 : Index := 0#32
  ![v420.toNat, 1856, 0]
def k0_off344 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v424 : Index := Scalar.indexCast v229
  let c1984 : Index := 1984#32
  let c0_276 : Index := 0#32
  ![v424.toNat, 1984, 0]
def k0_off345 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v496 : Index := Scalar.indexCast v229
  let c1632 : Index := 1632#32
  let c0_313 : Index := 0#32
  ![v496.toNat, 1632, 0]
def k0_off346 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v500 : Index := Scalar.indexCast v229
  let c1760 : Index := 1760#32
  let c0_314 : Index := 0#32
  ![v500.toNat, 1760, 0]
def k0_off347 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v504 : Index := Scalar.indexCast v229
  let c1888 : Index := 1888#32
  let c0_315 : Index := 0#32
  ![v504.toNat, 1888, 0]
def k0_off348 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v508 : Index := Scalar.indexCast v229
  let c2016 : Index := 2016#32
  let c0_316 : Index := 0#32
  ![v508.toNat, 2016, 0]
def k0_off349 (k0_t6 : Fin k0_t6_loop.trips) (c0_i32_356 : BitVec 32) (c0_i32_357 : BitVec 32) (c0_i32_359 : BitVec 32) : Fin 2 → Nat :=
  let c0_i32_126 : BitVec 32 := 0#32
  let c1_i32_128 : BitVec 32 := 1#32
  let arg21 : BitVec 32 := Scf.iv c0_i32_126 c1_i32_128 k0_t6
  let c256_i32_196 : BitVec 32 := 256#32
  let v243 : BitVec 32 := Scalar.muli arg21 c256_i32_196
  let v583 : BitVec 32 := Scalar.addi v243 c0_i32_356
  let v584 : BitVec 32 := Scalar.addi v583 c0_i32_357
  let c3_i32_358 : BitVec 32 := 3#32
  let v585 : BitVec 32 := Scalar.muli v584 c3_i32_358
  let v586 : BitVec 32 := Scalar.addi v585 c0_i32_359
  let v588 : Index := Scalar.indexCast v586
  let c0_360 : Index := 0#32
  ![v588.toNat, 0]
def k0_off350 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v727 : Index := Scalar.indexCast v229
  let c2048 : Index := 2048#32
  let c0_423 : Index := 0#32
  ![v727.toNat, 2048, 0]
def k0_off351 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v731 : Index := Scalar.indexCast v229
  let c2176 : Index := 2176#32
  let c0_424 : Index := 0#32
  ![v731.toNat, 2176, 0]
def k0_off352 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v735 : Index := Scalar.indexCast v229
  let c2304 : Index := 2304#32
  let c0_425 : Index := 0#32
  ![v735.toNat, 2304, 0]
def k0_off353 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v739 : Index := Scalar.indexCast v229
  let c2432 : Index := 2432#32
  let c0_426 : Index := 0#32
  ![v739.toNat, 2432, 0]
def k0_off354 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v811 : Index := Scalar.indexCast v229
  let c2080 : Index := 2080#32
  let c0_467 : Index := 0#32
  ![v811.toNat, 2080, 0]
def k0_off355 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v815 : Index := Scalar.indexCast v229
  let c2208 : Index := 2208#32
  let c0_468 : Index := 0#32
  ![v815.toNat, 2208, 0]
def k0_off356 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v819 : Index := Scalar.indexCast v229
  let c2336 : Index := 2336#32
  let c0_469 : Index := 0#32
  ![v819.toNat, 2336, 0]
def k0_off357 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v823 : Index := Scalar.indexCast v229
  let c2464 : Index := 2464#32
  let c0_470 : Index := 0#32
  ![v823.toNat, 2464, 0]
def k0_off358 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v895 : Index := Scalar.indexCast v229
  let c2112 : Index := 2112#32
  let c0_511 : Index := 0#32
  ![v895.toNat, 2112, 0]
def k0_off359 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v899 : Index := Scalar.indexCast v229
  let c2240 : Index := 2240#32
  let c0_512 : Index := 0#32
  ![v899.toNat, 2240, 0]
def k0_off360 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v903 : Index := Scalar.indexCast v229
  let c2368 : Index := 2368#32
  let c0_513 : Index := 0#32
  ![v903.toNat, 2368, 0]
def k0_off361 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v907 : Index := Scalar.indexCast v229
  let c2496 : Index := 2496#32
  let c0_514 : Index := 0#32
  ![v907.toNat, 2496, 0]
def k0_off362 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v979 : Index := Scalar.indexCast v229
  let c2144 : Index := 2144#32
  let c0_555 : Index := 0#32
  ![v979.toNat, 2144, 0]
def k0_off363 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v983 : Index := Scalar.indexCast v229
  let c2272 : Index := 2272#32
  let c0_556 : Index := 0#32
  ![v983.toNat, 2272, 0]
def k0_off364 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v987 : Index := Scalar.indexCast v229
  let c2400 : Index := 2400#32
  let c0_557 : Index := 0#32
  ![v987.toNat, 2400, 0]
def k0_off365 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v991 : Index := Scalar.indexCast v229
  let c2528 : Index := 2528#32
  let c0_558 : Index := 0#32
  ![v991.toNat, 2528, 0]
def k0_off366 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1210 : Index := Scalar.indexCast v229
  let c2560 : Index := 2560#32
  let c0_682 : Index := 0#32
  ![v1210.toNat, 2560, 0]
def k0_off367 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1214 : Index := Scalar.indexCast v229
  let c2688 : Index := 2688#32
  let c0_683 : Index := 0#32
  ![v1214.toNat, 2688, 0]
def k0_off368 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1218 : Index := Scalar.indexCast v229
  let c2816 : Index := 2816#32
  let c0_684 : Index := 0#32
  ![v1218.toNat, 2816, 0]
def k0_off369 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1222 : Index := Scalar.indexCast v229
  let c2944 : Index := 2944#32
  let c0_685 : Index := 0#32
  ![v1222.toNat, 2944, 0]
def k0_off370 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1294 : Index := Scalar.indexCast v229
  let c2592 : Index := 2592#32
  let c0_726 : Index := 0#32
  ![v1294.toNat, 2592, 0]
def k0_off371 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1298 : Index := Scalar.indexCast v229
  let c2720 : Index := 2720#32
  let c0_727 : Index := 0#32
  ![v1298.toNat, 2720, 0]
def k0_off372 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1302 : Index := Scalar.indexCast v229
  let c2848 : Index := 2848#32
  let c0_728 : Index := 0#32
  ![v1302.toNat, 2848, 0]
def k0_off373 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1306 : Index := Scalar.indexCast v229
  let c2976 : Index := 2976#32
  let c0_729 : Index := 0#32
  ![v1306.toNat, 2976, 0]
def k0_off374 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1378 : Index := Scalar.indexCast v229
  let c2624 : Index := 2624#32
  let c0_770 : Index := 0#32
  ![v1378.toNat, 2624, 0]
def k0_off375 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1382 : Index := Scalar.indexCast v229
  let c2752 : Index := 2752#32
  let c0_771 : Index := 0#32
  ![v1382.toNat, 2752, 0]
def k0_off376 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1386 : Index := Scalar.indexCast v229
  let c2880 : Index := 2880#32
  let c0_772 : Index := 0#32
  ![v1386.toNat, 2880, 0]
def k0_off377 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1390 : Index := Scalar.indexCast v229
  let c3008 : Index := 3008#32
  let c0_773 : Index := 0#32
  ![v1390.toNat, 3008, 0]
def k0_off378 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1462 : Index := Scalar.indexCast v229
  let c2656 : Index := 2656#32
  let c0_814 : Index := 0#32
  ![v1462.toNat, 2656, 0]
def k0_off379 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1466 : Index := Scalar.indexCast v229
  let c2784 : Index := 2784#32
  let c0_815 : Index := 0#32
  ![v1466.toNat, 2784, 0]
def k0_off380 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1470 : Index := Scalar.indexCast v229
  let c2912 : Index := 2912#32
  let c0_816 : Index := 0#32
  ![v1470.toNat, 2912, 0]
def k0_off381 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1474 : Index := Scalar.indexCast v229
  let c3040 : Index := 3040#32
  let c0_817 : Index := 0#32
  ![v1474.toNat, 3040, 0]
def k0_off382 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1693 : Index := Scalar.indexCast v229
  let c1536_941 : Index := 1536#32
  let c128 : Index := 128#32
  ![v1693.toNat, 1536, 128]
def k0_off383 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1697 : Index := Scalar.indexCast v229
  let c1664_942 : Index := 1664#32
  let c128_943 : Index := 128#32
  ![v1697.toNat, 1664, 128]
def k0_off384 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1701 : Index := Scalar.indexCast v229
  let c1792_944 : Index := 1792#32
  let c128_945 : Index := 128#32
  ![v1701.toNat, 1792, 128]
def k0_off385 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1705 : Index := Scalar.indexCast v229
  let c1920_946 : Index := 1920#32
  let c128_947 : Index := 128#32
  ![v1705.toNat, 1920, 128]
def k0_off386 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1777 : Index := Scalar.indexCast v229
  let c1568_988 : Index := 1568#32
  let c128_989 : Index := 128#32
  ![v1777.toNat, 1568, 128]
def k0_off387 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1781 : Index := Scalar.indexCast v229
  let c1696_990 : Index := 1696#32
  let c128_991 : Index := 128#32
  ![v1781.toNat, 1696, 128]
def k0_off388 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1785 : Index := Scalar.indexCast v229
  let c1824_992 : Index := 1824#32
  let c128_993 : Index := 128#32
  ![v1785.toNat, 1824, 128]
def k0_off389 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1789 : Index := Scalar.indexCast v229
  let c1952_994 : Index := 1952#32
  let c128_995 : Index := 128#32
  ![v1789.toNat, 1952, 128]
def k0_off390 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1861 : Index := Scalar.indexCast v229
  let c1600_1036 : Index := 1600#32
  let c128_1037 : Index := 128#32
  ![v1861.toNat, 1600, 128]
def k0_off391 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1865 : Index := Scalar.indexCast v229
  let c1728_1038 : Index := 1728#32
  let c128_1039 : Index := 128#32
  ![v1865.toNat, 1728, 128]
def k0_off392 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1869 : Index := Scalar.indexCast v229
  let c1856_1040 : Index := 1856#32
  let c128_1041 : Index := 128#32
  ![v1869.toNat, 1856, 128]
def k0_off393 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1873 : Index := Scalar.indexCast v229
  let c1984_1042 : Index := 1984#32
  let c128_1043 : Index := 128#32
  ![v1873.toNat, 1984, 128]
def k0_off394 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1945 : Index := Scalar.indexCast v229
  let c1632_1084 : Index := 1632#32
  let c128_1085 : Index := 128#32
  ![v1945.toNat, 1632, 128]
def k0_off395 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1949 : Index := Scalar.indexCast v229
  let c1760_1086 : Index := 1760#32
  let c128_1087 : Index := 128#32
  ![v1949.toNat, 1760, 128]
def k0_off396 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1953 : Index := Scalar.indexCast v229
  let c1888_1088 : Index := 1888#32
  let c128_1089 : Index := 128#32
  ![v1953.toNat, 1888, 128]
def k0_off397 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v1957 : Index := Scalar.indexCast v229
  let c2016_1090 : Index := 2016#32
  let c128_1091 : Index := 128#32
  ![v1957.toNat, 2016, 128]
def k0_off398 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2176 : Index := Scalar.indexCast v229
  let c2048_1215 : Index := 2048#32
  let c128_1216 : Index := 128#32
  ![v2176.toNat, 2048, 128]
def k0_off399 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2180 : Index := Scalar.indexCast v229
  let c2176_1217 : Index := 2176#32
  let c128_1218 : Index := 128#32
  ![v2180.toNat, 2176, 128]
def k0_off400 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2184 : Index := Scalar.indexCast v229
  let c2304_1219 : Index := 2304#32
  let c128_1220 : Index := 128#32
  ![v2184.toNat, 2304, 128]
def k0_off401 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2188 : Index := Scalar.indexCast v229
  let c2432_1221 : Index := 2432#32
  let c128_1222 : Index := 128#32
  ![v2188.toNat, 2432, 128]
def k0_off402 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2260 : Index := Scalar.indexCast v229
  let c2080_1263 : Index := 2080#32
  let c128_1264 : Index := 128#32
  ![v2260.toNat, 2080, 128]
def k0_off403 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2264 : Index := Scalar.indexCast v229
  let c2208_1265 : Index := 2208#32
  let c128_1266 : Index := 128#32
  ![v2264.toNat, 2208, 128]
def k0_off404 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2268 : Index := Scalar.indexCast v229
  let c2336_1267 : Index := 2336#32
  let c128_1268 : Index := 128#32
  ![v2268.toNat, 2336, 128]
def k0_off405 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2272 : Index := Scalar.indexCast v229
  let c2464_1269 : Index := 2464#32
  let c128_1270 : Index := 128#32
  ![v2272.toNat, 2464, 128]
def k0_off406 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2344 : Index := Scalar.indexCast v229
  let c2112_1311 : Index := 2112#32
  let c128_1312 : Index := 128#32
  ![v2344.toNat, 2112, 128]
def k0_off407 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2348 : Index := Scalar.indexCast v229
  let c2240_1313 : Index := 2240#32
  let c128_1314 : Index := 128#32
  ![v2348.toNat, 2240, 128]
def k0_off408 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2352 : Index := Scalar.indexCast v229
  let c2368_1315 : Index := 2368#32
  let c128_1316 : Index := 128#32
  ![v2352.toNat, 2368, 128]
def k0_off409 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2356 : Index := Scalar.indexCast v229
  let c2496_1317 : Index := 2496#32
  let c128_1318 : Index := 128#32
  ![v2356.toNat, 2496, 128]
def k0_off410 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2428 : Index := Scalar.indexCast v229
  let c2144_1359 : Index := 2144#32
  let c128_1360 : Index := 128#32
  ![v2428.toNat, 2144, 128]
def k0_off411 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2432 : Index := Scalar.indexCast v229
  let c2272_1361 : Index := 2272#32
  let c128_1362 : Index := 128#32
  ![v2432.toNat, 2272, 128]
def k0_off412 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2436 : Index := Scalar.indexCast v229
  let c2400_1363 : Index := 2400#32
  let c128_1364 : Index := 128#32
  ![v2436.toNat, 2400, 128]
def k0_off413 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2440 : Index := Scalar.indexCast v229
  let c2528_1365 : Index := 2528#32
  let c128_1366 : Index := 128#32
  ![v2440.toNat, 2528, 128]
def k0_off414 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2659 : Index := Scalar.indexCast v229
  let c2560_1489 : Index := 2560#32
  let c128_1490 : Index := 128#32
  ![v2659.toNat, 2560, 128]
def k0_off415 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2663 : Index := Scalar.indexCast v229
  let c2688_1491 : Index := 2688#32
  let c128_1492 : Index := 128#32
  ![v2663.toNat, 2688, 128]
def k0_off416 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2667 : Index := Scalar.indexCast v229
  let c2816_1493 : Index := 2816#32
  let c128_1494 : Index := 128#32
  ![v2667.toNat, 2816, 128]
def k0_off417 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2671 : Index := Scalar.indexCast v229
  let c2944_1495 : Index := 2944#32
  let c128_1496 : Index := 128#32
  ![v2671.toNat, 2944, 128]
def k0_off418 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2743 : Index := Scalar.indexCast v229
  let c2592_1536 : Index := 2592#32
  let c128_1537 : Index := 128#32
  ![v2743.toNat, 2592, 128]
def k0_off419 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2747 : Index := Scalar.indexCast v229
  let c2720_1538 : Index := 2720#32
  let c128_1539 : Index := 128#32
  ![v2747.toNat, 2720, 128]
def k0_off420 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2751 : Index := Scalar.indexCast v229
  let c2848_1540 : Index := 2848#32
  let c128_1541 : Index := 128#32
  ![v2751.toNat, 2848, 128]
def k0_off421 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2755 : Index := Scalar.indexCast v229
  let c2976_1542 : Index := 2976#32
  let c128_1543 : Index := 128#32
  ![v2755.toNat, 2976, 128]
def k0_off422 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2827 : Index := Scalar.indexCast v229
  let c2624_1584 : Index := 2624#32
  let c128_1585 : Index := 128#32
  ![v2827.toNat, 2624, 128]
def k0_off423 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2831 : Index := Scalar.indexCast v229
  let c2752_1586 : Index := 2752#32
  let c128_1587 : Index := 128#32
  ![v2831.toNat, 2752, 128]
def k0_off424 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2835 : Index := Scalar.indexCast v229
  let c2880_1588 : Index := 2880#32
  let c128_1589 : Index := 128#32
  ![v2835.toNat, 2880, 128]
def k0_off425 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2839 : Index := Scalar.indexCast v229
  let c3008_1590 : Index := 3008#32
  let c128_1591 : Index := 128#32
  ![v2839.toNat, 3008, 128]
def k0_off426 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2911 : Index := Scalar.indexCast v229
  let c2656_1632 : Index := 2656#32
  let c128_1633 : Index := 128#32
  ![v2911.toNat, 2656, 128]
def k0_off427 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2915 : Index := Scalar.indexCast v229
  let c2784_1634 : Index := 2784#32
  let c128_1635 : Index := 128#32
  ![v2915.toNat, 2784, 128]
def k0_off428 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2919 : Index := Scalar.indexCast v229
  let c2912_1636 : Index := 2912#32
  let c128_1637 : Index := 128#32
  ![v2919.toNat, 2912, 128]
def k0_off429 (k0_t6 : Fin k0_t6_loop.trips) : Fin 3 → Nat :=
  let c0_i32_126 : BitVec 32 := 0#32
  let c1_i32_128 : BitVec 32 := 1#32
  let arg21 : BitVec 32 := Scf.iv c0_i32_126 c1_i32_128 k0_t6
  let c6_i32_186 : BitVec 32 := 6#32
  let v229 : BitVec 32 := Scalar.remsi arg21 c6_i32_186
  let v2923 : Index := Scalar.indexCast v229
  let c3040_1638 : Index := 3040#32
  let c128_1639 : Index := 128#32
  ![v2923.toNat, 3040, 128]
@[reducible] def k0_t7_loop : Scf.Loop 32 :=
  let c0_i32_130 : BitVec 32 := 0#32
  let c128_i32_131 : BitVec 32 := 128#32
  let v160 : BitVec 32 := Scalar.addi c0_i32_130 c128_i32_131
  let c1_i32_132 : BitVec 32 := 1#32
  ⟨c0_i32_130, v160, c1_i32_132⟩
def k0_cond4 (k0_t7 : Fin k0_t7_loop.trips) : BitVec 1 :=
  let c0_i32_130 : BitVec 32 := 0#32
  let c1_i32_132 : BitVec 32 := 1#32
  let arg21 : BitVec 32 := Scf.iv c0_i32_130 c1_i32_132 k0_t7
  let c4_i32_187 : BitVec 32 := 4#32
  let v230 : BitVec 1 := Scalar.cmpi .sge arg21 c4_i32_187
  let v231 : BitVec 32 := Scalar.extui v230
  let c0_i32_188 : BitVec 32 := 0#32
  let v232 : BitVec 1 := Scalar.cmpi .ne v231 c0_i32_188
  v232

def k0_mult35 (k0_t7 : Fin k0_t7_loop.trips) : BitVec 32 :=
  let c0_i32_130 : BitVec 32 := 0#32
  let c1_i32_132 : BitVec 32 := 1#32
  let arg21 : BitVec 32 := Scf.iv c0_i32_130 c1_i32_132 k0_t7
  let c4_i32_205 : BitVec 32 := 4#32
  let v254 : BitVec 32 := Scalar.subi arg21 c4_i32_205
  let c16_i32_208 : BitVec 32 := 16#32
  let v257 : BitVec 32 := Scalar.remsi v254 c16_i32_208
  let c256_i32_209 : BitVec 32 := 256#32
  let v258 : BitVec 32 := Scalar.muli v257 c256_i32_209
  v258
def k0_off430 (k0_t7 : Fin k0_t7_loop.trips) : Fin 1 → Nat :=
  let c0_i32_130 : BitVec 32 := 0#32
  let c1_i32_132 : BitVec 32 := 1#32
  let arg21 : BitVec 32 := Scf.iv c0_i32_130 c1_i32_132 k0_t7
  let c4_i32_205 : BitVec 32 := 4#32
  let v254 : BitVec 32 := Scalar.subi arg21 c4_i32_205
  let c4_i32_206 : BitVec 32 := 4#32
  let v255 : BitVec 32 := Scalar.remsi v254 c4_i32_206
  ![v255.toNat]
def k0_off431 (k0_t7 : Fin k0_t7_loop.trips) : Fin 3 → Nat :=
  let c0_i32_130 : BitVec 32 := 0#32
  let c1_i32_132 : BitVec 32 := 1#32
  let arg21 : BitVec 32 := Scf.iv c0_i32_130 c1_i32_132 k0_t7
  let c4_i32_205 : BitVec 32 := 4#32
  let v254 : BitVec 32 := Scalar.subi arg21 c4_i32_205
  let c16_i32_207 : BitVec 32 := 16#32
  let v256 : BitVec 32 := Scalar.divsi v254 c16_i32_207
  let c16_i32_208 : BitVec 32 := 16#32
  let v257 : BitVec 32 := Scalar.remsi v254 c16_i32_208
  let c256_i32_209 : BitVec 32 := 256#32
  let v258 : BitVec 32 := Scalar.muli v257 c256_i32_209
  let v259 : BitVec 32 := v258
  let c1536_i32_210 : BitVec 32 := 1536#32
  ![v256.toNat, v259.toNat, 1536]
def k0_off432 (k0_t7 : Fin k0_t7_loop.trips) : Fin 3 → Nat :=
  let c0_i32_130 : BitVec 32 := 0#32
  let c1_i32_132 : BitVec 32 := 1#32
  let arg21 : BitVec 32 := Scf.iv c0_i32_130 c1_i32_132 k0_t7
  let c4_i32_205 : BitVec 32 := 4#32
  let v254 : BitVec 32 := Scalar.subi arg21 c4_i32_205
  let c4_i32_206 : BitVec 32 := 4#32
  let v255 : BitVec 32 := Scalar.remsi v254 c4_i32_206
  let c0_i32_211 : BitVec 32 := 0#32
  let c0_i32_212 : BitVec 32 := 0#32
  ![v255.toNat, 0, 0]
@[reducible] def k0_t8_loop : Scf.Loop 32 :=
  let c0_i32_192 : BitVec 32 := 0#32
  let c8_i32 : BitVec 32 := 8#32
  let v236 : BitVec 32 := Scalar.addi c0_i32_192 c8_i32
  let c1_i32_193 : BitVec 32 := 1#32
  ⟨c0_i32_192, v236, c1_i32_193⟩
def k0_off433 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v257 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c0_i32_205 : BitVec 32 := 0#32
  let v256 : BitVec 32 := Scalar.addi v255 c0_i32_205
  let v258 : Index := Scalar.indexCast v256
  ![v257.toNat, v258.toNat]
def k0_off434 (v259 : BitVec 32) : Fin 2 → Nat :=
  let c3_i32_206 : BitVec 32 := 3#32
  let v260 : BitVec 32 := Scalar.muli v259 c3_i32_206
  let v261 : Index := Scalar.indexCast v260
  let c0_207 : Index := 0#32
  ![v261.toNat, 0]

def k0_off435 (v259 : BitVec 32) : Fin 1 → Nat :=
  let v266 : Index := Scalar.indexCast v259
  ![v266.toNat]

def k0_chk33 (v259 : BitVec 32) : Prop :=
  (∀ a, (k0_off434 v259) a + S3x128.size a ≤ S96000x128.size a) ∧
  (∀ a, (k0_off435 v259) a + S1.size a ≤ S32000.size a)
theorem k0_off434_inb : ∀ (v259 : BitVec 32) (k0_hw33 : k0_chk33 v259), ∀ a, (k0_off434 v259) a + S3x128.size a ≤ S96000x128.size a := fun v259 k0_hw33 => k0_hw33.1
theorem k0_off435_inb : ∀ (v259 : BitVec 32) (k0_hw33 : k0_chk33 v259), ∀ a, (k0_off435 v259) a + S1.size a ≤ S32000.size a := fun v259 k0_hw33 => k0_hw33.2

def k0_off436 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v273 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c1_i32_210 : BitVec 32 := 1#32
  let v272 : BitVec 32 := Scalar.addi v255 c1_i32_210
  let v274 : Index := Scalar.indexCast v272
  ![v273.toNat, v274.toNat]
def k0_off437 (v275 : BitVec 32) : Fin 2 → Nat :=
  let c3_i32_211 : BitVec 32 := 3#32
  let v276 : BitVec 32 := Scalar.muli v275 c3_i32_211
  let v277 : Index := Scalar.indexCast v276
  let c0_212 : Index := 0#32
  ![v277.toNat, 0]

def k0_off438 (v275 : BitVec 32) : Fin 1 → Nat :=
  let v282 : Index := Scalar.indexCast v275
  ![v282.toNat]

def k0_chk34 (v275 : BitVec 32) : Prop :=
  (∀ a, (k0_off437 v275) a + S3x128.size a ≤ S96000x128.size a) ∧
  (∀ a, (k0_off438 v275) a + S1.size a ≤ S32000.size a)
theorem k0_off437_inb : ∀ (v275 : BitVec 32) (k0_hw34 : k0_chk34 v275), ∀ a, (k0_off437 v275) a + S3x128.size a ≤ S96000x128.size a := fun v275 k0_hw34 => k0_hw34.1
theorem k0_off438_inb : ∀ (v275 : BitVec 32) (k0_hw34 : k0_chk34 v275), ∀ a, (k0_off438 v275) a + S1.size a ≤ S32000.size a := fun v275 k0_hw34 => k0_hw34.2

def k0_off439 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v295 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c2_i32_216 : BitVec 32 := 2#32
  let v294 : BitVec 32 := Scalar.addi v255 c2_i32_216
  let v296 : Index := Scalar.indexCast v294
  ![v295.toNat, v296.toNat]
def k0_off440 (v297 : BitVec 32) : Fin 2 → Nat :=
  let c3_i32_217 : BitVec 32 := 3#32
  let v298 : BitVec 32 := Scalar.muli v297 c3_i32_217
  let v299 : Index := Scalar.indexCast v298
  let c0_218 : Index := 0#32
  ![v299.toNat, 0]

def k0_off441 (v297 : BitVec 32) : Fin 1 → Nat :=
  let v304 : Index := Scalar.indexCast v297
  ![v304.toNat]

def k0_chk35 (v297 : BitVec 32) : Prop :=
  (∀ a, (k0_off440 v297) a + S3x128.size a ≤ S96000x128.size a) ∧
  (∀ a, (k0_off441 v297) a + S1.size a ≤ S32000.size a)
theorem k0_off440_inb : ∀ (v297 : BitVec 32) (k0_hw35 : k0_chk35 v297), ∀ a, (k0_off440 v297) a + S3x128.size a ≤ S96000x128.size a := fun v297 k0_hw35 => k0_hw35.1
theorem k0_off441_inb : ∀ (v297 : BitVec 32) (k0_hw35 : k0_chk35 v297), ∀ a, (k0_off441 v297) a + S1.size a ≤ S32000.size a := fun v297 k0_hw35 => k0_hw35.2

def k0_off442 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v317 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c3_i32_222 : BitVec 32 := 3#32
  let v316 : BitVec 32 := Scalar.addi v255 c3_i32_222
  let v318 : Index := Scalar.indexCast v316
  ![v317.toNat, v318.toNat]
def k0_off443 (v319 : BitVec 32) : Fin 2 → Nat :=
  let c3_i32_223 : BitVec 32 := 3#32
  let v320 : BitVec 32 := Scalar.muli v319 c3_i32_223
  let v321 : Index := Scalar.indexCast v320
  let c0_224 : Index := 0#32
  ![v321.toNat, 0]

def k0_off444 (v319 : BitVec 32) : Fin 1 → Nat :=
  let v326 : Index := Scalar.indexCast v319
  ![v326.toNat]

def k0_chk36 (v319 : BitVec 32) : Prop :=
  (∀ a, (k0_off443 v319) a + S3x128.size a ≤ S96000x128.size a) ∧
  (∀ a, (k0_off444 v319) a + S1.size a ≤ S32000.size a)
theorem k0_off443_inb : ∀ (v319 : BitVec 32) (k0_hw36 : k0_chk36 v319), ∀ a, (k0_off443 v319) a + S3x128.size a ≤ S96000x128.size a := fun v319 k0_hw36 => k0_hw36.1
theorem k0_off444_inb : ∀ (v319 : BitVec 32) (k0_hw36 : k0_chk36 v319), ∀ a, (k0_off444 v319) a + S1.size a ≤ S32000.size a := fun v319 k0_hw36 => k0_hw36.2

def k0_off445 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v339 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c4_i32_228 : BitVec 32 := 4#32
  let v338 : BitVec 32 := Scalar.addi v255 c4_i32_228
  let v340 : Index := Scalar.indexCast v338
  ![v339.toNat, v340.toNat]
def k0_off446 (v341 : BitVec 32) : Fin 2 → Nat :=
  let c3_i32_229 : BitVec 32 := 3#32
  let v342 : BitVec 32 := Scalar.muli v341 c3_i32_229
  let v343 : Index := Scalar.indexCast v342
  let c0_230 : Index := 0#32
  ![v343.toNat, 0]

def k0_off447 (v341 : BitVec 32) : Fin 1 → Nat :=
  let v348 : Index := Scalar.indexCast v341
  ![v348.toNat]

def k0_chk37 (v341 : BitVec 32) : Prop :=
  (∀ a, (k0_off446 v341) a + S3x128.size a ≤ S96000x128.size a) ∧
  (∀ a, (k0_off447 v341) a + S1.size a ≤ S32000.size a)
theorem k0_off446_inb : ∀ (v341 : BitVec 32) (k0_hw37 : k0_chk37 v341), ∀ a, (k0_off446 v341) a + S3x128.size a ≤ S96000x128.size a := fun v341 k0_hw37 => k0_hw37.1
theorem k0_off447_inb : ∀ (v341 : BitVec 32) (k0_hw37 : k0_chk37 v341), ∀ a, (k0_off447 v341) a + S1.size a ≤ S32000.size a := fun v341 k0_hw37 => k0_hw37.2

def k0_off448 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v361 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c5_i32 : BitVec 32 := 5#32
  let v360 : BitVec 32 := Scalar.addi v255 c5_i32
  let v362 : Index := Scalar.indexCast v360
  ![v361.toNat, v362.toNat]
def k0_off449 (v363 : BitVec 32) : Fin 2 → Nat :=
  let c3_i32_234 : BitVec 32 := 3#32
  let v364 : BitVec 32 := Scalar.muli v363 c3_i32_234
  let v365 : Index := Scalar.indexCast v364
  let c0_235 : Index := 0#32
  ![v365.toNat, 0]

def k0_off450 (v363 : BitVec 32) : Fin 1 → Nat :=
  let v370 : Index := Scalar.indexCast v363
  ![v370.toNat]

def k0_chk38 (v363 : BitVec 32) : Prop :=
  (∀ a, (k0_off449 v363) a + S3x128.size a ≤ S96000x128.size a) ∧
  (∀ a, (k0_off450 v363) a + S1.size a ≤ S32000.size a)
theorem k0_off449_inb : ∀ (v363 : BitVec 32) (k0_hw38 : k0_chk38 v363), ∀ a, (k0_off449 v363) a + S3x128.size a ≤ S96000x128.size a := fun v363 k0_hw38 => k0_hw38.1
theorem k0_off450_inb : ∀ (v363 : BitVec 32) (k0_hw38 : k0_chk38 v363), ∀ a, (k0_off450 v363) a + S1.size a ≤ S32000.size a := fun v363 k0_hw38 => k0_hw38.2

def k0_off451 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v383 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c6_i32_239 : BitVec 32 := 6#32
  let v382 : BitVec 32 := Scalar.addi v255 c6_i32_239
  let v384 : Index := Scalar.indexCast v382
  ![v383.toNat, v384.toNat]
def k0_off452 (v385 : BitVec 32) : Fin 2 → Nat :=
  let c3_i32_240 : BitVec 32 := 3#32
  let v386 : BitVec 32 := Scalar.muli v385 c3_i32_240
  let v387 : Index := Scalar.indexCast v386
  let c0_241 : Index := 0#32
  ![v387.toNat, 0]

def k0_off453 (v385 : BitVec 32) : Fin 1 → Nat :=
  let v392 : Index := Scalar.indexCast v385
  ![v392.toNat]

def k0_chk39 (v385 : BitVec 32) : Prop :=
  (∀ a, (k0_off452 v385) a + S3x128.size a ≤ S96000x128.size a) ∧
  (∀ a, (k0_off453 v385) a + S1.size a ≤ S32000.size a)
theorem k0_off452_inb : ∀ (v385 : BitVec 32) (k0_hw39 : k0_chk39 v385), ∀ a, (k0_off452 v385) a + S3x128.size a ≤ S96000x128.size a := fun v385 k0_hw39 => k0_hw39.1
theorem k0_off453_inb : ∀ (v385 : BitVec 32) (k0_hw39 : k0_chk39 v385), ∀ a, (k0_off453 v385) a + S1.size a ≤ S32000.size a := fun v385 k0_hw39 => k0_hw39.2

def k0_off454 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v405 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c7_i32 : BitVec 32 := 7#32
  let v404 : BitVec 32 := Scalar.addi v255 c7_i32
  let v406 : Index := Scalar.indexCast v404
  ![v405.toNat, v406.toNat]
def k0_off455 (v407 : BitVec 32) : Fin 2 → Nat :=
  let c3_i32_245 : BitVec 32 := 3#32
  let v408 : BitVec 32 := Scalar.muli v407 c3_i32_245
  let v409 : Index := Scalar.indexCast v408
  let c0_246 : Index := 0#32
  ![v409.toNat, 0]

def k0_off456 (v407 : BitVec 32) : Fin 1 → Nat :=
  let v414 : Index := Scalar.indexCast v407
  ![v414.toNat]

def k0_chk40 (v407 : BitVec 32) : Prop :=
  (∀ a, (k0_off455 v407) a + S3x128.size a ≤ S96000x128.size a) ∧
  (∀ a, (k0_off456 v407) a + S1.size a ≤ S32000.size a)
theorem k0_off455_inb : ∀ (v407 : BitVec 32) (k0_hw40 : k0_chk40 v407), ∀ a, (k0_off455 v407) a + S3x128.size a ≤ S96000x128.size a := fun v407 k0_hw40 => k0_hw40.1
theorem k0_off456_inb : ∀ (v407 : BitVec 32) (k0_hw40 : k0_chk40 v407), ∀ a, (k0_off456 v407) a + S1.size a ≤ S32000.size a := fun v407 k0_hw40 => k0_hw40.2

def k0_off457 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v427 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c8_i32_250 : BitVec 32 := 8#32
  let v426 : BitVec 32 := Scalar.addi v255 c8_i32_250
  let v428 : Index := Scalar.indexCast v426
  ![v427.toNat, v428.toNat]
def k0_off458 (v429 : BitVec 32) : Fin 2 → Nat :=
  let c3_i32_251 : BitVec 32 := 3#32
  let v430 : BitVec 32 := Scalar.muli v429 c3_i32_251
  let v431 : Index := Scalar.indexCast v430
  let c0_252 : Index := 0#32
  ![v431.toNat, 0]

def k0_off459 (v429 : BitVec 32) : Fin 1 → Nat :=
  let v436 : Index := Scalar.indexCast v429
  ![v436.toNat]

def k0_chk41 (v429 : BitVec 32) : Prop :=
  (∀ a, (k0_off458 v429) a + S3x128.size a ≤ S96000x128.size a) ∧
  (∀ a, (k0_off459 v429) a + S1.size a ≤ S32000.size a)
theorem k0_off458_inb : ∀ (v429 : BitVec 32) (k0_hw41 : k0_chk41 v429), ∀ a, (k0_off458 v429) a + S3x128.size a ≤ S96000x128.size a := fun v429 k0_hw41 => k0_hw41.1
theorem k0_off459_inb : ∀ (v429 : BitVec 32) (k0_hw41 : k0_chk41 v429), ∀ a, (k0_off459 v429) a + S1.size a ≤ S32000.size a := fun v429 k0_hw41 => k0_hw41.2

def k0_off460 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v443 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c9_i32 : BitVec 32 := 9#32
  let v442 : BitVec 32 := Scalar.addi v255 c9_i32
  let v444 : Index := Scalar.indexCast v442
  ![v443.toNat, v444.toNat]
def k0_off461 (v445 : BitVec 32) : Fin 2 → Nat :=
  let c3_i32_254 : BitVec 32 := 3#32
  let v446 : BitVec 32 := Scalar.muli v445 c3_i32_254
  let v447 : Index := Scalar.indexCast v446
  let c0_255 : Index := 0#32
  ![v447.toNat, 0]

def k0_off462 (v445 : BitVec 32) : Fin 1 → Nat :=
  let v452 : Index := Scalar.indexCast v445
  ![v452.toNat]

def k0_chk42 (v445 : BitVec 32) : Prop :=
  (∀ a, (k0_off461 v445) a + S3x128.size a ≤ S96000x128.size a) ∧
  (∀ a, (k0_off462 v445) a + S1.size a ≤ S32000.size a)
theorem k0_off461_inb : ∀ (v445 : BitVec 32) (k0_hw42 : k0_chk42 v445), ∀ a, (k0_off461 v445) a + S3x128.size a ≤ S96000x128.size a := fun v445 k0_hw42 => k0_hw42.1
theorem k0_off462_inb : ∀ (v445 : BitVec 32) (k0_hw42 : k0_chk42 v445), ∀ a, (k0_off462 v445) a + S1.size a ≤ S32000.size a := fun v445 k0_hw42 => k0_hw42.2

def k0_off463 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v465 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c10_i32 : BitVec 32 := 10#32
  let v464 : BitVec 32 := Scalar.addi v255 c10_i32
  let v466 : Index := Scalar.indexCast v464
  ![v465.toNat, v466.toNat]
def k0_off464 (v467 : BitVec 32) : Fin 2 → Nat :=
  let c3_i32_259 : BitVec 32 := 3#32
  let v468 : BitVec 32 := Scalar.muli v467 c3_i32_259
  let v469 : Index := Scalar.indexCast v468
  let c0_260 : Index := 0#32
  ![v469.toNat, 0]

def k0_off465 (v467 : BitVec 32) : Fin 1 → Nat :=
  let v474 : Index := Scalar.indexCast v467
  ![v474.toNat]

def k0_chk43 (v467 : BitVec 32) : Prop :=
  (∀ a, (k0_off464 v467) a + S3x128.size a ≤ S96000x128.size a) ∧
  (∀ a, (k0_off465 v467) a + S1.size a ≤ S32000.size a)
theorem k0_off464_inb : ∀ (v467 : BitVec 32) (k0_hw43 : k0_chk43 v467), ∀ a, (k0_off464 v467) a + S3x128.size a ≤ S96000x128.size a := fun v467 k0_hw43 => k0_hw43.1
theorem k0_off465_inb : ∀ (v467 : BitVec 32) (k0_hw43 : k0_chk43 v467), ∀ a, (k0_off465 v467) a + S1.size a ≤ S32000.size a := fun v467 k0_hw43 => k0_hw43.2

def k0_off466 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v487 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c11_i32 : BitVec 32 := 11#32
  let v486 : BitVec 32 := Scalar.addi v255 c11_i32
  let v488 : Index := Scalar.indexCast v486
  ![v487.toNat, v488.toNat]
def k0_off467 (v489 : BitVec 32) : Fin 2 → Nat :=
  let c3_i32_264 : BitVec 32 := 3#32
  let v490 : BitVec 32 := Scalar.muli v489 c3_i32_264
  let v491 : Index := Scalar.indexCast v490
  let c0_265 : Index := 0#32
  ![v491.toNat, 0]

def k0_off468 (v489 : BitVec 32) : Fin 1 → Nat :=
  let v496 : Index := Scalar.indexCast v489
  ![v496.toNat]

def k0_chk44 (v489 : BitVec 32) : Prop :=
  (∀ a, (k0_off467 v489) a + S3x128.size a ≤ S96000x128.size a) ∧
  (∀ a, (k0_off468 v489) a + S1.size a ≤ S32000.size a)
theorem k0_off467_inb : ∀ (v489 : BitVec 32) (k0_hw44 : k0_chk44 v489), ∀ a, (k0_off467 v489) a + S3x128.size a ≤ S96000x128.size a := fun v489 k0_hw44 => k0_hw44.1
theorem k0_off468_inb : ∀ (v489 : BitVec 32) (k0_hw44 : k0_chk44 v489), ∀ a, (k0_off468 v489) a + S1.size a ≤ S32000.size a := fun v489 k0_hw44 => k0_hw44.2

def k0_off469 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v509 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c12_i32 : BitVec 32 := 12#32
  let v508 : BitVec 32 := Scalar.addi v255 c12_i32
  let v510 : Index := Scalar.indexCast v508
  ![v509.toNat, v510.toNat]
def k0_off470 (v511 : BitVec 32) : Fin 2 → Nat :=
  let c3_i32_269 : BitVec 32 := 3#32
  let v512 : BitVec 32 := Scalar.muli v511 c3_i32_269
  let v513 : Index := Scalar.indexCast v512
  let c0_270 : Index := 0#32
  ![v513.toNat, 0]

def k0_off471 (v511 : BitVec 32) : Fin 1 → Nat :=
  let v518 : Index := Scalar.indexCast v511
  ![v518.toNat]

def k0_chk45 (v511 : BitVec 32) : Prop :=
  (∀ a, (k0_off470 v511) a + S3x128.size a ≤ S96000x128.size a) ∧
  (∀ a, (k0_off471 v511) a + S1.size a ≤ S32000.size a)
theorem k0_off470_inb : ∀ (v511 : BitVec 32) (k0_hw45 : k0_chk45 v511), ∀ a, (k0_off470 v511) a + S3x128.size a ≤ S96000x128.size a := fun v511 k0_hw45 => k0_hw45.1
theorem k0_off471_inb : ∀ (v511 : BitVec 32) (k0_hw45 : k0_chk45 v511), ∀ a, (k0_off471 v511) a + S1.size a ≤ S32000.size a := fun v511 k0_hw45 => k0_hw45.2

def k0_off472 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v531 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c13_i32 : BitVec 32 := 13#32
  let v530 : BitVec 32 := Scalar.addi v255 c13_i32
  let v532 : Index := Scalar.indexCast v530
  ![v531.toNat, v532.toNat]
def k0_off473 (v533 : BitVec 32) : Fin 2 → Nat :=
  let c3_i32_274 : BitVec 32 := 3#32
  let v534 : BitVec 32 := Scalar.muli v533 c3_i32_274
  let v535 : Index := Scalar.indexCast v534
  let c0_275 : Index := 0#32
  ![v535.toNat, 0]

def k0_off474 (v533 : BitVec 32) : Fin 1 → Nat :=
  let v540 : Index := Scalar.indexCast v533
  ![v540.toNat]

def k0_chk46 (v533 : BitVec 32) : Prop :=
  (∀ a, (k0_off473 v533) a + S3x128.size a ≤ S96000x128.size a) ∧
  (∀ a, (k0_off474 v533) a + S1.size a ≤ S32000.size a)
theorem k0_off473_inb : ∀ (v533 : BitVec 32) (k0_hw46 : k0_chk46 v533), ∀ a, (k0_off473 v533) a + S3x128.size a ≤ S96000x128.size a := fun v533 k0_hw46 => k0_hw46.1
theorem k0_off474_inb : ∀ (v533 : BitVec 32) (k0_hw46 : k0_chk46 v533), ∀ a, (k0_off474 v533) a + S1.size a ≤ S32000.size a := fun v533 k0_hw46 => k0_hw46.2

def k0_off475 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v553 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c14_i32 : BitVec 32 := 14#32
  let v552 : BitVec 32 := Scalar.addi v255 c14_i32
  let v554 : Index := Scalar.indexCast v552
  ![v553.toNat, v554.toNat]
def k0_off476 (v555 : BitVec 32) : Fin 2 → Nat :=
  let c3_i32_279 : BitVec 32 := 3#32
  let v556 : BitVec 32 := Scalar.muli v555 c3_i32_279
  let v557 : Index := Scalar.indexCast v556
  let c0_280 : Index := 0#32
  ![v557.toNat, 0]

def k0_off477 (v555 : BitVec 32) : Fin 1 → Nat :=
  let v562 : Index := Scalar.indexCast v555
  ![v562.toNat]

def k0_chk47 (v555 : BitVec 32) : Prop :=
  (∀ a, (k0_off476 v555) a + S3x128.size a ≤ S96000x128.size a) ∧
  (∀ a, (k0_off477 v555) a + S1.size a ≤ S32000.size a)
theorem k0_off476_inb : ∀ (v555 : BitVec 32) (k0_hw47 : k0_chk47 v555), ∀ a, (k0_off476 v555) a + S3x128.size a ≤ S96000x128.size a := fun v555 k0_hw47 => k0_hw47.1
theorem k0_off477_inb : ∀ (v555 : BitVec 32) (k0_hw47 : k0_chk47 v555), ∀ a, (k0_off477 v555) a + S1.size a ≤ S32000.size a := fun v555 k0_hw47 => k0_hw47.2

def k0_off478 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v575 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c15_i32 : BitVec 32 := 15#32
  let v574 : BitVec 32 := Scalar.addi v255 c15_i32
  let v576 : Index := Scalar.indexCast v574
  ![v575.toNat, v576.toNat]
def k0_off479 (v577 : BitVec 32) : Fin 2 → Nat :=
  let c3_i32_284 : BitVec 32 := 3#32
  let v578 : BitVec 32 := Scalar.muli v577 c3_i32_284
  let v579 : Index := Scalar.indexCast v578
  let c0_285 : Index := 0#32
  ![v579.toNat, 0]

def k0_off480 (v577 : BitVec 32) : Fin 1 → Nat :=
  let v584 : Index := Scalar.indexCast v577
  ![v584.toNat]

def k0_chk48 (v577 : BitVec 32) : Prop :=
  (∀ a, (k0_off479 v577) a + S3x128.size a ≤ S96000x128.size a) ∧
  (∀ a, (k0_off480 v577) a + S1.size a ≤ S32000.size a)
theorem k0_off479_inb : ∀ (v577 : BitVec 32) (k0_hw48 : k0_chk48 v577), ∀ a, (k0_off479 v577) a + S3x128.size a ≤ S96000x128.size a := fun v577 k0_hw48 => k0_hw48.1
theorem k0_off480_inb : ∀ (v577 : BitVec 32) (k0_hw48 : k0_chk48 v577), ∀ a, (k0_off480 v577) a + S1.size a ≤ S32000.size a := fun v577 k0_hw48 => k0_hw48.2

def k0_off481 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v597 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c16_i32_289 : BitVec 32 := 16#32
  let v596 : BitVec 32 := Scalar.addi v255 c16_i32_289
  let v598 : Index := Scalar.indexCast v596
  ![v597.toNat, v598.toNat]
def k0_off482 (v599 : BitVec 32) : Fin 2 → Nat :=
  let c3_i32_290 : BitVec 32 := 3#32
  let v600 : BitVec 32 := Scalar.muli v599 c3_i32_290
  let v601 : Index := Scalar.indexCast v600
  let c0_291 : Index := 0#32
  ![v601.toNat, 0]

def k0_off483 (v599 : BitVec 32) : Fin 1 → Nat :=
  let v606 : Index := Scalar.indexCast v599
  ![v606.toNat]

def k0_chk49 (v599 : BitVec 32) : Prop :=
  (∀ a, (k0_off482 v599) a + S3x128.size a ≤ S96000x128.size a) ∧
  (∀ a, (k0_off483 v599) a + S1.size a ≤ S32000.size a)
theorem k0_off482_inb : ∀ (v599 : BitVec 32) (k0_hw49 : k0_chk49 v599), ∀ a, (k0_off482 v599) a + S3x128.size a ≤ S96000x128.size a := fun v599 k0_hw49 => k0_hw49.1
theorem k0_off483_inb : ∀ (v599 : BitVec 32) (k0_hw49 : k0_chk49 v599), ∀ a, (k0_off483 v599) a + S1.size a ≤ S32000.size a := fun v599 k0_hw49 => k0_hw49.2

def k0_off484 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v613 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c17_i32 : BitVec 32 := 17#32
  let v612 : BitVec 32 := Scalar.addi v255 c17_i32
  let v614 : Index := Scalar.indexCast v612
  ![v613.toNat, v614.toNat]
def k0_off485 (v615 : BitVec 32) : Fin 2 → Nat :=
  let c3_i32_293 : BitVec 32 := 3#32
  let v616 : BitVec 32 := Scalar.muli v615 c3_i32_293
  let v617 : Index := Scalar.indexCast v616
  let c0_294 : Index := 0#32
  ![v617.toNat, 0]

def k0_off486 (v615 : BitVec 32) : Fin 1 → Nat :=
  let v622 : Index := Scalar.indexCast v615
  ![v622.toNat]

def k0_chk50 (v615 : BitVec 32) : Prop :=
  (∀ a, (k0_off485 v615) a + S3x128.size a ≤ S96000x128.size a) ∧
  (∀ a, (k0_off486 v615) a + S1.size a ≤ S32000.size a)
theorem k0_off485_inb : ∀ (v615 : BitVec 32) (k0_hw50 : k0_chk50 v615), ∀ a, (k0_off485 v615) a + S3x128.size a ≤ S96000x128.size a := fun v615 k0_hw50 => k0_hw50.1
theorem k0_off486_inb : ∀ (v615 : BitVec 32) (k0_hw50 : k0_chk50 v615), ∀ a, (k0_off486 v615) a + S1.size a ≤ S32000.size a := fun v615 k0_hw50 => k0_hw50.2

def k0_off487 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v635 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c18_i32 : BitVec 32 := 18#32
  let v634 : BitVec 32 := Scalar.addi v255 c18_i32
  let v636 : Index := Scalar.indexCast v634
  ![v635.toNat, v636.toNat]
def k0_off488 (v637 : BitVec 32) : Fin 2 → Nat :=
  let c3_i32_298 : BitVec 32 := 3#32
  let v638 : BitVec 32 := Scalar.muli v637 c3_i32_298
  let v639 : Index := Scalar.indexCast v638
  let c0_299 : Index := 0#32
  ![v639.toNat, 0]

def k0_off489 (v637 : BitVec 32) : Fin 1 → Nat :=
  let v644 : Index := Scalar.indexCast v637
  ![v644.toNat]

def k0_chk51 (v637 : BitVec 32) : Prop :=
  (∀ a, (k0_off488 v637) a + S3x128.size a ≤ S96000x128.size a) ∧
  (∀ a, (k0_off489 v637) a + S1.size a ≤ S32000.size a)
theorem k0_off488_inb : ∀ (v637 : BitVec 32) (k0_hw51 : k0_chk51 v637), ∀ a, (k0_off488 v637) a + S3x128.size a ≤ S96000x128.size a := fun v637 k0_hw51 => k0_hw51.1
theorem k0_off489_inb : ∀ (v637 : BitVec 32) (k0_hw51 : k0_chk51 v637), ∀ a, (k0_off489 v637) a + S1.size a ≤ S32000.size a := fun v637 k0_hw51 => k0_hw51.2

def k0_off490 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v657 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c19_i32 : BitVec 32 := 19#32
  let v656 : BitVec 32 := Scalar.addi v255 c19_i32
  let v658 : Index := Scalar.indexCast v656
  ![v657.toNat, v658.toNat]
def k0_off491 (v659 : BitVec 32) : Fin 2 → Nat :=
  let c3_i32_303 : BitVec 32 := 3#32
  let v660 : BitVec 32 := Scalar.muli v659 c3_i32_303
  let v661 : Index := Scalar.indexCast v660
  let c0_304 : Index := 0#32
  ![v661.toNat, 0]

def k0_off492 (v659 : BitVec 32) : Fin 1 → Nat :=
  let v666 : Index := Scalar.indexCast v659
  ![v666.toNat]

def k0_chk52 (v659 : BitVec 32) : Prop :=
  (∀ a, (k0_off491 v659) a + S3x128.size a ≤ S96000x128.size a) ∧
  (∀ a, (k0_off492 v659) a + S1.size a ≤ S32000.size a)
theorem k0_off491_inb : ∀ (v659 : BitVec 32) (k0_hw52 : k0_chk52 v659), ∀ a, (k0_off491 v659) a + S3x128.size a ≤ S96000x128.size a := fun v659 k0_hw52 => k0_hw52.1
theorem k0_off492_inb : ∀ (v659 : BitVec 32) (k0_hw52 : k0_chk52 v659), ∀ a, (k0_off492 v659) a + S1.size a ≤ S32000.size a := fun v659 k0_hw52 => k0_hw52.2

def k0_off493 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v679 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c20_i32 : BitVec 32 := 20#32
  let v678 : BitVec 32 := Scalar.addi v255 c20_i32
  let v680 : Index := Scalar.indexCast v678
  ![v679.toNat, v680.toNat]
def k0_off494 (v681 : BitVec 32) : Fin 2 → Nat :=
  let c3_i32_308 : BitVec 32 := 3#32
  let v682 : BitVec 32 := Scalar.muli v681 c3_i32_308
  let v683 : Index := Scalar.indexCast v682
  let c0_309 : Index := 0#32
  ![v683.toNat, 0]

def k0_off495 (v681 : BitVec 32) : Fin 1 → Nat :=
  let v688 : Index := Scalar.indexCast v681
  ![v688.toNat]

def k0_chk53 (v681 : BitVec 32) : Prop :=
  (∀ a, (k0_off494 v681) a + S3x128.size a ≤ S96000x128.size a) ∧
  (∀ a, (k0_off495 v681) a + S1.size a ≤ S32000.size a)
theorem k0_off494_inb : ∀ (v681 : BitVec 32) (k0_hw53 : k0_chk53 v681), ∀ a, (k0_off494 v681) a + S3x128.size a ≤ S96000x128.size a := fun v681 k0_hw53 => k0_hw53.1
theorem k0_off495_inb : ∀ (v681 : BitVec 32) (k0_hw53 : k0_chk53 v681), ∀ a, (k0_off495 v681) a + S1.size a ≤ S32000.size a := fun v681 k0_hw53 => k0_hw53.2

def k0_off496 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v701 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c21_i32 : BitVec 32 := 21#32
  let v700 : BitVec 32 := Scalar.addi v255 c21_i32
  let v702 : Index := Scalar.indexCast v700
  ![v701.toNat, v702.toNat]
def k0_off497 (v703 : BitVec 32) : Fin 2 → Nat :=
  let c3_i32_313 : BitVec 32 := 3#32
  let v704 : BitVec 32 := Scalar.muli v703 c3_i32_313
  let v705 : Index := Scalar.indexCast v704
  let c0_314 : Index := 0#32
  ![v705.toNat, 0]

def k0_off498 (v703 : BitVec 32) : Fin 1 → Nat :=
  let v710 : Index := Scalar.indexCast v703
  ![v710.toNat]

def k0_chk54 (v703 : BitVec 32) : Prop :=
  (∀ a, (k0_off497 v703) a + S3x128.size a ≤ S96000x128.size a) ∧
  (∀ a, (k0_off498 v703) a + S1.size a ≤ S32000.size a)
theorem k0_off497_inb : ∀ (v703 : BitVec 32) (k0_hw54 : k0_chk54 v703), ∀ a, (k0_off497 v703) a + S3x128.size a ≤ S96000x128.size a := fun v703 k0_hw54 => k0_hw54.1
theorem k0_off498_inb : ∀ (v703 : BitVec 32) (k0_hw54 : k0_chk54 v703), ∀ a, (k0_off498 v703) a + S1.size a ≤ S32000.size a := fun v703 k0_hw54 => k0_hw54.2

def k0_off499 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v723 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c22_i32 : BitVec 32 := 22#32
  let v722 : BitVec 32 := Scalar.addi v255 c22_i32
  let v724 : Index := Scalar.indexCast v722
  ![v723.toNat, v724.toNat]
def k0_off500 (v725 : BitVec 32) : Fin 2 → Nat :=
  let c3_i32_318 : BitVec 32 := 3#32
  let v726 : BitVec 32 := Scalar.muli v725 c3_i32_318
  let v727 : Index := Scalar.indexCast v726
  let c0_319 : Index := 0#32
  ![v727.toNat, 0]

def k0_off501 (v725 : BitVec 32) : Fin 1 → Nat :=
  let v732 : Index := Scalar.indexCast v725
  ![v732.toNat]

def k0_chk55 (v725 : BitVec 32) : Prop :=
  (∀ a, (k0_off500 v725) a + S3x128.size a ≤ S96000x128.size a) ∧
  (∀ a, (k0_off501 v725) a + S1.size a ≤ S32000.size a)
theorem k0_off500_inb : ∀ (v725 : BitVec 32) (k0_hw55 : k0_chk55 v725), ∀ a, (k0_off500 v725) a + S3x128.size a ≤ S96000x128.size a := fun v725 k0_hw55 => k0_hw55.1
theorem k0_off501_inb : ∀ (v725 : BitVec 32) (k0_hw55 : k0_chk55 v725), ∀ a, (k0_off501 v725) a + S1.size a ≤ S32000.size a := fun v725 k0_hw55 => k0_hw55.2

def k0_off502 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v745 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c23_i32 : BitVec 32 := 23#32
  let v744 : BitVec 32 := Scalar.addi v255 c23_i32
  let v746 : Index := Scalar.indexCast v744
  ![v745.toNat, v746.toNat]
def k0_off503 (v747 : BitVec 32) : Fin 2 → Nat :=
  let c3_i32_323 : BitVec 32 := 3#32
  let v748 : BitVec 32 := Scalar.muli v747 c3_i32_323
  let v749 : Index := Scalar.indexCast v748
  let c0_324 : Index := 0#32
  ![v749.toNat, 0]

def k0_off504 (v747 : BitVec 32) : Fin 1 → Nat :=
  let v754 : Index := Scalar.indexCast v747
  ![v754.toNat]

def k0_chk56 (v747 : BitVec 32) : Prop :=
  (∀ a, (k0_off503 v747) a + S3x128.size a ≤ S96000x128.size a) ∧
  (∀ a, (k0_off504 v747) a + S1.size a ≤ S32000.size a)
theorem k0_off503_inb : ∀ (v747 : BitVec 32) (k0_hw56 : k0_chk56 v747), ∀ a, (k0_off503 v747) a + S3x128.size a ≤ S96000x128.size a := fun v747 k0_hw56 => k0_hw56.1
theorem k0_off504_inb : ∀ (v747 : BitVec 32) (k0_hw56 : k0_chk56 v747), ∀ a, (k0_off504 v747) a + S1.size a ≤ S32000.size a := fun v747 k0_hw56 => k0_hw56.2

def k0_off505 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v767 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c24_i32 : BitVec 32 := 24#32
  let v766 : BitVec 32 := Scalar.addi v255 c24_i32
  let v768 : Index := Scalar.indexCast v766
  ![v767.toNat, v768.toNat]
def k0_off506 (v769 : BitVec 32) : Fin 2 → Nat :=
  let c3_i32_328 : BitVec 32 := 3#32
  let v770 : BitVec 32 := Scalar.muli v769 c3_i32_328
  let v771 : Index := Scalar.indexCast v770
  let c0_329 : Index := 0#32
  ![v771.toNat, 0]

def k0_off507 (v769 : BitVec 32) : Fin 1 → Nat :=
  let v776 : Index := Scalar.indexCast v769
  ![v776.toNat]

def k0_chk57 (v769 : BitVec 32) : Prop :=
  (∀ a, (k0_off506 v769) a + S3x128.size a ≤ S96000x128.size a) ∧
  (∀ a, (k0_off507 v769) a + S1.size a ≤ S32000.size a)
theorem k0_off506_inb : ∀ (v769 : BitVec 32) (k0_hw57 : k0_chk57 v769), ∀ a, (k0_off506 v769) a + S3x128.size a ≤ S96000x128.size a := fun v769 k0_hw57 => k0_hw57.1
theorem k0_off507_inb : ∀ (v769 : BitVec 32) (k0_hw57 : k0_chk57 v769), ∀ a, (k0_off507 v769) a + S1.size a ≤ S32000.size a := fun v769 k0_hw57 => k0_hw57.2

def k0_off508 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v783 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c25_i32 : BitVec 32 := 25#32
  let v782 : BitVec 32 := Scalar.addi v255 c25_i32
  let v784 : Index := Scalar.indexCast v782
  ![v783.toNat, v784.toNat]
def k0_off509 (v785 : BitVec 32) : Fin 2 → Nat :=
  let c3_i32_331 : BitVec 32 := 3#32
  let v786 : BitVec 32 := Scalar.muli v785 c3_i32_331
  let v787 : Index := Scalar.indexCast v786
  let c0_332 : Index := 0#32
  ![v787.toNat, 0]

def k0_off510 (v785 : BitVec 32) : Fin 1 → Nat :=
  let v792 : Index := Scalar.indexCast v785
  ![v792.toNat]

def k0_chk58 (v785 : BitVec 32) : Prop :=
  (∀ a, (k0_off509 v785) a + S3x128.size a ≤ S96000x128.size a) ∧
  (∀ a, (k0_off510 v785) a + S1.size a ≤ S32000.size a)
theorem k0_off509_inb : ∀ (v785 : BitVec 32) (k0_hw58 : k0_chk58 v785), ∀ a, (k0_off509 v785) a + S3x128.size a ≤ S96000x128.size a := fun v785 k0_hw58 => k0_hw58.1
theorem k0_off510_inb : ∀ (v785 : BitVec 32) (k0_hw58 : k0_chk58 v785), ∀ a, (k0_off510 v785) a + S1.size a ≤ S32000.size a := fun v785 k0_hw58 => k0_hw58.2

def k0_off511 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v805 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c26_i32 : BitVec 32 := 26#32
  let v804 : BitVec 32 := Scalar.addi v255 c26_i32
  let v806 : Index := Scalar.indexCast v804
  ![v805.toNat, v806.toNat]
def k0_off512 (v807 : BitVec 32) : Fin 2 → Nat :=
  let c3_i32_336 : BitVec 32 := 3#32
  let v808 : BitVec 32 := Scalar.muli v807 c3_i32_336
  let v809 : Index := Scalar.indexCast v808
  let c0_337 : Index := 0#32
  ![v809.toNat, 0]

def k0_off513 (v807 : BitVec 32) : Fin 1 → Nat :=
  let v814 : Index := Scalar.indexCast v807
  ![v814.toNat]

def k0_chk59 (v807 : BitVec 32) : Prop :=
  (∀ a, (k0_off512 v807) a + S3x128.size a ≤ S96000x128.size a) ∧
  (∀ a, (k0_off513 v807) a + S1.size a ≤ S32000.size a)
theorem k0_off512_inb : ∀ (v807 : BitVec 32) (k0_hw59 : k0_chk59 v807), ∀ a, (k0_off512 v807) a + S3x128.size a ≤ S96000x128.size a := fun v807 k0_hw59 => k0_hw59.1
theorem k0_off513_inb : ∀ (v807 : BitVec 32) (k0_hw59 : k0_chk59 v807), ∀ a, (k0_off513 v807) a + S1.size a ≤ S32000.size a := fun v807 k0_hw59 => k0_hw59.2

def k0_off514 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v827 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c27_i32 : BitVec 32 := 27#32
  let v826 : BitVec 32 := Scalar.addi v255 c27_i32
  let v828 : Index := Scalar.indexCast v826
  ![v827.toNat, v828.toNat]
def k0_off515 (v829 : BitVec 32) : Fin 2 → Nat :=
  let c3_i32_341 : BitVec 32 := 3#32
  let v830 : BitVec 32 := Scalar.muli v829 c3_i32_341
  let v831 : Index := Scalar.indexCast v830
  let c0_342 : Index := 0#32
  ![v831.toNat, 0]

def k0_off516 (v829 : BitVec 32) : Fin 1 → Nat :=
  let v836 : Index := Scalar.indexCast v829
  ![v836.toNat]

def k0_chk60 (v829 : BitVec 32) : Prop :=
  (∀ a, (k0_off515 v829) a + S3x128.size a ≤ S96000x128.size a) ∧
  (∀ a, (k0_off516 v829) a + S1.size a ≤ S32000.size a)
theorem k0_off515_inb : ∀ (v829 : BitVec 32) (k0_hw60 : k0_chk60 v829), ∀ a, (k0_off515 v829) a + S3x128.size a ≤ S96000x128.size a := fun v829 k0_hw60 => k0_hw60.1
theorem k0_off516_inb : ∀ (v829 : BitVec 32) (k0_hw60 : k0_chk60 v829), ∀ a, (k0_off516 v829) a + S1.size a ≤ S32000.size a := fun v829 k0_hw60 => k0_hw60.2

def k0_off517 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v849 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c28_i32 : BitVec 32 := 28#32
  let v848 : BitVec 32 := Scalar.addi v255 c28_i32
  let v850 : Index := Scalar.indexCast v848
  ![v849.toNat, v850.toNat]
def k0_off518 (v851 : BitVec 32) : Fin 2 → Nat :=
  let c3_i32_346 : BitVec 32 := 3#32
  let v852 : BitVec 32 := Scalar.muli v851 c3_i32_346
  let v853 : Index := Scalar.indexCast v852
  let c0_347 : Index := 0#32
  ![v853.toNat, 0]

def k0_off519 (v851 : BitVec 32) : Fin 1 → Nat :=
  let v858 : Index := Scalar.indexCast v851
  ![v858.toNat]

def k0_chk61 (v851 : BitVec 32) : Prop :=
  (∀ a, (k0_off518 v851) a + S3x128.size a ≤ S96000x128.size a) ∧
  (∀ a, (k0_off519 v851) a + S1.size a ≤ S32000.size a)
theorem k0_off518_inb : ∀ (v851 : BitVec 32) (k0_hw61 : k0_chk61 v851), ∀ a, (k0_off518 v851) a + S3x128.size a ≤ S96000x128.size a := fun v851 k0_hw61 => k0_hw61.1
theorem k0_off519_inb : ∀ (v851 : BitVec 32) (k0_hw61 : k0_chk61 v851), ∀ a, (k0_off519 v851) a + S1.size a ≤ S32000.size a := fun v851 k0_hw61 => k0_hw61.2

def k0_off520 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v871 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c29_i32 : BitVec 32 := 29#32
  let v870 : BitVec 32 := Scalar.addi v255 c29_i32
  let v872 : Index := Scalar.indexCast v870
  ![v871.toNat, v872.toNat]
def k0_off521 (v873 : BitVec 32) : Fin 2 → Nat :=
  let c3_i32_351 : BitVec 32 := 3#32
  let v874 : BitVec 32 := Scalar.muli v873 c3_i32_351
  let v875 : Index := Scalar.indexCast v874
  let c0_352 : Index := 0#32
  ![v875.toNat, 0]

def k0_off522 (v873 : BitVec 32) : Fin 1 → Nat :=
  let v880 : Index := Scalar.indexCast v873
  ![v880.toNat]

def k0_chk62 (v873 : BitVec 32) : Prop :=
  (∀ a, (k0_off521 v873) a + S3x128.size a ≤ S96000x128.size a) ∧
  (∀ a, (k0_off522 v873) a + S1.size a ≤ S32000.size a)
theorem k0_off521_inb : ∀ (v873 : BitVec 32) (k0_hw62 : k0_chk62 v873), ∀ a, (k0_off521 v873) a + S3x128.size a ≤ S96000x128.size a := fun v873 k0_hw62 => k0_hw62.1
theorem k0_off522_inb : ∀ (v873 : BitVec 32) (k0_hw62 : k0_chk62 v873), ∀ a, (k0_off522 v873) a + S1.size a ≤ S32000.size a := fun v873 k0_hw62 => k0_hw62.2

def k0_off523 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v893 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c30_i32 : BitVec 32 := 30#32
  let v892 : BitVec 32 := Scalar.addi v255 c30_i32
  let v894 : Index := Scalar.indexCast v892
  ![v893.toNat, v894.toNat]
def k0_off524 (v895 : BitVec 32) : Fin 2 → Nat :=
  let c3_i32_356 : BitVec 32 := 3#32
  let v896 : BitVec 32 := Scalar.muli v895 c3_i32_356
  let v897 : Index := Scalar.indexCast v896
  let c0_357 : Index := 0#32
  ![v897.toNat, 0]

def k0_off525 (v895 : BitVec 32) : Fin 1 → Nat :=
  let v902 : Index := Scalar.indexCast v895
  ![v902.toNat]

def k0_chk63 (v895 : BitVec 32) : Prop :=
  (∀ a, (k0_off524 v895) a + S3x128.size a ≤ S96000x128.size a) ∧
  (∀ a, (k0_off525 v895) a + S1.size a ≤ S32000.size a)
theorem k0_off524_inb : ∀ (v895 : BitVec 32) (k0_hw63 : k0_chk63 v895), ∀ a, (k0_off524 v895) a + S3x128.size a ≤ S96000x128.size a := fun v895 k0_hw63 => k0_hw63.1
theorem k0_off525_inb : ∀ (v895 : BitVec 32) (k0_hw63 : k0_chk63 v895), ∀ a, (k0_off525 v895) a + S1.size a ≤ S32000.size a := fun v895 k0_hw63 => k0_hw63.2

def k0_off526 (k0_t7 : Fin k0_t7_loop.trips) (k0_t8 : Fin k0_t8_loop.trips) : Fin 2 → Nat :=
  let c0_i32_130 : BitVec 32 := 0#32
  let c1_i32_132 : BitVec 32 := 1#32
  let arg21 : BitVec 32 := Scf.iv c0_i32_130 c1_i32_132 k0_t7
  let c16_i32_189 : BitVec 32 := 16#32
  let v233 : BitVec 32 := Scalar.divsi arg21 c16_i32_189
  let v915 : Index := Scalar.indexCast v233
  let c16_i32_190 : BitVec 32 := 16#32
  let v234 : BitVec 32 := Scalar.remsi arg21 c16_i32_190
  let c256_i32_191 : BitVec 32 := 256#32
  let v235 : BitVec 32 := Scalar.muli v234 c256_i32_191
  let c0_i32_192 : BitVec 32 := 0#32
  let c1_i32_193 : BitVec 32 := 1#32
  let arg22 : BitVec 32 := Scf.iv c0_i32_192 c1_i32_193 k0_t8
  let c32_i32 : BitVec 32 := 32#32
  let v254 : BitVec 32 := Scalar.muli arg22 c32_i32
  let v255 : BitVec 32 := Scalar.addi v235 v254
  let c31_i32 : BitVec 32 := 31#32
  let v914 : BitVec 32 := Scalar.addi v255 c31_i32
  let v916 : Index := Scalar.indexCast v914
  ![v915.toNat, v916.toNat]
def k0_off527 (v917 : BitVec 32) : Fin 2 → Nat :=
  let c3_i32_361 : BitVec 32 := 3#32
  let v918 : BitVec 32 := Scalar.muli v917 c3_i32_361
  let v919 : Index := Scalar.indexCast v918
  let c0_362 : Index := 0#32
  ![v919.toNat, 0]

def k0_off528 (v917 : BitVec 32) : Fin 1 → Nat :=
  let v924 : Index := Scalar.indexCast v917
  ![v924.toNat]

def k0_chk64 (v917 : BitVec 32) : Prop :=
  (∀ a, (k0_off527 v917) a + S3x128.size a ≤ S96000x128.size a) ∧
  (∀ a, (k0_off528 v917) a + S1.size a ≤ S32000.size a)
theorem k0_off527_inb : ∀ (v917 : BitVec 32) (k0_hw64 : k0_chk64 v917), ∀ a, (k0_off527 v917) a + S3x128.size a ≤ S96000x128.size a := fun v917 k0_hw64 => k0_hw64.1
theorem k0_off528_inb : ∀ (v917 : BitVec 32) (k0_hw64 : k0_chk64 v917), ∀ a, (k0_off528 v917) a + S1.size a ≤ S32000.size a := fun v917 k0_hw64 => k0_hw64.2

def k0_mult36 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_392 : BitVec 32 := 32#32
  let v1000 : BitVec 32 := Scalar.muli arg22 c32_i32_392
  v1000
def k0_off529 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1002 : Index := Scalar.indexCast v229
  let c0_i32_192 : BitVec 32 := 0#32
  let c1_i32_193 : BitVec 32 := 1#32
  let arg22 : BitVec 32 := Scf.iv c0_i32_192 c1_i32_193 k0_t8
  let c32_i32_392 : BitVec 32 := 32#32
  let v1000 : BitVec 32 := Scalar.muli arg22 c32_i32_392
  let v1001 : BitVec 32 := v1000
  let v1003 : Index := Scalar.indexCast v1001
  let c0_393 : Index := 0#32
  ![v1002.toNat, v1003.toNat, 0]
def k0_mult37 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_397 : BitVec 32 := 32#32
  let v1021 : BitVec 32 := Scalar.muli arg22 c32_i32_397
  v1021
def k0_off530 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1023 : Index := Scalar.indexCast v229
  let c0_i32_192 : BitVec 32 := 0#32
  let c1_i32_193 : BitVec 32 := 1#32
  let arg22 : BitVec 32 := Scf.iv c0_i32_192 c1_i32_193 k0_t8
  let c32_i32_397 : BitVec 32 := 32#32
  let v1021 : BitVec 32 := Scalar.muli arg22 c32_i32_397
  let v1022 : BitVec 32 := v1021
  let v1024 : Index := Scalar.indexCast v1022
  let c128 : Index := 128#32
  ![v1023.toNat, v1024.toNat, 128]
def k0_mult38 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_401 : BitVec 32 := 32#32
  let v1042 : BitVec 32 := Scalar.muli arg22 c32_i32_401
  v1042
def k0_off531 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1044 : Index := Scalar.indexCast v229
  let c0_i32_192 : BitVec 32 := 0#32
  let c1_i32_193 : BitVec 32 := 1#32
  let arg22 : BitVec 32 := Scf.iv c0_i32_192 c1_i32_193 k0_t8
  let c32_i32_401 : BitVec 32 := 32#32
  let v1042 : BitVec 32 := Scalar.muli arg22 c32_i32_401
  let v1043 : BitVec 32 := v1042
  let v1045 : Index := Scalar.indexCast v1043
  let c256 : Index := 256#32
  ![v1044.toNat, v1045.toNat, 256]
def k0_mult39 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_405 : BitVec 32 := 32#32
  let v1063 : BitVec 32 := Scalar.muli arg22 c32_i32_405
  v1063
def k0_off532 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1065 : Index := Scalar.indexCast v229
  let c0_i32_192 : BitVec 32 := 0#32
  let c1_i32_193 : BitVec 32 := 1#32
  let arg22 : BitVec 32 := Scf.iv c0_i32_192 c1_i32_193 k0_t8
  let c32_i32_405 : BitVec 32 := 32#32
  let v1063 : BitVec 32 := Scalar.muli arg22 c32_i32_405
  let v1064 : BitVec 32 := v1063
  let v1066 : Index := Scalar.indexCast v1064
  let c384 : Index := 384#32
  ![v1065.toNat, v1066.toNat, 384]
def k0_mult40 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_433 : BitVec 32 := 32#32
  let v1136 : BitVec 32 := Scalar.muli arg22 c32_i32_433
  v1136
def k0_off533 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1138 : Index := Scalar.indexCast v229
  let c0_i32_192 : BitVec 32 := 0#32
  let c1_i32_193 : BitVec 32 := 1#32
  let arg22 : BitVec 32 := Scf.iv c0_i32_192 c1_i32_193 k0_t8
  let c32_i32_433 : BitVec 32 := 32#32
  let v1136 : BitVec 32 := Scalar.muli arg22 c32_i32_433
  let v1137 : BitVec 32 := v1136
  let v1139 : Index := Scalar.indexCast v1137
  let c512 : Index := 512#32
  ![v1138.toNat, v1139.toNat, 512]
def k0_mult41 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_437 : BitVec 32 := 32#32
  let v1157 : BitVec 32 := Scalar.muli arg22 c32_i32_437
  v1157
def k0_off534 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1159 : Index := Scalar.indexCast v229
  let c0_i32_192 : BitVec 32 := 0#32
  let c1_i32_193 : BitVec 32 := 1#32
  let arg22 : BitVec 32 := Scf.iv c0_i32_192 c1_i32_193 k0_t8
  let c32_i32_437 : BitVec 32 := 32#32
  let v1157 : BitVec 32 := Scalar.muli arg22 c32_i32_437
  let v1158 : BitVec 32 := v1157
  let v1160 : Index := Scalar.indexCast v1158
  let c640 : Index := 640#32
  ![v1159.toNat, v1160.toNat, 640]
def k0_mult42 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_441 : BitVec 32 := 32#32
  let v1178 : BitVec 32 := Scalar.muli arg22 c32_i32_441
  v1178
def k0_off535 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1180 : Index := Scalar.indexCast v229
  let c0_i32_192 : BitVec 32 := 0#32
  let c1_i32_193 : BitVec 32 := 1#32
  let arg22 : BitVec 32 := Scf.iv c0_i32_192 c1_i32_193 k0_t8
  let c32_i32_441 : BitVec 32 := 32#32
  let v1178 : BitVec 32 := Scalar.muli arg22 c32_i32_441
  let v1179 : BitVec 32 := v1178
  let v1181 : Index := Scalar.indexCast v1179
  let c768 : Index := 768#32
  ![v1180.toNat, v1181.toNat, 768]
def k0_mult43 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_445 : BitVec 32 := 32#32
  let v1199 : BitVec 32 := Scalar.muli arg22 c32_i32_445
  v1199
def k0_off536 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1201 : Index := Scalar.indexCast v229
  let c0_i32_192 : BitVec 32 := 0#32
  let c1_i32_193 : BitVec 32 := 1#32
  let arg22 : BitVec 32 := Scf.iv c0_i32_192 c1_i32_193 k0_t8
  let c32_i32_445 : BitVec 32 := 32#32
  let v1199 : BitVec 32 := Scalar.muli arg22 c32_i32_445
  let v1200 : BitVec 32 := v1199
  let v1202 : Index := Scalar.indexCast v1200
  let c896 : Index := 896#32
  ![v1201.toNat, v1202.toNat, 896]
def k0_mult44 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_473 : BitVec 32 := 32#32
  let v1272 : BitVec 32 := Scalar.muli arg22 c32_i32_473
  v1272
def k0_off537 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1274 : Index := Scalar.indexCast v229
  let c0_i32_192 : BitVec 32 := 0#32
  let c1_i32_193 : BitVec 32 := 1#32
  let arg22 : BitVec 32 := Scf.iv c0_i32_192 c1_i32_193 k0_t8
  let c32_i32_473 : BitVec 32 := 32#32
  let v1272 : BitVec 32 := Scalar.muli arg22 c32_i32_473
  let v1273 : BitVec 32 := v1272
  let v1275 : Index := Scalar.indexCast v1273
  let c1024 : Index := 1024#32
  ![v1274.toNat, v1275.toNat, 1024]
def k0_mult45 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_477 : BitVec 32 := 32#32
  let v1293 : BitVec 32 := Scalar.muli arg22 c32_i32_477
  v1293
def k0_off538 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1295 : Index := Scalar.indexCast v229
  let c0_i32_192 : BitVec 32 := 0#32
  let c1_i32_193 : BitVec 32 := 1#32
  let arg22 : BitVec 32 := Scf.iv c0_i32_192 c1_i32_193 k0_t8
  let c32_i32_477 : BitVec 32 := 32#32
  let v1293 : BitVec 32 := Scalar.muli arg22 c32_i32_477
  let v1294 : BitVec 32 := v1293
  let v1296 : Index := Scalar.indexCast v1294
  let c1152 : Index := 1152#32
  ![v1295.toNat, v1296.toNat, 1152]
def k0_mult46 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_481 : BitVec 32 := 32#32
  let v1314 : BitVec 32 := Scalar.muli arg22 c32_i32_481
  v1314
def k0_off539 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1316 : Index := Scalar.indexCast v229
  let c0_i32_192 : BitVec 32 := 0#32
  let c1_i32_193 : BitVec 32 := 1#32
  let arg22 : BitVec 32 := Scf.iv c0_i32_192 c1_i32_193 k0_t8
  let c32_i32_481 : BitVec 32 := 32#32
  let v1314 : BitVec 32 := Scalar.muli arg22 c32_i32_481
  let v1315 : BitVec 32 := v1314
  let v1317 : Index := Scalar.indexCast v1315
  let c1280 : Index := 1280#32
  ![v1316.toNat, v1317.toNat, 1280]
def k0_mult47 (k0_t8 : Fin k0_t8_loop.trips) : BitVec 32 :=
  let c0_i32_192 : BitVec 32 := 0#32
  let c1_i32_193 : BitVec 32 := 1#32
  let arg22 : BitVec 32 := Scf.iv c0_i32_192 c1_i32_193 k0_t8
  let c32_i32_485 : BitVec 32 := 32#32
  let v1335 : BitVec 32 := Scalar.muli arg22 c32_i32_485
  v1335
def k0_off540 (k0_t7 : Fin k0_t7_loop.trips) (k0_t8 : Fin k0_t8_loop.trips) : Fin 3 → Nat :=
  let c0_i32_130 : BitVec 32 := 0#32
  let c1_i32_132 : BitVec 32 := 1#32
  let arg21 : BitVec 32 := Scf.iv c0_i32_130 c1_i32_132 k0_t7
  let c4_i32_186 : BitVec 32 := 4#32
  let v229 : BitVec 32 := Scalar.remsi arg21 c4_i32_186
  let v1337 : Index := Scalar.indexCast v229
  let c0_i32_192 : BitVec 32 := 0#32
  let c1_i32_193 : BitVec 32 := 1#32
  let arg22 : BitVec 32 := Scf.iv c0_i32_192 c1_i32_193 k0_t8
  let c32_i32_485 : BitVec 32 := 32#32
  let v1335 : BitVec 32 := Scalar.muli arg22 c32_i32_485
  let v1336 : BitVec 32 := v1335
  let v1338 : Index := Scalar.indexCast v1336
  let c1408 : Index := 1408#32
  ![v1337.toNat, v1338.toNat, 1408]
def k0_mult48 (k0_t7 : Fin k0_t7_loop.trips) : BitVec 32 :=
  let c0_i32_130 : BitVec 32 := 0#32
  let c1_i32_132 : BitVec 32 := 1#32
  let arg21 : BitVec 32 := Scf.iv c0_i32_130 c1_i32_132 k0_t7
  let c16_i32_197 : BitVec 32 := 16#32
  let v239 : BitVec 32 := Scalar.remsi arg21 c16_i32_197
  let c256_i32_198 : BitVec 32 := 256#32
  let v240 : BitVec 32 := Scalar.muli v239 c256_i32_198
  v240
def k0_off541 (k0_t7 : Fin k0_t7_loop.trips) : Fin 1 → Nat :=
  let c0_i32_130 : BitVec 32 := 0#32
  let c1_i32_132 : BitVec 32 := 1#32
  let arg21 : BitVec 32 := Scf.iv c0_i32_130 c1_i32_132 k0_t7
  let c4_i32_195 : BitVec 32 := 4#32
  let v237 : BitVec 32 := Scalar.remsi arg21 c4_i32_195
  ![v237.toNat]
def k0_off542 (k0_t7 : Fin k0_t7_loop.trips) : Fin 3 → Nat :=
  let c0_i32_130 : BitVec 32 := 0#32
  let c1_i32_132 : BitVec 32 := 1#32
  let arg21 : BitVec 32 := Scf.iv c0_i32_130 c1_i32_132 k0_t7
  let c16_i32_196 : BitVec 32 := 16#32
  let v238 : BitVec 32 := Scalar.divsi arg21 c16_i32_196
  let c16_i32_197 : BitVec 32 := 16#32
  let v239 : BitVec 32 := Scalar.remsi arg21 c16_i32_197
  let c256_i32_198 : BitVec 32 := 256#32
  let v240 : BitVec 32 := Scalar.muli v239 c256_i32_198
  let v241 : BitVec 32 := v240
  let c1536_i32_199 : BitVec 32 := 1536#32
  ![v238.toNat, v241.toNat, 1536]
def k0_off543 (k0_t7 : Fin k0_t7_loop.trips) : Fin 3 → Nat :=
  let c0_i32_130 : BitVec 32 := 0#32
  let c1_i32_132 : BitVec 32 := 1#32
  let arg21 : BitVec 32 := Scf.iv c0_i32_130 c1_i32_132 k0_t7
  let c4_i32_195 : BitVec 32 := 4#32
  let v237 : BitVec 32 := Scalar.remsi arg21 c4_i32_195
  let c0_i32_200 : BitVec 32 := 0#32
  let c0_i32_201 : BitVec 32 := 0#32
  ![v237.toNat, 0, 0]
def k0_mult49 : BitVec 32 :=
  let c124_i32_138 : BitVec 32 := 124#32
  let c16_i32_139 : BitVec 32 := 16#32
  let v163 : BitVec 32 := Scalar.remsi c124_i32_138 c16_i32_139
  let c256_i32_140 : BitVec 32 := 256#32
  let v164 : BitVec 32 := Scalar.muli v163 c256_i32_140
  v164
def k0_off544 (c124_i32_136 : BitVec 32) (c124_i32_138 : BitVec 32) : Fin 3 → Nat :=
  let c16_i32_137 : BitVec 32 := 16#32
  let v162 : BitVec 32 := Scalar.divsi c124_i32_136 c16_i32_137
  let c16_i32_139 : BitVec 32 := 16#32
  let v163 : BitVec 32 := Scalar.remsi c124_i32_138 c16_i32_139
  let c256_i32_140 : BitVec 32 := 256#32
  let v164 : BitVec 32 := Scalar.muli v163 c256_i32_140
  let v165 : BitVec 32 := v164
  let c1536_i32_141 : BitVec 32 := 1536#32
  ![v162.toNat, v165.toNat, 1536]
def k0_off544_at (r : Fin 4) : BitVec 32 × BitVec 32 :=
  if r.val < 2 then
    if r.val < 1 then
      (124#32, 124#32)
    else
      (125#32, 125#32)
  else
    if r.val < 3 then
      (126#32, 126#32)
    else
      (127#32, 127#32)
def k0_mult50 : BitVec 32 :=
  let c125_i32_151 : BitVec 32 := 125#32
  let c16_i32_152 : BitVec 32 := 16#32
  let v180 : BitVec 32 := Scalar.remsi c125_i32_151 c16_i32_152
  let c256_i32_153 : BitVec 32 := 256#32
  let v181 : BitVec 32 := Scalar.muli v180 c256_i32_153
  v181
def k0_mult51 : BitVec 32 :=
  let c126_i32_164 : BitVec 32 := 126#32
  let c16_i32_165 : BitVec 32 := 16#32
  let v197 : BitVec 32 := Scalar.remsi c126_i32_164 c16_i32_165
  let c256_i32_166 : BitVec 32 := 256#32
  let v198 : BitVec 32 := Scalar.muli v197 c256_i32_166
  v198
def k0_mult52 : BitVec 32 :=
  let c127_i32_177 : BitVec 32 := 127#32
  let c16_i32_178 : BitVec 32 := 16#32
  let v214 : BitVec 32 := Scalar.remsi c127_i32_177 c16_i32_178
  let c256_i32_179 : BitVec 32 := 256#32
  let v215 : BitVec 32 := Scalar.muli v214 c256_i32_179
  v215
abbrev stage0_0 : Fin 1 → Memref sig .tc .smem S8x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S250x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x4096 : Shape := ⟨2, ![8, 4096]⟩
abbrev S3072x32000 : Shape := ⟨2, ![3072, 32000]⟩
abbrev S32000 : Shape := ⟨1, ![32000]⟩
abbrev S3072 : Shape := ⟨1, ![3072]⟩
abbrev S_ : Shape := ⟨0, ![]⟩
abbrev S8x4096x1 : Shape := ⟨3, ![8, 4096, 1]⟩
abbrev S1 : Shape := ⟨1, ![1]⟩
abbrev S1x1x1 : Shape := ⟨3, ![1, 1, 1]⟩
abbrev S3072x8x4096 : Shape := ⟨3, ![3072, 8, 4096]⟩
abbrev S8x4096x3072 : Shape := ⟨3, ![8, 4096, 3072]⟩
abbrev S1x1x3072 : Shape := ⟨3, ![1, 1, 3072]⟩

abbrev nBuf : Space → Nat
  | .hbm => 75
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S3072x32000, .i8⟩
  | .hbm, ⟨2, _⟩ => ⟨S32000, .f32⟩
  | .hbm, ⟨3, _⟩ => ⟨S3072, .bf16⟩
  | .hbm, ⟨4, _⟩ => ⟨S_, .i32⟩
  | .hbm, ⟨5, _⟩ => ⟨S8x4096, .i32⟩
  | .hbm, ⟨6, _⟩ => ⟨S8x4096, .i1⟩
  | .hbm, ⟨7, _⟩ => ⟨S_, .i32⟩
  | .hbm, ⟨8, _⟩ => ⟨S8x4096, .i32⟩
  | .hbm, ⟨9, _⟩ => ⟨S8x4096, .i32⟩
  | .hbm, ⟨10, _⟩ => ⟨S8x4096, .i32⟩
  | .hbm, ⟨11, _⟩ => ⟨S8x4096x1, .i32⟩
  | .hbm, ⟨12, _⟩ => ⟨S1, .i32⟩
  | .hbm, ⟨13, _⟩ => ⟨S_, .i32⟩
  | .hbm, ⟨14, _⟩ => ⟨S8x4096x1, .i32⟩
  | .hbm, ⟨15, _⟩ => ⟨S8x4096x1, .i1⟩
  | .hbm, ⟨16, _⟩ => ⟨S1x1x1, .i32⟩
  | .hbm, ⟨17, _⟩ => ⟨S8x4096x1, .i32⟩
  | .hbm, ⟨18, _⟩ => ⟨S8x4096x1, .i1⟩
  | .hbm, ⟨19, _⟩ => ⟨S8x4096x1, .i1⟩
  | .hbm, ⟨20, _⟩ => ⟨S_, .i1⟩
  | .hbm, ⟨21, _⟩ => ⟨S8x4096, .i1⟩
  | .hbm, ⟨22, _⟩ => ⟨S3072x8x4096, .i8⟩
  | .hbm, ⟨23, _⟩ => ⟨S3072x8x4096, .i1⟩
  | .hbm, ⟨24, _⟩ => ⟨S_, .i8⟩
  | .hbm, ⟨25, _⟩ => ⟨S3072x8x4096, .i8⟩
  | .hbm, ⟨26, _⟩ => ⟨S3072x8x4096, .i8⟩
  | .hbm, ⟨27, _⟩ => ⟨S8x4096x3072, .i8⟩
  | .hbm, ⟨28, _⟩ => ⟨S_, .i32⟩
  | .hbm, ⟨29, _⟩ => ⟨S8x4096, .i32⟩
  | .hbm, ⟨30, _⟩ => ⟨S8x4096, .i1⟩
  | .hbm, ⟨31, _⟩ => ⟨S_, .i32⟩
  | .hbm, ⟨32, _⟩ => ⟨S8x4096, .i32⟩
  | .hbm, ⟨33, _⟩ => ⟨S8x4096, .i32⟩
  | .hbm, ⟨34, _⟩ => ⟨S8x4096, .i32⟩
  | .hbm, ⟨35, _⟩ => ⟨S8x4096x1, .i32⟩
  | .hbm, ⟨36, _⟩ => ⟨S1, .i32⟩
  | .hbm, ⟨37, _⟩ => ⟨S_, .i32⟩
  | .hbm, ⟨38, _⟩ => ⟨S8x4096x1, .i32⟩
  | .hbm, ⟨39, _⟩ => ⟨S8x4096x1, .i1⟩
  | .hbm, ⟨40, _⟩ => ⟨S1x1x1, .i32⟩
  | .hbm, ⟨41, _⟩ => ⟨S8x4096x1, .i32⟩
  | .hbm, ⟨42, _⟩ => ⟨S8x4096x1, .i1⟩
  | .hbm, ⟨43, _⟩ => ⟨S8x4096x1, .i1⟩
  | .hbm, ⟨44, _⟩ => ⟨S_, .i1⟩
  | .hbm, ⟨45, _⟩ => ⟨S8x4096, .i1⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S8x4096x3072, .i32⟩
  | .hbm, ⟨51, _⟩ => ⟨S8x4096x3072, .bf16⟩
  | .hbm, ⟨52, _⟩ => ⟨S8x4096, .bf16⟩
  | .hbm, ⟨53, _⟩ => ⟨S8x4096x1, .bf16⟩
  | .hbm, ⟨54, _⟩ => ⟨S8x4096x3072, .bf16⟩
  | .hbm, ⟨55, _⟩ => ⟨S8x4096x3072, .bf16⟩
  | .hbm, ⟨56, _⟩ => ⟨S8x4096x3072, .f32⟩
  | .hbm, ⟨57, _⟩ => ⟨S8x4096x3072, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x3072, .f32⟩
  | .hbm, ⟨69, _⟩ => ⟨S8x4096x3072, .f32⟩
  | .hbm, ⟨70, _⟩ => ⟨S3072, .f32⟩
  | .hbm, ⟨71, _⟩ => ⟨S1x1x3072, .f32⟩
  | .hbm, ⟨72, _⟩ => ⟨S8x4096x3072, .f32⟩
  | .hbm, ⟨73, _⟩ => ⟨S8x4096x3072, .f32⟩
  | .hbm, ⟨74, _⟩ => ⟨S8x4096x3072, .bf16⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_c_4 : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst : Ref sig .tc := ⟨.hbm, 58, rfl⟩
abbrev main_v11 : Ref sig .tc := ⟨.hbm, 59, rfl⟩
abbrev main_v12 : Ref sig .tc := ⟨.hbm, 60, rfl⟩
abbrev main_cst_0 : Ref sig .tc := ⟨.hbm, 61, rfl⟩
abbrev main_v13 : Ref sig .tc := ⟨.hbm, 62, rfl⟩
abbrev main_v14 : Ref sig .tc := ⟨.hbm, 63, rfl⟩
abbrev main_cst_1 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩

abbrev nD : Nat := 1
abbrev τ : Topo := Topo.v7x

variable {F : FTy → Type} [FloatOps F]
-- ==== Proof.LoadProg.lean ====
/-
  The loading half of the kernel's body, written as short programs: one column tile's transposition and one tile's
  statistics, each as a loop over its rows. The printed bodies unfold to the same operations.
-/
module

public import proofs.«01_k».proof.Proof.Gen.Kernel.Skeleton
public import Idealize.ShloMosaic.Lib.Exec
public import Idealize.ShloMosaic.Lib.Tactic

@[expose] public section

noncomputable section

namespace Cert.Proof.Kernel

open Cert.Kernel Cert.Kernel.Gen
open Idealize.ShloMosaic Idealize.SL.Sem

variable {F : FTy → Type} [FloatOps F]

/-- A program of the kernel's core. -/
local notation "PF" => Prog (TpuEff nD τ sig (Elt F) Λ₀ Proc.tc) PUnit

/-- A tile of bytes read as words. -/
abbrev wordsOf (v : Vec F S1x32x128 .i8) : IVec S8x128 32 :=
  bitcast S8x128 32 (shapeCast S32x128 v shapeCasts_S1x32x128_S32x128) bitcasts_S32x128_w8_S8x128_w32

abbrev lo16 (a c : IVec S8x128 32) : IVec S8x128 32 :=
  ori (andi a (broadcast S8x128 65535#32)) (shli c (broadcast S8x128 16#32))
abbrev hi16 (a c : IVec S8x128 32) : IVec S8x128 32 :=
  ori (shrui a (broadcast S8x128 16#32)) (andi c (broadcast S8x128 4294901760#32))
abbrev evenB (x y : IVec S8x128 32) : IVec S8x128 32 :=
  ori (andi x (broadcast S8x128 16711935#32)) (andi (shli y (broadcast S8x128 8#32)) (broadcast S8x128 4278255360#32))
abbrev oddB (x y : IVec S8x128 32) : IVec S8x128 32 :=
  ori (andi (shrui x (broadcast S8x128 8#32)) (broadcast S8x128 16711935#32)) (andi y (broadcast S8x128 4278255360#32))

/-- The four words of a four-by-four transposition of bytes. -/
abbrev tb0 (a b c d : IVec S8x128 32) : IVec S8x128 32 := evenB (lo16 a c) (lo16 b d)
abbrev tb1 (a b c d : IVec S8x128 32) : IVec S8x128 32 := oddB (lo16 a c) (lo16 b d)
abbrev tb2 (a b c d : IVec S8x128 32) : IVec S8x128 32 := evenB (hi16 a c) (hi16 b d)
abbrev tb3 (a b c d : IVec S8x128 32) : IVec S8x128 32 := oddB (hi16 a c) (hi16 b d)

theorem rawInb {s d c : Nat} (hs : s < 6) (hd : d + 32 ≤ 3072) (hc : c + 128 ≤ 256) :
    ∀ a, (![s, d, c] : Fin 3 → Nat) a + S1x32x128.size a ≤ S6x3072x256.size a := by
  intro a; fin_cases a <;> simp <;> omega
theorem plane_inb {x : Nat} (hx : x < 6) :
    ∀ a, (![x, 0, 0] : Fin 3 → Nat) a + S1x128x128.size a ≤ S6x128x128.size a := by
  intro a; fin_cases a <;> simp <;> omega
theorem rows4_inb {r : Nat} (hr : r + 28 < 128) :
    ∀ a, S8x128.size a = 0 ∨ (![r, 0] : Fin 2 → Nat) a + (![4, 1] : Fin 2 → Nat) a * (S8x128.size a - 1) < S128x128.size a := by
  intro a; fin_cases a <;> simp <;> omega
theorem rows3_inb {r : Nat} (hr : r + 21 < 96000) :
    ∀ a, S8x128.size a = 0 ∨ (![r, 0] : Fin 2 → Nat) a + (![3, 1] : Fin 2 → Nat) a * (S8x128.size a - 1) < S96000x128.size a := by
  intro a; fin_cases a <;> simp <;> omega
theorem pos4 : ∀ a, 0 < (![4, 1] : Fin 2 → Nat) a := by intro a; fin_cases a <;> simp
theorem pos3 : ∀ a, 0 < (![3, 1] : Fin 2 → Nat) a := by intro a; fin_cases a <;> simp
theorem sl8_inb {o : Nat} (h : o + 8 ≤ 128) : S128x128.Slices ![o, 0] S8x128 :=
  ⟨rfl, by intro a; fin_cases a <;> simp <;> omega⟩
theorem sl32_inb {o : Nat} (h : o + 8 ≤ 32) : S32x128.Slices ![o, 0] S8x128 :=
  ⟨rfl, by intro a; fin_cases a <;> simp <;> omega⟩

section
variable (arg7 : Memref sig .tc .vmem S96000x128 .i32) (arg8 : Memref sig .tc .vmem S6x3072x256 .i8)
  (arg13 : Memref sig .tc .vmem S6x128x128 .i32)

/-- One tile of codes: 32 rows from `d`, 128 columns from `c`, of slot `s`; then `K`. -/
def ldRaw (s : Nat) (hs : s < 6) (c : Nat) (hc : c + 128 ≤ 256) (d : Nat) (hd : d + 32 ≤ 3072) (K : Vec F S1x32x128 .i8 → PF) : PF :=
  .op (.load arg8 (Rect.unit (s := S6x3072x256) ![s, d, c] S1x32x128.size (rawInb hs hd hc)).toLoadRect (View.loadsAt_vmem h_S1x32x128)) K

/-- Plane `x` of the scratch. -/
abbrev planeM (x : Nat) (hx : x < 6) : Memref sig .tc .vmem S128x128 .i32 :=
  (arg13.slice (Rect.unit (s := S6x128x128) ![x, 0, 0] S1x128x128.size (plane_inb hx)) (fun _ => rfl)).squeeze S128x128 squeezes_S1x128x128_S128x128

/-- Eight rows of plane `x`, four apart from row `r`, written; then `K`. -/
def putX (x : Nat) (hx : x < 6) (r : Nat) (hr : r + 28 < 128) (w : IVec S8x128 32) (K : PF) : PF :=
  .op (.load (planeM arg13 x hx) (⟨![r, 0], S8x128.size, ![4, 1], rows4_inb hr⟩ : LoadRect S128x128) (View.loadsAt_vmem h_S8x128)) fun _ =>
  .op (.store (planeM arg13 x hx) ⟨(⟨![r, 0], S8x128.size, ![4, 1], rows4_inb hr⟩ : LoadRect S128x128), pos4⟩ (shapeCast S8x128 w shapeCasts_S8x128_S8x128) Finset.univ (View.stores_vmem_bits_univ h_S8x128 rfl) (.inl rfl)) fun _ => K

/-- 128 codes of one tile: four rows of words transposed into the plane; then `K`. -/
def trQ (s : Nat) (hs : s < 6) (c : Nat) (hc : c + 128 ≤ 256) (x : Nat) (hx : x < 6) (d : Nat) (hd : d + 416 ≤ 3072) (q : Nat) (hq : q + 32 ≤ 128) (K : PF) : PF :=
  ldRaw arg8 s hs c hc (d + 0) (by omega) fun a =>
  ldRaw arg8 s hs c hc (d + 128) (by omega) fun b =>
  ldRaw arg8 s hs c hc (d + 256) (by omega) fun e =>
  ldRaw arg8 s hs c hc (d + 384) (by omega) fun g =>
  putX arg13 x hx (q + 0) (by omega) (tb0 (wordsOf a) (wordsOf b) (wordsOf e) (wordsOf g)) <|
  putX arg13 x hx (q + 1) (by omega) (tb1 (wordsOf a) (wordsOf b) (wordsOf e) (wordsOf g)) <|
  putX arg13 x hx (q + 2) (by omega) (tb2 (wordsOf a) (wordsOf b) (wordsOf e) (wordsOf g)) <|
  putX arg13 x hx (q + 3) (by omega) (tb3 (wordsOf a) (wordsOf b) (wordsOf e) (wordsOf g)) K

/-- The row of the table that eight words are written from. -/
abbrev tabRow (iv c j r : BitVec 32) : Nat :=
  (Scalar.indexCast (Scalar.addi (Scalar.muli (Scalar.addi (Scalar.addi (Scalar.muli iv 256#32) c) j) 3#32) r)).toNat

abbrev tabRow' (iv : BitVec 32) (c j r : Nat) : Nat :=
  tabRow iv (BitVec.ofNat 32 (128 * c)) (BitVec.ofNat 32 (8 * j)) (BitVec.ofNat 32 r)

/-- The rows of one trip lie in the table. -/
def TabOk (iv : BitVec 32) : Prop := ∀ c < 2, ∀ j < 16, ∀ r < 3, tabRow' iv c j r + 21 < 96000

/-- Eight rows of the table, three apart, written from rows `8 j` on of a transposed plane; then `K`. -/
def putT (iv : BitVec 32) (h : TabOk iv) (c : Nat) (hc : c < 2) (r : Nat) (hr : r < 3) (t : IVec S128x128 32) (j : Nat) (hj : j < 16) (K : PF) : PF :=
  .op (.load arg7 (⟨![tabRow' iv c j r, 0], S8x128.size, ![3, 1], rows3_inb (h c hc j hj r hr)⟩ : LoadRect S96000x128) (View.loadsAt_vmem h_S8x128)) fun _ =>
  .op (.store arg7 ⟨(⟨![tabRow' iv c j r, 0], S8x128.size, ![3, 1], rows3_inb (h c hc j hj r hr)⟩ : LoadRect S96000x128), pos3⟩ (shapeCast S8x128 (extractStridedSlice S8x128 ![8 * j, 0] t (sl8_inb (by omega))) shapeCasts_S8x128_S8x128) Finset.univ (View.stores_vmem_bits_univ h_S8x128 rfl) (.inl rfl)) fun _ => K

/-- The last `n` of the sixteen writes of a plane, then `K`. -/
def putTs (iv : BitVec 32) (h : TabOk iv) (c : Nat) (hc : c < 2) (r : Nat) (hr : r < 3) (t : IVec S128x128 32) (K : PF) : (n : Nat) → n ≤ 16 → PF
  | 0, _ => K
  | n + 1, hn => putT arg7 iv h c hc r hr t (16 - (n + 1)) (by omega) (putTs iv h c hc r hr t K n (by omega))

/-- One plane of one column tile: 512 rows of codes packed, transposed, and written to the table; then `K`. -/
def trR (s : Nat) (hs : s < 6) (iv : BitVec 32) (h : TabOk iv) (c : Nat) (hc : c < 2) (d : Nat) (hd : d + 1536 ≤ 3072) (r : Nat) (hr : r < 3) (K : PF) : PF :=
  trQ arg8 arg13 s hs (128 * c) (by omega) (3 * c + r) (by omega) (d + 512 * r + 0) (by omega) 0 (by omega) <|
  trQ arg8 arg13 s hs (128 * c) (by omega) (3 * c + r) (by omega) (d + 512 * r + 32) (by omega) 32 (by omega) <|
  trQ arg8 arg13 s hs (128 * c) (by omega) (3 * c + r) (by omega) (d + 512 * r + 64) (by omega) 64 (by omega) <|
  trQ arg8 arg13 s hs (128 * c) (by omega) (3 * c + r) (by omega) (d + 512 * r + 96) (by omega) 96 (by omega) <|
  .op (.load arg13 (Rect.unit (s := S6x128x128) ![3 * c + r, 0, 0] S1x128x128.size (plane_inb (by omega))).toLoadRect (View.loadsAt_vmem h_S1x128x128)) fun v =>
  putTs arg7 iv h c hc r hr (transpose S128x128 [1, 0] (shapeCast S128x128 v shapeCasts_S1x128x128_S128x128) transposes_S128x128_p1_0_S128x128) K 16 (Nat.le_refl _)

/-- One column tile; then `K`. -/
def trTile (s : Nat) (hs : s < 6) (iv : BitVec 32) (h : TabOk iv) (c : Nat) (hc : c < 2) (d : Nat) (hd : d + 1536 ≤ 3072) (K : PF) : PF :=
  trR arg7 arg8 arg13 s hs iv h c hc d hd 0 (by omega) <|
  trR arg7 arg8 arg13 s hs iv h c hc d hd 1 (by omega) <|
  trR arg7 arg8 arg13 s hs iv h c hc d hd 2 (by omega) K

/-- The scale row of a tile, broadcast. -/
abbrev scaleTile (v : Vec F S1x128 .f32) : FVec F S32x128 .bf16 :=
  broadcastTo S32x128 (shapeCast S1x128 (truncf .bf16 (shapeCast S1x128 v shapeCasts_S1x128_S1x128) bitsLt_bf16_f32) shapeCasts_S1x128_S1x128) broadcasts_S1x128_S32x128

/-- A tile's scaled codes. -/
abbrev scaled (sc : FVec F S32x128 .bf16) (v : Vec F S1x32x128 .i8) : FVec F S32x128 .f32 :=
  extf .f32 (mulf (sitofp .bf16 (shapeCast S32x128 v shapeCasts_S1x32x128_S32x128)) sc) bitsLt_bf16_f32

/-- Eight rows squared. -/
abbrev sqr (x : FVec F S32x128 .f32) (o : Nat) (h : o + 8 ≤ 32) : FVec F S8x128 .f32 :=
  mulf (extractStridedSlice S8x128 ![o, 0] x (sl32_inb h)) (extractStridedSlice S8x128 ![o, 0] x (sl32_inb h))

abbrev acc0 (x : FVec F S32x128 .f32) : FVec F S8x128 .f32 :=
  addf (addf (addf (sqr x 0 (by omega)) (sqr x 8 (by omega))) (sqr x 16 (by omega))) (sqr x 24 (by omega))
abbrev acc1 (a : FVec F S8x128 .f32) (x : FVec F S32x128 .f32) : FVec F S8x128 .f32 :=
  addf (addf (addf (addf a (sqr x 0 (by omega))) (sqr x 8 (by omega))) (sqr x 16 (by omega))) (sqr x 24 (by omega))

/-- The last `n` row groups of a chunk of sixteen that ends at row `e`; then `K` of the accumulated squares. -/
def accs (s : Nat) (hs : s < 6) (c : Nat) (hc : c + 128 ≤ 256) (sc : FVec F S32x128 .bf16) (e : Nat) (he : e ≤ 3072) (K : FVec F S8x128 .f32 → PF) :
    (n : Nat) → n * 32 ≤ e → FVec F S8x128 .f32 → PF
  | 0, _, a => K a
  | n + 1, h, a => ldRaw arg8 s hs c hc (e - (n + 1) * 32) (by omega) fun v => accs s hs c hc sc e he K n (by omega) (acc1 a (scaled sc v))

/-- The last `n` chunks; then `K` of the total. -/
def tots (s : Nat) (hs : s < 6) (c : Nat) (hc : c + 128 ≤ 256) (sc : FVec F S32x128 .bf16) (K : FVec F S8x128 .f32 → PF) : (n : Nat) → n ≤ 6 → FVec F S8x128 .f32 → PF
  | 0, _, t => K t
  | n + 1, h, t => ldRaw arg8 s hs c hc ((6 - (n + 1)) * 512) (by omega) fun v =>
    accs arg8 s hs c hc sc ((6 - (n + 1)) * 512 + 512) (by omega) (fun a => tots s hs c hc sc K n (by omega) (addf t a)) 15 (by omega) (acc0 (scaled sc v))

/-- The reciprocal root of the mean square plus epsilon. -/
abbrev invOf (t : FVec F S8x128 .f32) : FVec F S1x128 .f32 :=
  shapeCast S1x128 (rsqrt (addf (mulf (shapeCast S1x128 (multiReduction .add [0] S128 t 0x00000000#32 reduces_S8x128_S128 (.inl rfl) rfl) shapeCasts_S128_S1x128)
    (broadcast S1x128 (Scalar.ofBits .f32 0x39AAAAAB#32))) (broadcast S1x128 (Scalar.ofBits .f32 0x358637BD#32)))) shapeCasts_S1x128_S1x128

/-- The tile's row of the scales and of the reciprocals. -/
abbrev statRow (iv : BitVec 32) (c : Nat) : Nat :=
  (Scalar.indexCast (Scalar.addi (Scalar.muli iv 2#32) (BitVec.ofNat 32 c))).toNat
def StatOk (iv : BitVec 32) : Prop := ∀ c < 2, statRow iv c < 250
theorem row_inb {r : Nat} (h : r < 250) : ∀ a, (![r, 0] : Fin 2 → Nat) a + S1x128.size a ≤ S250x128.size a := by
  intro a; fin_cases a <;> simp <;> omega

/-- One tile's statistics; then `K`. -/
def statTile (arg3 arg9 : Memref sig .tc .vmem S250x128 .f32) (s : Nat) (hs : s < 6) (iv : BitVec 32) (h : StatOk iv) (c : Nat) (hc : c < 2) (K : PF) : PF :=
  .op (.load arg3 (Rect.unit (s := S250x128) ![statRow iv c, 0] S1x128.size (row_inb (h c hc))).toLoadRect (View.loadsAt_vmem h_S1x128)) fun v =>
  tots arg8 s hs (128 * c) (by omega) (scaleTile v) (fun t =>
    .op (.load arg9 (Rect.unit (s := S250x128) ![statRow iv c, 0] S1x128.size (row_inb (h c hc))).toLoadRect (View.loadsAt_vmem h_S1x128)) fun _ =>
    .op (.store arg9 (Rect.unit (s := S250x128) ![statRow iv c, 0] S1x128.size (row_inb (h c hc))) (invOf t) Finset.univ (View.stores_vmem_bits_univ h_S1x128 rfl) (.inl rfl)) fun _ => K)
    6 (by omega) (broadcast S8x128 (Scalar.ofBits .f32 0x00000000#32))
end

end Cert.Proof.Kernel
-- ==== Proof.LoadWp.lean ====
/-
  What the loading half does to its buffers: one column tile's transposition writes the table and the scratch plane, one
  tile's statistics write one row of the reciprocals. Each effect is a function of the buffers' contents.
-/
module

public import proofs.«01_k».proof.Proof.LoadProg
public import Idealize.ShloMosaic.Lib.Pipeline.FrameBody
public import Idealize.ShloMosaic.Lib.Ring

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

/-- The body's weakest precondition on core `c`. -/
abbrev wpK {α : Type} (c : Dev nD) (p : Prog (TpuEff nD τ sig (Elt F) Λ₀ Proc.tc) α) (Q : α → sProp 𝕄) : sProp 𝕄 :=
  wp frame (wpE (defs₀ (F := F)) Variants.none (c : Thread nD τ) none) Set.univ p Q

section
variable (c : Dev nD)
  (arg7 : Memref sig .tc .vmem S96000x128 .i32) (arg8 : Memref sig .tc .vmem S6x3072x256 .i8)
  (arg13 : Memref sig .tc .vmem S6x128x128 .i32)

abbrev BufAt {sp : Space} {S : Shape} {e : EltTy} (c : Dev nD) (M : Memref sig .tc sp S e) : Type := Buf (Elt F) (M.view.loc (c : Thread nD τ))
/-- A memref's buffer, owned over `S`. -/
abbrev onS {sp : Space} {s : Shape} {e : EltTy} (c : Dev nD) (M : Memref sig .tc sp s e) (S : Finset (Idx (M.view.loc (c : Thread nD τ)))) (q : PosShare TreeShare)
    (f : BufAt (F := F) c M) : sProp 𝕄 := M.view.loc (c : Thread nD τ) ↦[S]{q} f

abbrev rawRect (s : Nat) (hs : s < 6) (x : Nat) (hx : x + 128 ≤ 256) (d : Nat) (hd : d + 32 ≤ 3072) : LoadRect S6x3072x256 :=
  (Rect.unit (s := S6x3072x256) ![s, d, x] S1x32x128.size (rawInb hs hd hx)).toLoadRect

variable {S8 : Finset (Idx (arg8.view.loc (c : Thread nD τ)))} {q8 : PosShare TreeShare} (f8 : BufAt (F := F) c arg8)

/-- What a tile of codes reads. -/
abbrev ldRawV (s : Nat) (hs : s < 6) (x : Nat) (hx : x + 128 ≤ 256) (d : Nat) (hd : d + 32 ≤ 3072) : Vec F S1x32x128 .i8 :=
  arg8.view.readAt (Elt F) (rawRect s hs x hx d hd) f8

/-- Slot `s`'s elements lie in `S8`. -/
def RawIn (S8 : Finset (Idx (arg8.view.loc (c : Thread nD τ)))) (s : Nat) (hs : s < 6) : Prop :=
  ∀ x (hx : x + 128 ≤ 256) d (hd : d + 32 ≤ 3072), arg8.view.setOn (rawRect s hs x hx d hd).set ⊆ S8

/-- A store through a memref whose buffer is held whole. -/
theorem wp_storeK {Q : PUnit.{1} → sProp 𝕄} {cs : CoreSpace} {s : Shape} {e : EltTy} {m : Memref sig .tc cs s e} {r : Rect s} {w : r.shape.Idx → Elt F e} {Mk : Finset r.shape.Idx} {hx : (m.access r).Stores Mk} {hm : Mk = Finset.univ ∨ ∀ a, r.stride a = 1}
    {k : PUnit.{1} → PF} {S : Finset (Idx (m.view.loc (c : Thread nD τ)))} {f : BufAt (F := F) c m} (hS : (m.access r).setOn Mk ⊆ S) :
    onS c m S fullShare f ⊢ iprop((onS c m S fullShare ((m.access r).write (Elt F) f w Mk) -∗ wpK c (k ⟨⟩) Q) -∗ wpK c (.op (.store m r w Mk hx hm) k) Q) :=
  wp_store (Γ := .nil) Variants.none (c : Thread nD τ) none Set.univ (m := m) (r := r) (w := w) (Mk := Mk) (hx := hx) (hm := hm) (k := k) (S := S) (f := f) (Q := Q) hS

/-- A load through a memref. -/
theorem wp_loadK {Q : PUnit.{1} → sProp 𝕄} {cs : CoreSpace} {s : Shape} {e : EltTy} {m : Memref sig .tc cs s e} {r : LoadRect s} {hl : m.view.LoadsAt r}
    {k : (r.shape.Idx → Elt F e) → PF} {S : Finset (Idx (m.view.loc (c : Thread nD τ)))} {q : PosShare TreeShare} {f : BufAt (F := F) c m} (hS : m.view.setOn r.set ⊆ S) :
    onS c m S q f ⊢ iprop((onS c m S q f -∗ wpK c (k (m.view.readAt (Elt F) r f)) Q) -∗ wpK c (.op (.load m r hl) k) Q) :=
  wp_load (Γ := .nil) Variants.none (c : Thread nD τ) none Set.univ (m := m) (r := r) (hl := hl) (k := k) (S := S) (q := q) (f := f) (Q := Q) hS

theorem wp_storeU {Q : PUnit.{1} → sProp 𝕄} {cs : CoreSpace} {s : Shape} {e : EltTy} {m : Memref sig .tc cs s e} {r : Rect s} {w : r.shape.Idx → Elt F e} {Mk : Finset r.shape.Idx} {hx : (m.access r).Stores Mk} {hm : Mk = Finset.univ ∨ ∀ a, r.stride a = 1}
    {k : PUnit.{1} → PF} {f : BufAt (F := F) c m} :
    onS c m Finset.univ fullShare f ⊢ iprop((onS c m Finset.univ fullShare ((m.access r).write (Elt F) f w Mk) -∗ wpK c (k ⟨⟩) Q) -∗ wpK c (.op (.store m r w Mk hx hm) k) Q) :=
  wp_storeK c (Finset.subset_univ _)

theorem wp_loadU {Q : PUnit.{1} → sProp 𝕄} {cs : CoreSpace} {s : Shape} {e : EltTy} {m : Memref sig .tc cs s e} {r : LoadRect s} {hl : m.view.LoadsAt r}
    {k : (r.shape.Idx → Elt F e) → PF} {q : PosShare TreeShare} {f : BufAt (F := F) c m} :
    onS c m Finset.univ q f ⊢ iprop((onS c m Finset.univ q f -∗ wpK c (k (m.view.readAt (Elt F) r f)) Q) -∗ wpK c (.op (.load m r hl) k) Q) :=
  wp_loadK c (Finset.subset_univ _)

theorem wp_ldRaw {Q : PUnit.{1} → sProp 𝕄} (s : Nat) (hs : s < 6) (hS : RawIn c arg8 S8 s hs) (x : Nat) (hx : x + 128 ≤ 256) (d : Nat) (hd : d + 32 ≤ 3072) (K : Vec F S1x32x128 .i8 → PF) :
    onS c arg8 S8 q8 f8 ⊢ iprop((onS c arg8 S8 q8 f8 -∗ wpK c (K (ldRawV c arg8 f8 s hs x hx d hd)) Q)
      -∗ wpK c (ldRaw arg8 s hs x hx d hd K) Q) :=
  wp_loadK c (m := arg8) (hS x hx d hd)

/-- Eight rows of a plane written. -/
def putXV (x : Nat) (hx : x < 6) (r : Nat) (hr : r + 28 < 128) (w : IVec S8x128 32) (f13 : BufAt (F := F) c arg13) : BufAt (F := F) c arg13 :=
  ((planeM arg13 x hx).access (⟨(⟨![r, 0], S8x128.size, ![4, 1], rows4_inb hr⟩ : LoadRect S128x128), pos4⟩ : Rect S128x128)).write (Elt F) f13
    (shapeCast S8x128 w shapeCasts_S8x128_S8x128) Finset.univ

theorem wp_putX {Q : PUnit.{1} → sProp 𝕄} (x : Nat) (hx : x < 6) (r : Nat) (hr : r + 28 < 128) (w : IVec S8x128 32) (f13 : BufAt (F := F) c arg13) (K : PF) :
    onS c arg13 Finset.univ fullShare f13
      ⊢ iprop((onS c arg13 Finset.univ fullShare (putXV c arg13 x hx r hr w f13) -∗ wpK c K Q) -∗ wpK c (putX arg13 x hx r hr w K) Q) := by
  unfold putX putXV
  show onS c (planeM arg13 x hx) Finset.univ fullShare f13 ⊢ iprop((onS c (planeM arg13 x hx) Finset.univ fullShare _ -∗ wpK c K Q) -∗ _)
  iintro H Hk
  iapply (wp_loadU c (m := planeM arg13 x hx)) $$ H
  iintro H
  iapply (wp_storeU c (m := planeM arg13 x hx)) $$ H
  iintro H
  iapply Hk
  iexact H

/-- What a tile's four words leave in the plane. -/
def trQV (s : Nat) (hs : s < 6) (x : Nat) (hx : x + 128 ≤ 256) (p : Nat) (hp : p < 6) (d : Nat) (hd : d + 416 ≤ 3072) (q : Nat) (hq : q + 32 ≤ 128) (f13 : BufAt (F := F) c arg13) : BufAt (F := F) c arg13 :=
  let a := wordsOf (ldRawV c arg8 f8 s hs x hx (d + 0) (by omega))
  let b := wordsOf (ldRawV c arg8 f8 s hs x hx (d + 128) (by omega))
  let e := wordsOf (ldRawV c arg8 f8 s hs x hx (d + 256) (by omega))
  let g := wordsOf (ldRawV c arg8 f8 s hs x hx (d + 384) (by omega))
  putXV c arg13 p hp (q + 3) (by omega) (tb3 a b e g) <|
  putXV c arg13 p hp (q + 2) (by omega) (tb2 a b e g) <|
  putXV c arg13 p hp (q + 1) (by omega) (tb1 a b e g) <|
  putXV c arg13 p hp (q + 0) (by omega) (tb0 a b e g) f13

theorem wp_trQ {Q : PUnit.{1} → sProp 𝕄} (s : Nat) (hs : s < 6) (hS : RawIn c arg8 S8 s hs) (x : Nat) (hx : x + 128 ≤ 256) (p : Nat) (hp : p < 6) (d : Nat) (hd : d + 416 ≤ 3072) (q : Nat) (hq : q + 32 ≤ 128)
    (f13 : BufAt (F := F) c arg13) (K : PF) :
    iprop(onS c arg8 S8 q8 f8 ∗ onS c arg13 Finset.univ fullShare f13)
      ⊢ iprop((onS c arg8 S8 q8 f8 -∗ onS c arg13 Finset.univ fullShare (trQV c arg8 arg13 f8 s hs x hx p hp d hd q hq f13) -∗ wpK c K Q)
        -∗ wpK c (trQ arg8 arg13 s hs x hx p hp d hd q hq K) Q) := by
  unfold trQ trQV
  iintro ⟨H8, H⟩ Hk
  iapply (wp_ldRaw c arg8 f8 s hs hS) $$ H8
  iintro H8
  iapply (wp_ldRaw c arg8 f8 s hs hS) $$ H8
  iintro H8
  iapply (wp_ldRaw c arg8 f8 s hs hS) $$ H8
  iintro H8
  iapply (wp_ldRaw c arg8 f8 s hs hS) $$ H8
  iintro H8
  iapply (wp_putX c arg13) $$ H
  iintro H
  iapply (wp_putX c arg13) $$ H
  iintro H
  iapply (wp_putX c arg13) $$ H
  iintro H
  iapply (wp_putX c arg13) $$ H
  iintro H
  iapply Hk $$ H8 H

/-- Eight rows of the table written. -/
def putTV (iv : BitVec 32) (h : TabOk iv) (x : Nat) (hx : x < 2) (r : Nat) (hr : r < 3) (t : IVec S128x128 32) (j : Nat) (hj : j < 16) (f7 : BufAt (F := F) c arg7) : BufAt (F := F) c arg7 :=
  (arg7.access (⟨(⟨![tabRow' iv x j r, 0], S8x128.size, ![3, 1], rows3_inb (h x hx j hj r hr)⟩ : LoadRect S96000x128), pos3⟩ : Rect S96000x128)).write (Elt F) f7
    (shapeCast S8x128 (extractStridedSlice S8x128 ![8 * j, 0] t (sl8_inb (by omega))) shapeCasts_S8x128_S8x128) Finset.univ

theorem wp_putT {Q : PUnit.{1} → sProp 𝕄} (iv : BitVec 32) (h : TabOk iv) (x : Nat) (hx : x < 2) (r : Nat) (hr : r < 3) (t : IVec S128x128 32) (j : Nat) (hj : j < 16) (f7 : BufAt (F := F) c arg7) (K : PF) :
    onS c arg7 Finset.univ fullShare f7
      ⊢ iprop((onS c arg7 Finset.univ fullShare (putTV c arg7 iv h x hx r hr t j hj f7) -∗ wpK c K Q) -∗ wpK c (putT arg7 iv h x hx r hr t j hj K) Q) := by
  unfold putT putTV
  iintro H Hk
  iapply (wp_loadU c (m := arg7)) $$ H
  iintro H
  iapply (wp_storeU c (m := arg7)) $$ H
  iintro H
  iapply Hk
  iexact H

def putTsV (iv : BitVec 32) (h : TabOk iv) (x : Nat) (hx : x < 2) (r : Nat) (hr : r < 3) (t : IVec S128x128 32) : (n : Nat) → n ≤ 16 → BufAt (F := F) c arg7 → BufAt (F := F) c arg7
  | 0, _, f => f
  | n + 1, hn, f => putTsV iv h x hx r hr t n (by omega) (putTV c arg7 iv h x hx r hr t (16 - (n + 1)) (by omega) f)

theorem wp_putTs {Q : PUnit.{1} → sProp 𝕄} (iv : BitVec 32) (h : TabOk iv) (x : Nat) (hx : x < 2) (r : Nat) (hr : r < 3) (t : IVec S128x128 32) (K : PF) : ∀ (n : Nat) (hn : n ≤ 16) (f7 : BufAt (F := F) c arg7),
    onS c arg7 Finset.univ fullShare f7
      ⊢ iprop((onS c arg7 Finset.univ fullShare (putTsV c arg7 iv h x hx r hr t n hn f7) -∗ wpK c K Q) -∗ wpK c (putTs arg7 iv h x hx r hr t K n hn) Q)
  | 0, _, f => by
    unfold putTs putTsV
    iintro H Hk
    iapply Hk $$ H
  | n + 1, hn, f => by
    unfold putTs putTsV
    iintro H Hk
    iapply (wp_putT c arg7) $$ H
    iintro H
    iapply (wp_putTs iv h x hx r hr t K n _ _) $$ H
    iexact Hk

/-- A plane as read back. -/
abbrev planeV (p : Nat) (hp : p < 6) (f13 : BufAt (F := F) c arg13) : Vec F S1x128x128 .i32 :=
  arg13.view.readAt (Elt F) (Rect.unit (s := S6x128x128) ![p, 0, 0] S1x128x128.size (plane_inb hp)).toLoadRect f13

/-- What one plane's packing leaves in the scratch. -/
def trR13 (s : Nat) (hs : s < 6) (x : Nat) (hx : x < 2) (d : Nat) (hd : d + 1536 ≤ 3072) (r : Nat) (hr : r < 3) (f13 : BufAt (F := F) c arg13) : BufAt (F := F) c arg13 :=
  trQV c arg8 arg13 f8 s hs (128 * x) (by omega) (3 * x + r) (by omega) (d + 512 * r + 96) (by omega) 96 (by omega) <|
  trQV c arg8 arg13 f8 s hs (128 * x) (by omega) (3 * x + r) (by omega) (d + 512 * r + 64) (by omega) 64 (by omega) <|
  trQV c arg8 arg13 f8 s hs (128 * x) (by omega) (3 * x + r) (by omega) (d + 512 * r + 32) (by omega) 32 (by omega) <|
  trQV c arg8 arg13 f8 s hs (128 * x) (by omega) (3 * x + r) (by omega) (d + 512 * r + 0) (by omega) 0 (by omega) f13

/-- What it leaves in the table. -/
def trR7 (s : Nat) (hs : s < 6) (iv : BitVec 32) (h : TabOk iv) (x : Nat) (hx : x < 2) (d : Nat) (hd : d + 1536 ≤ 3072) (r : Nat) (hr : r < 3) (f13 : BufAt (F := F) c arg13) (f7 : BufAt (F := F) c arg7) : BufAt (F := F) c arg7 :=
  putTsV c arg7 iv h x hx r hr (transpose S128x128 [1, 0] (shapeCast S128x128 (planeV c arg13 (3 * x + r) (by omega) (trR13 c arg8 arg13 f8 s hs x hx d hd r hr f13)) shapeCasts_S1x128x128_S128x128) transposes_S128x128_p1_0_S128x128)
    16 (Nat.le_refl _) f7

theorem wp_trR {Q : PUnit.{1} → sProp 𝕄} (s : Nat) (hs : s < 6) (hS : RawIn c arg8 S8 s hs) (iv : BitVec 32) (h : TabOk iv) (x : Nat) (hx : x < 2) (d : Nat) (hd : d + 1536 ≤ 3072) (r : Nat) (hr : r < 3)
    (f7 : BufAt (F := F) c arg7) (f13 : BufAt (F := F) c arg13) (K : PF) :
    iprop(onS c arg8 S8 q8 f8 ∗ onS c arg13 Finset.univ fullShare f13 ∗ onS c arg7 Finset.univ fullShare f7)
      ⊢ iprop((onS c arg8 S8 q8 f8 -∗ onS c arg13 Finset.univ fullShare (trR13 c arg8 arg13 f8 s hs x hx d hd r hr f13)
            -∗ onS c arg7 Finset.univ fullShare (trR7 c arg7 arg8 arg13 f8 s hs iv h x hx d hd r hr f13 f7) -∗ wpK c K Q)
        -∗ wpK c (trR arg7 arg8 arg13 s hs iv h x hx d hd r hr K) Q) := by
  unfold trR trR7
  iintro ⟨H8, H13, H7⟩ Hk
  iapply (wp_trQ c arg8 arg13 f8 s hs hS) $$ [H8 H13]
  · isplitl [H8] <;> iassumption
  iintro H8 H13
  iapply (wp_trQ c arg8 arg13 f8 s hs hS) $$ [H8 H13]
  · isplitl [H8] <;> iassumption
  iintro H8 H13
  iapply (wp_trQ c arg8 arg13 f8 s hs hS) $$ [H8 H13]
  · isplitl [H8] <;> iassumption
  iintro H8 H13
  iapply (wp_trQ c arg8 arg13 f8 s hs hS) $$ [H8 H13]
  · isplitl [H8] <;> iassumption
  iintro H8 H13
  iapply (wp_loadU c (m := arg13)) $$ H13
  iintro H13
  iapply (wp_putTs c arg7) $$ H7
  iintro H7
  unfold trR13
  iapply Hk $$ H8 H13 H7

def trTile13 (s : Nat) (hs : s < 6) (x : Nat) (hx : x < 2) (d : Nat) (hd : d + 1536 ≤ 3072) (f13 : BufAt (F := F) c arg13) : BufAt (F := F) c arg13 :=
  trR13 c arg8 arg13 f8 s hs x hx d hd 2 (by omega) (trR13 c arg8 arg13 f8 s hs x hx d hd 1 (by omega) (trR13 c arg8 arg13 f8 s hs x hx d hd 0 (by omega) f13))
def trTile7 (s : Nat) (hs : s < 6) (iv : BitVec 32) (h : TabOk iv) (x : Nat) (hx : x < 2) (d : Nat) (hd : d + 1536 ≤ 3072) (f13 : BufAt (F := F) c arg13) (f7 : BufAt (F := F) c arg7) : BufAt (F := F) c arg7 :=
  trR7 c arg7 arg8 arg13 f8 s hs iv h x hx d hd 2 (by omega) (trR13 c arg8 arg13 f8 s hs x hx d hd 1 (by omega) (trR13 c arg8 arg13 f8 s hs x hx d hd 0 (by omega) f13)) <|
  trR7 c arg7 arg8 arg13 f8 s hs iv h x hx d hd 1 (by omega) (trR13 c arg8 arg13 f8 s hs x hx d hd 0 (by omega) f13) <|
  trR7 c arg7 arg8 arg13 f8 s hs iv h x hx d hd 0 (by omega) f13 f7

theorem wp_trTile {Q : PUnit.{1} → sProp 𝕄} (s : Nat) (hs : s < 6) (hS : RawIn c arg8 S8 s hs) (iv : BitVec 32) (h : TabOk iv) (x : Nat) (hx : x < 2) (d : Nat) (hd : d + 1536 ≤ 3072)
    (f7 : BufAt (F := F) c arg7) (f13 : BufAt (F := F) c arg13) (K : PF) :
    iprop(onS c arg8 S8 q8 f8 ∗ onS c arg13 Finset.univ fullShare f13 ∗ onS c arg7 Finset.univ fullShare f7)
      ⊢ iprop((onS c arg8 S8 q8 f8 -∗ onS c arg13 Finset.univ fullShare (trTile13 c arg8 arg13 f8 s hs x hx d hd f13)
            -∗ onS c arg7 Finset.univ fullShare (trTile7 c arg7 arg8 arg13 f8 s hs iv h x hx d hd f13 f7) -∗ wpK c K Q)
        -∗ wpK c (trTile arg7 arg8 arg13 s hs iv h x hx d hd K) Q) := by
  unfold trTile trTile13 trTile7
  iintro ⟨H8, H13, H7⟩ Hk
  iapply (wp_trR c arg7 arg8 arg13 f8 s hs hS) $$ [H8 H13 H7]
  · isplitl [H8]; · iexact H8
    isplitl [H13] <;> iassumption
  iintro H8 H13 H7
  iapply (wp_trR c arg7 arg8 arg13 f8 s hs hS) $$ [H8 H13 H7]
  · isplitl [H8]; · iexact H8
    isplitl [H13] <;> iassumption
  iintro H8 H13 H7
  iapply (wp_trR c arg7 arg8 arg13 f8 s hs hS) $$ [H8 H13 H7]
  · isplitl [H8]; · iexact H8
    isplitl [H13] <;> iassumption
  iintro H8 H13 H7
  iapply Hk $$ H8 H13 H7

/-- The accumulated squares of the last `n` row groups of a chunk. -/
def accsV (s : Nat) (hs : s < 6) (x : Nat) (hx : x + 128 ≤ 256) (sc : FVec F S32x128 .bf16) (e : Nat) (he : e ≤ 3072) :
    (n : Nat) → n * 32 ≤ e → FVec F S8x128 .f32 → FVec F S8x128 .f32
  | 0, _, a => a
  | n + 1, h, a => accsV s hs x hx sc e he n (by omega) (acc1 a (scaled sc (ldRawV c arg8 f8 s hs x hx (e - (n + 1) * 32) (by omega))))

theorem wp_accs {Q : PUnit.{1} → sProp 𝕄} (s : Nat) (hs : s < 6) (hS : RawIn c arg8 S8 s hs) (x : Nat) (hx : x + 128 ≤ 256) (sc : FVec F S32x128 .bf16) (e : Nat) (he : e ≤ 3072) (K : FVec F S8x128 .f32 → PF) :
    ∀ (n : Nat) (hn : n * 32 ≤ e) (a : FVec F S8x128 .f32),
    onS c arg8 S8 q8 f8 ⊢ iprop((onS c arg8 S8 q8 f8 -∗ wpK c (K (accsV c arg8 f8 s hs x hx sc e he n hn a)) Q) -∗ wpK c (accs arg8 s hs x hx sc e he K n hn a) Q)
  | 0, _, a => by
    unfold accs accsV
    iintro H Hk
    iapply Hk $$ H
  | n + 1, hn, a => by
    unfold accs accsV
    iintro H Hk
    iapply (wp_ldRaw c arg8 f8 s hs hS) $$ H
    iintro H
    iapply (wp_accs s hs hS x hx sc e he K n _ _) $$ H
    iexact Hk

/-- The total of the last `n` chunks over `t`. -/
def totsV (s : Nat) (hs : s < 6) (x : Nat) (hx : x + 128 ≤ 256) (sc : FVec F S32x128 .bf16) : (n : Nat) → n ≤ 6 → FVec F S8x128 .f32 → FVec F S8x128 .f32
  | 0, _, t => t
  | n + 1, h, t => totsV s hs x hx sc n (by omega) (addf t (accsV c arg8 f8 s hs x hx sc ((6 - (n + 1)) * 512 + 512) (by omega) 15 (by omega)
      (acc0 (scaled sc (ldRawV c arg8 f8 s hs x hx ((6 - (n + 1)) * 512) (by omega))))))

theorem wp_tots {Q : PUnit.{1} → sProp 𝕄} (s : Nat) (hs : s < 6) (hS : RawIn c arg8 S8 s hs) (x : Nat) (hx : x + 128 ≤ 256) (sc : FVec F S32x128 .bf16) (K : FVec F S8x128 .f32 → PF) :
    ∀ (n : Nat) (hn : n ≤ 6) (t : FVec F S8x128 .f32),
    onS c arg8 S8 q8 f8 ⊢ iprop((onS c arg8 S8 q8 f8 -∗ wpK c (K (totsV c arg8 f8 s hs x hx sc n hn t)) Q) -∗ wpK c (tots arg8 s hs x hx sc K n hn t) Q)
  | 0, _, t => by
    unfold tots totsV
    iintro H Hk
    iapply Hk $$ H
  | n + 1, hn, t => by
    unfold tots totsV
    iintro H Hk
    iapply (wp_ldRaw c arg8 f8 s hs hS) $$ H
    iintro H
    iapply (wp_accs c arg8 f8 s hs hS) $$ H
    iintro H
    iapply (wp_tots s hs hS x hx sc K n _ _) $$ H
    iexact Hk

variable (arg3 arg9 : Memref sig .tc .vmem S250x128 .f32)

/-- One row's rectangle. -/
abbrev rowRect (r : Nat) (h : r < 250) : Rect S250x128 := Rect.unit (s := S250x128) ![r, 0] S1x128.size (row_inb h)

/-- The tile's row of reciprocals written. -/
def statV (s : Nat) (hs : s < 6) (iv : BitVec 32) (h : StatOk iv) (x : Nat) (hx : x < 2) (f3 : BufAt (F := F) c arg3) (f9 : BufAt (F := F) c arg9) : BufAt (F := F) c arg9 :=
  (arg9.access (rowRect (statRow iv x) (h x hx))).write (Elt F) f9
    (invOf (totsV c arg8 f8 s hs (128 * x) (by omega) (scaleTile (arg3.view.readAt (Elt F) (rowRect (statRow iv x) (h x hx)).toLoadRect f3)) 6 (by omega)
      (broadcast S8x128 (Scalar.ofBits .f32 0x00000000#32)))) Finset.univ

theorem wp_statTile {Q : PUnit.{1} → sProp 𝕄} {S3 : Finset (Idx (arg3.view.loc (c : Thread nD τ)))} {q3 : PosShare TreeShare} (s : Nat) (hs : s < 6) (hS : RawIn c arg8 S8 s hs) (iv : BitVec 32) (h : StatOk iv) (x : Nat) (hx : x < 2)
    (f3 : BufAt (F := F) c arg3) (f9 : BufAt (F := F) c arg9) (hS3 : ∀ r h, arg3.view.setOn (rowRect r h).toLoadRect.set ⊆ S3) (K : PF) :
    iprop(onS c arg8 S8 q8 f8 ∗ onS c arg3 S3 q3 f3 ∗ onS c arg9 Finset.univ fullShare f9)
      ⊢ iprop((onS c arg8 S8 q8 f8 -∗ onS c arg3 S3 q3 f3 -∗ onS c arg9 Finset.univ fullShare (statV c arg8 f8 arg3 arg9 s hs iv h x hx f3 f9) -∗ wpK c K Q)
        -∗ wpK c (statTile arg8 arg3 arg9 s hs iv h x hx K) Q) := by
  unfold statTile statV
  iintro ⟨H8, H3, H9⟩ Hk
  iapply (wp_loadK c (m := arg3) (hS3 _ _)) $$ H3
  iintro H3
  iapply (wp_tots c arg8 f8 s hs hS) $$ H8
  iintro H8
  iapply (wp_loadU c (m := arg9)) $$ H9
  iintro H9
  iapply (wp_storeU c (m := arg9)) $$ H9
  iintro H9
  iapply Hk $$ H8 H3 H9

end
end Cert.Proof.Kernel
-- ==== Proof.Xfer.lean ====
/-
  Transfers of the body: one started hands over its source and destination, one waited for hands back what it was
  started for. A buffer is dealt by the value of one coordinate.
-/
module

public import proofs.«01_k».proof.Proof.LoadWp

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

/-- The counters of the transfers in flight. -/
abbrev ECd : UEmb Counters 𝕄 := countersEmb (U := Pipeline.UD sig nD τ)

section
variable (c : Dev nD)

/-- A transfer in flight on `sm`, whose wait hands back `R`. -/
def InFl (sm : DmaSem sig) (N : ℕ) (R : sProp 𝕄) : sProp 𝕄 :=
  iprop(∃ D X : sProp 𝕄, ⌜iprop(D ∗ X) ⊢ R⌝ ∗ Transfers.Flight ECd (c : Thread nD τ) (.dma sm) () N D ∗ X)

/-- The cell `sm` at rest. -/
abbrev Rest (sm : DmaSem sig) : sProp 𝕄 := semVal ((c : Thread nD τ), SemLoc.dma sm) 0
/-- The core owes nothing. -/
abbrev Owes : sProp 𝕄 := iprop(∃ W : Waits sig Unit, owes (c : Thread nD τ) 0 W)

theorem wp_startK {Q : PUnit.{1} → sProp 𝕄} {sp sp' : Space} {s : Shape} {e : EltTy} {src : Memref sig .tc sp s e} {dst : Memref sig .tc sp' s e} {sm sm' : DmaSem sig}
    {hsrc : src.view.WordExact} {hdst : dst.view.WordExact} {hsem : DmaTarget.Typed (nD := nD) (τ := τ) (p := Proc.tc) sp (.dma sm) (.here dst)}
    {k : PUnit.{1} → PF} {q : PosShare TreeShare} {fs : BufAt (F := F) c src} {fd : BufAt (F := F) c dst}
    {Ss : Finset (Idx (src.view.loc (c : Thread nD τ)))} {Sd : Finset (Idx (dst.view.loc (c : Thread nD τ)))} {R : sProp 𝕄}
    (hsm : sm = sm') (h0 : 0 < s.numel) (hSs : src.view.set ⊆ Ss) (hSd : dst.view.set ⊆ Sd)
    (hR : iprop(onS c src Ss q fs ∗ onS c dst Sd fullShare (dst.view.write (Elt F) fd (src.view.read (Elt F) fs) Finset.univ)) ⊢ R) :
    iprop(onS c src Ss q fs ∗ onS c dst Sd fullShare fd ∗ Rest c sm')
      ⊢ iprop((InFl c sm' dst.view.dmaCredit R -∗ wpK c (k ⟨⟩) Q) -∗ wpK c (.op (.enqueueDma src (.here dst) (.dma sm) hsrc hdst hsem) k) Q) := by
  subst hsm
  iintro ⟨Hs, Hd, Hv⟩ Hk
  ihave Hs' := (pointsTo_split_subset hSs).1 $$ Hs
  icases Hs' with ⟨Hs, Hr⟩
  iapply (Transfers.wp_dmaLocal ECd Variants.none (c : Thread nD τ) none (src := src) (dst := dst) (via := ReadAs.same) () dst.view.dmaCredit rfl (dst.view.dmaCredit_pos h0) hSd) $$ [Hs Hd Hv]
  · isplitl [Hs]; · iexact Hs
    isplitl [Hd] <;> iassumption
  iintro HF
  iapply Hk
  unfold InFl
  iexists iprop(onS c dst Sd fullShare (dst.view.write (Elt F) fd (src.view.read (Elt F) fs) Finset.univ) ∗ onS c src src.view.set q fs), onS c src (Ss \ src.view.set) q fs
  isplitr
  · ipureintro
    refine .trans ?_ hR
    iintro ⟨⟨Hd, Hs⟩, Hr⟩
    isplitl [Hs Hr]
    · iapply (pointsTo_split_subset hSs).2
      isplitl [Hs] <;> iassumption
    · iexact Hd
  isplitl [HF]; · iexact HF
  iexact Hr

theorem wp_waitK {Q : PUnit.{1} → sProp 𝕄} {sp sp' : Space} {s s' : Shape} {e e' : EltTy} {srcw : Memref sig .tc sp' s' e'} {dstw : Memref sig .tc sp s e} {sem sem' : DmaSem sig}
    {hsrc : srcw.view.WordExact} {hdst : dstw.view.WordExact} {k : PUnit.{1} → PF} {N : ℕ} {R : sProp 𝕄} (hsm : sem = sem') (hN : dstw.view.dmaCredit = N) :
    iprop(InFl c sem' N R ∗ Owes c)
      ⊢ iprop((iprop(R ∗ Rest c sem' ∗ Owes c) -∗ wpK c (k ⟨⟩) Q) -∗ wpK c (.op (.waitDma2 sem srcw dstw hsrc hdst) k) Q) := by
  subst hsm
  unfold InFl
  iintro ⟨⟨%D, %X, %hR, HF, HX⟩, ⟨%W, HO⟩⟩ Hk
  iapply (Transfers.wp_waitLocal ECd Variants.none (c : Thread nD τ) none (srcw := srcw) (dstw := dstw) () hN) $$ [HF HO]
  · isplitl [HF] <;> iassumption
  iintro ⟨HD, Hv, HO⟩
  iapply Hk
  isplitl [HD HX]
  · iapply hR
    isplitl [HD] <;> iassumption
  isplitl [Hv]; · iexact Hv
  iexists _
  iexact HO

/-! ### A buffer dealt by the value of one coordinate -/

section
variable {sp : Space} {s : Shape} {e : EltTy} (M : Memref sig .tc sp s e) {n : ℕ} (g : s.Idx → Fin n)

/-- The elements whose coordinate has value `p`. -/
def part (p : Fin n) : Finset (Idx (M.view.loc (c : Thread nD τ))) := M.view.setOn (Finset.univ.filter fun x => g x = p)

theorem part_disjoint (p p' : Fin n) (h : p ≠ p') : Disjoint (part c M g p) (part c M g p') := by
  unfold part View.setOn
  rw [Finset.disjoint_map]
  exact Finset.disjoint_filter.mpr fun x _ h1 h2 => h (h1.symm.trans h2)

theorem part_union (hM : M.IsWhole) : Finset.univ.biUnion (part c M g) = Finset.univ := by
  ext x
  simp only [Finset.mem_biUnion, Finset.mem_univ, true_and, iff_true]
  have hx : x ∈ M.view.set := by rw [hM.set_eq_univ]; exact Finset.mem_univ _
  obtain ⟨y, -, hy⟩ := Finset.mem_map.mp hx
  exact ⟨g y, Finset.mem_map.mpr ⟨y, Finset.mem_filter.mpr ⟨Finset.mem_univ _, rfl⟩, hy⟩⟩

/-- A rectangle whose elements have value `p` lies in that part. -/
theorem setOn_part {S : Finset s.Idx} {p : Fin n} (h : ∀ x ∈ S, g x = p) : M.view.setOn S ⊆ part c M g p :=
  Finset.map_subset_map.mpr fun x hx => Finset.mem_filter.mpr ⟨Finset.mem_univ _, h x hx⟩

theorem slice_part {r : Rect s} {p : Fin n} (h : ∀ x ∈ r.set, g x = p) : (M.view.slice r).set ⊆ part c M g p := by
  rw [View.set_slice]; exact setOn_part c M g h

/-- A whole buffer is its parts; -/
theorem deal (hM : M.IsWhole) (q : PosShare TreeShare) (f : BufAt (F := F) c M) :
    onS c M Finset.univ q f = bigSep Finset.univ fun p => onS c M (part c M g p) q f := by
  rw [← pointsTo_biUnion Finset.univ (part c M g) fun p _ p' _ h => part_disjoint c M g p p' h, part_union c M g hM]

/-- parts held at any contents make the buffer at contents that agree with each. -/
theorem undeal [NeZero n] (hM : M.IsWhole) (P : Fin n → BufAt (F := F) c M → Prop)
    (hP : ∀ p f f', (∀ i ∈ part c M g p, f' i = f i) → P p f → P p f') :
    bigSep Finset.univ (fun p => iprop(∃ f, ⌜P p f⌝ ∗ onS c M (part c M g p) fullShare f))
      ⊢ (iprop(∃ f, ⌜∀ p, P p f⌝ ∗ onS c M Finset.univ fullShare f) : sProp 𝕄) := by
  refine (bigSep_exists_pi Finset.univ _).trans ?_
  iintro ⟨%fs, H⟩
  ihave H := (bigSep_pure_sep Finset.univ _ _) $$ H
  icases H with ⟨%hp, H⟩
  ihave H := (pointsTo_biUnion_join Finset.univ (part c M g) fs (fs 0) fun p _ p' _ h => part_disjoint c M g p p' h) $$ H
  icases H with ⟨%f, %hf, H⟩
  iexists f
  isplitr
  · ipureintro; exact fun p => hP p _ _ (hf p (Finset.mem_univ p)) (hp p (Finset.mem_univ p))
  rw [part_union c M g hM]
  iexact H
end
end
end Cert.Proof.Kernel
-- ==== Proof.LoadEq.lean ====
/- The loading loops' trips are the short programs: by unfolding. -/
module

public import proofs.«01_k».proof.Proof.LoadProg

@[expose] public section

noncomputable section

namespace Cert.Proof.Kernel

open Cert.Kernel Cert.Kernel.Gen
open Idealize.ShloMosaic Idealize.SL.Sem

variable {F : FTy → Type} [FloatOps F]

/-- A program of the kernel's core. -/
local notation "PF" => Prog (TpuEff nD τ sig (Elt F) Λ₀ Proc.tc) PUnit
local notation "PA" => Prog (TpuEff nD τ sig (Elt F) Λ₀ Proc.tc)

/-- The first loop's transfers: the trip's block waited for, the block five ahead started; then `K`. -/
def head1 {α : Type} (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k0_t1 : Fin k0_t1_loop.trips) (K : PA α) : PA α :=
  let v233 : DmaSems sig S1 := arg17.slice (Rect.unit (s := S6) (k0_off4 k0_t1) S1.size (k0_off4_inb k0_t1))
  let v234 : DmaSems sig S_ := v233.squeeze S_ squeezes_S1_S_
  let v235 : Memref sig .tc .vmem S1x3072x256 .i8 := arg8.slice (Rect.unit (s := S6x3072x256) (k0_off5 k0_t1) S1x3072x256.size (k0_off5_inb k0_t1)) (fun _ => rfl)
  let v236 : Memref sig .tc .vmem S3072x256 .i8 := v235.squeeze S3072x256 squeezes_S1x3072x256_S3072x256
  let v237 : Memref sig .tc .hbm S3072x256 .i8 := arg2.slice (Rect.unit (s := S3072x32000) (k0_off6 k0_t1) S3072x256.size (k0_off6_inb k0_t1)) (fun _ => rfl)
  .op (.waitDma2 v234.sem v237 v236 (harg2.wordExact_slice rfl _ (k0_off6_wordsi8 k0_t1)) ((harg8.wordExact_slice rfl _ (k0_off5_wordsi8 k0_t1)).reshape _ _)) fun _ =>
  if k0_h1 : k0_cond1 k0_t1 = 1#1 then (
      let v7411 : DmaSems sig S1 := arg17.slice (Rect.unit (s := S6) (k0_off7 k0_t1) S1.size (k0_off7_inb k0_t1 k0_h1))
      let v7412 : DmaSems sig S_ := v7411.squeeze S_ squeezes_S1_S_
      let v7413 : Memref sig .tc .vmem S1x3072x256 .i8 := arg8.slice (Rect.unit (s := S6x3072x256) (k0_off8 k0_t1) S1x3072x256.size (k0_off8_inb k0_t1 k0_h1)) (fun _ => rfl)
      let v7414 : Memref sig .tc .vmem S3072x256 .i8 := v7413.squeeze S3072x256 squeezes_S1x3072x256_S3072x256
      let v7415 : Memref sig .tc .hbm S3072x256 .i8 := arg2.slice (Rect.unit (s := S3072x32000) (k0_off9 k0_t1) S3072x256.size (k0_off9_inb k0_t1 k0_h1)) (fun _ => rfl)
      .op (.enqueueDma v7415 (.here v7414) (.dma v7412.sem) (harg2.wordExact_slice rfl _ (k0_off9_wordsi8 k0_t1 k0_h1)) ((harg8.wordExact_slice rfl _ (k0_off8_wordsi8 k0_t1 k0_h1)).reshape _ _) ⟨Or.inl rfl, trivial⟩) fun _ => K)
    else K

/-- The second loop's. -/
def head6 {α : Type} (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k0_t6 : Fin k0_t6_loop.trips) (K : PA α) : PA α :=
  let v233 : DmaSems sig S1 := arg17.slice (Rect.unit (s := S6) (k0_off327 k0_t6) S1.size (k0_off327_inb k0_t6))
  let v234 : DmaSems sig S_ := v233.squeeze S_ squeezes_S1_S_
  let v235 : Memref sig .tc .vmem S1x1536x256 .i8 := arg8.slice (Rect.unit (s := S6x3072x256) (k0_off328 k0_t6) S1x1536x256.size (k0_off328_inb k0_t6)) (fun _ => rfl)
  let v236 : Memref sig .tc .vmem S1536x256 .i8 := v235.squeeze S1536x256 squeezes_S1x1536x256_S1536x256
  let v237 : Memref sig .tc .hbm S1536x256 .i8 := arg2.slice (Rect.unit (s := S3072x32000) (k0_off329 k0_t6) S1536x256.size (k0_off329_inb k0_t6)) (fun _ => rfl)
  .op (.waitDma2 v234.sem v237 v236 (harg2.wordExact_slice rfl _ (k0_off329_wordsi8 k0_t6)) ((harg8.wordExact_slice rfl _ (k0_off328_wordsi8 k0_t6)).reshape _ _)) fun _ =>
  if k0_h3 : k0_cond3 k0_t6 = 1#1 then (
      let v3147 : DmaSems sig S1 := arg17.slice (Rect.unit (s := S6) (k0_off330 k0_t6) S1.size (k0_off330_inb k0_t6 k0_h3))
      let v3148 : DmaSems sig S_ := v3147.squeeze S_ squeezes_S1_S_
      let v3149 : Memref sig .tc .vmem S1x1536x256 .i8 := arg8.slice (Rect.unit (s := S6x3072x256) (k0_off331 k0_t6) S1x1536x256.size (k0_off331_inb k0_t6 k0_h3)) (fun _ => rfl)
      let v3150 : Memref sig .tc .vmem S1536x256 .i8 := v3149.squeeze S1536x256 squeezes_S1x1536x256_S1536x256
      let v3151 : Memref sig .tc .hbm S1536x256 .i8 := arg2.slice (Rect.unit (s := S3072x32000) (k0_off332 k0_t6) S1536x256.size (k0_off332_inb k0_t6 k0_h3)) (fun _ => rfl)
      .op (.enqueueDma v3151 (.here v3150) (.dma v3148.sem) (harg2.wordExact_slice rfl _ (k0_off332_wordsi8 k0_t6 k0_h3)) ((harg8.wordExact_slice rfl _ (k0_off331_wordsi8 k0_t6 k0_h3)).reshape _ _) ⟨Or.inl rfl, trivial⟩) fun _ => K)
    else K

/-- The slot a trip reads. -/
abbrev slotOf (iv : BitVec 32) : Nat := (Scalar.indexCast (Scalar.remsi iv 6#32)).toNat

theorem slot1 (k : Fin k0_t1_loop.trips) : slotOf (Scf.iv 0#32 1#32 k) < 6 := by
  have := k0_off10_inb k 0
  simp [k0_off10] at this; exact Nat.lt_of_le_of_lt this (by decide)
theorem slot6 (k : Fin k0_t6_loop.trips) : slotOf (Scf.iv 0#32 1#32 k) < 6 := by
  revert k; decide +kernel
theorem tabOk1 (k : Fin k0_t1_loop.trips) : TabOk (Scf.iv 0#32 1#32 k) := by
  intro c hc j hj r hr
  have := k0_off26_inb k ⟨c, hc⟩ ⟨j, hj⟩ ⟨r, hr⟩ 0
  simp [k0_off26] at this; exact this
theorem tabOk6 (k : Fin k0_t6_loop.trips) : TabOk (Scf.iv 0#32 1#32 k) := by
  unfold TabOk; revert k; decide +kernel
theorem statOk1 (k : Fin k0_t1_loop.trips) : StatOk (Scf.iv 0#32 1#32 k) := by
  unfold StatOk; revert k; decide +kernel

/-- The first loop's trip. -/
def trip1 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k : Fin k0_t1_loop.trips) : PF :=
  head1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k <|
  trTile arg7 arg8 arg13 _ (slot1 k) _ (tabOk1 k) 0 (by omega) 0 (by omega) <|
  statTile arg8 arg3 arg9 _ (slot1 k) _ (statOk1 k) 0 (by omega) <|
  trTile arg7 arg8 arg13 _ (slot1 k) _ (tabOk1 k) 1 (by omega) 0 (by omega) <|
  statTile arg8 arg3 arg9 _ (slot1 k) _ (statOk1 k) 1 (by omega) (.ret ⟨⟩)

/-- The second loop's trip. -/
def trip6 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k : Fin k0_t6_loop.trips) : PF :=
  head6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k <|
  trTile arg7 arg8 arg13 _ (slot6 k) _ (tabOk6 k) 0 (by omega) 1536 (by omega) <|
  trTile arg7 arg8 arg13 _ (slot6 k) _ (tabOk6 k) 1 (by omega) 1536 (by omega) (.ret ⟨⟩)

theorem head1_bind {α β : Type} (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k : Fin k0_t1_loop.trips) (K : PA α) (G : α → PA β) :
    Prog.bind (head1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k K) G = head1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k (Prog.bind K G) := by
  unfold head1
  by_cases h : k0_cond1 k = 1#1
  · simp only [dif_pos h]; rfl
  · simp only [dif_neg h]; rfl
theorem head6_bind {α β : Type} (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k : Fin k0_t6_loop.trips) (K : PA α) (G : α → PA β) :
    Prog.bind (head6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k K) G = head6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k (Prog.bind K G) := by
  unfold head6
  by_cases h : k0_cond3 k = 1#1
  · simp only [dif_pos h]; rfl
  · simp only [dif_neg h]; rfl

set_option maxRecDepth 65536 in
set_option maxHeartbeats 40000000 in
theorem p186 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k : Fin k0_t6_loop.trips) :
   k0_part186 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0#32 1#32 k = (head6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k <|
  Prog.bind (Prog.lift (.load arg8 (Rect.unit (s := S6x3072x256) (k0_off333 k) S1x32x128.size (k0_off333_inb k)).toLoadRect (View.loadsAt_vmem h_S1x32x128))) fun a =>
  Prog.bind (Prog.lift (.load arg8 (Rect.unit (s := S6x3072x256) (k0_off334 k) S1x32x128.size (k0_off334_inb k)).toLoadRect (View.loadsAt_vmem h_S1x32x128))) fun b =>
  Prog.bind (Prog.lift (.load arg8 (Rect.unit (s := S6x3072x256) (k0_off335 k) S1x32x128.size (k0_off335_inb k)).toLoadRect (View.loadsAt_vmem h_S1x32x128))) fun e =>
  Prog.bind (Prog.lift (.load arg8 (Rect.unit (s := S6x3072x256) (k0_off336 k) S1x32x128.size (k0_off336_inb k)).toLoadRect (View.loadsAt_vmem h_S1x32x128))) fun g =>
   .ret ⟨Scalar.remsi (Scf.iv 0#32 1#32 k) 6#32, Scalar.muli (Scf.iv 0#32 1#32 k) 256#32, wordsOf a, wordsOf b, wordsOf e, wordsOf g, lo16 (wordsOf a) (wordsOf e)⟩) := rfl

theorem head6_congr {α : Type} (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k : Fin k0_t6_loop.trips) (K K' : PA α) (h : K = K') :
    head6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k K = head6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k K' := by rw [h]
theorem head1_congr {α : Type} (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k : Fin k0_t1_loop.trips) (K K' : PA α) (h : K = K') :
    head1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k K = head1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k K' := by rw [h]

set_option maxRecDepth 65536 in
set_option maxHeartbeats 40000000 in
theorem body6 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (v6 : IVec S8x128 32) (k : Fin k0_t6_loop.trips) :
   k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k () = trip6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k := by
  rw [show k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k () = Prog.bind (k0_part265 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0#32 1#32 k) _ from rfl,
    show k0_part265 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0#32 1#32 k = Prog.bind (k0_part186 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0#32 1#32 k) _ from rfl,
    p186, head6_bind, head6_bind]
  refine head6_congr arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k _ _ ?_
  rfl

set_option maxRecDepth 65536 in
set_option maxHeartbeats 40000000 in
theorem p1 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k : Fin k0_t1_loop.trips) :
   k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0#32 1#32 k = (head1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k <|
  Prog.bind (Prog.lift (.load arg8 (Rect.unit (s := S6x3072x256) (k0_off10 k) S1x32x128.size (k0_off10_inb k)).toLoadRect (View.loadsAt_vmem h_S1x32x128))) fun a =>
  Prog.bind (Prog.lift (.load arg8 (Rect.unit (s := S6x3072x256) (k0_off11 k) S1x32x128.size (k0_off11_inb k)).toLoadRect (View.loadsAt_vmem h_S1x32x128))) fun b =>
  Prog.bind (Prog.lift (.load arg8 (Rect.unit (s := S6x3072x256) (k0_off12 k) S1x32x128.size (k0_off12_inb k)).toLoadRect (View.loadsAt_vmem h_S1x32x128))) fun e =>
  Prog.bind (Prog.lift (.load arg8 (Rect.unit (s := S6x3072x256) (k0_off13 k) S1x32x128.size (k0_off13_inb k)).toLoadRect (View.loadsAt_vmem h_S1x32x128))) fun g =>
   .ret ⟨Scf.iv 0#32 1#32 k, Scalar.remsi (Scf.iv 0#32 1#32 k) 6#32, Scalar.muli (Scf.iv 0#32 1#32 k) 256#32, wordsOf a, wordsOf b, wordsOf e, wordsOf g, lo16 (wordsOf a) (wordsOf e)⟩) := rfl

set_option maxRecDepth 65536 in
set_option maxHeartbeats 40000000 in
theorem body1 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (v6 : IVec S8x128 32) (k : Fin k0_t1_loop.trips) :
   k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k () = trip1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k := by
  rw [show k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k () = Prog.bind (k0_part158 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0#32 1#32 k) _ from rfl,
    show k0_part158 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0#32 1#32 k = Prog.bind (k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0#32 1#32 k) _ from rfl,
    p1, head1_bind, head1_bind]
  refine head1_congr arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k _ _ ?_
  rfl

end Cert.Proof.Kernel
-- ==== Proof.ReadRing.lean ====
/-
  The ring of six buffers the codes are read through: before trip `i` the next five column blocks are in flight.
-/
module

public import proofs.«01_k».proof.Proof.Xfer
public import proofs.«01_k».proof.Proof.LoadEq

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

/-! ### Families over the slots of a ring -/

theorem ring_one {n : ℕ} (Φ Φ' : Fin n → sProp 𝕄) (a : Fin n) (h : ∀ p, p ≠ a → Φ p = Φ' p) :
    bigSep Finset.univ Φ ⊢ iprop(Φ a ∗ (Φ' a -∗ bigSep Finset.univ Φ')) := by
  have e : ∀ Ψ : Fin n → sProp 𝕄, bigSep Finset.univ Ψ = iprop(Ψ a ∗ bigSep (Finset.univ.erase a) Ψ) := fun Ψ => by
    have h := BI.bigSep_insert (Finset.notMem_erase a Finset.univ) (Φ := Ψ)
    rw [Finset.insert_erase (Finset.mem_univ a)] at h; exact h
  rw [e Φ, e Φ', show bigSep (Finset.univ.erase a) Φ = bigSep (Finset.univ.erase a) Φ' from
    BI.bigSep_congr fun p hp => h p (Finset.ne_of_mem_erase hp)]
  iintro ⟨Ha, Hr⟩
  isplitl [Ha]; · iexact Ha
  iintro Ha
  isplitl [Ha] <;> iassumption

theorem ring_two {n : ℕ} (Φ Φ' : Fin n → sProp 𝕄) (a b : Fin n) (hab : b ≠ a) (h : ∀ p, p ≠ a → p ≠ b → Φ p = Φ' p) :
    bigSep Finset.univ Φ ⊢ iprop(Φ a ∗ Φ b ∗ (Φ' a -∗ Φ' b -∗ bigSep Finset.univ Φ')) := by
  have e : ∀ Ψ : Fin n → sProp 𝕄, bigSep Finset.univ Ψ = iprop(Ψ a ∗ Ψ b ∗ bigSep ((Finset.univ.erase a).erase b) Ψ) := fun Ψ => by
    have h := BI.bigSep_insert (Finset.notMem_erase a Finset.univ) (Φ := Ψ)
    have h' := BI.bigSep_insert (Finset.notMem_erase b (Finset.univ.erase a)) (Φ := Ψ)
    rw [Finset.insert_erase (Finset.mem_univ a)] at h
    rw [Finset.insert_erase (Finset.mem_erase.mpr ⟨hab, Finset.mem_univ b⟩)] at h'
    rw [h, h']; rfl
  rw [e Φ, e Φ', show bigSep ((Finset.univ.erase a).erase b) Φ = bigSep ((Finset.univ.erase a).erase b) Φ' from
    BI.bigSep_congr fun p hp => h p (Finset.ne_of_mem_erase (Finset.mem_of_mem_erase hp)) (Finset.ne_of_mem_erase hp)]
  iintro ⟨Ha, Hb, Hr⟩
  isplitl [Ha]; · iexact Ha
  isplitl [Hb]; · iexact Hb
  iintro Ha Hb
  isplitl [Ha]; · iexact Ha
  isplitl [Hb] <;> iassumption

theorem wp_retK (c : Dev nD) {Q : PUnit.{1} → sProp 𝕄} : Q ⟨⟩ ⊢ wpK (F := F) c (.ret ⟨⟩) Q := by
  show _ ⊢ wp _ _ _ _ _
  rw [wp_ret]
  iintro H
  imodintro
  iexact H

/-- A counted loop by an invariant over the trips. -/
theorem wp_loopK (c : Dev nD) {Q : PUnit.{1} → sProp 𝕄} {lp : Scf.Loop 32} {ok : lp.OK} {body : Fin lp.trips → Unit → PF} {kk : PUnit.{1} → PF} (I : ℕ → sProp 𝕄)
    (hstep : ∀ k : Fin lp.trips, I k ⊢ wpK c (body k ()) (fun _ => I (k.val + 1))) :
    I 0 ⊢ iprop((I lp.trips -∗ wpK c (kk ⟨⟩) Q) -∗ wpK c (Scf.Loop.for lp ok ⟨⟩ body >>= kk) Q) := by
  iintro HI Hk
  iapply (Scf.wp_for_bind frame (wpE (defs₀ (F := F)) Variants.none (c : Thread nD τ) none) Set.univ lp.lb lp.ub lp.st ok ⟨⟩ body (fun k _ => I k) (fun k _ => hstep k)) $$ HI
  iintro %acc HI
  iapply Hk $$ HI

theorem off1_inb6 {p : ℕ} (hp : p < 6) : ∀ i, (![p] : Fin 1 → ℕ) i + S1.size i ≤ S6.size i := by intro i; fin_cases i; simp; omega
/-- Slot `p`'s cell of the six. -/
def cell6 (a : DmaSems sig S6) (p : Fin 6) : DmaSem sig := ((a.slice (Rect.unit (s := S6) ![p.val] S1.size (off1_inb6 p.isLt))).squeeze S_ squeezes_S1_S_).sem
theorem cell6_eq (a : DmaSems sig S6) {off : Fin 1 → ℕ} (h : ∀ i, off i + S1.size i ≤ S6.size i) (p : Fin 6) (e : off = ![p.val]) :
    ((a.slice (Rect.unit (s := S6) off S1.size h)).squeeze S_ squeezes_S1_S_).sem = cell6 a p := by subst e; rfl

section
variable (c : Dev nD) (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4)

/-- The slot of a raw element, -/
def g8 (x : S6x3072x256.Idx) : Fin 6 := x 0
/-- and the slot a column of the codes goes to. -/
def g2 (x : S3072x32000.Idx) : Fin 6 := ⟨(x 1).val / 256 % 6, Nat.mod_lt _ (by omega)⟩

/-- The column block that slot `p` holds next, before trip `i`. -/
def blk (i p : ℕ) : ℕ := i + (p + 6 - i % 6) % 6

variable (f2 : BufAt (F := F) c arg2) (P8 : ℕ → BufAt (F := F) c arg8 → Prop)

/-- Slot `p` of the raw buffer. -/
abbrev Raw (P : BufAt (F := F) c arg8 → Prop) (p : Fin 6) : sProp 𝕄 := iprop(∃ f, ⌜P f⌝ ∗ onS c arg8 (part c arg8 g8 p) fullShare f)
/-- Slot `p`'s columns of the codes. -/
abbrev Src (p : Fin 6) : sProp 𝕄 := onS c arg2 (part c arg2 g2 p) fullShare f2

/-- Slot `p` at rest, -/
abbrev SlotI (p : Fin 6) : sProp 𝕄 := iprop(Rest c (cell6 arg17 p) ∗ Raw c arg8 (fun _ => True) p ∗ Src c arg2 f2 p)
/-- and in flight with block `j`; `N` is what the block is counted as. -/
abbrev SlotF (N j : ℕ) (p : Fin 6) : sProp 𝕄 := InFl c (cell6 arg17 p) N iprop(Raw c arg8 (P8 j) p ∗ Src c arg2 f2 p)
/-- Slot `p` before trip `i`, with `m` blocks started. -/
def Ring (N i m : ℕ) (p : Fin 6) : sProp 𝕄 := if blk i p < m then SlotF c arg2 arg8 arg17 f2 P8 N (blk i p) p else SlotI c arg2 arg8 arg17 f2 p

theorem ring_rest {N i m m' : ℕ} (hm : m = min (i + 5) 125) (hm' : m' = min (i + 6) 125) (p : Fin 6) (h0 : p.val ≠ i % 6) (h5 : p.val ≠ (i + 5) % 6) :
    Ring c arg2 arg8 arg17 f2 P8 N i m p = Ring c arg2 arg8 arg17 f2 P8 N (i + 1) m' p := by
  have hp := p.isLt
  have e : blk i p = blk (i + 1) p := by unfold blk; omega
  have e' : (blk i p < m) = (blk (i + 1) p < m') := by
    rw [← e, hm, hm']; apply propext
    have : blk i p < i + 5 := by unfold blk; omega
    omega
  unfold Ring
  simp only [← e, e']

theorem cond1_iff (k : Fin k0_t1_loop.trips) : k0_cond1 k = 1#1 ↔ k.val + 5 < 125 := by revert k; decide +kernel

/-- What a block is counted as. -/
abbrev N1 : ℕ := ((arg8.slice (Rect.unit (s := S6x3072x256) (k0_off2 0#32) S1x3072x256.size (k0_off2_inb 0)) (fun _ => rfl)).squeeze S3072x256 squeezes_S1x3072x256_S3072x256).view.dmaCredit

theorem off8_in {off : Fin 3 → ℕ} {s : Shape} {h : ∀ a, off a + S1x3072x256.size a ≤ S6x3072x256.size a} {hu} {hq : (Rect.unit (s := S6x3072x256) off S1x3072x256.size h).shape.Squeezes s} (p : Fin 6) (e : off = ![p.val, 0, 0]) :
    ((arg8.slice (Rect.unit (s := S6x3072x256) off S1x3072x256.size h) hu).squeeze s hq).view.set ⊆ part c arg8 g8 p := by
  subst e
  show ((arg8.view.slice _).reshape _ _).set ⊆ _
  rw [View.set_reshape]
  refine slice_part c arg8 g8 fun x hx => ?_
  have := (Rect.mem_set_unit.mp hx) 0
  simp at this
  exact Fin.ext (by show (x 0).val = p.val; omega)

theorem off2_in {off : Fin 2 → ℕ} {j : ℕ} {h : ∀ a, off a + S3072x256.size a ≤ S3072x32000.size a} {hu} (p : Fin 6) (e : off = ![0, 256 * j]) (hj : j % 6 = p.val) :
    (arg2.slice (Rect.unit (s := S3072x32000) off S3072x256.size h) hu).view.set ⊆ part c arg2 g2 p := by
  subst e
  refine slice_part c arg2 g2 fun x hx => ?_
  have := (Rect.mem_set_unit.mp hx) 1
  simp at this
  exact Fin.ext (by show (x 1).val / 256 % 6 = p.val; rw [show (x 1).val / 256 = j by omega]; exact hj)

/-- The slot a trip reads, and the slot it starts the next block in. -/
abbrev sl (i : ℕ) : Fin 6 := ⟨i % 6, Nat.mod_lt _ (by omega)⟩

theorem pos_raw1 : 0 < S3072x256.numel := by decide +kernel

theorem wp_head1 {Q : PUnit.{1} → sProp 𝕄} (k : Fin k0_t1_loop.trips) (K : PF)
    (hP : ∀ h fd, P8 (k.val + 5) (((arg8.slice (Rect.unit (s := S6x3072x256) (k0_off8 k) S1x3072x256.size (k0_off8_inb k h)) (fun _ => rfl)).squeeze S3072x256 squeezes_S1x3072x256_S3072x256).view.write (Elt F) fd
      ((arg2.slice (Rect.unit (s := S3072x32000) (k0_off9 k) S3072x256.size (k0_off9_inb k h)) (fun _ => rfl)).view.read (Elt F) f2) Finset.univ)) :
    iprop(bigSep Finset.univ (Ring c arg2 arg8 arg17 f2 P8 (N1 arg8) k.val (min (k.val + 5) 125)) ∗ Owes c)
      ⊢ iprop((Raw c arg8 (P8 k.val) (sl k.val) -∗ (Raw c arg8 (fun _ => True) (sl k.val) -∗ bigSep Finset.univ (Ring c arg2 arg8 arg17 f2 P8 (N1 arg8) (k.val + 1) (min (k.val + 6) 125))) -∗ Owes c -∗ wpK c K Q)
        -∗ wpK c (head1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k K) Q) := by
  have hk : k.val < 125 := k.isLt
  have b0 : blk k.val (k.val % 6) = k.val := by unfold blk; omega
  have b5 : blk k.val ((k.val + 5) % 6) = k.val + 5 := by unfold blk; omega
  have b0' : blk (k.val + 1) (k.val % 6) = k.val + 6 := by unfold blk; omega
  have b5' : blk (k.val + 1) ((k.val + 5) % 6) = k.val + 5 := by unfold blk; omega
  have e0 : Ring c arg2 arg8 arg17 f2 P8 (N1 arg8) k.val (min (k.val + 5) 125) (sl k.val) = SlotF c arg2 arg8 arg17 f2 P8 (N1 arg8) k.val (sl k.val) := by
    unfold Ring; simp only [b0]; rw [if_pos (by omega)]
  have e5 : Ring c arg2 arg8 arg17 f2 P8 (N1 arg8) k.val (min (k.val + 5) 125) (sl (k.val + 5)) = SlotI c arg2 arg8 arg17 f2 (sl (k.val + 5)) := by
    unfold Ring; simp only [b5]; rw [if_neg (by omega)]
  have e0' : Ring c arg2 arg8 arg17 f2 P8 (N1 arg8) (k.val + 1) (min (k.val + 6) 125) (sl k.val) = SlotI c arg2 arg8 arg17 f2 (sl k.val) := by
    unfold Ring; simp only [b0']; rw [if_neg (by omega)]
  have R := ring_two (Ring c arg2 arg8 arg17 f2 P8 (N1 arg8) k.val (min (k.val + 5) 125)) (Ring c arg2 arg8 arg17 f2 P8 (N1 arg8) (k.val + 1) (min (k.val + 6) 125)) (sl k.val) (sl (k.val + 5))
    (by simp only [ne_eq, Fin.mk.injEq]; omega)
    (fun p h0 h5 => ring_rest c arg2 arg8 arg17 f2 P8 rfl rfl p (fun e => h0 (Fin.ext e)) (fun e => h5 (Fin.ext e)))
  rw [e0, e5, e0'] at R
  iintro ⟨HR, HO⟩ Hk
  ihave HR := R $$ HR
  icases HR with ⟨H0, H5, Hback⟩
  unfold head1
  iapply (wp_waitK c (cell6_eq arg17 (k0_off4_inb k) (sl k.val) (k0_off4_eq k)) rfl) $$ [H0 HO]
  · isplitl [H0] <;> iassumption
  iintro ⟨⟨H8, Hsrc⟩, Hrest, HO⟩
  by_cases h : k0_cond1 k = 1#1
  · have e5' : Ring c arg2 arg8 arg17 f2 P8 (N1 arg8) (k.val + 1) (min (k.val + 6) 125) (sl (k.val + 5)) = SlotF c arg2 arg8 arg17 f2 P8 (N1 arg8) (k.val + 5) (sl (k.val + 5)) := by
      unfold Ring; simp only [b5']; rw [if_pos (by have := (cond1_iff k).mp h; omega)]
    rw [dif_pos h, e5']
    icases H5 with ⟨H5r, ⟨%f5, -, H5⟩, H5s⟩
    have hs := off2_in c arg2 (hu := fun _ => rfl) (h := k0_off9_inb k h) (j := k.val + 5) (sl (k.val + 5)) ((k0_off9_eq k).trans (by rw [show 256 * (k.val + 5) = 256 * k.val + 1280 by omega])) rfl
    have hd := off8_in c arg8 (hu := fun _ => rfl) (h := k0_off8_inb k h) (hq := squeezes_S1x3072x256_S3072x256) (sl (k.val + 5)) (k0_off8_eq k)
    iapply (wp_startK c (R := iprop(Raw c arg8 (P8 (k.val + 5)) (sl (k.val + 5)) ∗ Src c arg2 f2 (sl (k.val + 5)))) (cell6_eq arg17 (k0_off7_inb k h) (sl (k.val + 5)) (k0_off7_eq k)) pos_raw1 hs hd ?_) $$ [H5 H5s H5r]
    · iintro ⟨Hs, Hd⟩
      isplitl [Hd]
      · iexists _
        isplitr
        · ipureintro; exact hP h f5
        iexact Hd
      iexact Hs
    · isplitl [H5s]; · iexact H5s
      isplitl [H5] <;> iassumption
    iintro H5
    iapply Hk $$ H8 [H5 Hback Hrest Hsrc] HO
    iintro H8
    iapply Hback $$ [H8 Hrest Hsrc] H5
    isplitl [Hrest]; · iexact Hrest
    isplitl [H8] <;> iassumption
  · have e5' : Ring c arg2 arg8 arg17 f2 P8 (N1 arg8) (k.val + 1) (min (k.val + 6) 125) (sl (k.val + 5)) = SlotI c arg2 arg8 arg17 f2 (sl (k.val + 5)) := by
      unfold Ring; simp only [b5']; rw [if_neg (fun e => h ((cond1_iff k).mpr (by omega)))]
    rw [dif_neg h, e5']
    iapply Hk $$ H8 [H5 Hback Hrest Hsrc] HO
    iintro H8
    iapply Hback $$ [H8 Hrest Hsrc] H5
    isplitl [Hrest]; · iexact Hrest
    isplitl [H8] <;> iassumption

end

end Cert.Proof.Kernel
-- ==== Proof.Batch.lean ====
/-
  The reciprocals copied to the scalar memory, 250 rows on one cell: all started, then all waited for.
-/
module

public import proofs.«01_k».proof.Proof.ReadRing

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

section
variable (c : Dev nD) (arg9 : Memref sig .tc .vmem S250x128 .f32) (harg9 : arg9.IsWhole) (arg10 : Memref sig .tc .smem S32000 .f32) (harg10 : arg10.IsWhole) (arg18 : DmaSems sig S_)
variable (f9 : BufAt (F := F) c arg9) (P10 : Fin 250 → BufAt (F := F) c arg10 → Prop)

/-- The row a reciprocal lies in. -/
def g9 (x : S250x128.Idx) : Fin 250 := x 0
def g10 (x : S32000.Idx) : Fin 250 := ⟨(x 0).val / 128, by have := (x 0).isLt; simp at this; omega⟩

theorem off128_inb {k : ℕ} (h : k < 250) : ∀ a, (![128 * k] : Fin 1 → ℕ) a + S128.size a ≤ S32000.size a := by intro i; fin_cases i; simp; omega
theorem offrow_inb {k : ℕ} (h : k < 250) : ∀ a, (![k, 0] : Fin 2 → ℕ) a + S1x128.size a ≤ S250x128.size a := by intro i; fin_cases i <;> simp; omega
/-- Row `k`, and where it goes. -/
abbrev row9 (k : Fin 250) : Memref sig .tc .vmem S128 .f32 := (arg9.slice (Rect.unit (s := S250x128) ![k.val, 0] S1x128.size (offrow_inb k.isLt)) (fun _ => rfl)).squeeze S128 squeezes_S1x128_S128
abbrev row10 (k : Fin 250) : Memref sig .tc .smem S128 .f32 := arg10.slice (Rect.unit (s := S32000) ![128 * k.val] S128.size (off128_inb k.isLt)) (fun _ => rfl)
/-- The reciprocals with row `k` copied. -/
abbrev put10 (k : Fin 250) (f10 : BufAt (F := F) c arg10) : BufAt (F := F) c arg10 := (row10 arg10 k).view.write (Elt F) f10 ((row9 arg9 k).view.read (Elt F) f9) Finset.univ

/-- What row `k`'s copy hands back. -/
def D10 (f10 : BufAt (F := F) c arg10) (k : Fin 250) : sProp 𝕄 :=
  iprop(onS c arg10 (part c arg10 g10 k) fullShare (put10 c arg9 arg10 f9 k f10) ∗ onS c arg9 (part c arg9 g9 k) fullShare f9)
instance (f10 : BufAt (F := F) c arg10) (k : Fin 250) : Storable (upEmb : UEmb _ 𝕄) (D10 c arg9 arg10 f9 f10 k) := by unfold D10; infer_instance

abbrev N10 : ℕ := (row10 arg10 0).view.dmaCredit
theorem row10_in (k : Fin 250) : (row10 arg10 k).view.set ⊆ part c arg10 g10 k := by
  refine slice_part c arg10 g10 fun x hx => ?_
  have := (Rect.mem_set_unit.mp hx) 0
  simp at this
  exact Fin.ext (by show (x 0).val / 128 = k.val; omega)
theorem row9_set (k : Fin 250) : (row9 arg9 k).view.set = part c arg9 g9 k := by
  show ((arg9.view.slice _).reshape _ _).set = _
  rw [View.set_reshape, View.set_slice]
  unfold part
  congr 1
  ext x
  rw [Rect.mem_set_unit, Finset.mem_filter]
  constructor
  · intro h
    have := h 0
    simp at this
    exact ⟨Finset.mem_univ _, Fin.ext (by show (x 0).val = k.val; omega)⟩
  · rintro ⟨-, h⟩ i
    have h0 : (x 0).val = k.val := congrArg Fin.val h
    have h1 := (x 1).isLt
    fin_cases i
    · simp; omega
    · simp at h1 ⊢; omega

/-- The parts not yet taken. -/
abbrev Left (f10 : BufAt (F := F) c arg10) (k : Fin 250) : sProp 𝕄 := iprop(onS c arg10 (part c arg10 g10 k) fullShare f10 ∗ onS c arg9 (part c arg9 g9 k) fullShare f9)
abbrev Bat (f10 : BufAt (F := F) c arg10) (j u : ℕ) : sProp 𝕄 := Transfers.Batch ECd (c : Thread nD τ) (.dma arg18.sem) () (N10 arg10) (D10 c arg9 arg10 f9 f10) j u

variable (f10 : BufAt (F := F) c arg10)

/-- A copy started, and a copy waited for. -/
theorem wp_start2 {Q : PUnit.{1} → sProp 𝕄} (k : Fin 250) {o10 : Fin 1 → ℕ} {o9 : Fin 2 → ℕ} {h10 : ∀ a, o10 a + S128.size a ≤ S32000.size a} {h9 : ∀ a, o9 a + S1x128.size a ≤ S250x128.size a}
    {hsrc hdst hsem} {K : PUnit.{1} → PF} (e10 : o10 = ![128 * k.val]) (e9 : o9 = ![k.val, 0]) :
    iprop(Left c arg9 arg10 f9 f10 k ∗ Bat c arg9 arg10 arg18 f9 f10 k.val 0)
      ⊢ iprop((Bat c arg9 arg10 arg18 f9 f10 (k.val + 1) 0 -∗ wpK c (K ⟨⟩) Q)
        -∗ wpK c (.op (.enqueueDma ((arg9.slice (Rect.unit (s := S250x128) o9 S1x128.size h9) (fun _ => rfl)).squeeze S128 squeezes_S1x128_S128)
          (.here (arg10.slice (Rect.unit (s := S32000) o10 S128.size h10) (fun _ => rfl))) (.dma arg18.sem) hsrc hdst hsem) K) Q) := by
  subst e10 e9
  have W := Transfers.wp_dmaBatch (Q := Q) (defs := defs₀ (F := F)) ECd Variants.none (c : Thread nD τ) none (src := row9 arg9 k) (dst := row10 arg10 k) (via := ReadAs.same) (sm := .dma arg18.sem) (hsrc := hsrc) (hdst := hdst) (hsem := hsem) (k := K)
    (q := fullShare) (fs := f9) (Sd := part c arg10 g10 k) (fd := f10) (D := D10 c arg9 arg10 f9 f10) (j := k.val) (u := 0) () (N10 arg10) rfl (row10_in c arg10 k) k.isLt (Nat.zero_le _)
    (by unfold D10; rw [row9_set c arg9 k])
  rw [row9_set c arg9 k] at W
  iintro ⟨⟨H10, H9⟩, HB⟩ Hk
  iapply W $$ [H10 H9 HB]
  · isplitl [H9]; · iexact H9
    isplitl [H10] <;> iassumption
  iexact Hk

/-- Before trip `k` of the waits. -/
def Wt (k : ℕ) : sProp 𝕄 :=
  if k < 250 then iprop(Bat c arg9 arg10 arg18 f9 f10 250 (k * N10 arg10) ∗ Owes c)
  else iprop(bigSep Finset.univ (D10 c arg9 arg10 f9 f10) ∗ Rest c arg18.sem ∗ Owes c)

theorem N10_pos : 0 < N10 arg10 := (row10 arg10 0).view.dmaCredit_pos (by decide +kernel)

theorem wp_wait2 {Q : PUnit.{1} → sProp 𝕄} (k : ℕ) (hk : k < 250) {sp sp' : Space} {s s' : Shape} {e e' : EltTy} {srcw : Memref sig .tc sp' s' e'} {dstw : Memref sig .tc sp s e}
    {hsrc : srcw.view.WordExact} {hdst : dstw.view.WordExact} {K : PUnit.{1} → PF} (hN : dstw.view.dmaCredit = N10 arg10) :
    Wt c arg9 arg10 arg18 f9 f10 k
      ⊢ iprop((Wt c arg9 arg10 arg18 f9 f10 (k + 1) -∗ wpK c (K ⟨⟩) Q) -∗ wpK c (.op (.waitDma2 arg18.sem srcw dstw hsrc hdst) K) Q) := by
  have hp := N10_pos arg10
  unfold Wt
  rw [if_pos hk]
  iintro ⟨HB, ⟨%W, HO⟩⟩ Hk
  by_cases h : k + 1 < 250
  · have V := Transfers.wp_waitBatch (Q := Q) (defs := defs₀ (F := F)) ECd Variants.none (c : Thread nD τ) none (sem := arg18.sem) (srcw := srcw) (dstw := dstw) (hsrc := hsrc) (hdst := hdst) (k := K) () hN (D := D10 c arg9 arg10 f9 f10) (u := k * N10 arg10)
      (by rw [← Nat.succ_mul, Nat.mul_comm]; exact Nat.mul_lt_mul_of_pos_left h hp) (W := W)
    rw [if_pos h]
    iapply V $$ [HB HO]
    · isplitl [HB] <;> iassumption
    iintro ⟨HB, HO⟩
    iapply Hk
    isplitl [HB]
    · rw [Nat.succ_mul]; iexact HB
    iexists _
    iexact HO
  · have V := Transfers.wp_waitBatchLast (Q := Q) (defs := defs₀ (F := F)) ECd Variants.none (c : Thread nD τ) none (sem := arg18.sem) (srcw := srcw) (dstw := dstw) (hsrc := hsrc) (hdst := hdst) (k := K) () hN hp (D := D10 c arg9 arg10 f9 f10) (u := k * N10 arg10)
      (by rw [← Nat.succ_mul, Nat.mul_comm]; rw [show k.succ = 250 by omega]) (W := W)
    rw [if_neg h]
    iapply V $$ [HB HO]
    · isplitl [HB] <;> iassumption
    iintro ⟨HD, Hr, HO⟩
    iapply Hk
    isplitl [HD]; · iexact HD
    isplitl [Hr]; · iexact Hr
    iexists _
    iexact HO
end

end Cert.Proof.Kernel
-- ==== Proof.Trip1.lean ====
/-
  The loop that reads whole columns of codes: its blocks are started, each is waited for, transposed into the table and
  its columns' reciprocal roots written.
-/
module

public import proofs.«01_k».proof.Proof.ReadRing

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

section
variable (c : Dev nD) (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4)
variable (f2 : BufAt (F := F) c arg2) (P8 : ℕ → BufAt (F := F) c arg8 → Prop)

theorem ring_start (N m : ℕ) (hm : m < 5) (p : Fin 6) (h : p ≠ sl m) : Ring c arg2 arg8 arg17 f2 P8 N 0 m p = Ring c arg2 arg8 arg17 f2 P8 N 0 (m + 1) p := by
  have hp := p.isLt
  have h' : p.val ≠ m := fun e => h (Fin.ext (by show p.val = m % 6; omega))
  have e : (blk 0 p < m) = (blk 0 p < m + 1) := by unfold blk; apply propext; omega
  unfold Ring
  simp only [e]

/-- One of the first five blocks started. -/
theorem wp_pro1 {Q : PUnit.{1} → sProp 𝕄} (j : ℕ) (hj : j < 5) {o17 : Fin 1 → ℕ} {o8 : Fin 3 → ℕ} {o2 : Fin 2 → ℕ}
    {h17 : ∀ a, o17 a + S1.size a ≤ S6.size a} {h8 : ∀ a, o8 a + S1x3072x256.size a ≤ S6x3072x256.size a} {h2 : ∀ a, o2 a + S3072x256.size a ≤ S3072x32000.size a}
    {hsrc hdst hsem} {k : PUnit.{1} → PF} (e17 : o17 = ![j]) (e8 : o8 = ![j, 0, 0]) (e2 : o2 = ![0, 256 * j])
    (hP : ∀ fd, P8 j (((arg8.slice (Rect.unit (s := S6x3072x256) o8 S1x3072x256.size h8) (fun _ => rfl)).squeeze S3072x256 squeezes_S1x3072x256_S3072x256).view.write (Elt F) fd
      ((arg2.slice (Rect.unit (s := S3072x32000) o2 S3072x256.size h2) (fun _ => rfl)).view.read (Elt F) f2) Finset.univ)) :
    bigSep Finset.univ (Ring c arg2 arg8 arg17 f2 P8 (N1 arg8) 0 j)
      ⊢ iprop((bigSep Finset.univ (Ring c arg2 arg8 arg17 f2 P8 (N1 arg8) 0 (j + 1)) -∗ wpK c (k ⟨⟩) Q)
        -∗ wpK c (.op (.enqueueDma (arg2.slice (Rect.unit (s := S3072x32000) o2 S3072x256.size h2) (fun _ => rfl))
          (.here ((arg8.slice (Rect.unit (s := S6x3072x256) o8 S1x3072x256.size h8) (fun _ => rfl)).squeeze S3072x256 squeezes_S1x3072x256_S3072x256))
          (.dma ((arg17.slice (Rect.unit (s := S6) o17 S1.size h17)).squeeze S_ squeezes_S1_S_).sem) hsrc hdst hsem) k) Q) := by
  have b0 : blk 0 (j % 6) = j := by unfold blk; omega
  have hj6 : j % 6 = j := by omega
  have e0 : Ring c arg2 arg8 arg17 f2 P8 (N1 arg8) 0 j (sl j) = SlotI c arg2 arg8 arg17 f2 (sl j) := by
    unfold Ring; simp only [b0]; rw [if_neg (by omega)]
  have e0' : Ring c arg2 arg8 arg17 f2 P8 (N1 arg8) 0 (j + 1) (sl j) = SlotF c arg2 arg8 arg17 f2 P8 (N1 arg8) j (sl j) := by
    unfold Ring; simp only [b0]; rw [if_pos (by omega)]
  have R := ring_one (Ring c arg2 arg8 arg17 f2 P8 (N1 arg8) 0 j) (Ring c arg2 arg8 arg17 f2 P8 (N1 arg8) 0 (j + 1)) (sl j) (ring_start c arg2 arg8 arg17 f2 P8 (N1 arg8) j hj)
  rw [e0, e0'] at R
  have hs := off2_in c arg2 (hu := fun _ => rfl) (h := h2) (j := j) (sl j) e2 rfl
  have hd := off8_in c arg8 (hu := fun _ => rfl) (h := h8) (hq := squeezes_S1x3072x256_S3072x256) (sl j) (e8.trans (by rw [show ((sl j : Fin 6) : ℕ) = j from hj6]))
  iintro HR Hk
  ihave HR := R $$ HR
  icases HR with ⟨⟨H5r, ⟨%f5, -, H5⟩, H5s⟩, Hback⟩
  iapply (wp_startK c (R := iprop(Raw c arg8 (P8 j) (sl j) ∗ Src c arg2 f2 (sl j))) (cell6_eq arg17 h17 (sl j) (e17.trans (by rw [show ((sl j : Fin 6) : ℕ) = j from hj6]))) pos_raw1 hs hd ?_) $$ [H5 H5s H5r]
  · iintro ⟨Hs, Hd⟩
    isplitl [Hd]
    · iexists _
      isplitr
      · ipureintro; exact hP f5
      iexact Hd
    iexact Hs
  · isplitl [H5s]; · iexact H5s
    isplitl [H5] <;> iassumption
  iintro H5
  iapply Hk
  iapply Hback $$ H5

theorem slotOf1 (k : Fin k0_t1_loop.trips) : slotOf (Scf.iv 0#32 1#32 k) = k.val % 6 := by revert k; decide +kernel

theorem rawIn {s : ℕ} (hs : s < 6) (p : Fin 6) (e : s = p.val) : RawIn c arg8 (part c arg8 g8 p) s hs := by
  intro x hx d hd
  refine setOn_part c arg8 g8 fun y hy => ?_
  have := (Rect.mem_set_unit.mp hy) 0
  simp at this
  exact Fin.ext (by show (y 0).val = p.val; omega)

variable (f3 : BufAt (F := F) c arg3)

/-- The transposition's scratch, the table and the reciprocals after a trip that read `f8`. -/
def nx13 (k : Fin k0_t1_loop.trips) (f8 : BufAt (F := F) c arg8) (f13 : BufAt (F := F) c arg13) : BufAt (F := F) c arg13 :=
  trTile13 c arg8 arg13 f8 _ (slot1 k) 0 (by omega) 0 (by omega) f13
def nx7 (k : Fin k0_t1_loop.trips) (f8 : BufAt (F := F) c arg8) (f13 : BufAt (F := F) c arg13) (f7 : BufAt (F := F) c arg7) : BufAt (F := F) c arg7 :=
  trTile7 c arg7 arg8 arg13 f8 _ (slot1 k) _ (tabOk1 k) 1 (by omega) 0 (by omega) (nx13 c arg8 arg13 k f8 f13) <|
  trTile7 c arg7 arg8 arg13 f8 _ (slot1 k) _ (tabOk1 k) 0 (by omega) 0 (by omega) f13 f7
def nx9 (k : Fin k0_t1_loop.trips) (f8 : BufAt (F := F) c arg8) (f9 : BufAt (F := F) c arg9) : BufAt (F := F) c arg9 :=
  statV c arg8 f8 arg3 arg9 _ (slot1 k) _ (statOk1 k) 1 (by omega) f3 <| statV c arg8 f8 arg3 arg9 _ (slot1 k) _ (statOk1 k) 0 (by omega) f3 f9

variable (I1 : ℕ → BufAt (F := F) c arg7 → BufAt (F := F) c arg9 → Prop) {q3 : PosShare TreeShare}

/-- Before trip `i`. -/
def inv1 (q3 : PosShare TreeShare) (i : ℕ) : sProp 𝕄 :=
  iprop(bigSep Finset.univ (Ring c arg2 arg8 arg17 f2 P8 (N1 arg8) i (min (i + 5) 125)) ∗ Owes c ∗ onS c arg3 Finset.univ q3 f3
    ∗ ∃ f7 f9 f13, ⌜I1 i f7 f9⌝ ∗ onS c arg7 Finset.univ fullShare f7 ∗ onS c arg9 Finset.univ fullShare f9 ∗ onS c arg13 Finset.univ fullShare f13)

variable (hP : ∀ (k : Fin k0_t1_loop.trips) h fd, P8 (k.val + 5) (((arg8.slice (Rect.unit (s := S6x3072x256) (k0_off8 k) S1x3072x256.size (k0_off8_inb k h)) (fun _ => rfl)).squeeze S3072x256 squeezes_S1x3072x256_S3072x256).view.write (Elt F) fd
      ((arg2.slice (Rect.unit (s := S3072x32000) (k0_off9 k) S3072x256.size (k0_off9_inb k h)) (fun _ => rfl)).view.read (Elt F) f2) Finset.univ))
  (hI : ∀ (k : Fin k0_t1_loop.trips) f8 f7 f9 f13, P8 k.val f8 → I1 k.val f7 f9 → I1 (k.val + 1) (nx7 c arg7 arg8 arg13 k f8 f13 f7) (nx9 c arg3 arg8 arg9 f3 k f8 f9))
include hP hI

theorem wp_trip1 (k : Fin k0_t1_loop.trips) :
    inv1 c arg2 arg3 arg7 arg8 arg9 arg13 arg17 f2 P8 f3 I1 q3 k.val ⊢ wpK c (trip1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k) fun _ => inv1 c arg2 arg3 arg7 arg8 arg9 arg13 arg17 f2 P8 f3 I1 q3 (k.val + 1) := by
  have hS := rawIn c arg8 (slot1 k) (sl k.val) (slotOf1 k)
  have hS3 : ∀ r h, arg3.view.setOn (rowRect r h).toLoadRect.set ⊆ (Finset.univ : Finset (Idx (arg3.view.loc (c : Thread nD τ)))) := fun _ _ => Finset.subset_univ _
  unfold inv1 trip1
  iintro ⟨HR, HO, H3, ⟨%f7, %f9, %f13, %hi, H7, H9, H13⟩⟩
  iapply (wp_head1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 P8 k _ (hP k)) $$ [HR HO]
  · isplitl [HR] <;> iassumption
  iintro ⟨%f8, %h8, H8⟩ Hback HO
  iapply (wp_trTile c arg7 arg8 arg13 f8 _ (slot1 k) hS) $$ [H8 H13 H7]
  · isplitl [H8]; · iexact H8
    isplitl [H13] <;> iassumption
  iintro H8 H13 H7
  iapply (wp_statTile c arg8 f8 arg3 arg9 _ (slot1 k) hS _ _ _ _ f3 _ hS3) $$ [H8 H3 H9]
  · isplitl [H8]; · iexact H8
    isplitl [H3] <;> iassumption
  iintro H8 H3 H9
  iapply (wp_trTile c arg7 arg8 arg13 f8 _ (slot1 k) hS) $$ [H8 H13 H7]
  · isplitl [H8]; · iexact H8
    isplitl [H13] <;> iassumption
  iintro H8 H13 H7
  iapply (wp_statTile c arg8 f8 arg3 arg9 _ (slot1 k) hS _ _ _ _ f3 _ hS3) $$ [H8 H3 H9]
  · isplitl [H8]; · iexact H8
    isplitl [H3] <;> iassumption
  iintro H8 H3 H9
  iapply (wp_retK c)
  isplitl [Hback H8]
  · iapply Hback
    iexists f8
    isplitr; · ipureintro; trivial
    iexact H8
  isplitl [HO]; · iexact HO
  isplitl [H3]; · iexact H3
  iexists _, _, _
  isplitr
  · ipureintro; exact hI k f8 f7 f9 f13 h8 hi
  isplitl [H7]; · iexact H7
  isplitl [H9]; · iexact H9
  iexact H13

end

end Cert.Proof.Kernel
-- ==== Proof.Trip6.lean ====
/-
  The loop that reads the second half of each column of codes: as the first, with no statistics.
-/
module

public import proofs.«01_k».proof.Proof.Trip1

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

section
variable (c : Dev nD) (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4)
variable (f2 : BufAt (F := F) c arg2) (P8 : ℕ → BufAt (F := F) c arg8 → Prop)

theorem cond3_iff (k : Fin k0_t6_loop.trips) : k0_cond3 k = 1#1 ↔ k.val + 5 < 125 := by revert k; decide +kernel

/-- What a block is counted as. -/
abbrev N6 : ℕ := ((arg8.slice (Rect.unit (s := S6x3072x256) (k0_off325 0#32) S1x1536x256.size (k0_off325_inb 0)) (fun _ => rfl)).squeeze S1536x256 squeezes_S1x1536x256_S1536x256).view.dmaCredit

theorem off8b_in {off : Fin 3 → ℕ} {s : Shape} {h : ∀ a, off a + S1x1536x256.size a ≤ S6x3072x256.size a} {hu} {hq : (Rect.unit (s := S6x3072x256) off S1x1536x256.size h).shape.Squeezes s} (p : Fin 6) (e : off = ![p.val, 1536, 0]) :
    ((arg8.slice (Rect.unit (s := S6x3072x256) off S1x1536x256.size h) hu).squeeze s hq).view.set ⊆ part c arg8 g8 p := by
  subst e
  show ((arg8.view.slice _).reshape _ _).set ⊆ _
  rw [View.set_reshape]
  refine slice_part c arg8 g8 fun x hx => ?_
  have := (Rect.mem_set_unit.mp hx) 0
  simp at this
  exact Fin.ext (by show (x 0).val = p.val; omega)

theorem off2b_in {off : Fin 2 → ℕ} {j : ℕ} {h : ∀ a, off a + S1536x256.size a ≤ S3072x32000.size a} {hu} (p : Fin 6) (e : off = ![1536, 256 * j]) (hj : j % 6 = p.val) :
    (arg2.slice (Rect.unit (s := S3072x32000) off S1536x256.size h) hu).view.set ⊆ part c arg2 g2 p := by
  subst e
  refine slice_part c arg2 g2 fun x hx => ?_
  have := (Rect.mem_set_unit.mp hx) 1
  simp at this
  exact Fin.ext (by show (x 1).val / 256 % 6 = p.val; rw [show (x 1).val / 256 = j by omega]; exact hj)

theorem pos_raw6 : 0 < S1536x256.numel := by decide +kernel

theorem wp_head6 {Q : PUnit.{1} → sProp 𝕄} (k : Fin k0_t6_loop.trips) (K : PF)
    (hP : ∀ h fd, P8 (k.val + 5) (((arg8.slice (Rect.unit (s := S6x3072x256) (k0_off331 k) S1x1536x256.size (k0_off331_inb k h)) (fun _ => rfl)).squeeze S1536x256 squeezes_S1x1536x256_S1536x256).view.write (Elt F) fd
      ((arg2.slice (Rect.unit (s := S3072x32000) (k0_off332 k) S1536x256.size (k0_off332_inb k h)) (fun _ => rfl)).view.read (Elt F) f2) Finset.univ)) :
    iprop(bigSep Finset.univ (Ring c arg2 arg8 arg17 f2 P8 (N6 arg8) k.val (min (k.val + 5) 125)) ∗ Owes c)
      ⊢ iprop((Raw c arg8 (P8 k.val) (sl k.val) -∗ (Raw c arg8 (fun _ => True) (sl k.val) -∗ bigSep Finset.univ (Ring c arg2 arg8 arg17 f2 P8 (N6 arg8) (k.val + 1) (min (k.val + 6) 125))) -∗ Owes c -∗ wpK c K Q)
        -∗ wpK c (head6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k K) Q) := by
  have hk : k.val < 125 := k.isLt
  have b0 : blk k.val (k.val % 6) = k.val := by unfold blk; omega
  have b5 : blk k.val ((k.val + 5) % 6) = k.val + 5 := by unfold blk; omega
  have b0' : blk (k.val + 1) (k.val % 6) = k.val + 6 := by unfold blk; omega
  have b5' : blk (k.val + 1) ((k.val + 5) % 6) = k.val + 5 := by unfold blk; omega
  have e0 : Ring c arg2 arg8 arg17 f2 P8 (N6 arg8) k.val (min (k.val + 5) 125) (sl k.val) = SlotF c arg2 arg8 arg17 f2 P8 (N6 arg8) k.val (sl k.val) := by
    unfold Ring; simp only [b0]; rw [if_pos (by omega)]
  have e5 : Ring c arg2 arg8 arg17 f2 P8 (N6 arg8) k.val (min (k.val + 5) 125) (sl (k.val + 5)) = SlotI c arg2 arg8 arg17 f2 (sl (k.val + 5)) := by
    unfold Ring; simp only [b5]; rw [if_neg (by omega)]
  have e0' : Ring c arg2 arg8 arg17 f2 P8 (N6 arg8) (k.val + 1) (min (k.val + 6) 125) (sl k.val) = SlotI c arg2 arg8 arg17 f2 (sl k.val) := by
    unfold Ring; simp only [b0']; rw [if_neg (by omega)]
  have R := ring_two (Ring c arg2 arg8 arg17 f2 P8 (N6 arg8) k.val (min (k.val + 5) 125)) (Ring c arg2 arg8 arg17 f2 P8 (N6 arg8) (k.val + 1) (min (k.val + 6) 125)) (sl k.val) (sl (k.val + 5))
    (by simp only [ne_eq, Fin.mk.injEq]; omega)
    (fun p h0 h5 => ring_rest c arg2 arg8 arg17 f2 P8 rfl rfl p (fun e => h0 (Fin.ext e)) (fun e => h5 (Fin.ext e)))
  rw [e0, e5, e0'] at R
  iintro ⟨HR, HO⟩ Hk
  ihave HR := R $$ HR
  icases HR with ⟨H0, H5, Hback⟩
  unfold head6
  iapply (wp_waitK c (cell6_eq arg17 (k0_off327_inb k) (sl k.val) (k0_off327_eq k)) rfl) $$ [H0 HO]
  · isplitl [H0] <;> iassumption
  iintro ⟨⟨H8, Hsrc⟩, Hrest, HO⟩
  by_cases h : k0_cond3 k = 1#1
  · have e5' : Ring c arg2 arg8 arg17 f2 P8 (N6 arg8) (k.val + 1) (min (k.val + 6) 125) (sl (k.val + 5)) = SlotF c arg2 arg8 arg17 f2 P8 (N6 arg8) (k.val + 5) (sl (k.val + 5)) := by
      unfold Ring; simp only [b5']; rw [if_pos (by have := (cond3_iff k).mp h; omega)]
    rw [dif_pos h, e5']
    icases H5 with ⟨H5r, ⟨%f5, -, H5⟩, H5s⟩
    have hs := off2b_in c arg2 (hu := fun _ => rfl) (h := k0_off332_inb k h) (j := k.val + 5) (sl (k.val + 5)) ((k0_off332_eq k).trans (by rw [show 256 * (k.val + 5) = 256 * k.val + 1280 by omega])) rfl
    have hd := off8b_in c arg8 (hu := fun _ => rfl) (h := k0_off331_inb k h) (hq := squeezes_S1x1536x256_S1536x256) (sl (k.val + 5)) (k0_off331_eq k)
    iapply (wp_startK c (R := iprop(Raw c arg8 (P8 (k.val + 5)) (sl (k.val + 5)) ∗ Src c arg2 f2 (sl (k.val + 5)))) (cell6_eq arg17 (k0_off330_inb k h) (sl (k.val + 5)) (k0_off330_eq k)) pos_raw6 hs hd ?_) $$ [H5 H5s H5r]
    · iintro ⟨Hs, Hd⟩
      isplitl [Hd]
      · iexists _
        isplitr
        · ipureintro; exact hP h f5
        iexact Hd
      iexact Hs
    · isplitl [H5s]; · iexact H5s
      isplitl [H5] <;> iassumption
    iintro H5
    iapply Hk $$ H8 [H5 Hback Hrest Hsrc] HO
    iintro H8
    iapply Hback $$ [H8 Hrest Hsrc] H5
    isplitl [Hrest]; · iexact Hrest
    isplitl [H8] <;> iassumption
  · have e5' : Ring c arg2 arg8 arg17 f2 P8 (N6 arg8) (k.val + 1) (min (k.val + 6) 125) (sl (k.val + 5)) = SlotI c arg2 arg8 arg17 f2 (sl (k.val + 5)) := by
      unfold Ring; simp only [b5']; rw [if_neg (fun e => h ((cond3_iff k).mpr (by omega)))]
    rw [dif_neg h, e5']
    iapply Hk $$ H8 [H5 Hback Hrest Hsrc] HO
    iintro H8
    iapply Hback $$ [H8 Hrest Hsrc] H5
    isplitl [Hrest]; · iexact Hrest
    isplitl [H8] <;> iassumption

/-- One of the first five blocks started. -/
theorem wp_pro6 {Q : PUnit.{1} → sProp 𝕄} (j : ℕ) (hj : j < 5) {o17 : Fin 1 → ℕ} {o8 : Fin 3 → ℕ} {o2 : Fin 2 → ℕ}
    {h17 : ∀ a, o17 a + S1.size a ≤ S6.size a} {h8 : ∀ a, o8 a + S1x1536x256.size a ≤ S6x3072x256.size a} {h2 : ∀ a, o2 a + S1536x256.size a ≤ S3072x32000.size a}
    {hsrc hdst hsem} {k : PUnit.{1} → PF} (e17 : o17 = ![j]) (e8 : o8 = ![j, 1536, 0]) (e2 : o2 = ![1536, 256 * j])
    (hP : ∀ fd, P8 j (((arg8.slice (Rect.unit (s := S6x3072x256) o8 S1x1536x256.size h8) (fun _ => rfl)).squeeze S1536x256 squeezes_S1x1536x256_S1536x256).view.write (Elt F) fd
      ((arg2.slice (Rect.unit (s := S3072x32000) o2 S1536x256.size h2) (fun _ => rfl)).view.read (Elt F) f2) Finset.univ)) :
    bigSep Finset.univ (Ring c arg2 arg8 arg17 f2 P8 (N6 arg8) 0 j)
      ⊢ iprop((bigSep Finset.univ (Ring c arg2 arg8 arg17 f2 P8 (N6 arg8) 0 (j + 1)) -∗ wpK c (k ⟨⟩) Q)
        -∗ wpK c (.op (.enqueueDma (arg2.slice (Rect.unit (s := S3072x32000) o2 S1536x256.size h2) (fun _ => rfl))
          (.here ((arg8.slice (Rect.unit (s := S6x3072x256) o8 S1x1536x256.size h8) (fun _ => rfl)).squeeze S1536x256 squeezes_S1x1536x256_S1536x256))
          (.dma ((arg17.slice (Rect.unit (s := S6) o17 S1.size h17)).squeeze S_ squeezes_S1_S_).sem) hsrc hdst hsem) k) Q) := by
  have b0 : blk 0 (j % 6) = j := by unfold blk; omega
  have hj6 : j % 6 = j := by omega
  have e0 : Ring c arg2 arg8 arg17 f2 P8 (N6 arg8) 0 j (sl j) = SlotI c arg2 arg8 arg17 f2 (sl j) := by
    unfold Ring; simp only [b0]; rw [if_neg (by omega)]
  have e0' : Ring c arg2 arg8 arg17 f2 P8 (N6 arg8) 0 (j + 1) (sl j) = SlotF c arg2 arg8 arg17 f2 P8 (N6 arg8) j (sl j) := by
    unfold Ring; simp only [b0]; rw [if_pos (by omega)]
  have R := ring_one (Ring c arg2 arg8 arg17 f2 P8 (N6 arg8) 0 j) (Ring c arg2 arg8 arg17 f2 P8 (N6 arg8) 0 (j + 1)) (sl j) (ring_start c arg2 arg8 arg17 f2 P8 (N6 arg8) j hj)
  rw [e0, e0'] at R
  have hs := off2b_in c arg2 (hu := fun _ => rfl) (h := h2) (j := j) (sl j) e2 rfl
  have hd := off8b_in c arg8 (hu := fun _ => rfl) (h := h8) (hq := squeezes_S1x1536x256_S1536x256) (sl j) (e8.trans (by rw [show ((sl j : Fin 6) : ℕ) = j from hj6]))
  iintro HR Hk
  ihave HR := R $$ HR
  icases HR with ⟨⟨H5r, ⟨%f5, -, H5⟩, H5s⟩, Hback⟩
  iapply (wp_startK c (R := iprop(Raw c arg8 (P8 j) (sl j) ∗ Src c arg2 f2 (sl j))) (cell6_eq arg17 h17 (sl j) (e17.trans (by rw [show ((sl j : Fin 6) : ℕ) = j from hj6]))) pos_raw6 hs hd ?_) $$ [H5 H5s H5r]
  · iintro ⟨Hs, Hd⟩
    isplitl [Hd]
    · iexists _
      isplitr
      · ipureintro; exact hP f5
      iexact Hd
    iexact Hs
  · isplitl [H5s]; · iexact H5s
    isplitl [H5] <;> iassumption
  iintro H5
  iapply Hk
  iapply Hback $$ H5

theorem slotOf6 (k : Fin k0_t6_loop.trips) : slotOf (Scf.iv 0#32 1#32 k) = k.val % 6 := by revert k; decide +kernel

/-- The transposition's scratch and the table after a trip that read `f8`. -/
def ny13 (k : Fin k0_t6_loop.trips) (f8 : BufAt (F := F) c arg8) (f13 : BufAt (F := F) c arg13) : BufAt (F := F) c arg13 :=
  trTile13 c arg8 arg13 f8 _ (slot6 k) 0 (by omega) 1536 (by omega) f13
def ny7 (k : Fin k0_t6_loop.trips) (f8 : BufAt (F := F) c arg8) (f13 : BufAt (F := F) c arg13) (f7 : BufAt (F := F) c arg7) : BufAt (F := F) c arg7 :=
  trTile7 c arg7 arg8 arg13 f8 _ (slot6 k) _ (tabOk6 k) 1 (by omega) 1536 (by omega) (ny13 c arg8 arg13 k f8 f13) <|
  trTile7 c arg7 arg8 arg13 f8 _ (slot6 k) _ (tabOk6 k) 0 (by omega) 1536 (by omega) f13 f7
variable (I6 : ℕ → BufAt (F := F) c arg7 → Prop)

/-- Before trip `i`. -/
def inv6 (i : ℕ) : sProp 𝕄 :=
  iprop(bigSep Finset.univ (Ring c arg2 arg8 arg17 f2 P8 (N6 arg8) i (min (i + 5) 125)) ∗ Owes c
    ∗ ∃ f7 f13, ⌜I6 i f7⌝ ∗ onS c arg7 Finset.univ fullShare f7 ∗ onS c arg13 Finset.univ fullShare f13)

variable (hP : ∀ (k : Fin k0_t6_loop.trips) h fd, P8 (k.val + 5) (((arg8.slice (Rect.unit (s := S6x3072x256) (k0_off331 k) S1x1536x256.size (k0_off331_inb k h)) (fun _ => rfl)).squeeze S1536x256 squeezes_S1x1536x256_S1536x256).view.write (Elt F) fd
      ((arg2.slice (Rect.unit (s := S3072x32000) (k0_off332 k) S1536x256.size (k0_off332_inb k h)) (fun _ => rfl)).view.read (Elt F) f2) Finset.univ))
  (hI : ∀ (k : Fin k0_t6_loop.trips) f8 f7 f13, P8 k.val f8 → I6 k.val f7 → I6 (k.val + 1) (ny7 c arg7 arg8 arg13 k f8 f13 f7))
include hP hI

theorem wp_trip6 (k : Fin k0_t6_loop.trips) :
    inv6 c arg2 arg7 arg8 arg13 arg17 f2 P8 I6 k.val ⊢ wpK c (trip6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k) fun _ => inv6 c arg2 arg7 arg8 arg13 arg17 f2 P8 I6 (k.val + 1) := by
  have hS := rawIn c arg8 (slot6 k) (sl k.val) (slotOf6 k)
  unfold inv6 trip6
  iintro ⟨HR, HO, ⟨%f7, %f13, %hi, H7, H13⟩⟩
  iapply (wp_head6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 P8 k _ (hP k)) $$ [HR HO]
  · isplitl [HR] <;> iassumption
  iintro ⟨%f8, %h8, H8⟩ Hback HO
  iapply (wp_trTile c arg7 arg8 arg13 f8 _ (slot6 k) hS) $$ [H8 H13 H7]
  · isplitl [H8]; · iexact H8
    isplitl [H13] <;> iassumption
  iintro H8 H13 H7
  iapply (wp_trTile c arg7 arg8 arg13 f8 _ (slot6 k) hS) $$ [H8 H13 H7]
  · isplitl [H8]; · iexact H8
    isplitl [H13] <;> iassumption
  iintro H8 H13 H7
  iapply (wp_retK c)
  isplitl [Hback H8]
  · iapply Hback
    iexists f8
    isplitr; · ipureintro; trivial
    iexact H8
  isplitl [HO]; · iexact HO
  iexists _, _
  isplitr
  · ipureintro; exact hI k f8 f7 f13 h8 hi
  isplitl [H7]; · iexact H7
  iexact H13

end

end Cert.Proof.Kernel
-- ==== Proof.EmitProg.lean ====
/-
  The emitting half of the kernel's body, written as short programs: one group of 32 tokens, as a loop over its tokens
  and then over the twelve column tiles. The printed bodies unfold to the same operations.
-/
module

public import proofs.«01_k».proof.Proof.LoadProg
public import Mathlib.Tactic.IntervalCases

@[expose] public section

noncomputable section

namespace Cert.Proof.Kernel

open Cert.Kernel Cert.Kernel.Gen
open Idealize.ShloMosaic Idealize.SL.Sem

variable {F : FTy → Type} [FloatOps F]

/-- A program of the kernel's core. -/
local notation "PF" => Prog (TpuEff nD τ sig (Elt F) Λ₀ Proc.tc) PUnit

/-- Where token `t` of a group lies among the ids. -/
abbrev tokOff (b t0 g : BitVec 32) (t : Nat) : Fin 2 → Nat :=
  ![(Scalar.indexCast b).toNat, (Scalar.indexCast (Scalar.addi (Scalar.addi t0 (Scalar.muli g 32#32)) (BitVec.ofNat 32 t))).toNat]

/-- Where a group's tile of columns `128 j` on lies in the staging buffers. -/
abbrev outOff (s g : BitVec 32) (j : Nat) : Fin 3 → Nat :=
  ![(Scalar.indexCast s).toNat, (Scalar.indexCast (Scalar.muli g 32#32)).toNat, 128 * j]

/-- A group's accesses lie within its buffers. -/
structure EmitOk (s b t0 g : BitVec 32) : Prop where
  tok : ∀ t < 32, ∀ a, tokOff b t0 g t a + S1x1.size a ≤ S8x4096.size a
  out : ∀ j < 12, ∀ a, outOff s g j a + S1x32x128.size a ≤ S4x256x1536.size a
  packed : ∀ j (hj : j < 12), (Rect.unit (s := S4x256x1536) (outOff s g j) S1x32x128.size (out j hj)).PackedRows (EltTy.packing .bf16)

theorem stage_inb {r : Nat} (hr : r + 80 < 120) :
    ∀ a, S3x128.size a = 0 ∨ (![r, 0] : Fin 2 → Nat) a + (![40, 1] : Fin 2 → Nat) a * (S3x128.size a - 1) < S120x128.size a := by
  intro a; fin_cases a <;> simp <;> omega
theorem pos40 : ∀ a, 0 < (![40, 1] : Fin 2 → Nat) a := by intro a; fin_cases a <;> simp
theorem stage8_inb {r : Nat} (hr : r + 8 ≤ 120) : ∀ a, (![r, 0] : Fin 2 → Nat) a + S8x128.size a ≤ S120x128.size a := by
  intro a; fin_cases a <;> simp <;> omega
theorem wrow_inb {r : Nat} (hr : r < 24) : ∀ a, (![r, 0] : Fin 2 → Nat) a + S1x128.size a ≤ S24x128.size a := by
  intro a; fin_cases a <;> simp <;> omega

section
variable (arg0 : Memref sig .tc .smem S8x4096 .i32) (arg1 : Memref sig .tc .smem S32000 .f32)
  (arg7 : Memref sig .tc .vmem S96000x128 .i32) (arg10 : Memref sig .tc .smem S32000 .f32)
  (arg12 : Memref sig .tc .vmem S24x128 .f32) (arg14 : Memref sig .tc .vmem S120x128 .i32)
  (arg15 : Memref sig .tc .vmem S4x256x1536 .bf16) (harg15 : arg15.IsWhole) (arg16 : Memref sig .tc .vmem S4x256x1536 .bf16) (harg16 : arg16.IsWhole)

/-- One token: its row of words copied to the stage at row `w`; then `K` of its scale and its reciprocal root. -/
def ldTok (o : Fin 2 → Nat) (ho : ∀ a, o a + S1x1.size a ≤ S8x4096.size a) (w : Nat) (hw : w + 80 < 120) (K : F .f32 → F .f32 → PF) : PF :=
  Prog.bind (smemLoad arg0 (Rect.unit (s := S8x4096) o S1x1.size ho) numel1_S1x1 rfl) fun v =>
  .op (.assume (k0_chk1 v) (k0_chk1.dec v)) fun h =>
  .op (.load arg7 (Rect.unit (s := S96000x128) (k0_off212 v) S3x128.size (k0_off212_inb v h.down)).toLoadRect (View.loadsAt_vmem h_S3x128)) fun row =>
  .op (.load arg14 (⟨![w, 0], S3x128.size, ![40, 1], stage_inb hw⟩ : LoadRect S120x128) (View.loadsAt_vmem h_S3x128)) fun _ =>
  .op (.store arg14 ⟨(⟨![w, 0], S3x128.size, ![40, 1], stage_inb hw⟩ : LoadRect S120x128), pos40⟩ (shapeCast S3x128 row shapeCasts_S3x128_S3x128) Finset.univ (View.stores_vmem_bits_univ h_S3x128 rfl) (.inl rfl)) fun _ =>
  Prog.bind (smemLoad arg1 (Rect.unit (s := S32000) (k0_off213 v) S1.size (k0_off213_inb v h.down)) numel1_S1 rfl) fun sc =>
  Prog.bind (smemLoad arg10 (Rect.unit (s := S32000) (k0_off213 v) S1.size (k0_off213_inb v h.down)) numel1_S1 rfl) fun ic =>
  K sc ic

theorem at_lt {t : Nat} (h : t < 32) : t % 4 * 8 + t / 4 + 80 < 120 := by omega

/-- The last `n` tokens of eight, each filling its row of the scales and of the reciprocals; then `K`. -/
def toks (v6 : IVec S8x128 32) (s b t0 g : BitVec 32) (h : EmitOk s b t0 g) (t8 : Nat) (h8 : t8 < 4) (K : FVec F S8x128 .f32 → FVec F S8x128 .f32 → PF) :
    (n : Nat) → n ≤ 8 → FVec F S8x128 .f32 → FVec F S8x128 .f32 → PF
  | 0, _, sv, iv => K sv iv
  | n + 1, hn, sv, iv =>
    ldTok arg0 arg1 arg7 arg10 arg14 (tokOff b t0 g (t8 * 8 + (8 - (n + 1)))) (h.tok _ (by omega)) ((t8 * 8 + (8 - (n + 1))) % 4 * 8 + (t8 * 8 + (8 - (n + 1))) / 4) (at_lt (by omega)) fun sc ic =>
    toks v6 s b t0 g h t8 h8 K n (by omega)
      (select (cmpi .eq v6 (broadcast S8x128 (BitVec.ofNat 32 (8 - (n + 1))))) (broadcast S8x128 sc) sv)
      (select (cmpi .eq v6 (broadcast S8x128 (BitVec.ofNat 32 (8 - (n + 1))))) (broadcast S8x128 ic) iv)

/-- Eight tokens; then `K`. -/
def tok8 (v6 : IVec S8x128 32) (s b t0 g : BitVec 32) (h : EmitOk s b t0 g) (t8 : Nat) (h8 : t8 < 4) (K : FVec F S8x128 .f32 → FVec F S8x128 .f32 → PF) : PF :=
  ldTok arg0 arg1 arg7 arg10 arg14 (tokOff b t0 g (t8 * 8)) (h.tok _ (by omega)) (t8 * 8 % 4 * 8 + t8 * 8 / 4) (at_lt (by omega)) fun sc ic =>
  toks arg0 arg1 arg7 arg10 arg14 v6 s b t0 g h t8 h8 K 7 (by omega) (broadcast S8x128 sc) (broadcast S8x128 ic)

/-- A tile's embeddings: its codes scaled. -/
abbrev embOf (w : IVec S8x128 32) (sc : FVec F S32x128 .bf16) : FVec F S32x128 .bf16 :=
  mulf (sitofp .bf16 (bitcast S32x128 8 w bitcasts_S8x128_w32_S32x128_w8)) sc
/-- A tile's results: the embeddings normalised and weighted. -/
abbrev outOf (e : FVec F S32x128 .bf16) (iv : FVec F S32x128 .f32) (wt : Vec F S1x128 .f32) : FVec F S32x128 .bf16 :=
  truncf .bf16 (mulf (mulf (extf .f32 e bitsLt_bf16_f32) iv) (broadcastTo S32x128 wt broadcasts_S1x128_S32x128)) bitsLt_bf16_f32

/-- One tile stored to both staging buffers; then `K`. -/
def putE (s b t0 g : BitVec 32) (h : EmitOk s b t0 g) (base : Nat) (hb : base ≤ 12) (sc : FVec F S32x128 .bf16) (iv : FVec F S32x128 .f32) (j : Nat) (hj : j < 12) (w : IVec S8x128 32) (K : PF) : PF :=
  .op (.load arg12 (Rect.unit (s := S24x128) ![base + j, 0] S1x128.size (wrow_inb (by omega))).toLoadRect (View.loadsAt_vmem h_S1x128)) fun wt =>
  .op (.load arg16 (Rect.unit (s := S4x256x1536) (outOff s g j) S1x32x128.size (h.out j hj)).toLoadRect (View.loadsAt_vmem h_S1x32x128)) fun _ =>
  .op (.store arg16 (Rect.unit (s := S4x256x1536) (outOff s g j) S1x32x128.size (h.out j hj)) (shapeCast S1x32x128 (embOf w sc) shapeCasts_S32x128_S1x32x128) Finset.univ (View.stores_vmem h_S1x32x128 (harg16.storeExact_slice rfl _ (h.packed j hj)) (fun _ => rfl)) (.inl rfl)) fun _ =>
  .op (.load arg15 (Rect.unit (s := S4x256x1536) (outOff s g j) S1x32x128.size (h.out j hj)).toLoadRect (View.loadsAt_vmem h_S1x32x128)) fun _ =>
  .op (.store arg15 (Rect.unit (s := S4x256x1536) (outOff s g j) S1x32x128.size (h.out j hj)) (shapeCast S1x32x128 (outOf (embOf w sc) iv wt) shapeCasts_S32x128_S1x32x128) Finset.univ (View.stores_vmem h_S1x32x128 (harg15.storeExact_slice rfl _ (h.packed j hj)) (fun _ => rfl)) (.inl rfl)) fun _ => K

/-- Four tiles, of one word of each token; then `K`. -/
def emitR (s b t0 g : BitVec 32) (h : EmitOk s b t0 g) (base : Nat) (hb : base ≤ 12) (sc : FVec F S32x128 .bf16) (iv : FVec F S32x128 .f32) (r : Nat) (hr : r < 3) (K : PF) : PF :=
  .op (.load arg14 (Rect.unit (s := S120x128) ![r * 40 + 0, 0] S8x128.size (stage8_inb (by omega))).toLoadRect (View.loadsAt_vmem h_S8x128)) fun w0 =>
  .op (.load arg14 (Rect.unit (s := S120x128) ![r * 40 + 8, 0] S8x128.size (stage8_inb (by omega))).toLoadRect (View.loadsAt_vmem h_S8x128)) fun w1 =>
  .op (.load arg14 (Rect.unit (s := S120x128) ![r * 40 + 16, 0] S8x128.size (stage8_inb (by omega))).toLoadRect (View.loadsAt_vmem h_S8x128)) fun w2 =>
  .op (.load arg14 (Rect.unit (s := S120x128) ![r * 40 + 24, 0] S8x128.size (stage8_inb (by omega))).toLoadRect (View.loadsAt_vmem h_S8x128)) fun w3 =>
  putE arg12 arg15 harg15 arg16 harg16 s b t0 g h base hb sc iv (4 * r + 0) (by omega) (tb0 w0 w1 w2 w3) <|
  putE arg12 arg15 harg15 arg16 harg16 s b t0 g h base hb sc iv (4 * r + 1) (by omega) (tb1 w0 w1 w2 w3) <|
  putE arg12 arg15 harg15 arg16 harg16 s b t0 g h base hb sc iv (4 * r + 2) (by omega) (tb2 w0 w1 w2 w3) <|
  putE arg12 arg15 harg15 arg16 harg16 s b t0 g h base hb sc iv (4 * r + 3) (by omega) (tb3 w0 w1 w2 w3) K

/-- The 32 scales, or reciprocals, of a group. -/
abbrev cat4 (a b c d : FVec F S8x128 .f32) : FVec F S32x128 .f32 :=
  concatenate S32x128 0 [⟨S8x128, a⟩, ⟨S8x128, b⟩, ⟨S8x128, c⟩, ⟨S8x128, d⟩] concatenates_S8x128_S8x128_S8x128_S8x128_S32x128_d0

/-- One group of 32 tokens; then `K`. -/
def group (v6 : IVec S8x128 32) (s b t0 g : BitVec 32) (h : EmitOk s b t0 g) (base : Nat) (hb : base ≤ 12) (K : PF) : PF :=
  tok8 arg0 arg1 arg7 arg10 arg14 v6 s b t0 g h 0 (by omega) fun s0 i0 =>
  tok8 arg0 arg1 arg7 arg10 arg14 v6 s b t0 g h 1 (by omega) fun s1 i1 =>
  tok8 arg0 arg1 arg7 arg10 arg14 v6 s b t0 g h 2 (by omega) fun s2 i2 =>
  tok8 arg0 arg1 arg7 arg10 arg14 v6 s b t0 g h 3 (by omega) fun s3 i3 =>
  emitR arg12 arg14 arg15 harg15 arg16 harg16 s b t0 g h base hb (truncf .bf16 (cat4 s0 s1 s2 s3) bitsLt_bf16_f32) (cat4 i0 i1 i2 i3) 0 (by omega) <|
  emitR arg12 arg14 arg15 harg15 arg16 harg16 s b t0 g h base hb (truncf .bf16 (cat4 s0 s1 s2 s3) bitsLt_bf16_f32) (cat4 i0 i1 i2 i3) 1 (by omega) <|
  emitR arg12 arg14 arg15 harg15 arg16 harg16 s b t0 g h base hb (truncf .bf16 (cat4 s0 s1 s2 s3) bitsLt_bf16_f32) (cat4 i0 i1 i2 i3) 2 (by omega) K
end

/-- The words a block of tokens is named by. -/
abbrev bOf (iv : BitVec 32) : BitVec 32 := Scalar.divsi iv 16#32
abbrev t0Of (iv : BitVec 32) : BitVec 32 := Scalar.muli (Scalar.remsi iv 16#32) 256#32
abbrev sOf (iv : BitVec 32) : BitVec 32 := Scalar.remsi iv 4#32

theorem emitOk5 (i : Fin k0_t4_loop.trips) (g : Fin k0_t5_loop.trips) :
    EmitOk (sOf (Scf.iv 0#32 1#32 i)) (bOf (Scf.iv 0#32 1#32 i)) (t0Of (Scf.iv 0#32 1#32 i)) (Scf.iv 0#32 1#32 g) where
  tok := fun t ht => by
    interval_cases t
    exacts [k0_off211_inb i g, k0_off214_inb i g, k0_off217_inb i g, k0_off220_inb i g, k0_off223_inb i g, k0_off226_inb i g, k0_off229_inb i g, k0_off232_inb i g, k0_off235_inb i g, k0_off238_inb i g, k0_off241_inb i g, k0_off244_inb i g, k0_off247_inb i g, k0_off250_inb i g, k0_off253_inb i g, k0_off256_inb i g, k0_off259_inb i g, k0_off262_inb i g, k0_off265_inb i g, k0_off268_inb i g, k0_off271_inb i g, k0_off274_inb i g, k0_off277_inb i g, k0_off280_inb i g, k0_off283_inb i g, k0_off286_inb i g, k0_off289_inb i g, k0_off292_inb i g, k0_off295_inb i g, k0_off298_inb i g, k0_off301_inb i g, k0_off304_inb i g]
  out := fun j hj => by
    interval_cases j
    exacts [k0_off307_inb i g, k0_off308_inb i g, k0_off309_inb i g, k0_off310_inb i g, k0_off311_inb i g, k0_off312_inb i g, k0_off313_inb i g, k0_off314_inb i g, k0_off315_inb i g, k0_off316_inb i g, k0_off317_inb i g, k0_off318_inb i g]
  packed := fun j hj => by
    interval_cases j
    exacts [k0_off307_packedbf16 i g, k0_off308_packedbf16 i g, k0_off309_packedbf16 i g, k0_off310_packedbf16 i g, k0_off311_packedbf16 i g, k0_off312_packedbf16 i g, k0_off313_packedbf16 i g, k0_off314_packedbf16 i g, k0_off315_packedbf16 i g, k0_off316_packedbf16 i g, k0_off317_packedbf16 i g, k0_off318_packedbf16 i g]

theorem emitOk8 (i : Fin k0_t7_loop.trips) (g : Fin k0_t8_loop.trips) :
    EmitOk (sOf (Scf.iv 0#32 1#32 i)) (bOf (Scf.iv 0#32 1#32 i)) (t0Of (Scf.iv 0#32 1#32 i)) (Scf.iv 0#32 1#32 g) where
  tok := fun t ht => by
    interval_cases t
    exacts [k0_off433_inb i g, k0_off436_inb i g, k0_off439_inb i g, k0_off442_inb i g, k0_off445_inb i g, k0_off448_inb i g, k0_off451_inb i g, k0_off454_inb i g, k0_off457_inb i g, k0_off460_inb i g, k0_off463_inb i g, k0_off466_inb i g, k0_off469_inb i g, k0_off472_inb i g, k0_off475_inb i g, k0_off478_inb i g, k0_off481_inb i g, k0_off484_inb i g, k0_off487_inb i g, k0_off490_inb i g, k0_off493_inb i g, k0_off496_inb i g, k0_off499_inb i g, k0_off502_inb i g, k0_off505_inb i g, k0_off508_inb i g, k0_off511_inb i g, k0_off514_inb i g, k0_off517_inb i g, k0_off520_inb i g, k0_off523_inb i g, k0_off526_inb i g]
  out := fun j hj => by
    interval_cases j
    exacts [k0_off529_inb i g, k0_off530_inb i g, k0_off531_inb i g, k0_off532_inb i g, k0_off533_inb i g, k0_off534_inb i g, k0_off535_inb i g, k0_off536_inb i g, k0_off537_inb i g, k0_off538_inb i g, k0_off539_inb i g, k0_off540_inb i g]
  packed := fun j hj => by
    interval_cases j
    exacts [k0_off529_packedbf16 i g, k0_off530_packedbf16 i g, k0_off531_packedbf16 i g, k0_off532_packedbf16 i g, k0_off533_packedbf16 i g, k0_off534_packedbf16 i g, k0_off535_packedbf16 i g, k0_off536_packedbf16 i g, k0_off537_packedbf16 i g, k0_off538_packedbf16 i g, k0_off539_packedbf16 i g, k0_off540_packedbf16 i g]

set_option maxRecDepth 65536 in
set_option maxHeartbeats 40000000 in
theorem body5 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (v6 : IVec S8x128 32) (i : Fin k0_t4_loop.trips) (g : Fin k0_t5_loop.trips) :
    k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 i (sOf (Scf.iv 0#32 1#32 i)) (bOf (Scf.iv 0#32 1#32 i)) (t0Of (Scf.iv 0#32 1#32 i)) g ()
      = group arg0 arg1 arg7 arg10 arg12 arg14 arg15 harg15 arg16 harg16 v6 _ _ _ _ (emitOk5 i g) 0 (by omega) (.ret ⟨⟩) := rfl

set_option maxRecDepth 65536 in
set_option maxHeartbeats 40000000 in
theorem body8 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (v6 : IVec S8x128 32) (i : Fin k0_t7_loop.trips) (g : Fin k0_t8_loop.trips) :
    k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 i (sOf (Scf.iv 0#32 1#32 i)) (bOf (Scf.iv 0#32 1#32 i)) (t0Of (Scf.iv 0#32 1#32 i)) g ()
      = group arg0 arg1 arg7 arg10 arg12 arg14 arg15 harg15 arg16 harg16 v6 _ _ _ _ (emitOk8 i g) 12 (by omega) (.ret ⟨⟩) := rfl

end Cert.Proof.Kernel
-- ==== Proof.EmitWp.lean ====
/-
  What the emitting half does to its buffers: one group of 32 tokens fills the stage and writes its rows of the two
  staging buffers. Each effect is a function of the buffers' contents.
-/
module

public import proofs.«01_k».proof.Proof.EmitProg
public import proofs.«01_k».proof.Proof.LoadWp

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

section
variable (c : Dev nD)

/-- The word a scalar load reads. -/
abbrev wordV {s : Shape} {e : EltTy} (m : Memref sig .tc .smem s e) (r : Rect s) (h1 : r.shape.numel = 1) (f : BufAt (F := F) c m) : Elt F e :=
  (m.access r).read (Elt F) f (Shape.Idx.first (h1.symm ▸ Nat.one_pos))

theorem wp_smemU {Q : PUnit.{1} → sProp 𝕄} {s : Shape} {e : EltTy} {m : Memref sig .tc .smem s e} {r : Rect s} {h1 : r.shape.numel = 1} {hp : e.packing = 1}
    {k : Elt F e → PF} {q : PosShare TreeShare} {f : BufAt (F := F) c m} :
    onS c m Finset.univ q f ⊢ iprop((onS c m Finset.univ q f -∗ wpK c (k (wordV c m r h1 f)) Q) -∗ wpK c (Prog.bind (smemLoad m r h1 hp) k) Q) :=
  wp_loadU c (m := m) (r := r.toLoadRect) (k := fun g => k (g (Shape.Idx.first (h1.symm ▸ Nat.one_pos))))

theorem wp_assumeK {Q : PUnit.{1} → sProp 𝕄} {P : Prop} {d : Decidable P} {k : PLift P → PF} (h : P) :
    wpK c (k ⟨h⟩) Q ⊢ wpK c (.op (.assume P d) k) Q :=
  wp_assume (Γ := .nil) Variants.none (c : Thread nD τ) none Set.univ (k := k) (Q := Q) h

variable (arg0 : Memref sig .tc .smem S8x4096 .i32) (arg1 : Memref sig .tc .smem S32000 .f32)
  (arg7 : Memref sig .tc .vmem S96000x128 .i32) (arg10 : Memref sig .tc .smem S32000 .f32)
  (arg12 : Memref sig .tc .vmem S24x128 .f32) (arg14 : Memref sig .tc .vmem S120x128 .i32)
  (arg15 : Memref sig .tc .vmem S4x256x1536 .bf16) (harg15 : arg15.IsWhole) (arg16 : Memref sig .tc .vmem S4x256x1536 .bf16) (harg16 : arg16.IsWhole)
  (f0 : BufAt (F := F) c arg0) (f1 : BufAt (F := F) c arg1) (f7 : BufAt (F := F) c arg7) (f10 : BufAt (F := F) c arg10) (f12 : BufAt (F := F) c arg12)

/-- The id read at `o`. -/
abbrev tokV (o : Fin 2 → Nat) (ho : ∀ a, o a + S1x1.size a ≤ S8x4096.size a) : BitVec 32 :=
  wordV c arg0 (Rect.unit (s := S8x4096) o S1x1.size ho) numel1_S1x1 f0

/-- Every id's rows lie in the table, its scale and its reciprocal in their arrays. -/
def IdsOk : Prop := ∀ o ho, k0_chk1 (tokV c arg0 f0 o ho)

variable (hids : IdsOk c arg0 f0)

/-- A token's scale, and its reciprocal. -/
abbrev scalV (arg1 : Memref sig .tc .smem S32000 .f32) (f1 : BufAt (F := F) c arg1) (o : Fin 2 → Nat) (ho : ∀ a, o a + S1x1.size a ≤ S8x4096.size a) : F .f32 :=
  wordV c arg1 (Rect.unit (s := S32000) (k0_off213 (tokV c arg0 f0 o ho)) S1.size (k0_off213_inb _ (hids o ho))) numel1_S1 f1

/-- The stage with a token's three rows copied in. -/
def stageV (o : Fin 2 → Nat) (ho : ∀ a, o a + S1x1.size a ≤ S8x4096.size a) (w : Nat) (hw : w + 80 < 120) (f14 : BufAt (F := F) c arg14) : BufAt (F := F) c arg14 :=
  (arg14.access (⟨(⟨![w, 0], S3x128.size, ![40, 1], stage_inb hw⟩ : LoadRect S120x128), pos40⟩ : Rect S120x128)).write (Elt F) f14
    (shapeCast S3x128 (arg7.view.readAt (Elt F) (Rect.unit (s := S96000x128) (k0_off212 (tokV c arg0 f0 o ho)) S3x128.size (k0_off212_inb _ (hids o ho))).toLoadRect f7) shapeCasts_S3x128_S3x128) Finset.univ

/-- The buffers a group reads, as held. -/
abbrev rdE (q0 q1 : PosShare TreeShare) : sProp 𝕄 :=
  iprop(onS c arg0 Finset.univ q0 f0 ∗ onS c arg1 Finset.univ q1 f1 ∗ onS c arg7 Finset.univ fullShare f7 ∗ onS c arg10 Finset.univ fullShare f10)

variable {q0 q1 : PosShare TreeShare}

theorem wp_ldTok {Q : PUnit.{1} → sProp 𝕄} (o : Fin 2 → Nat) (ho : ∀ a, o a + S1x1.size a ≤ S8x4096.size a) (w : Nat) (hw : w + 80 < 120) (K : F .f32 → F .f32 → PF) (f14 : BufAt (F := F) c arg14) :
    iprop(rdE c arg0 arg1 arg7 arg10 f0 f1 f7 f10 q0 q1 ∗ onS c arg14 Finset.univ fullShare f14)
      ⊢ iprop((rdE c arg0 arg1 arg7 arg10 f0 f1 f7 f10 q0 q1 -∗ onS c arg14 Finset.univ fullShare (stageV c arg0 arg7 arg14 f0 f7 hids o ho w hw f14)
            -∗ wpK c (K (scalV c arg0 f0 hids arg1 f1 o ho) (scalV c arg0 f0 hids arg10 f10 o ho)) Q)
        -∗ wpK c (ldTok arg0 arg1 arg7 arg10 arg14 o ho w hw K) Q) := by
  unfold ldTok stageV
  iintro ⟨⟨H0, H1, H7, H10⟩, H14⟩ Hk
  iapply (wp_smemU c (m := arg0)) $$ H0
  iintro H0
  iapply (wp_assumeK c (hids o ho))
  iapply (wp_loadU c (m := arg7)) $$ H7
  iintro H7
  iapply (wp_loadU c (m := arg14)) $$ H14
  iintro H14
  iapply (wp_storeU c (m := arg14)) $$ H14
  iintro H14
  iapply (wp_smemU c (m := arg1)) $$ H1
  iintro H1
  iapply (wp_smemU c (m := arg10)) $$ H10
  iintro H10
  iapply Hk $$ [H0 H1 H7 H10] H14
  isplitl [H0]; · iexact H0
  isplitl [H1]; · iexact H1
  isplitl [H7] <;> iassumption

variable (v6 : IVec S8x128 32) (s b t0 g : BitVec 32) (h : EmitOk s b t0 g)

/-- The stage after the last `n` of eight tokens. -/
def toks14 (t8 : Nat) (h8 : t8 < 4) : (n : Nat) → n ≤ 8 → BufAt (F := F) c arg14 → BufAt (F := F) c arg14
  | 0, _, f => f
  | n + 1, hn, f => toks14 t8 h8 n (by omega) (stageV c arg0 arg7 arg14 f0 f7 hids (tokOff b t0 g (t8 * 8 + (8 - (n + 1)))) (h.tok _ (by omega))
      ((t8 * 8 + (8 - (n + 1))) % 4 * 8 + (t8 * 8 + (8 - (n + 1))) / 4) (at_lt (by omega)) f)
/-- The scales, or the reciprocals, after the last `n` of eight tokens. -/
def toksS (arg1 : Memref sig .tc .smem S32000 .f32) (f1 : BufAt (F := F) c arg1) (t8 : Nat) (h8 : t8 < 4) : (n : Nat) → n ≤ 8 → FVec F S8x128 .f32 → FVec F S8x128 .f32
  | 0, _, sv => sv
  | n + 1, hn, sv => toksS arg1 f1 t8 h8 n (by omega) (select (cmpi .eq v6 (broadcast S8x128 (BitVec.ofNat 32 (8 - (n + 1)))))
      (broadcast S8x128 (scalV c arg0 f0 hids arg1 f1 (tokOff b t0 g (t8 * 8 + (8 - (n + 1)))) (h.tok _ (by omega)))) sv)

theorem wp_toks {Q : PUnit.{1} → sProp 𝕄} (t8 : Nat) (h8 : t8 < 4) (K : FVec F S8x128 .f32 → FVec F S8x128 .f32 → PF) : ∀ (n : Nat) (hn : n ≤ 8) (sv iv : FVec F S8x128 .f32) (f14 : BufAt (F := F) c arg14),
    iprop(rdE c arg0 arg1 arg7 arg10 f0 f1 f7 f10 q0 q1 ∗ onS c arg14 Finset.univ fullShare f14)
      ⊢ iprop((rdE c arg0 arg1 arg7 arg10 f0 f1 f7 f10 q0 q1 -∗ onS c arg14 Finset.univ fullShare (toks14 c arg0 arg7 arg14 f0 f7 hids s b t0 g h t8 h8 n hn f14)
            -∗ wpK c (K (toksS c arg0 f0 hids v6 s b t0 g h arg1 f1 t8 h8 n hn sv) (toksS c arg0 f0 hids v6 s b t0 g h arg10 f10 t8 h8 n hn iv)) Q)
        -∗ wpK c (toks arg0 arg1 arg7 arg10 arg14 v6 s b t0 g h t8 h8 K n hn sv iv) Q)
  | 0, _, sv, iv, f14 => by
    unfold toks toks14 toksS
    iintro ⟨HR, H14⟩ Hk
    iapply Hk $$ HR H14
  | n + 1, hn, sv, iv, f14 => by
    unfold toks toks14 toksS
    iintro H Hk
    iapply (wp_ldTok c arg0 arg1 arg7 arg10 arg14 f0 f1 f7 f10 hids) $$ H
    iintro HR H14
    iapply (wp_toks t8 h8 K n _ _ _ _) $$ [HR H14]
    · isplitl [HR] <;> iassumption
    iexact Hk

def tok814 (t8 : Nat) (h8 : t8 < 4) (f14 : BufAt (F := F) c arg14) : BufAt (F := F) c arg14 :=
  toks14 c arg0 arg7 arg14 f0 f7 hids s b t0 g h t8 h8 7 (by omega)
    (stageV c arg0 arg7 arg14 f0 f7 hids (tokOff b t0 g (t8 * 8)) (h.tok _ (by omega)) (t8 * 8 % 4 * 8 + t8 * 8 / 4) (at_lt (by omega)) f14)
def tok8S (arg1 : Memref sig .tc .smem S32000 .f32) (f1 : BufAt (F := F) c arg1) (t8 : Nat) (h8 : t8 < 4) : FVec F S8x128 .f32 :=
  toksS c arg0 f0 hids v6 s b t0 g h arg1 f1 t8 h8 7 (by omega) (broadcast S8x128 (scalV c arg0 f0 hids arg1 f1 (tokOff b t0 g (t8 * 8)) (h.tok _ (by omega))))

theorem wp_tok8 {Q : PUnit.{1} → sProp 𝕄} (t8 : Nat) (h8 : t8 < 4) (K : FVec F S8x128 .f32 → FVec F S8x128 .f32 → PF) (f14 : BufAt (F := F) c arg14) :
    iprop(rdE c arg0 arg1 arg7 arg10 f0 f1 f7 f10 q0 q1 ∗ onS c arg14 Finset.univ fullShare f14)
      ⊢ iprop((rdE c arg0 arg1 arg7 arg10 f0 f1 f7 f10 q0 q1 -∗ onS c arg14 Finset.univ fullShare (tok814 c arg0 arg7 arg14 f0 f7 hids s b t0 g h t8 h8 f14)
            -∗ wpK c (K (tok8S c arg0 f0 hids v6 s b t0 g h arg1 f1 t8 h8) (tok8S c arg0 f0 hids v6 s b t0 g h arg10 f10 t8 h8)) Q)
        -∗ wpK c (tok8 arg0 arg1 arg7 arg10 arg14 v6 s b t0 g h t8 h8 K) Q) := by
  unfold tok8 tok814 tok8S
  iintro H Hk
  iapply (wp_ldTok c arg0 arg1 arg7 arg10 arg14 f0 f1 f7 f10 hids) $$ H
  iintro HR H14
  iapply (wp_toks c arg0 arg1 arg7 arg10 arg14 f0 f1 f7 f10 hids v6 s b t0 g h t8 h8 K 7) $$ [HR H14]
  · isplitl [HR] <;> iassumption
  iexact Hk

/-- A tile written to a staging buffer. -/
def putEV (M : Memref sig .tc .vmem S4x256x1536 .bf16) (j : Nat) (hj : j < 12) (v : FVec F S32x128 .bf16) (f : BufAt (F := F) c M) : BufAt (F := F) c M :=
  (M.access (Rect.unit (s := S4x256x1536) (outOff s g j) S1x32x128.size (h.out j hj))).write (Elt F) f (shapeCast S1x32x128 v shapeCasts_S32x128_S1x32x128) Finset.univ

/-- The group's tiles lie in `S`. -/
def TileIn (M : Memref sig .tc .vmem S4x256x1536 .bf16) (S : Finset (Idx (M.view.loc (c : Thread nD τ)))) : Prop :=
  ∀ j (hj : j < 12), (M.access (Rect.unit (s := S4x256x1536) (outOff s g j) S1x32x128.size (h.out j hj))).set ⊆ S

/-- A tile's row of weights. -/
abbrev wtV (n : Nat) (hn : n < 24) : Vec F S1x128 .f32 :=
  arg12.view.readAt (Elt F) (Rect.unit (s := S24x128) ![n, 0] S1x128.size (wrow_inb hn)).toLoadRect f12

variable {S15 : Finset (Idx (arg15.view.loc (c : Thread nD τ)))} {S16 : Finset (Idx (arg16.view.loc (c : Thread nD τ)))}

theorem wp_putE {Q : PUnit.{1} → sProp 𝕄} (h15 : TileIn c s b t0 g h arg15 S15) (h16 : TileIn c s b t0 g h arg16 S16) (base : Nat) (hb : base ≤ 12) (sc : FVec F S32x128 .bf16) (iv : FVec F S32x128 .f32) (j : Nat) (hj : j < 12) (w : IVec S8x128 32)
    (f15 : BufAt (F := F) c arg15) (f16 : BufAt (F := F) c arg16) (K : PF) :
    iprop(onS c arg12 Finset.univ fullShare f12 ∗ onS c arg15 S15 fullShare f15 ∗ onS c arg16 S16 fullShare f16)
      ⊢ iprop((onS c arg12 Finset.univ fullShare f12 -∗ onS c arg15 S15 fullShare (putEV c s b t0 g h arg15 j hj (outOf (embOf w sc) iv (wtV c arg12 f12 (base + j) (by omega))) f15)
          -∗ onS c arg16 S16 fullShare (putEV c s b t0 g h arg16 j hj (embOf w sc) f16) -∗ wpK c K Q)
        -∗ wpK c (putE arg12 arg15 harg15 arg16 harg16 s b t0 g h base hb sc iv j hj w K) Q) := by
  unfold putE putEV
  iintro ⟨H12, H15, H16⟩ Hk
  iapply (wp_loadU c (m := arg12)) $$ H12
  iintro H12
  iapply (wp_loadK c (m := arg16) (r := (Rect.unit (s := S4x256x1536) (outOff s g j) S1x32x128.size (h.out j hj)).toLoadRect) (S := S16) ((View.set_slice ..).symm.subset.trans (h16 j hj))) $$ H16
  iintro H16
  iapply (wp_storeK c (m := arg16) (h16 j hj)) $$ H16
  iintro H16
  iapply (wp_loadK c (m := arg15) (r := (Rect.unit (s := S4x256x1536) (outOff s g j) S1x32x128.size (h.out j hj)).toLoadRect) (S := S15) ((View.set_slice ..).symm.subset.trans (h15 j hj))) $$ H15
  iintro H15
  iapply (wp_storeK c (m := arg15) (h15 j hj)) $$ H15
  iintro H15
  iapply Hk $$ H12 H15 H16

/-- Eight rows of the stage. -/
abbrev stage8 (r : Nat) (hr : r + 8 ≤ 120) (f14 : BufAt (F := F) c arg14) : IVec S8x128 32 :=
  arg14.view.readAt (Elt F) (Rect.unit (s := S120x128) ![r, 0] S8x128.size (stage8_inb hr)).toLoadRect f14

/-- The embeddings' buffer after the four tiles of one word. -/
def emitR16 (M : Memref sig .tc .vmem S4x256x1536 .bf16) (r : Nat) (hr : r < 3) (sc : FVec F S32x128 .bf16) (f14 : BufAt (F := F) c arg14) (f : BufAt (F := F) c M) : BufAt (F := F) c M :=
  let w0 := stage8 c arg14 (r * 40 + 0) (by omega) f14
  let w1 := stage8 c arg14 (r * 40 + 8) (by omega) f14
  let w2 := stage8 c arg14 (r * 40 + 16) (by omega) f14
  let w3 := stage8 c arg14 (r * 40 + 24) (by omega) f14
  putEV c s b t0 g h M (4 * r + 3) (by omega) (embOf (tb3 w0 w1 w2 w3) sc) <|
  putEV c s b t0 g h M (4 * r + 2) (by omega) (embOf (tb2 w0 w1 w2 w3) sc) <|
  putEV c s b t0 g h M (4 * r + 1) (by omega) (embOf (tb1 w0 w1 w2 w3) sc) <|
  putEV c s b t0 g h M (4 * r + 0) (by omega) (embOf (tb0 w0 w1 w2 w3) sc) f

/-- The results' buffer after the four tiles of one word. -/
def emitR15 (M : Memref sig .tc .vmem S4x256x1536 .bf16) (base : Nat) (hb : base ≤ 12) (r : Nat) (hr : r < 3) (sc : FVec F S32x128 .bf16) (iv : FVec F S32x128 .f32) (f14 : BufAt (F := F) c arg14) (f : BufAt (F := F) c M) : BufAt (F := F) c M :=
  let w0 := stage8 c arg14 (r * 40 + 0) (by omega) f14
  let w1 := stage8 c arg14 (r * 40 + 8) (by omega) f14
  let w2 := stage8 c arg14 (r * 40 + 16) (by omega) f14
  let w3 := stage8 c arg14 (r * 40 + 24) (by omega) f14
  putEV c s b t0 g h M (4 * r + 3) (by omega) (outOf (embOf (tb3 w0 w1 w2 w3) sc) iv (wtV c arg12 f12 (base + (4 * r + 3)) (by omega))) <|
  putEV c s b t0 g h M (4 * r + 2) (by omega) (outOf (embOf (tb2 w0 w1 w2 w3) sc) iv (wtV c arg12 f12 (base + (4 * r + 2)) (by omega))) <|
  putEV c s b t0 g h M (4 * r + 1) (by omega) (outOf (embOf (tb1 w0 w1 w2 w3) sc) iv (wtV c arg12 f12 (base + (4 * r + 1)) (by omega))) <|
  putEV c s b t0 g h M (4 * r + 0) (by omega) (outOf (embOf (tb0 w0 w1 w2 w3) sc) iv (wtV c arg12 f12 (base + (4 * r + 0)) (by omega))) f

theorem wp_emitR {Q : PUnit.{1} → sProp 𝕄} (h15 : TileIn c s b t0 g h arg15 S15) (h16 : TileIn c s b t0 g h arg16 S16) (base : Nat) (hb : base ≤ 12) (sc : FVec F S32x128 .bf16) (iv : FVec F S32x128 .f32) (r : Nat) (hr : r < 3)
    (f14 : BufAt (F := F) c arg14) (f15 : BufAt (F := F) c arg15) (f16 : BufAt (F := F) c arg16) (K : PF) :
    iprop(onS c arg12 Finset.univ fullShare f12 ∗ onS c arg14 Finset.univ fullShare f14 ∗ onS c arg15 S15 fullShare f15 ∗ onS c arg16 S16 fullShare f16)
      ⊢ iprop((onS c arg12 Finset.univ fullShare f12 -∗ onS c arg14 Finset.univ fullShare f14 -∗ onS c arg15 S15 fullShare (emitR15 c arg12 arg14 f12 s b t0 g h arg15 base hb r hr sc iv f14 f15)
          -∗ onS c arg16 S16 fullShare (emitR16 c arg14 s b t0 g h arg16 r hr sc f14 f16) -∗ wpK c K Q)
        -∗ wpK c (emitR arg12 arg14 arg15 harg15 arg16 harg16 s b t0 g h base hb sc iv r hr K) Q) := by
  unfold emitR emitR15 emitR16
  iintro ⟨H12, H14, H15, H16⟩ Hk
  iapply (wp_loadU c (m := arg14)) $$ H14
  iintro H14
  iapply (wp_loadU c (m := arg14)) $$ H14
  iintro H14
  iapply (wp_loadU c (m := arg14)) $$ H14
  iintro H14
  iapply (wp_loadU c (m := arg14)) $$ H14
  iintro H14
  iapply (wp_putE c arg12 arg15 harg15 arg16 harg16 f12 s b t0 g h h15 h16) $$ [H12 H15 H16]
  · isplitl [H12]; · iexact H12
    isplitl [H15] <;> iassumption
  iintro H12 H15 H16
  iapply (wp_putE c arg12 arg15 harg15 arg16 harg16 f12 s b t0 g h h15 h16) $$ [H12 H15 H16]
  · isplitl [H12]; · iexact H12
    isplitl [H15] <;> iassumption
  iintro H12 H15 H16
  iapply (wp_putE c arg12 arg15 harg15 arg16 harg16 f12 s b t0 g h h15 h16) $$ [H12 H15 H16]
  · isplitl [H12]; · iexact H12
    isplitl [H15] <;> iassumption
  iintro H12 H15 H16
  iapply (wp_putE c arg12 arg15 harg15 arg16 harg16 f12 s b t0 g h h15 h16) $$ [H12 H15 H16]
  · isplitl [H12]; · iexact H12
    isplitl [H15] <;> iassumption
  iintro H12 H15 H16
  iapply Hk $$ H12 H14 H15 H16

/-- The stage after a group's tokens. -/
def group14 (f14 : BufAt (F := F) c arg14) : BufAt (F := F) c arg14 :=
  tok814 c arg0 arg7 arg14 f0 f7 hids s b t0 g h 3 (by omega) <|
  tok814 c arg0 arg7 arg14 f0 f7 hids s b t0 g h 2 (by omega) <|
  tok814 c arg0 arg7 arg14 f0 f7 hids s b t0 g h 1 (by omega) <|
  tok814 c arg0 arg7 arg14 f0 f7 hids s b t0 g h 0 (by omega) f14
/-- A group's scales, or its reciprocals. -/
def groupS (arg1 : Memref sig .tc .smem S32000 .f32) (f1 : BufAt (F := F) c arg1) : FVec F S32x128 .f32 :=
  cat4 (tok8S c arg0 f0 hids v6 s b t0 g h arg1 f1 0 (by omega)) (tok8S c arg0 f0 hids v6 s b t0 g h arg1 f1 1 (by omega))
    (tok8S c arg0 f0 hids v6 s b t0 g h arg1 f1 2 (by omega)) (tok8S c arg0 f0 hids v6 s b t0 g h arg1 f1 3 (by omega))
/-- The embeddings' buffer after a group. -/
def group16 (M : Memref sig .tc .vmem S4x256x1536 .bf16) (sc : FVec F S32x128 .bf16) (f14 : BufAt (F := F) c arg14) (f : BufAt (F := F) c M) : BufAt (F := F) c M :=
  emitR16 c arg14 s b t0 g h M 2 (by omega) sc f14 <| emitR16 c arg14 s b t0 g h M 1 (by omega) sc f14 <| emitR16 c arg14 s b t0 g h M 0 (by omega) sc f14 f
/-- The results' buffer after a group. -/
def group15 (M : Memref sig .tc .vmem S4x256x1536 .bf16) (base : Nat) (hb : base ≤ 12) (sc : FVec F S32x128 .bf16) (iv : FVec F S32x128 .f32) (f14 : BufAt (F := F) c arg14) (f : BufAt (F := F) c M) : BufAt (F := F) c M :=
  emitR15 c arg12 arg14 f12 s b t0 g h M base hb 2 (by omega) sc iv f14 <| emitR15 c arg12 arg14 f12 s b t0 g h M base hb 1 (by omega) sc iv f14 <|
  emitR15 c arg12 arg14 f12 s b t0 g h M base hb 0 (by omega) sc iv f14 f

theorem wp_group {Q : PUnit.{1} → sProp 𝕄} (h15 : TileIn c s b t0 g h arg15 S15) (h16 : TileIn c s b t0 g h arg16 S16) (base : Nat) (hb : base ≤ 12)
    (f14 : BufAt (F := F) c arg14) (f15 : BufAt (F := F) c arg15) (f16 : BufAt (F := F) c arg16) (K : PF) :
    iprop(rdE c arg0 arg1 arg7 arg10 f0 f1 f7 f10 q0 q1 ∗ onS c arg12 Finset.univ fullShare f12 ∗ onS c arg14 Finset.univ fullShare f14 ∗ onS c arg15 S15 fullShare f15 ∗ onS c arg16 S16 fullShare f16)
      ⊢ iprop((iprop(rdE c arg0 arg1 arg7 arg10 f0 f1 f7 f10 q0 q1 ∗ onS c arg12 Finset.univ fullShare f12
          ∗ onS c arg14 Finset.univ fullShare (group14 c arg0 arg7 arg14 f0 f7 hids s b t0 g h f14)
          ∗ onS c arg15 S15 fullShare (group15 c arg12 arg14 f12 s b t0 g h arg15 base hb (truncf .bf16 (groupS c arg0 f0 hids v6 s b t0 g h arg1 f1) bitsLt_bf16_f32) (groupS c arg0 f0 hids v6 s b t0 g h arg10 f10) (group14 c arg0 arg7 arg14 f0 f7 hids s b t0 g h f14) f15)
          ∗ onS c arg16 S16 fullShare (group16 c arg14 s b t0 g h arg16 (truncf .bf16 (groupS c arg0 f0 hids v6 s b t0 g h arg1 f1) bitsLt_bf16_f32) (group14 c arg0 arg7 arg14 f0 f7 hids s b t0 g h f14) f16)) -∗ wpK c K Q)
        -∗ wpK c (group arg0 arg1 arg7 arg10 arg12 arg14 arg15 harg15 arg16 harg16 v6 s b t0 g h base hb K) Q) := by
  unfold group
  iintro ⟨HR, H12, H14, H15, H16⟩ Hk
  iapply (wp_tok8 c arg0 arg1 arg7 arg10 arg14 f0 f1 f7 f10 hids v6 s b t0 g h 0 _) $$ [HR H14]
  · isplitl [HR] <;> iassumption
  iintro HR H14
  iapply (wp_tok8 c arg0 arg1 arg7 arg10 arg14 f0 f1 f7 f10 hids v6 s b t0 g h 1 _) $$ [HR H14]
  · isplitl [HR] <;> iassumption
  iintro HR H14
  iapply (wp_tok8 c arg0 arg1 arg7 arg10 arg14 f0 f1 f7 f10 hids v6 s b t0 g h 2 _) $$ [HR H14]
  · isplitl [HR] <;> iassumption
  iintro HR H14
  iapply (wp_tok8 c arg0 arg1 arg7 arg10 arg14 f0 f1 f7 f10 hids v6 s b t0 g h 3 _) $$ [HR H14]
  · isplitl [HR] <;> iassumption
  iintro HR H14
  iapply (wp_emitR c arg12 arg14 arg15 harg15 arg16 harg16 f12 s b t0 g h h15 h16) $$ [H12 H14 H15 H16]
  · isplitl [H12]; · iexact H12
    isplitl [H14]; · iexact H14
    isplitl [H15] <;> iassumption
  iintro H12 H14 H15 H16
  iapply (wp_emitR c arg12 arg14 arg15 harg15 arg16 harg16 f12 s b t0 g h h15 h16) $$ [H12 H14 H15 H16]
  · isplitl [H12]; · iexact H12
    isplitl [H14]; · iexact H14
    isplitl [H15] <;> iassumption
  iintro H12 H14 H15 H16
  iapply (wp_emitR c arg12 arg14 arg15 harg15 arg16 harg16 f12 s b t0 g h h15 h16) $$ [H12 H14 H15 H16]
  · isplitl [H12]; · iexact H12
    isplitl [H14]; · iexact H14
    isplitl [H15] <;> iassumption
  iintro H12 H14 H15 H16
  iapply Hk
  isplitl [HR]; · iexact HR
  isplitl [H12]; · iexact H12
  isplitl [H14]; · iexact H14
  isplitl [H15]; · iexact H15
  iexact H16

end
end Cert.Proof.Kernel
-- ==== Proof.WriteRing.lean ====
/-
  The ring of four buffers the results are written through: trip `i` waits for the block started four trips before,
  fills its buffer again and starts the next block from it.
-/
module

public import proofs.«01_k».proof.Proof.ReadRing
public import proofs.«01_k».proof.Proof.EmitWp

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

section
variable (c : Dev nD)

theorem off1_inb4 {p : ℕ} (hp : p < 4) : ∀ i, (![p] : Fin 1 → ℕ) i + S1.size i ≤ S4.size i := by intro i; fin_cases i; simp; omega
/-- Slot `p`'s cell of the four. -/
def cell4 (a : DmaSems sig S4) (p : Fin 4) : DmaSem sig := ((a.slice (Rect.unit (s := S4) ![p.val] S1.size (off1_inb4 p.isLt))).squeeze S_ squeezes_S1_S_).sem
theorem cell4_eq (a : DmaSems sig S4) {off : Fin 1 → ℕ} (h : ∀ i, off i + S1.size i ≤ S4.size i) (p : Fin 4) (e : off = ![p.val]) :
    ((a.slice (Rect.unit (s := S4) off S1.size h)).squeeze S_ squeezes_S1_S_).sem = cell4 a p := by subst e; rfl

/-- The slot of a staged element, and the slot the rows of a result are written from. -/
def g4 (x : S4x256x1536.Idx) : Fin 4 := x 0
def gO (x : S8x4096x3072.Idx) : Fin 4 := ⟨(x 1).val / 256 % 4, Nat.mod_lt _ (by omega)⟩
abbrev sw (i : ℕ) : Fin 4 := ⟨i % 4, Nat.mod_lt _ (by omega)⟩

variable (a : DmaSems sig S4) (M : Memref sig .tc .vmem S4x256x1536 .bf16) (O : Memref sig .tc .hbm S8x4096x3072 .bf16)
variable (P : Fin 4 → ℕ → BufAt (F := F) c O → Prop)

/-- What a block of a result is counted as. -/
abbrev NW : ℕ := ((O.slice (Rect.unit (s := S8x4096x3072) (k0_off320 ⟨0, by decide⟩) S1x256x1536.size (k0_off320_inb ⟨0, by decide⟩)) (fun _ => rfl)).squeeze S256x1536 squeezes_S1x256x1536_S256x1536).view.dmaCredit

/-- Slot `p` of the staging buffer; the rows written from it. -/
abbrev Stg (p : Fin 4) : sProp 𝕄 := iprop(∃ f, onS (F := F) c M (part c M g4 p) fullShare f)
abbrev Dst (P : BufAt (F := F) c O → Prop) (p : Fin 4) : sProp 𝕄 := iprop(∃ f, ⌜P f⌝ ∗ onS c O (part c O gO p) fullShare f)
/-- The slot at rest, and with a block in flight. -/
abbrev WI (P : BufAt (F := F) c O → Prop) (p : Fin 4) : sProp 𝕄 := iprop(Rest c (cell4 a p) ∗ Stg (F := F) c M p ∗ Dst c O P p)
abbrev WF (P : BufAt (F := F) c O → Prop) (p : Fin 4) : sProp 𝕄 := InFl c (cell4 a p) (NW O) iprop(Stg (F := F) c M p ∗ Dst c O P p)
/-- Slot `p` before trip `i`, its first block the one numbered `n0`. -/
def WSl (n0 i : ℕ) (p : Fin 4) : sProp 𝕄 := if p.val < i then WF c a M O (P p (n0 + (i + 3 - p.val) / 4)) p else WI c a M O (P p n0) p
/-- Slot `p` with the first `j` slots waited for at the end. -/
def WDr (n j : ℕ) (p : Fin 4) : sProp 𝕄 := if p.val < j then WI c a M O (P p n) p else WF c a M O (P p n) p

theorem WSl_next (n0 i : ℕ) (p : Fin 4) (h : p ≠ sw i) : WSl c a M O P n0 i p = WSl c a M O P n0 (i + 1) p := by
  have hp := p.isLt
  have h' : p.val ≠ i % 4 := fun e => h (Fin.ext e)
  have e : (p.val < i) = (p.val < i + 1) := propext (by omega)
  have e' : (i + 3 - p.val) / 4 = (i + 1 + 3 - p.val) / 4 ∨ ¬ p.val < i + 1 := by omega
  unfold WSl
  rcases e' with e' | e'
  · simp only [e, e']
  · simp only [e, if_neg e']

theorem WSl_drain (n0 : ℕ) : bigSep Finset.univ (WSl c a M O P n0 128) = bigSep Finset.univ (WDr c a M O P (n0 + 32) 0) := by
  refine BI.bigSep_congr fun p _ => ?_
  have hp := p.isLt
  unfold WSl WDr
  rw [if_pos (by omega), if_neg (by omega), show (128 + 3 - p.val) / 4 = 32 by omega]

theorem WDr_rest (n : ℕ) : bigSep Finset.univ (WDr c a M O P n 4) = bigSep Finset.univ (WSl c a M O P n 0) := by
  refine BI.bigSep_congr fun p _ => ?_
  unfold WSl WDr
  rw [if_pos p.isLt, if_neg (by omega)]

/-- One of the last four blocks waited for. -/
theorem wp_drain {Q : PUnit.{1} → sProp 𝕄} {sp sp' : Space} {s s' : Shape} {e e' : EltTy} {srcw : Memref sig .tc sp' s' e'} {dstw : Memref sig .tc sp s e}
    {hsrc : srcw.view.WordExact} {hdst : dstw.view.WordExact} {k : PUnit.{1} → PF} {off : Fin 1 → ℕ} {h : ∀ i, off i + S1.size i ≤ S4.size i}
    (n j : ℕ) (hj : j < 4) (ho : off = ![j]) (hN : dstw.view.dmaCredit = NW O) :
    iprop(bigSep Finset.univ (WDr c a M O P n j) ∗ Owes c)
      ⊢ iprop((iprop(bigSep Finset.univ (WDr c a M O P n (j + 1)) ∗ Owes c) -∗ wpK c (k ⟨⟩) Q)
        -∗ wpK c (.op (.waitDma2 ((a.slice (Rect.unit (s := S4) off S1.size h)).squeeze S_ squeezes_S1_S_).sem srcw dstw hsrc hdst) k) Q) := by
  have R := ring_one (WDr c a M O P n j) (WDr c a M O P n (j + 1)) ⟨j, hj⟩ (fun p hp => by
    have hp' : p.val ≠ j := fun e => hp (Fin.ext e)
    have e : (p.val < j) = (p.val < j + 1) := propext (by omega)
    unfold WDr; simp only [e])
  rw [show WDr c a M O P n j ⟨j, hj⟩ = WF c a M O (P ⟨j, hj⟩ n) ⟨j, hj⟩ from if_neg (by simp),
    show WDr c a M O P n (j + 1) ⟨j, hj⟩ = WI c a M O (P ⟨j, hj⟩ n) ⟨j, hj⟩ from if_pos (by simp)] at R
  iintro ⟨HR, HO⟩ Hk
  ihave HR := R $$ HR
  icases HR with ⟨H0, Hback⟩
  iapply (wp_waitK c (cell4_eq a h ⟨j, hj⟩ ho) hN) $$ [H0 HO]
  · isplitl [H0] <;> iassumption
  iintro ⟨⟨HM, HD⟩, Hrest, HO⟩
  iapply Hk
  isplitl [HM HD Hrest Hback]
  · iapply Hback
    isplitl [Hrest]; · iexact Hrest
    isplitl [HM] <;> iassumption
  iexact HO

theorem offO_in {off : Fin 3 → ℕ} {b d : ℕ} {k : ℕ} {s : Shape} {h : ∀ a, off a + S1x256x1536.size a ≤ S8x4096x3072.size a} {hu} {hq : (Rect.unit (s := S8x4096x3072) off S1x256x1536.size h).shape.Squeezes s} (p : Fin 4)
    (e : off = ![b, 256 * (k % 16), d]) (hp : k % 4 = p.val) :
    ((O.slice (Rect.unit (s := S8x4096x3072) off S1x256x1536.size h) hu).squeeze s hq).view.set ⊆ part c O gO p := by
  subst e
  show ((O.view.slice _).reshape _ _).set ⊆ _
  rw [View.set_reshape]
  refine slice_part c O gO fun x hx => ?_
  have := (Rect.mem_set_unit.mp hx) 1
  simp at this
  exact Fin.ext (by show (x 1).val / 256 % 4 = p.val; rw [show (x 1).val / 256 = k % 16 by omega]; omega)

theorem offS_in {off : Fin 3 → ℕ} {s : Shape} {h : ∀ a, off a + S1x256x1536.size a ≤ S4x256x1536.size a} {hu} {hq : (Rect.unit (s := S4x256x1536) off S1x256x1536.size h).shape.Squeezes s} (p : Fin 4) (e : off = ![p.val, 0, 0]) :
    ((M.slice (Rect.unit (s := S4x256x1536) off S1x256x1536.size h) hu).squeeze s hq).view.set ⊆ part c M g4 p := by
  subst e
  show ((M.view.slice _).reshape _ _).set ⊆ _
  rw [View.set_reshape]
  refine slice_part c M g4 fun x hx => ?_
  have := (Rect.mem_set_unit.mp hx) 0
  simp at this
  exact Fin.ext (by show (x 0).val = p.val; omega)

theorem tileIn {s b t0 g : BitVec 32} {h : EmitOk s b t0 g} (p : Fin 4) (e : (Scalar.indexCast s).toNat = p.val) : TileIn c s b t0 g h M (part c M g4 p) := by
  intro j hj
  refine slice_part c M g4 fun x hx => ?_
  have := (Rect.mem_set_unit.mp hx) 0
  simp [outOff] at this
  exact Fin.ext (by show (x 0).val = p.val; rw [← e]; omega)

theorem pos_blk : 0 < S256x1536.numel := by decide +kernel

/-- A block started from a filled slot. -/
theorem wp_startW {Q : PUnit.{1} → sProp 𝕄} {oS oO : Fin 3 → ℕ} {oc : Fin 1 → ℕ} {hS : ∀ a, oS a + S1x256x1536.size a ≤ S4x256x1536.size a} {hO : ∀ a, oO a + S1x256x1536.size a ≤ S8x4096x3072.size a}
    {hc : ∀ i, oc i + S1.size i ≤ S4.size i} {hsrc hdst hsem} {K : PUnit.{1} → PF} (p : Fin 4) {k b d : ℕ} (hk : k % 4 = p.val)
    (eS : oS = ![p.val, 0, 0]) (eO : oO = ![b, 256 * (k % 16), d]) (ec : oc = ![p.val]) (P P' : BufAt (F := F) c O → Prop) (fM : BufAt (F := F) c M)
    (hP : ∀ fd, P fd → P' (((O.slice (Rect.unit (s := S8x4096x3072) oO S1x256x1536.size hO) (fun _ => rfl)).squeeze S256x1536 squeezes_S1x256x1536_S256x1536).view.write (Elt F) fd
      (((M.slice (Rect.unit (s := S4x256x1536) oS S1x256x1536.size hS) (fun _ => rfl)).squeeze S256x1536 squeezes_S1x256x1536_S256x1536).view.read (Elt F) fM) Finset.univ)) :
    iprop(Rest c (cell4 a p) ∗ onS c M (part c M g4 p) fullShare fM ∗ Dst c O P p)
      ⊢ iprop((WF c a M O P' p -∗ wpK c (K ⟨⟩) Q)
        -∗ wpK c (.op (.enqueueDma ((M.slice (Rect.unit (s := S4x256x1536) oS S1x256x1536.size hS) (fun _ => rfl)).squeeze S256x1536 squeezes_S1x256x1536_S256x1536)
          (.here ((O.slice (Rect.unit (s := S8x4096x3072) oO S1x256x1536.size hO) (fun _ => rfl)).squeeze S256x1536 squeezes_S1x256x1536_S256x1536))
          (.dma ((a.slice (Rect.unit (s := S4) oc S1.size hc)).squeeze S_ squeezes_S1_S_).sem) hsrc hdst hsem) K) Q) := by
  have hs := offS_in c M (hu := fun _ => rfl) (h := hS) (hq := squeezes_S1x256x1536_S256x1536) p eS
  have hd := offO_in c O (hu := fun _ => rfl) (h := hO) (hq := squeezes_S1x256x1536_S256x1536) p eO hk
  iintro ⟨Hr, HM, ⟨%fd, %hfd, HD⟩⟩ Hk
  have W := wp_startK (Q := Q) c (src := (M.slice (Rect.unit (s := S4x256x1536) oS S1x256x1536.size hS) (fun _ => rfl)).squeeze S256x1536 squeezes_S1x256x1536_S256x1536)
    (dst := (O.slice (Rect.unit (s := S8x4096x3072) oO S1x256x1536.size hO) (fun _ => rfl)).squeeze S256x1536 squeezes_S1x256x1536_S256x1536)
    (hsrc := hsrc) (hdst := hdst) (hsem := hsem) (k := K) (q := fullShare) (fs := fM) (fd := fd) (R := iprop(Stg (F := F) c M p ∗ Dst c O P' p)) (cell4_eq a hc p ec) pos_blk hs hd (by
      iintro ⟨Hs, Hd⟩
      isplitl [Hs]
      · iexists fM; iexact Hs
      iexists _
      isplitr
      · ipureintro; exact hP fd hfd
      iexact Hd)
  iapply W $$ [Hr HM HD]
  · isplitl [HM]; · iexact HM
    isplitl [HD] <;> iassumption
  iintro H
  iapply Hk $$ H
end

end Cert.Proof.Kernel
-- ==== Proof.Trip4.lean ====
/-
  The loop that writes the first half of each row of both results.
-/
module

public import proofs.«01_k».proof.Proof.WriteRing

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

/-- The waits of a trip, for the blocks started four trips before; then `K`. -/
def head4 {F : FTy → Type} [FloatOps F] (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k : Fin k0_t4_loop.trips) (K : Prog (TpuEff nD τ sig (Elt F) Λ₀ Proc.tc) PUnit) : Prog (TpuEff nD τ sig (Elt F) Λ₀ Proc.tc) PUnit :=
  if h : k0_cond2 k = 1#1 then
    .op (.waitDma2 ((arg19.slice (Rect.unit (s := S4) (k0_off208 k) S1.size (k0_off208_inb k h))).squeeze S_ squeezes_S1_S_).sem
      ((arg15.slice (Rect.unit (s := S4x256x1536) (k0_off210 k) S1x256x1536.size (k0_off210_inb k h)) (fun _ => rfl)).squeeze S256x1536 squeezes_S1x256x1536_S256x1536)
      ((arg5.slice (Rect.unit (s := S8x4096x3072) (k0_off209 k) S1x256x1536.size (k0_off209_inb k h)) (fun _ => rfl)).squeeze S256x1536 squeezes_S1x256x1536_S256x1536)
      ((harg15.wordExact_slice rfl _ (k0_off210_wordsbf16 k h)).reshape _ _) ((harg5.wordExact_slice rfl _ (k0_off209_wordsbf16 k h)).reshape _ _)) fun _ =>
    .op (.waitDma2 ((arg20.slice (Rect.unit (s := S4) (k0_off208 k) S1.size (k0_off208_inb k h))).squeeze S_ squeezes_S1_S_).sem
      ((arg16.slice (Rect.unit (s := S4x256x1536) (k0_off210 k) S1x256x1536.size (k0_off210_inb k h)) (fun _ => rfl)).squeeze S256x1536 squeezes_S1x256x1536_S256x1536)
      ((arg6.slice (Rect.unit (s := S8x4096x3072) (k0_off209 k) S1x256x1536.size (k0_off209_inb k h)) (fun _ => rfl)).squeeze S256x1536 squeezes_S1x256x1536_S256x1536)
      ((harg16.wordExact_slice rfl _ (k0_off210_wordsbf16 k h)).reshape _ _) ((harg6.wordExact_slice rfl _ (k0_off209_wordsbf16 k h)).reshape _ _)) fun _ => K
  else K

/-- A trip. -/
def trip4 {F : FTy → Type} [FloatOps F] (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (v6 : IVec S8x128 32) (k : Fin k0_t4_loop.trips) : Prog (TpuEff nD τ sig (Elt F) Λ₀ Proc.tc) PUnit :=
  head4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k (Scf.Loop.for k0_t5_loop k0_t5_ok ⟨⟩ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k (sOf (Scf.iv 0#32 1#32 k)) (bOf (Scf.iv 0#32 1#32 k)) (t0Of (Scf.iv 0#32 1#32 k))) >>= fun _ =>
    .op (.enqueueDma ((arg15.slice (Rect.unit (s := S4x256x1536) (k0_off321 k) S1x256x1536.size (k0_off321_inb k)) (fun _ => rfl)).squeeze S256x1536 squeezes_S1x256x1536_S256x1536)
      (.here ((arg5.slice (Rect.unit (s := S8x4096x3072) (k0_off320 k) S1x256x1536.size (k0_off320_inb k)) (fun _ => rfl)).squeeze S256x1536 squeezes_S1x256x1536_S256x1536))
      (.dma ((arg19.slice (Rect.unit (s := S4) (k0_off319 k) S1.size (k0_off319_inb k))).squeeze S_ squeezes_S1_S_).sem)
      ((harg15.wordExact_slice rfl _ (k0_off321_wordsbf16 k)).reshape _ _) ((harg5.wordExact_slice rfl _ (k0_off320_wordsbf16 k)).reshape _ _) ⟨Or.inl rfl, trivial⟩) fun _ =>
    .op (.enqueueDma ((arg16.slice (Rect.unit (s := S4x256x1536) (k0_off321 k) S1x256x1536.size (k0_off321_inb k)) (fun _ => rfl)).squeeze S256x1536 squeezes_S1x256x1536_S256x1536)
      (.here ((arg6.slice (Rect.unit (s := S8x4096x3072) (k0_off320 k) S1x256x1536.size (k0_off320_inb k)) (fun _ => rfl)).squeeze S256x1536 squeezes_S1x256x1536_S256x1536))
      (.dma ((arg20.slice (Rect.unit (s := S4) (k0_off319 k) S1.size (k0_off319_inb k))).squeeze S_ squeezes_S1_S_).sem)
      ((harg16.wordExact_slice rfl _ (k0_off321_wordsbf16 k)).reshape _ _) ((harg6.wordExact_slice rfl _ (k0_off320_wordsbf16 k)).reshape _ _) ⟨Or.inl rfl, trivial⟩) fun _ => .ret ⟨⟩)

set_option maxRecDepth 65536 in
set_option maxHeartbeats 40000000 in
theorem body4 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (v6 : IVec S8x128 32) (k : Fin k0_t4_loop.trips) :
    k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k () = trip4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k := by
  unfold trip4 head4 k0_t4_body
  by_cases h : k0_cond2 k = 1#1
  · simp only [dif_pos h]; rfl
  · simp only [dif_neg h]; rfl

theorem cond2_iff (k : Fin k0_t4_loop.trips) : k0_cond2 k = 1#1 ↔ 4 ≤ k.val := by revert k; decide +kernel
theorem off208_eq (k : Fin k0_t4_loop.trips) (h : k0_cond2 k = 1#1) : k0_off208 k = ![k.val % 4] := by revert k; decide +kernel
theorem slot4 (k : Fin k0_t4_loop.trips) : (Scalar.indexCast (sOf (Scf.iv 0#32 1#32 k))).toNat = k.val % 4 := by revert k; decide +kernel

section
variable (c : Dev nD) (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4)
variable (P5 : Fin 4 → ℕ → BufAt (F := F) c arg5 → Prop) (P6 : Fin 4 → ℕ → BufAt (F := F) c arg6 → Prop) (n0 : ℕ)

/-- The state of the two rings before trip `i`. -/
abbrev Rings4 (i : ℕ) : sProp 𝕄 :=
  iprop(bigSep Finset.univ (WSl c arg19 arg15 arg5 P5 n0 i) ∗ bigSep Finset.univ (WSl c arg20 arg16 arg6 P6 n0 i) ∗ Owes c)

theorem wp_head4 {Q : PUnit.{1} → sProp 𝕄} (k : Fin k0_t4_loop.trips) (K : PF) :
    Rings4 c arg5 arg6 arg15 arg16 arg19 arg20 P5 P6 n0 k.val
      ⊢ iprop((WI c arg19 arg15 arg5 (P5 (sw k.val) (n0 + k.val / 4)) (sw k.val) -∗ WI c arg20 arg16 arg6 (P6 (sw k.val) (n0 + k.val / 4)) (sw k.val) -∗ Owes c
          -∗ (WF c arg19 arg15 arg5 (P5 (sw k.val) (n0 + k.val / 4 + 1)) (sw k.val) -∗ bigSep Finset.univ (WSl c arg19 arg15 arg5 P5 n0 (k.val + 1)))
          -∗ (WF c arg20 arg16 arg6 (P6 (sw k.val) (n0 + k.val / 4 + 1)) (sw k.val) -∗ bigSep Finset.univ (WSl c arg20 arg16 arg6 P6 n0 (k.val + 1))) -∗ wpK c K Q)
        -∗ wpK c (head4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k K) Q) := by
  have hp : (sw k.val).val < k.val + 1 := by show k.val % 4 < _; omega
  have en : n0 + (k.val + 1 + 3 - k.val % 4) / 4 = n0 + k.val / 4 + 1 := by omega
  have R5 := ring_one (WSl c arg19 arg15 arg5 P5 n0 k.val) (WSl c arg19 arg15 arg5 P5 n0 (k.val + 1)) (sw k.val) (fun p h => WSl_next c arg19 arg15 arg5 P5 n0 k.val p h)
  have R6 := ring_one (WSl c arg20 arg16 arg6 P6 n0 k.val) (WSl c arg20 arg16 arg6 P6 n0 (k.val + 1)) (sw k.val) (fun p h => WSl_next c arg20 arg16 arg6 P6 n0 k.val p h)
  rw [show WSl c arg19 arg15 arg5 P5 n0 (k.val + 1) (sw k.val) = WF c arg19 arg15 arg5 (P5 (sw k.val) (n0 + k.val / 4 + 1)) (sw k.val) by
    unfold WSl; rw [if_pos hp]; simp only [en]] at R5
  rw [show WSl c arg20 arg16 arg6 P6 n0 (k.val + 1) (sw k.val) = WF c arg20 arg16 arg6 (P6 (sw k.val) (n0 + k.val / 4 + 1)) (sw k.val) by
    unfold WSl; rw [if_pos hp]; simp only [en]] at R6
  unfold Rings4 head4
  by_cases h : k0_cond2 k = 1#1
  · have hk := (cond2_iff k).mp h
    have ep : n0 + (k.val + 3 - k.val % 4) / 4 = n0 + k.val / 4 := by omega
    have e5 : WSl c arg19 arg15 arg5 P5 n0 k.val (sw k.val) ⊢ WF c arg19 arg15 arg5 (P5 (sw k.val) (n0 + k.val / 4)) (sw k.val) := by
      unfold WSl; rw [if_pos (by show k.val % 4 < _; omega)]; simp only [ep]; exact .rfl
    have e6 : WSl c arg20 arg16 arg6 P6 n0 k.val (sw k.val) ⊢ WF c arg20 arg16 arg6 (P6 (sw k.val) (n0 + k.val / 4)) (sw k.val) := by
      unfold WSl; rw [if_pos (by show k.val % 4 < _; omega)]; simp only [ep]; exact .rfl
    have hN5 : ((arg5.slice (Rect.unit (s := S8x4096x3072) (k0_off209 k) S1x256x1536.size (k0_off209_inb k h)) (fun _ => rfl)).squeeze S256x1536 squeezes_S1x256x1536_S256x1536).view.dmaCredit = NW arg5 := rfl
    have hN6 : ((arg6.slice (Rect.unit (s := S8x4096x3072) (k0_off209 k) S1x256x1536.size (k0_off209_inb k h)) (fun _ => rfl)).squeeze S256x1536 squeezes_S1x256x1536_S256x1536).view.dmaCredit = NW arg6 := rfl
    rw [dif_pos h]
    iintro ⟨H5, H6, HO⟩ Hk
    ihave H5 := R5 $$ H5
    icases H5 with ⟨H5, B5⟩
    ihave H6 := R6 $$ H6
    icases H6 with ⟨H6, B6⟩
    ihave H5 := e5 $$ H5
    ihave H6 := e6 $$ H6
    iapply (wp_waitK c (hN := hN5) (N := NW arg5) (cell4_eq arg19 (k0_off208_inb k h) (sw k.val) (off208_eq k h))) $$ [H5 HO]
    · isplitl [H5] <;> iassumption
    iintro ⟨⟨HM5, HD5⟩, Hr5, HO⟩
    iapply (wp_waitK c (hN := hN6) (N := NW arg6) (cell4_eq arg20 (k0_off208_inb k h) (sw k.val) (off208_eq k h))) $$ [H6 HO]
    · isplitl [H6] <;> iassumption
    iintro ⟨⟨HM6, HD6⟩, Hr6, HO⟩
    iapply Hk $$ [HM5 HD5 Hr5] [HM6 HD6 Hr6] HO B5 B6
    · isplitl [Hr5]; · iexact Hr5
      isplitl [HM5] <;> iassumption
    · isplitl [Hr6]; · iexact Hr6
      isplitl [HM6] <;> iassumption
  · have hk : ¬ 4 ≤ k.val := fun e => h ((cond2_iff k).mpr e)
    have ep : n0 + k.val / 4 = n0 := by omega
    have e5 : WSl c arg19 arg15 arg5 P5 n0 k.val (sw k.val) ⊢ WI c arg19 arg15 arg5 (P5 (sw k.val) (n0 + k.val / 4)) (sw k.val) := by
      unfold WSl; rw [if_neg (by show ¬ k.val % 4 < _; omega), ep]
    have e6 : WSl c arg20 arg16 arg6 P6 n0 k.val (sw k.val) ⊢ WI c arg20 arg16 arg6 (P6 (sw k.val) (n0 + k.val / 4)) (sw k.val) := by
      unfold WSl; rw [if_neg (by show ¬ k.val % 4 < _; omega), ep]
    rw [dif_neg h]
    iintro ⟨H5, H6, HO⟩ Hk
    ihave H5 := R5 $$ H5
    icases H5 with ⟨H5, B5⟩
    ihave H6 := R6 $$ H6
    icases H6 with ⟨H6, B6⟩
    ihave H5 := e5 $$ H5
    ihave H6 := e6 $$ H6
    iapply Hk $$ H5 H6 HO B5 B6

variable (f0 : BufAt (F := F) c arg0) (f1 : BufAt (F := F) c arg1) (f7 : BufAt (F := F) c arg7) (f10 : BufAt (F := F) c arg10) (f12 : BufAt (F := F) c arg12)
  (hids : IdsOk c arg0 f0) (v6 : IVec S8x128 32) {q0 q1 : PosShare TreeShare}
  (E15 : Fin k0_t4_loop.trips → ℕ → BufAt (F := F) c arg15 → Prop) (E16 : Fin k0_t4_loop.trips → ℕ → BufAt (F := F) c arg16 → Prop)

/-- A group's scales, and its reciprocals. -/
abbrev grpS4 (k : Fin k0_t4_loop.trips) (g : Fin k0_t5_loop.trips) : FVec F S32x128 .bf16 :=
  truncf .bf16 (groupS c arg0 f0 hids v6 _ _ _ _ (emitOk5 k g) arg1 f1) bitsLt_bf16_f32
abbrev grpI4 (k : Fin k0_t4_loop.trips) (g : Fin k0_t5_loop.trips) : FVec F S32x128 .f32 :=
  groupS c arg0 f0 hids v6 _ _ _ _ (emitOk5 k g) arg10 f10

/-- What a group reads and keeps. -/
abbrev Read4 (q0 q1 : PosShare TreeShare) : sProp 𝕄 :=
  iprop(rdE c arg0 arg1 arg7 arg10 f0 f1 f7 f10 q0 q1 ∗ onS c arg12 Finset.univ fullShare f12 ∗ ∃ f14, onS (F := F) c arg14 Finset.univ fullShare f14)

variable
  (h15 : ∀ k f, E15 k 0 f) (h16 : ∀ k f, E16 k 0 f)
  (s15 : ∀ (k : Fin k0_t4_loop.trips) (g : Fin k0_t5_loop.trips) f14 f, E15 k g.val f → E15 k (g.val + 1)
    (group15 c arg12 arg14 f12 _ _ _ _ (emitOk5 k g) arg15 0 (Nat.zero_le 12) (grpS4 c arg0 arg1 f0 f1 hids v6 k g) (grpI4 c arg0 arg10 f0 f10 hids v6 k g)
      (group14 c arg0 arg7 arg14 f0 f7 hids _ _ _ _ (emitOk5 k g) f14) f))
  (s16 : ∀ (k : Fin k0_t4_loop.trips) (g : Fin k0_t5_loop.trips) f14 f, E16 k g.val f → E16 k (g.val + 1)
    (group16 c arg14 _ _ _ _ (emitOk5 k g) arg16 (grpS4 c arg0 arg1 f0 f1 hids v6 k g)
      (group14 c arg0 arg7 arg14 f0 f7 hids _ _ _ _ (emitOk5 k g) f14) f))
  (w5 : ∀ (k : Fin k0_t4_loop.trips) f15 fd, E15 k k0_t5_loop.trips f15 → P5 (sw k.val) (n0 + k.val / 4) fd → P5 (sw k.val) (n0 + k.val / 4 + 1)
    (((arg5.slice (Rect.unit (s := S8x4096x3072) (k0_off320 k) S1x256x1536.size (k0_off320_inb k)) (fun _ => rfl)).squeeze S256x1536 squeezes_S1x256x1536_S256x1536).view.write (Elt F) fd
      (((arg15.slice (Rect.unit (s := S4x256x1536) (k0_off321 k) S1x256x1536.size (k0_off321_inb k)) (fun _ => rfl)).squeeze S256x1536 squeezes_S1x256x1536_S256x1536).view.read (Elt F) f15) Finset.univ))
  (w6 : ∀ (k : Fin k0_t4_loop.trips) f16 fd, E16 k k0_t5_loop.trips f16 → P6 (sw k.val) (n0 + k.val / 4) fd → P6 (sw k.val) (n0 + k.val / 4 + 1)
    (((arg6.slice (Rect.unit (s := S8x4096x3072) (k0_off320 k) S1x256x1536.size (k0_off320_inb k)) (fun _ => rfl)).squeeze S256x1536 squeezes_S1x256x1536_S256x1536).view.write (Elt F) fd
      (((arg16.slice (Rect.unit (s := S4x256x1536) (k0_off321 k) S1x256x1536.size (k0_off321_inb k)) (fun _ => rfl)).squeeze S256x1536 squeezes_S1x256x1536_S256x1536).view.read (Elt F) f16) Finset.univ))
include h15 h16 s15 s16 w5 w6

theorem wp_trip4 (k : Fin k0_t4_loop.trips) :
    iprop(Rings4 c arg5 arg6 arg15 arg16 arg19 arg20 P5 P6 n0 k.val ∗ Read4 c arg0 arg1 arg7 arg10 arg12 arg14 f0 f1 f7 f10 f12 q0 q1)
      ⊢ wpK c (trip4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k) fun _ => iprop(Rings4 c arg5 arg6 arg15 arg16 arg19 arg20 P5 P6 n0 (k.val + 1) ∗ Read4 c arg0 arg1 arg7 arg10 arg12 arg14 f0 f1 f7 f10 f12 q0 q1) := by
  have t15 := fun g => tileIn c arg15 (h := emitOk5 k g) (sw k.val) (slot4 k)
  have t16 := fun g => tileIn c arg16 (h := emitOk5 k g) (sw k.val) (slot4 k)
  unfold trip4
  iintro ⟨HR, Hrd⟩
  iapply (wp_head4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 P5 P6 n0 k _) $$ HR
  iintro ⟨Hr5, ⟨%a15, H15⟩, HD5⟩ ⟨Hr6, ⟨%a16, H16⟩, HD6⟩ HO B5 B6
  iapply (wp_loopK c (fun g => iprop(Read4 c arg0 arg1 arg7 arg10 arg12 arg14 f0 f1 f7 f10 f12 q0 q1
      ∗ (∃ f15, ⌜E15 k g f15⌝ ∗ onS c arg15 (part c arg15 g4 (sw k.val)) fullShare f15) ∗ ∃ f16, ⌜E16 k g f16⌝ ∗ onS c arg16 (part c arg16 g4 (sw k.val)) fullShare f16)) ?_) $$ [Hrd H15 H16]
  · intro g
    rw [body5]
    iintro ⟨⟨Hrd, H12, ⟨%f14, H14⟩⟩, ⟨%f15, %e15, H15⟩, ⟨%f16, %e16, H16⟩⟩
    iapply (wp_group c arg0 arg1 arg7 arg10 arg12 arg14 arg15 harg15 arg16 harg16 f0 f1 f7 f10 f12 hids v6 _ _ _ _ (emitOk5 k g) (t15 g) (t16 g) 0 _ f14 f15 f16 _) $$ [Hrd H12 H14 H15 H16]
    · isplitl [Hrd]; · iexact Hrd
      isplitl [H12]; · iexact H12
      isplitl [H14]; · iexact H14
      isplitl [H15] <;> iassumption
    iintro ⟨Hrd, H12, H14, H15, H16⟩
    iapply (wp_retK c)
    isplitl [Hrd H12 H14]
    · isplitl [Hrd]; · iexact Hrd
      isplitl [H12]; · iexact H12
      iexists _; iexact H14
    isplitl [H15]
    · iexists _
      isplitr
      · ipureintro; exact s15 k g f14 f15 e15
      iexact H15
    iexists _
    isplitr
    · ipureintro; exact s16 k g f14 f16 e16
    iexact H16
  · isplitl [Hrd]; · iexact Hrd
    isplitl [H15]
    · iexists a15
      isplitr
      · ipureintro; exact h15 k a15
      iexact H15
    iexists a16
    isplitr
    · ipureintro; exact h16 k a16
    iexact H16
  iintro ⟨Hrd, ⟨%f15, %e15, H15⟩, ⟨%f16, %e16, H16⟩⟩
  iapply (wp_startW c arg19 arg15 arg5 (sw k.val) (k := k.val) rfl (k0_off321_eq k) (k0_off320_eq k) (k0_off319_eq k) (P5 (sw k.val) (n0 + k.val / 4)) (P5 (sw k.val) (n0 + k.val / 4 + 1)) f15 (fun fd => w5 k f15 fd e15)) $$ [Hr5 H15 HD5]
  · isplitl [Hr5]; · iexact Hr5
    isplitl [H15] <;> iassumption
  iintro H5
  iapply (wp_startW c arg20 arg16 arg6 (sw k.val) (k := k.val) rfl (k0_off321_eq k) (k0_off320_eq k) (k0_off319_eq k) (P6 (sw k.val) (n0 + k.val / 4)) (P6 (sw k.val) (n0 + k.val / 4 + 1)) f16 (fun fd => w6 k f16 fd e16)) $$ [Hr6 H16 HD6]
  · isplitl [Hr6]; · iexact Hr6
    isplitl [H16] <;> iassumption
  iintro H6
  iapply (wp_retK c)
  isplitr [Hrd]
  · isplitl [H5 B5]
    · iapply B5 $$ H5
    isplitl [H6 B6]
    · iapply B6 $$ H6
    iexact HO
  iexact Hrd
end

end Cert.Proof.Kernel
-- ==== Proof.Trip7.lean ====
/-
  The loop that writes the second half of each row of both results.
-/
module

public import proofs.«01_k».proof.Proof.WriteRing

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

/-- The waits of a trip, for the blocks started four trips before; then `K`. -/
def head7 {F : FTy → Type} [FloatOps F] (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (k : Fin k0_t7_loop.trips) (K : Prog (TpuEff nD τ sig (Elt F) Λ₀ Proc.tc) PUnit) : Prog (TpuEff nD τ sig (Elt F) Λ₀ Proc.tc) PUnit :=
  if h : k0_cond4 k = 1#1 then
    .op (.waitDma2 ((arg19.slice (Rect.unit (s := S4) (k0_off430 k) S1.size (k0_off430_inb k h))).squeeze S_ squeezes_S1_S_).sem
      ((arg15.slice (Rect.unit (s := S4x256x1536) (k0_off432 k) S1x256x1536.size (k0_off432_inb k h)) (fun _ => rfl)).squeeze S256x1536 squeezes_S1x256x1536_S256x1536)
      ((arg5.slice (Rect.unit (s := S8x4096x3072) (k0_off431 k) S1x256x1536.size (k0_off431_inb k h)) (fun _ => rfl)).squeeze S256x1536 squeezes_S1x256x1536_S256x1536)
      ((harg15.wordExact_slice rfl _ (k0_off432_wordsbf16 k h)).reshape _ _) ((harg5.wordExact_slice rfl _ (k0_off431_wordsbf16 k h)).reshape _ _)) fun _ =>
    .op (.waitDma2 ((arg20.slice (Rect.unit (s := S4) (k0_off430 k) S1.size (k0_off430_inb k h))).squeeze S_ squeezes_S1_S_).sem
      ((arg16.slice (Rect.unit (s := S4x256x1536) (k0_off432 k) S1x256x1536.size (k0_off432_inb k h)) (fun _ => rfl)).squeeze S256x1536 squeezes_S1x256x1536_S256x1536)
      ((arg6.slice (Rect.unit (s := S8x4096x3072) (k0_off431 k) S1x256x1536.size (k0_off431_inb k h)) (fun _ => rfl)).squeeze S256x1536 squeezes_S1x256x1536_S256x1536)
      ((harg16.wordExact_slice rfl _ (k0_off432_wordsbf16 k h)).reshape _ _) ((harg6.wordExact_slice rfl _ (k0_off431_wordsbf16 k h)).reshape _ _)) fun _ => K
  else K

/-- A trip. -/
def trip7 {F : FTy → Type} [FloatOps F] (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (v6 : IVec S8x128 32) (k : Fin k0_t7_loop.trips) : Prog (TpuEff nD τ sig (Elt F) Λ₀ Proc.tc) PUnit :=
  head7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k (Scf.Loop.for k0_t8_loop k0_t8_ok ⟨⟩ (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k (sOf (Scf.iv 0#32 1#32 k)) (bOf (Scf.iv 0#32 1#32 k)) (t0Of (Scf.iv 0#32 1#32 k))) >>= fun _ =>
    .op (.enqueueDma ((arg15.slice (Rect.unit (s := S4x256x1536) (k0_off543 k) S1x256x1536.size (k0_off543_inb k)) (fun _ => rfl)).squeeze S256x1536 squeezes_S1x256x1536_S256x1536)
      (.here ((arg5.slice (Rect.unit (s := S8x4096x3072) (k0_off542 k) S1x256x1536.size (k0_off542_inb k)) (fun _ => rfl)).squeeze S256x1536 squeezes_S1x256x1536_S256x1536))
      (.dma ((arg19.slice (Rect.unit (s := S4) (k0_off541 k) S1.size (k0_off541_inb k))).squeeze S_ squeezes_S1_S_).sem)
      ((harg15.wordExact_slice rfl _ (k0_off543_wordsbf16 k)).reshape _ _) ((harg5.wordExact_slice rfl _ (k0_off542_wordsbf16 k)).reshape _ _) ⟨Or.inl rfl, trivial⟩) fun _ =>
    .op (.enqueueDma ((arg16.slice (Rect.unit (s := S4x256x1536) (k0_off543 k) S1x256x1536.size (k0_off543_inb k)) (fun _ => rfl)).squeeze S256x1536 squeezes_S1x256x1536_S256x1536)
      (.here ((arg6.slice (Rect.unit (s := S8x4096x3072) (k0_off542 k) S1x256x1536.size (k0_off542_inb k)) (fun _ => rfl)).squeeze S256x1536 squeezes_S1x256x1536_S256x1536))
      (.dma ((arg20.slice (Rect.unit (s := S4) (k0_off541 k) S1.size (k0_off541_inb k))).squeeze S_ squeezes_S1_S_).sem)
      ((harg16.wordExact_slice rfl _ (k0_off543_wordsbf16 k)).reshape _ _) ((harg6.wordExact_slice rfl _ (k0_off542_wordsbf16 k)).reshape _ _) ⟨Or.inl rfl, trivial⟩) fun _ => .ret ⟨⟩)

set_option maxRecDepth 65536 in
set_option maxHeartbeats 40000000 in
theorem body7 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (v6 : IVec S8x128 32) (k : Fin k0_t7_loop.trips) :
    k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k () = trip7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k := by
  unfold trip7 head7 k0_t7_body
  by_cases h : k0_cond4 k = 1#1
  · simp only [dif_pos h]; rfl
  · simp only [dif_neg h]; rfl

theorem cond4_iff (k : Fin k0_t7_loop.trips) : k0_cond4 k = 1#1 ↔ 4 ≤ k.val := by revert k; decide +kernel
theorem off430_eq (k : Fin k0_t7_loop.trips) (h : k0_cond4 k = 1#1) : k0_off430 k = ![k.val % 4] := by revert k; decide +kernel
theorem slot7 (k : Fin k0_t7_loop.trips) : (Scalar.indexCast (sOf (Scf.iv 0#32 1#32 k))).toNat = k.val % 4 := by revert k; decide +kernel

section
variable (c : Dev nD) (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4)
variable (P5 : Fin 4 → ℕ → BufAt (F := F) c arg5 → Prop) (P6 : Fin 4 → ℕ → BufAt (F := F) c arg6 → Prop) (n0 : ℕ)

/-- The state of the two rings before trip `i`. -/
abbrev Rings7 (i : ℕ) : sProp 𝕄 :=
  iprop(bigSep Finset.univ (WSl c arg19 arg15 arg5 P5 n0 i) ∗ bigSep Finset.univ (WSl c arg20 arg16 arg6 P6 n0 i) ∗ Owes c)

theorem wp_head7 {Q : PUnit.{1} → sProp 𝕄} (k : Fin k0_t7_loop.trips) (K : PF) :
    Rings7 c arg5 arg6 arg15 arg16 arg19 arg20 P5 P6 n0 k.val
      ⊢ iprop((WI c arg19 arg15 arg5 (P5 (sw k.val) (n0 + k.val / 4)) (sw k.val) -∗ WI c arg20 arg16 arg6 (P6 (sw k.val) (n0 + k.val / 4)) (sw k.val) -∗ Owes c
          -∗ (WF c arg19 arg15 arg5 (P5 (sw k.val) (n0 + k.val / 4 + 1)) (sw k.val) -∗ bigSep Finset.univ (WSl c arg19 arg15 arg5 P5 n0 (k.val + 1)))
          -∗ (WF c arg20 arg16 arg6 (P6 (sw k.val) (n0 + k.val / 4 + 1)) (sw k.val) -∗ bigSep Finset.univ (WSl c arg20 arg16 arg6 P6 n0 (k.val + 1))) -∗ wpK c K Q)
        -∗ wpK c (head7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 k K) Q) := by
  have hp : (sw k.val).val < k.val + 1 := by show k.val % 4 < _; omega
  have en : n0 + (k.val + 1 + 3 - k.val % 4) / 4 = n0 + k.val / 4 + 1 := by omega
  have R5 := ring_one (WSl c arg19 arg15 arg5 P5 n0 k.val) (WSl c arg19 arg15 arg5 P5 n0 (k.val + 1)) (sw k.val) (fun p h => WSl_next c arg19 arg15 arg5 P5 n0 k.val p h)
  have R6 := ring_one (WSl c arg20 arg16 arg6 P6 n0 k.val) (WSl c arg20 arg16 arg6 P6 n0 (k.val + 1)) (sw k.val) (fun p h => WSl_next c arg20 arg16 arg6 P6 n0 k.val p h)
  rw [show WSl c arg19 arg15 arg5 P5 n0 (k.val + 1) (sw k.val) = WF c arg19 arg15 arg5 (P5 (sw k.val) (n0 + k.val / 4 + 1)) (sw k.val) by
    unfold WSl; rw [if_pos hp]; simp only [en]] at R5
  rw [show WSl c arg20 arg16 arg6 P6 n0 (k.val + 1) (sw k.val) = WF c arg20 arg16 arg6 (P6 (sw k.val) (n0 + k.val / 4 + 1)) (sw k.val) by
    unfold WSl; rw [if_pos hp]; simp only [en]] at R6
  unfold Rings7 head7
  by_cases h : k0_cond4 k = 1#1
  · have hk := (cond4_iff k).mp h
    have ep : n0 + (k.val + 3 - k.val % 4) / 4 = n0 + k.val / 4 := by omega
    have e5 : WSl c arg19 arg15 arg5 P5 n0 k.val (sw k.val) ⊢ WF c arg19 arg15 arg5 (P5 (sw k.val) (n0 + k.val / 4)) (sw k.val) := by
      unfold WSl; rw [if_pos (by show k.val % 4 < _; omega)]; simp only [ep]; exact .rfl
    have e6 : WSl c arg20 arg16 arg6 P6 n0 k.val (sw k.val) ⊢ WF c arg20 arg16 arg6 (P6 (sw k.val) (n0 + k.val / 4)) (sw k.val) := by
      unfold WSl; rw [if_pos (by show k.val % 4 < _; omega)]; simp only [ep]; exact .rfl
    have hN5 : ((arg5.slice (Rect.unit (s := S8x4096x3072) (k0_off431 k) S1x256x1536.size (k0_off431_inb k h)) (fun _ => rfl)).squeeze S256x1536 squeezes_S1x256x1536_S256x1536).view.dmaCredit = NW arg5 := rfl
    have hN6 : ((arg6.slice (Rect.unit (s := S8x4096x3072) (k0_off431 k) S1x256x1536.size (k0_off431_inb k h)) (fun _ => rfl)).squeeze S256x1536 squeezes_S1x256x1536_S256x1536).view.dmaCredit = NW arg6 := rfl
    rw [dif_pos h]
    iintro ⟨H5, H6, HO⟩ Hk
    ihave H5 := R5 $$ H5
    icases H5 with ⟨H5, B5⟩
    ihave H6 := R6 $$ H6
    icases H6 with ⟨H6, B6⟩
    ihave H5 := e5 $$ H5
    ihave H6 := e6 $$ H6
    iapply (wp_waitK c (hN := hN5) (N := NW arg5) (cell4_eq arg19 (k0_off430_inb k h) (sw k.val) (off430_eq k h))) $$ [H5 HO]
    · isplitl [H5] <;> iassumption
    iintro ⟨⟨HM5, HD5⟩, Hr5, HO⟩
    iapply (wp_waitK c (hN := hN6) (N := NW arg6) (cell4_eq arg20 (k0_off430_inb k h) (sw k.val) (off430_eq k h))) $$ [H6 HO]
    · isplitl [H6] <;> iassumption
    iintro ⟨⟨HM6, HD6⟩, Hr6, HO⟩
    iapply Hk $$ [HM5 HD5 Hr5] [HM6 HD6 Hr6] HO B5 B6
    · isplitl [Hr5]; · iexact Hr5
      isplitl [HM5] <;> iassumption
    · isplitl [Hr6]; · iexact Hr6
      isplitl [HM6] <;> iassumption
  · have hk : ¬ 4 ≤ k.val := fun e => h ((cond4_iff k).mpr e)
    have ep : n0 + k.val / 4 = n0 := by omega
    have e5 : WSl c arg19 arg15 arg5 P5 n0 k.val (sw k.val) ⊢ WI c arg19 arg15 arg5 (P5 (sw k.val) (n0 + k.val / 4)) (sw k.val) := by
      unfold WSl; rw [if_neg (by show ¬ k.val % 4 < _; omega), ep]
    have e6 : WSl c arg20 arg16 arg6 P6 n0 k.val (sw k.val) ⊢ WI c arg20 arg16 arg6 (P6 (sw k.val) (n0 + k.val / 4)) (sw k.val) := by
      unfold WSl; rw [if_neg (by show ¬ k.val % 4 < _; omega), ep]
    rw [dif_neg h]
    iintro ⟨H5, H6, HO⟩ Hk
    ihave H5 := R5 $$ H5
    icases H5 with ⟨H5, B5⟩
    ihave H6 := R6 $$ H6
    icases H6 with ⟨H6, B6⟩
    ihave H5 := e5 $$ H5
    ihave H6 := e6 $$ H6
    iapply Hk $$ H5 H6 HO B5 B6

variable (f0 : BufAt (F := F) c arg0) (f1 : BufAt (F := F) c arg1) (f7 : BufAt (F := F) c arg7) (f10 : BufAt (F := F) c arg10) (f12 : BufAt (F := F) c arg12)
  (hids : IdsOk c arg0 f0) (v6 : IVec S8x128 32) {q0 q1 : PosShare TreeShare}
  (E15 : Fin k0_t7_loop.trips → ℕ → BufAt (F := F) c arg15 → Prop) (E16 : Fin k0_t7_loop.trips → ℕ → BufAt (F := F) c arg16 → Prop)

/-- A group's scales, and its reciprocals. -/
abbrev grpS7 (k : Fin k0_t7_loop.trips) (g : Fin k0_t8_loop.trips) : FVec F S32x128 .bf16 :=
  truncf .bf16 (groupS c arg0 f0 hids v6 _ _ _ _ (emitOk8 k g) arg1 f1) bitsLt_bf16_f32
abbrev grpI7 (k : Fin k0_t7_loop.trips) (g : Fin k0_t8_loop.trips) : FVec F S32x128 .f32 :=
  groupS c arg0 f0 hids v6 _ _ _ _ (emitOk8 k g) arg10 f10

/-- What a group reads and keeps. -/
abbrev Read7 (q0 q1 : PosShare TreeShare) : sProp 𝕄 :=
  iprop(rdE c arg0 arg1 arg7 arg10 f0 f1 f7 f10 q0 q1 ∗ onS c arg12 Finset.univ fullShare f12 ∗ ∃ f14, onS (F := F) c arg14 Finset.univ fullShare f14)

variable
  (h15 : ∀ k f, E15 k 0 f) (h16 : ∀ k f, E16 k 0 f)
  (s15 : ∀ (k : Fin k0_t7_loop.trips) (g : Fin k0_t8_loop.trips) f14 f, E15 k g.val f → E15 k (g.val + 1)
    (group15 c arg12 arg14 f12 _ _ _ _ (emitOk8 k g) arg15 12 (Nat.le_refl 12) (grpS7 c arg0 arg1 f0 f1 hids v6 k g) (grpI7 c arg0 arg10 f0 f10 hids v6 k g)
      (group14 c arg0 arg7 arg14 f0 f7 hids _ _ _ _ (emitOk8 k g) f14) f))
  (s16 : ∀ (k : Fin k0_t7_loop.trips) (g : Fin k0_t8_loop.trips) f14 f, E16 k g.val f → E16 k (g.val + 1)
    (group16 c arg14 _ _ _ _ (emitOk8 k g) arg16 (grpS7 c arg0 arg1 f0 f1 hids v6 k g)
      (group14 c arg0 arg7 arg14 f0 f7 hids _ _ _ _ (emitOk8 k g) f14) f))
  (w5 : ∀ (k : Fin k0_t7_loop.trips) f15 fd, E15 k k0_t8_loop.trips f15 → P5 (sw k.val) (n0 + k.val / 4) fd → P5 (sw k.val) (n0 + k.val / 4 + 1)
    (((arg5.slice (Rect.unit (s := S8x4096x3072) (k0_off542 k) S1x256x1536.size (k0_off542_inb k)) (fun _ => rfl)).squeeze S256x1536 squeezes_S1x256x1536_S256x1536).view.write (Elt F) fd
      (((arg15.slice (Rect.unit (s := S4x256x1536) (k0_off543 k) S1x256x1536.size (k0_off543_inb k)) (fun _ => rfl)).squeeze S256x1536 squeezes_S1x256x1536_S256x1536).view.read (Elt F) f15) Finset.univ))
  (w6 : ∀ (k : Fin k0_t7_loop.trips) f16 fd, E16 k k0_t8_loop.trips f16 → P6 (sw k.val) (n0 + k.val / 4) fd → P6 (sw k.val) (n0 + k.val / 4 + 1)
    (((arg6.slice (Rect.unit (s := S8x4096x3072) (k0_off542 k) S1x256x1536.size (k0_off542_inb k)) (fun _ => rfl)).squeeze S256x1536 squeezes_S1x256x1536_S256x1536).view.write (Elt F) fd
      (((arg16.slice (Rect.unit (s := S4x256x1536) (k0_off543 k) S1x256x1536.size (k0_off543_inb k)) (fun _ => rfl)).squeeze S256x1536 squeezes_S1x256x1536_S256x1536).view.read (Elt F) f16) Finset.univ))
include h15 h16 s15 s16 w5 w6

theorem wp_trip7 (k : Fin k0_t7_loop.trips) :
    iprop(Rings7 c arg5 arg6 arg15 arg16 arg19 arg20 P5 P6 n0 k.val ∗ Read7 c arg0 arg1 arg7 arg10 arg12 arg14 f0 f1 f7 f10 f12 q0 q1)
      ⊢ wpK c (trip7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k) fun _ => iprop(Rings7 c arg5 arg6 arg15 arg16 arg19 arg20 P5 P6 n0 (k.val + 1) ∗ Read7 c arg0 arg1 arg7 arg10 arg12 arg14 f0 f1 f7 f10 f12 q0 q1) := by
  have t15 := fun g => tileIn c arg15 (h := emitOk8 k g) (sw k.val) (slot7 k)
  have t16 := fun g => tileIn c arg16 (h := emitOk8 k g) (sw k.val) (slot7 k)
  unfold trip7
  iintro ⟨HR, Hrd⟩
  iapply (wp_head7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 P5 P6 n0 k _) $$ HR
  iintro ⟨Hr5, ⟨%a15, H15⟩, HD5⟩ ⟨Hr6, ⟨%a16, H16⟩, HD6⟩ HO B5 B6
  iapply (wp_loopK c (fun g => iprop(Read7 c arg0 arg1 arg7 arg10 arg12 arg14 f0 f1 f7 f10 f12 q0 q1
      ∗ (∃ f15, ⌜E15 k g f15⌝ ∗ onS c arg15 (part c arg15 g4 (sw k.val)) fullShare f15) ∗ ∃ f16, ⌜E16 k g f16⌝ ∗ onS c arg16 (part c arg16 g4 (sw k.val)) fullShare f16)) ?_) $$ [Hrd H15 H16]
  · intro g
    rw [body8]
    iintro ⟨⟨Hrd, H12, ⟨%f14, H14⟩⟩, ⟨%f15, %e15, H15⟩, ⟨%f16, %e16, H16⟩⟩
    iapply (wp_group c arg0 arg1 arg7 arg10 arg12 arg14 arg15 harg15 arg16 harg16 f0 f1 f7 f10 f12 hids v6 _ _ _ _ (emitOk8 k g) (t15 g) (t16 g) 12 _ f14 f15 f16 _) $$ [Hrd H12 H14 H15 H16]
    · isplitl [Hrd]; · iexact Hrd
      isplitl [H12]; · iexact H12
      isplitl [H14]; · iexact H14
      isplitl [H15] <;> iassumption
    iintro ⟨Hrd, H12, H14, H15, H16⟩
    iapply (wp_retK c)
    isplitl [Hrd H12 H14]
    · isplitl [Hrd]; · iexact Hrd
      isplitl [H12]; · iexact H12
      iexists _; iexact H14
    isplitl [H15]
    · iexists _
      isplitr
      · ipureintro; exact s15 k g f14 f15 e15
      iexact H15
    iexists _
    isplitr
    · ipureintro; exact s16 k g f14 f16 e16
    iexact H16
  · isplitl [Hrd]; · iexact Hrd
    isplitl [H15]
    · iexists a15
      isplitr
      · ipureintro; exact h15 k a15
      iexact H15
    iexists a16
    isplitr
    · ipureintro; exact h16 k a16
    iexact H16
  iintro ⟨Hrd, ⟨%f15, %e15, H15⟩, ⟨%f16, %e16, H16⟩⟩
  iapply (wp_startW c arg19 arg15 arg5 (sw k.val) (k := k.val) rfl (k0_off543_eq k) (k0_off542_eq k) (k0_off541_eq k) (P5 (sw k.val) (n0 + k.val / 4)) (P5 (sw k.val) (n0 + k.val / 4 + 1)) f15 (fun fd => w5 k f15 fd e15)) $$ [Hr5 H15 HD5]
  · isplitl [Hr5]; · iexact Hr5
    isplitl [H15] <;> iassumption
  iintro H5
  iapply (wp_startW c arg20 arg16 arg6 (sw k.val) (k := k.val) rfl (k0_off543_eq k) (k0_off542_eq k) (k0_off541_eq k) (P6 (sw k.val) (n0 + k.val / 4)) (P6 (sw k.val) (n0 + k.val / 4 + 1)) f16 (fun fd => w6 k f16 fd e16)) $$ [Hr6 H16 HD6]
  · isplitl [Hr6]; · iexact Hr6
    isplitl [H16] <;> iassumption
  iintro H6
  iapply (wp_retK c)
  isplitr [Hrd]
  · isplitl [H5 B5]
    · iapply B5 $$ H5
    isplitl [H6 B6]
    · iapply B6 $$ H6
    iexact HO
  iexact Hrd
end

end Cert.Proof.Kernel
-- ==== Proof.Main.lean ====
/-
  The body run from its first statement to its last: the codes' blocks read in, the table and the reciprocals made, the
  rows of the first halves written out, the second halves' blocks read in, and their rows written out.
-/
module

public import proofs.«01_k».proof.Proof.Batch
public import proofs.«01_k».proof.Proof.Trip1
public import proofs.«01_k».proof.Proof.Trip6
public import proofs.«01_k».proof.Proof.Trip4
public import proofs.«01_k».proof.Proof.Trip7

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

/-! ### The body as one chain -/

/-- The start of the copy into slot `r` of the raw buffer, of all rows, and of the last 1536. -/
def enq1 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (r : Fin 5) (K : PF) : PF :=
  .op (.enqueueDma (arg2.slice (Rect.unit (s := S3072x32000) (k0_off3 (BitVec.ofNat 32 r.val)) S3072x256.size (k0_off3_inb r)) (fun _ => rfl))
    (.here ((arg8.slice (Rect.unit (s := S6x3072x256) (k0_off2 (BitVec.ofNat 32 r.val)) S1x3072x256.size (k0_off2_inb r)) (fun _ => rfl)).squeeze S3072x256 squeezes_S1x3072x256_S3072x256))
    (.dma ((arg17.slice (Rect.unit (s := S6) (k0_off1 (BitVec.ofNat 32 r.val)) S1.size (k0_off1_inb r))).squeeze S_ squeezes_S1_S_).sem)
    (harg2.wordExact_slice rfl _ (k0_off3_wordsi8 r)) ((harg8.wordExact_slice rfl _ (k0_off2_wordsi8 r)).reshape _ _) ⟨Or.inl rfl, trivial⟩) fun _ => K
def enq6 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (r : Fin 5) (K : PF) : PF :=
  .op (.enqueueDma (arg2.slice (Rect.unit (s := S3072x32000) (k0_off326 (BitVec.ofNat 32 r.val)) S1536x256.size (k0_off326_inb r)) (fun _ => rfl))
    (.here ((arg8.slice (Rect.unit (s := S6x3072x256) (k0_off325 (BitVec.ofNat 32 r.val)) S1x1536x256.size (k0_off325_inb r)) (fun _ => rfl)).squeeze S1536x256 squeezes_S1x1536x256_S1536x256))
    (.dma ((arg17.slice (Rect.unit (s := S6) (k0_off1 (BitVec.ofNat 32 r.val)) S1.size (k0_off1_inb r))).squeeze S_ squeezes_S1_S_).sem)
    (harg2.wordExact_slice rfl _ (k0_off326_wordsi8 r)) ((harg8.wordExact_slice rfl _ (k0_off325_wordsi8 r)).reshape _ _) ⟨Or.inl rfl, trivial⟩) fun _ => K

/-- A slot's block in a staging buffer, and a block of a result. -/
abbrev stgV (M : Memref sig .tc .vmem S4x256x1536 .bf16) (r : Fin 4) : Memref sig .tc .vmem S256x1536 .bf16 :=
  (M.slice (Rect.unit (s := S4x256x1536) (k0_off324 (BitVec.ofNat 32 (124 + r.val))) S1x256x1536.size (k0_off324_inb r)) (fun _ => rfl)).squeeze S256x1536 squeezes_S1x256x1536_S256x1536
abbrev outA (O : Memref sig .tc .hbm S8x4096x3072 .bf16) (r : Fin 4) : Memref sig .tc .hbm S256x1536 .bf16 :=
  (O.slice (Rect.unit (s := S8x4096x3072) (k0_off323 (k0_off323_at r).1 (k0_off323_at r).2) S1x256x1536.size (k0_off323_inb r)) (fun _ => rfl)).squeeze S256x1536 squeezes_S1x256x1536_S256x1536
abbrev outB (O : Memref sig .tc .hbm S8x4096x3072 .bf16) (r : Fin 4) : Memref sig .tc .hbm S256x1536 .bf16 :=
  (O.slice (Rect.unit (s := S8x4096x3072) (k0_off544 (k0_off544_at r).1 (k0_off544_at r).2) S1x256x1536.size (k0_off544_inb r)) (fun _ => rfl)).squeeze S256x1536 squeezes_S1x256x1536_S256x1536
abbrev cellV (a : DmaSems sig S4) (r : Fin 4) : DmaSem sig := ((a.slice (Rect.unit (s := S4) (k0_off322 (BitVec.ofNat 32 (124 + r.val))) S1.size (k0_off322_inb r))).squeeze S_ squeezes_S1_S_).sem

/-- The two waits for slot `r`, at the end of each phase. -/
def waitA (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (r : Fin 4) (K : PF) : PF :=
  .op (.waitDma2 (cellV arg19 r) (stgV arg15 r) (outA arg5 r) ((harg15.wordExact_slice rfl _ (k0_off324_wordsbf16 r)).reshape _ _) ((harg5.wordExact_slice rfl _ (k0_off323_wordsbf16 r)).reshape _ _)) fun _ =>
  .op (.waitDma2 (cellV arg20 r) (stgV arg16 r) (outA arg6 r) ((harg16.wordExact_slice rfl _ (k0_off324_wordsbf16 r)).reshape _ _) ((harg6.wordExact_slice rfl _ (k0_off323_wordsbf16 r)).reshape _ _)) fun _ => K
def waitB (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) (r : Fin 4) (K : PF) : PF :=
  .op (.waitDma2 (cellV arg19 r) (stgV arg15 r) (outB arg5 r) ((harg15.wordExact_slice rfl _ (k0_off324_wordsbf16 r)).reshape _ _) ((harg5.wordExact_slice rfl _ (k0_off544_wordsbf16 r)).reshape _ _)) fun _ =>
  .op (.waitDma2 (cellV arg20 r) (stgV arg16 r) (outB arg6 r) ((harg16.wordExact_slice rfl _ (k0_off324_wordsbf16 r)).reshape _ _) ((harg6.wordExact_slice rfl _ (k0_off544_wordsbf16 r)).reshape _ _)) fun _ => K

/-- The row numbers. -/
abbrev rowNums : IVec S8x128 32 := iota .tc S8x128 32 [0] iota_S8x128_d0_w32

/-- The second phase, and the whole. -/
def phase2 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) : PF :=
  enq6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0 <| enq6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 1 <| enq6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 2 <| enq6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 3 <| enq6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 4 <|
  Scf.Loop.for k0_t6_loop k0_t6_ok ⟨⟩ (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 rowNums) >>= fun _ =>
  Scf.Loop.for k0_t7_loop k0_t7_ok ⟨⟩ (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 rowNums) >>= fun _ =>
  waitB arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0 <| waitB arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 1 <| waitB arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 2 <| waitB arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 3 <| .ret ⟨⟩
def phase1 (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) : PF :=
  enq1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0 <| enq1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 1 <| enq1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 2 <| enq1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 3 <| enq1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 4 <|
  Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 rowNums) >>= fun _ =>
  Scf.Loop.for k0_t2_loop k0_t2_ok ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 rowNums) >>= fun _ =>
  Scf.Loop.for k0_t3_loop k0_t3_ok ⟨⟩ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 rowNums) >>= fun _ =>
  Scf.Loop.for k0_t4_loop k0_t4_ok ⟨⟩ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 rowNums) >>= fun _ =>
  waitA arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 0 <| waitA arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 1 <| waitA arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 2 <| waitA arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 3 <| phase2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20
abbrev rAll : LoadRect S24x128 := (Rect.unit (s := S24x128) ![0, 0] S24x128.size inb_S24x128_S24x128_0_0).toLoadRect
def whole (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) : PF :=
  .op (.load arg4 rAll (View.loadsAt_vmem h_S24x128)) fun v0 =>
  .op (.load arg12 rAll (View.loadsAt_vmem h_S24x128)) fun _ =>
  .op (.store arg12 (Rect.unit (s := S24x128) ![0, 0] S24x128.size inb_S24x128_S24x128_0_0) (k0_pay1471 v0) Finset.univ (View.stores_vmem_bits_univ h_S24x128 rfl) (.inl rfl)) fun _ => phase1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20

set_option maxRecDepth 65536 in
set_option maxHeartbeats 40000000 in
theorem whole_eq (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) : cc0_embed_rmsnorm (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 = whole arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 := by
  rw [cc0_embed_rmsnorm_eq_skeleton]
  unfold cc0_embed_rmsnorm_skel
  simp only [k0_part292_eq_skeleton, k0_part293_eq_skeleton, k0_part294_eq_skeleton, k0_part295_eq_skeleton, k0_part296_eq_skeleton, k0_part297_eq_skeleton, k0_part298_eq_skeleton]
  unfold k0_part292_skel k0_part293_skel k0_part294_skel k0_part295_skel k0_part296_skel k0_part297_skel k0_part298_skel
  simp only [bind_assoc, pure_bind]
  rfl

end Cert.Proof.Kernel
-- ==== Proof.ValLoad.lean ====
/-
  What the loading half's buffers hold, element by element: the table's word of a row is four codes, 128 rows apart, of
  one column.
-/
module

public import proofs.«01_k».proof.Proof.Trip6
public import Idealize.ShloMosaic.Lib.Pipeline.Value
public import Idealize.ShloMosaic.Lib.ValueLayout
public import Idealize.ShloMosaic.Lib.ViewIndex
public import Idealize.ShloMosaic.Lib.BitcastFour
public import Mathlib.Tactic.IntervalCases

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

section
variable (c : Dev nD)

/-- Byte `p` of a word. -/
abbrev byteAt (p : ℕ) (w : BitVec 32) : BitVec 8 := w.extractLsb' (8 * p) 8

/-- What a memref reads. -/
abbrev rd {sp : Space} {S : Shape} {e : EltTy} (M : Memref sig .tc sp S e) (f : BufAt (F := F) c M) : S.Idx → Elt F e := M.view.read (Elt F) f

/-- After a write through a rectangle: an element of it holds the payload, another what it held. -/
theorem view_cases {sp : Space} {s : Shape} {e : EltTy} (v : View sig .tc sp s e) (r : Rect s) (f : v.ty.Contents (Elt F)) (w : r.shape.Idx → Elt F e) (y : s.Idx) :
    (∃ x : r.shape.Idx, (∀ a, (y a).val = r.off a + r.stride a * (x a).val) ∧ v.read (Elt F) ((v.slice r).write (Elt F) f w Finset.univ) y = w x)
      ∨ ((∀ x : r.shape.Idx, ∃ a, (y a).val ≠ r.off a + r.stride a * (x a).val) ∧ v.read (Elt F) ((v.slice r).write (Elt F) f w Finset.univ) y = v.read (Elt F) f y) := by
  by_cases h : ∃ x : r.shape.Idx, r.emb x = y
  · obtain ⟨x, rfl⟩ := h
    exact .inl ⟨x, fun a => rfl, View.read_slice_write_emb r f w (Finset.mem_univ x)⟩
  · refine .inr ⟨fun x => ?_, View.read_slice_write_of_not_mem r f w _ (by simpa using h)⟩
    by_contra hx
    push Not at hx
    exact h ⟨x, funext fun a => Fin.ext (hx a).symm⟩

theorem rows_cases {sp : Space} {e : EltTy} {R n o st : ℕ} (v : View sig .tc sp ⟨2, ![R, 128]⟩ e) {hin} {hpos} (f : v.ty.Contents (Elt F))
    (w : (⟨2, ![n, 128]⟩ : Shape).Idx → Elt F e) (y : (⟨2, ![R, 128]⟩ : Shape).Idx) :
    (∃ x : (⟨2, ![n, 128]⟩ : Shape).Idx, (y 0).val = o + st * (x 0).val ∧ (y 1).val = (x 1).val ∧ v.read (Elt F) ((v.slice (⟨⟨![o, 0], ![n, 128], ![st, 1], hin⟩, hpos⟩ : Rect ⟨2, ![R, 128]⟩)).write (Elt F) f w Finset.univ) y = w x)
      ∨ ((∀ i < n, (y 0).val ≠ o + st * i) ∧ v.read (Elt F) ((v.slice (⟨⟨![o, 0], ![n, 128], ![st, 1], hin⟩, hpos⟩ : Rect ⟨2, ![R, 128]⟩)).write (Elt F) f w Finset.univ) y = v.read (Elt F) f y) := by
  rcases view_cases v (⟨⟨![o, 0], ![n, 128], ![st, 1], hin⟩, hpos⟩ : Rect ⟨2, ![R, 128]⟩) f w y with ⟨x, hx, hv⟩ | ⟨hx, hv⟩
  · refine .inl ⟨x, hx 0, (hx 1).trans ?_, hv⟩
    show 0 + 1 * (x 1).val = (x 1).val
    omega
  · refine .inr ⟨fun i hi e0 => ?_, hv⟩
    obtain ⟨a, ha⟩ := hx (ValueIdx.ix2 (⟨i, hi⟩ : Fin n) (y 1))
    match a with
    | ⟨0, _⟩ => exact ha e0
    | ⟨1, _⟩ => exact ha (show (y 1).val = 0 + 1 * (y 1).val by omega)

theorem ix2_eta {a b : ℕ} (y : (⟨2, ![a, b]⟩ : Shape).Idx) : y = ValueIdx.ix2 (y 0) (y 1) := funext fun k => by
  match k with
  | ⟨0, _⟩ => rfl
  | ⟨1, _⟩ => rfl

theorem resh_drop {a b : ℕ} (h : (⟨2, ![a, b]⟩ : Shape).numel = (⟨3, ![1, a, b]⟩ : Shape).numel) (y : (⟨2, ![a, b]⟩ : Shape).Idx) :
    Shape.reshapeEquiv h y = ValueIdx.ix3 (⟨0, Nat.one_pos⟩ : Fin 1) (y 0) (y 1) := by
  conv_lhs => rw [ix2_eta y]
  exact ValueIdx.reshapeEquiv_ix2_1ab h (y 0) (y 1)

theorem wordsOf_byte' (v : Vec F S1x32x128 .i8) (a : Fin 8) (l : Fin 128) (b : Fin 32) (p : ℕ) (hp : p < 4) (hb : b.val = 4 * a.val + p) :
    byteAt p (wordsOf v (ValueIdx.ix2 a l)) = shapeCast S32x128 v shapeCasts_S1x32x128_S32x128 (ValueIdx.ix2 b l) := by
  apply BitVec.eq_of_getLsbD_eq
  intro i hi
  rw [BitVec.getLsbD_extractLsb']
  simp only [hi, decide_true, Bool.true_and]
  have := bitcast_8_32_getLsbD_ix2 (shapeCast S32x128 v shapeCasts_S1x32x128_S32x128) bitcasts_S32x128_w8_S8x128_w32 a l (8 * p + i) (by omega) b (by rw [hb]; omega)
  rw [show (8 * p + i) % 8 = i by omega] at this
  exact this

theorem wordsOf_byte (v : Vec F S1x32x128 .i8) (y : S8x128.Idx) (p : ℕ) (hp : p < 4) (z : S32x128.Idx) (h0 : (z 0).val = 4 * (y 0).val + p) (h1 : (z 1).val = (y 1).val) :
    byteAt p (wordsOf v y) = shapeCast S32x128 v shapeCasts_S1x32x128_S32x128 z := by
  have ez : z = ValueIdx.ix2 (z 0 : Fin 32) (y 1 : Fin 128) := (ix2_eta z).trans (congrArg _ (Fin.ext h1))
  have ey : y = ValueIdx.ix2 (y 0 : Fin 8) (y 1 : Fin 128) := ix2_eta y
  exact (congrArg (fun j => byteAt p (wordsOf v j)) ey).trans ((wordsOf_byte' v (y 0) (y 1) (z 0) p hp h0).trans (congrArg _ ez.symm))

variable (arg7 : Memref sig .tc .vmem S96000x128 .i32) (arg8 : Memref sig .tc .vmem S6x3072x256 .i8)
  (arg13 : Memref sig .tc .vmem S6x128x128 .i32) (f8 : BufAt (F := F) c arg8)

theorem ldRaw_at (s : Nat) (hs : s < 6) (x : Nat) (hx : x + 128 ≤ 256) (d : Nat) (hd : d + 32 ≤ 3072) (z : S32x128.Idx) (u : S6x3072x256.Idx)
    (h0 : (u 0).val = s) (h1 : (u 1).val = d + (z 0).val) (h2 : (u 2).val = x + (z 1).val) :
    shapeCast S32x128 (ldRawV c arg8 f8 s hs x hx d hd) shapeCasts_S1x32x128_S32x128 z = rd c arg8 f8 u := by
  show arg8.view.read (Elt F) f8 ((rawRect s hs x hx d hd).idx (Shape.reshapeEquiv _ z)) = _
  congr 1
  rw [resh_drop]
  refine Shape.idx3_ext ?_ ?_ ?_
  · show s + 1 * 0 = _; omega
  · show d + 1 * (z 0).val = _; omega
  · show x + 1 * (z 1).val = _; omega

/-- Slot `s` holds columns `V` on of the codes, from row `lo` on. -/
def H8 (code : ℕ → ℕ → BitVec 8) (s lo V : ℕ) : Prop :=
  ∀ u : S6x3072x256.Idx, (u 0).val = s → lo ≤ (u 1).val → rd c arg8 f8 u = code (u 1).val (V + (u 2).val)

variable {code : ℕ → ℕ → BitVec 8} {s lo V : ℕ} (H : H8 c arg8 f8 code s lo V)
include H

theorem ldRaw_code (hs : s < 6) (x : Nat) (hx : x + 128 ≤ 256) (d : Nat) (hd : d + 32 ≤ 3072) (hlo : lo ≤ d) (z : S32x128.Idx) :
    shapeCast S32x128 (ldRawV c arg8 f8 s hs x hx d hd) shapeCasts_S1x32x128_S32x128 z = code (d + (z 0).val) (V + (x + (z 1).val)) := by
  have z0 : (z 0).val < 32 := (z 0).isLt
  have z1 : (z 1).val < 128 := (z 1).isLt
  rw [ldRaw_at c arg8 f8 s hs x hx d hd z (ValueIdx.ix3 (⟨s, hs⟩ : Fin 6) (⟨d + (z 0).val, by omega⟩ : Fin 3072) (⟨x + (z 1).val, by omega⟩ : Fin 256)) rfl rfl rfl]
  exact H _ rfl (show lo ≤ d + (z 0).val by omega)

theorem ldRaw_byte (hs : s < 6) (x : Nat) (hx : x + 128 ≤ 256) (d : Nat) (hd : d + 32 ≤ 3072) (hlo : lo ≤ d) (y : S8x128.Idx) (p : ℕ) (hp : p < 4) :
    byteAt p (wordsOf (ldRawV c arg8 f8 s hs x hx d hd) y) = code (d + (4 * (y 0).val + p)) (V + (x + (y 1).val)) := by
  have y0 : (y 0).val < 8 := (y 0).isLt
  rw [wordsOf_byte _ y p hp (ValueIdx.ix2 (⟨4 * (y 0).val + p, by omega⟩ : Fin 32) (y 1)) rfl rfl, ldRaw_code c arg8 f8 H hs x hx d hd hlo]
omit H

section bytes
variable (a b e g : BitVec 32)
abbrev w0lo (a c : BitVec 32) : BitVec 32 := (a &&& 65535#32) ||| (c <<< 16)
abbrev w0hi (a c : BitVec 32) : BitVec 32 := (a >>> 16) ||| (c &&& 4294901760#32)
abbrev w0ev (x y : BitVec 32) : BitVec 32 := (x &&& 16711935#32) ||| ((y <<< 8) &&& 4278255360#32)
abbrev w0od (x y : BitVec 32) : BitVec 32 := ((x >>> 8) &&& 16711935#32) ||| (y &&& 4278255360#32)

/-- The byte `p` of one of four words. -/
def pick4 {α : Type} (p : ℕ) (a b e g : α) : α := match p with | 0 => a | 1 => b | 2 => e | _ => g

theorem pick4_of {α : Type} {P : ℕ → α → Prop} {a b e g : α} (h0 : P 0 a) (h1 : P 1 b) (h2 : P 2 e) (h3 : P 3 g) : ∀ k < 4, P k (pick4 k a b e g)
  | 0, _ => h0
  | 1, _ => h1
  | 2, _ => h2
  | 3, _ => h3
  | k + 4, h => absurd h (by omega)

theorem wb0 (p : ℕ) (hp : p < 4) : byteAt p (w0ev (w0lo a e) (w0lo b g)) = byteAt 0 (pick4 p a b e g) := by
  apply BitVec.eq_of_getLsbD_eq
  intro i hi
  interval_cases p <;> interval_cases i <;> simp [pick4]
theorem wb1 (p : ℕ) (hp : p < 4) : byteAt p (w0od (w0lo a e) (w0lo b g)) = byteAt 1 (pick4 p a b e g) := by
  apply BitVec.eq_of_getLsbD_eq
  intro i hi
  interval_cases p <;> interval_cases i <;> simp [pick4]
theorem wb2 (p : ℕ) (hp : p < 4) : byteAt p (w0ev (w0hi a e) (w0hi b g)) = byteAt 2 (pick4 p a b e g) := by
  apply BitVec.eq_of_getLsbD_eq
  intro i hi
  interval_cases p <;> interval_cases i <;> simp [pick4]
theorem wb3 (p : ℕ) (hp : p < 4) : byteAt p (w0od (w0hi a e) (w0hi b g)) = byteAt 3 (pick4 p a b e g) := by
  apply BitVec.eq_of_getLsbD_eq
  intro i hi
  interval_cases p <;> interval_cases i <;> simp [pick4]
end bytes

theorem tb0_at (a b e g : IVec S8x128 32) (y : S8x128.Idx) (p : ℕ) (hp : p < 4) : byteAt p (tb0 a b e g y) = byteAt 0 (pick4 p (a y) (b y) (e y) (g y)) := wb0 _ _ _ _ p hp
theorem tb1_at (a b e g : IVec S8x128 32) (y : S8x128.Idx) (p : ℕ) (hp : p < 4) : byteAt p (tb1 a b e g y) = byteAt 1 (pick4 p (a y) (b y) (e y) (g y)) := wb1 _ _ _ _ p hp
theorem tb2_at (a b e g : IVec S8x128 32) (y : S8x128.Idx) (p : ℕ) (hp : p < 4) : byteAt p (tb2 a b e g y) = byteAt 2 (pick4 p (a y) (b y) (e y) (g y)) := wb2 _ _ _ _ p hp
theorem tb3_at (a b e g : IVec S8x128 32) (y : S8x128.Idx) (p : ℕ) (hp : p < 4) : byteAt p (tb3 a b e g y) = byteAt 3 (pick4 p (a y) (b y) (e y) (g y)) := wb3 _ _ _ _ p hp

/-- What plane `p` reads. -/
abbrev rdP (p : ℕ) (hp : p < 6) (f13 : BufAt (F := F) c arg13) : S128x128.Idx → BitVec 32 := (planeM arg13 p hp).view.read (Elt F) f13

theorem putX_cases (p : ℕ) (hp : p < 6) (r : ℕ) (hr : r + 28 < 128) (w : IVec S8x128 32) (f13 : BufAt (F := F) c arg13) (y : S128x128.Idx) :
    (∃ x : S8x128.Idx, (y 0).val = r + 4 * (x 0).val ∧ (y 1).val = (x 1).val ∧ rdP c arg13 p hp (putXV c arg13 p hp r hr w f13) y = w x)
      ∨ ((∀ i < 8, (y 0).val ≠ r + 4 * i) ∧ rdP c arg13 p hp (putXV c arg13 p hp r hr w f13) y = rdP c arg13 p hp f13 y) := by
  have := rows_cases (F := F) (R := 128) (n := 8) (o := r) (st := 4) (planeM arg13 p hp).view (hin := rows4_inb hr) (hpos := pos4) f13 w y
  unfold putXV
  rw [shapeCast_self]
  exact this

include H in
/-- Four tiles packed into rows `q` to `q + 31` of a plane. -/
theorem trQ_at (hs : s < 6) (x : Nat) (hx : x + 128 ≤ 256) (p : Nat) (hp : p < 6) (D q : Nat) (hd : D + q + 416 ≤ 3072) (hq : q + 32 ≤ 128) (hlo : lo ≤ D + q) (f13 : BufAt (F := F) c arg13)
    (h : ∀ y : S128x128.Idx, (y 0).val < q → ∀ k < 4, byteAt k (rdP c arg13 p hp f13 y) = code (D + 128 * k + (y 0).val) (V + (x + (y 1).val))) :
    ∀ y : S128x128.Idx, (y 0).val < q + 32 → ∀ k < 4, byteAt k (rdP c arg13 p hp (trQV c arg8 arg13 f8 s hs x hx p hp (D + q) hd q hq f13) y) = code (D + 128 * k + (y 0).val) (V + (x + (y 1).val)) := by
  intro y hy k hk
  unfold trQV
  simp only []
  have key : ∀ (o : ℕ) (ho : o < 4) (x' : S8x128.Idx), (y 0).val = q + o + 4 * (x' 0).val → (y 1).val = (x' 1).val →
      byteAt o (pick4 k (wordsOf (ldRawV c arg8 f8 s hs x hx (D + q + 0) (by omega)) x') (wordsOf (ldRawV c arg8 f8 s hs x hx (D + q + 128) (by omega)) x')
        (wordsOf (ldRawV c arg8 f8 s hs x hx (D + q + 256) (by omega)) x') (wordsOf (ldRawV c arg8 f8 s hs x hx (D + q + 384) (by omega)) x')) = code (D + 128 * k + (y 0).val) (V + (x + (y 1).val)) := by
    intro o ho x' e0 e1
    rw [e1]
    refine pick4_of (P := fun k w => byteAt o w = code (D + 128 * k + (y 0).val) (V + (x + (x' 1).val))) ?_ ?_ ?_ ?_ k hk
    · refine (ldRaw_byte c arg8 f8 H hs x hx (D + q + 0) (by omega) (by omega) x' o ho).trans ?_
      congr 1; omega
    · refine (ldRaw_byte c arg8 f8 H hs x hx (D + q + 128) (by omega) (by omega) x' o ho).trans ?_
      congr 1; omega
    · refine (ldRaw_byte c arg8 f8 H hs x hx (D + q + 256) (by omega) (by omega) x' o ho).trans ?_
      congr 1; omega
    · refine (ldRaw_byte c arg8 f8 H hs x hx (D + q + 384) (by omega) (by omega) x' o ho).trans ?_
      congr 1; omega
  rcases putX_cases (F := F) c arg13 p hp (q + 3) (by omega) _ _ y with ⟨x', e0, e1, ev⟩ | ⟨m3, ev⟩
  · rw [ev, tb3_at _ _ _ _ _ k hk]; exact key 3 (by omega) x' e0 e1
  rw [ev]
  rcases putX_cases (F := F) c arg13 p hp (q + 2) (by omega) _ _ y with ⟨x', e0, e1, ev⟩ | ⟨m2, ev⟩
  · rw [ev, tb2_at _ _ _ _ _ k hk]; exact key 2 (by omega) x' e0 e1
  rw [ev]
  rcases putX_cases (F := F) c arg13 p hp (q + 1) (by omega) _ _ y with ⟨x', e0, e1, ev⟩ | ⟨m1, ev⟩
  · rw [ev, tb1_at _ _ _ _ _ k hk]; exact key 1 (by omega) x' e0 e1
  rw [ev]
  rcases putX_cases (F := F) c arg13 p hp (q + 0) (by omega) _ _ y with ⟨x', e0, e1, ev⟩ | ⟨m0, ev⟩
  · rw [ev, tb0_at _ _ _ _ _ k hk]; exact key 0 (by omega) x' e0 e1
  rw [ev]
  refine h y ?_ k hk
  have a3 := m3 (((y 0).val - q) / 4)
  have a2 := m2 (((y 0).val - q) / 4)
  have a1 := m1 (((y 0).val - q) / 4)
  have a0 := m0 (((y 0).val - q) / 4)
  omega

include H in
theorem trR13_at (hs : s < 6) (x : Nat) (hx : x < 2) (d : Nat) (hd : d + 1536 ≤ 3072) (hlo : lo ≤ d) (r : Nat) (hr : r < 3) (f13 : BufAt (F := F) c arg13) :
    ∀ y : S128x128.Idx, ∀ k < 4, byteAt k (rdP c arg13 (3 * x + r) (by omega) (trR13 c arg8 arg13 f8 s hs x hx d hd r hr f13) y) = code (d + 512 * r + 128 * k + (y 0).val) (V + (128 * x + (y 1).val)) := by
  intro y
  unfold trR13
  refine trQ_at c arg8 arg13 f8 H hs (128 * x) (by omega) (3 * x + r) (by omega) (d + 512 * r) 96 (by omega) (by omega) (by omega) _ ?_ y (y 0).isLt
  refine trQ_at c arg8 arg13 f8 H hs (128 * x) (by omega) (3 * x + r) (by omega) (d + 512 * r) 64 (by omega) (by omega) (by omega) _ ?_
  refine trQ_at c arg8 arg13 f8 H hs (128 * x) (by omega) (3 * x + r) (by omega) (d + 512 * r) 32 (by omega) (by omega) (by omega) _ ?_
  refine trQ_at c arg8 arg13 f8 H hs (128 * x) (by omega) (3 * x + r) (by omega) (d + 512 * r) 0 (by omega) (by omega) (by omega) _ ?_
  intro y hy
  exact absurd hy (Nat.not_lt_zero _)

theorem putT_cases (iv : BitVec 32) (h : TabOk iv) (x : Nat) (hx : x < 2) (r : Nat) (hr : r < 3) (t : IVec S128x128 32) (j : Nat) (hj : j < 16) (f7 : BufAt (F := F) c arg7) (y : S96000x128.Idx) :
    (∃ z : S128x128.Idx, 8 * j ≤ (z 0).val ∧ (z 0).val < 8 * j + 8 ∧ (y 0).val = tabRow' iv x j r + 3 * ((z 0).val - 8 * j) ∧ (y 1).val = (z 1).val ∧ rd c arg7 (putTV c arg7 iv h x hx r hr t j hj f7) y = t z)
      ∨ ((∀ i < 8, (y 0).val ≠ tabRow' iv x j r + 3 * i) ∧ rd c arg7 (putTV c arg7 iv h x hx r hr t j hj f7) y = rd c arg7 f7 y) := by
  have := rows_cases (F := F) (R := 96000) (n := 8) (o := tabRow' iv x j r) (st := 3) arg7.view (hin := rows3_inb (h x hx j hj r hr)) (hpos := pos3) f7 (extractStridedSlice S8x128 ![8 * j, 0] t (sl8_inb (by omega))) y
  unfold putTV
  rw [shapeCast_self]
  rcases this with ⟨x', e0, e1, ev⟩ | hm
  · have x0 : (x' 0).val < 8 := (x' 0).isLt
    refine .inl ⟨ValueIdx.ix2 (⟨8 * j + (x' 0).val, by omega⟩ : Fin 128) (x' 1), ?_, ?_, ?_, e1, ev.trans ?_⟩
    · show 8 * j ≤ 8 * j + (x' 0).val; omega
    · show 8 * j + (x' 0).val < _; omega
    · show _ = _ + 3 * (8 * j + (x' 0).val - 8 * j); rw [e0]; congr 2; omega
    · refine extractStridedSlice_apply _ _ _ x' _ fun a => ?_
      match a with
      | ⟨0, _⟩ => rfl
      | ⟨1, _⟩ => show (x' 1).val = 0 + (x' 1).val; omega
  · exact .inr hm

/-- The rows of a trip's writes. -/
def RowsAt (iv : BitVec 32) (V : ℕ) : Prop := ∀ x < 2, ∀ j < 16, ∀ r < 3, tabRow' iv x j r = 3 * (V + 128 * x + 8 * j) + r

theorem putTs_cases (iv : BitVec 32) (h : TabOk iv) (hR : RowsAt iv V) (x : Nat) (hx : x < 2) (r : Nat) (hr : r < 3) (t : IVec S128x128 32) (y : S96000x128.Idx) : ∀ (n : ℕ) (hn : n ≤ 16) (f7 : BufAt (F := F) c arg7),
    (∃ z : S128x128.Idx, (y 0).val = 3 * (V + 128 * x + (z 0).val) + r ∧ (y 1).val = (z 1).val ∧ rd c arg7 (putTsV c arg7 iv h x hx r hr t n hn f7) y = t z)
      ∨ ((∀ m < 128, 8 * (16 - n) ≤ m → (y 0).val ≠ 3 * (V + 128 * x + m) + r) ∧ rd c arg7 (putTsV c arg7 iv h x hx r hr t n hn f7) y = rd c arg7 f7 y)
  | 0, _, f7 => .inr ⟨fun m hm hm' => by omega, rfl⟩
  | n + 1, hn, f7 => by
    unfold putTsV
    rcases putTs_cases iv h hR x hx r hr t y n (by omega) (putTV c arg7 iv h x hx r hr t (16 - (n + 1)) (by omega) f7) with hz | ⟨hm, ev⟩
    · exact .inl hz
    rw [ev]
    have hrow := hR x hx (16 - (n + 1)) (by omega) r hr
    rcases putT_cases c arg7 iv h x hx r hr t (16 - (n + 1)) (by omega) f7 y with ⟨z, l0, l1, e0, e1, ev⟩ | ⟨hm', ev⟩
    · exact .inl ⟨z, by rw [e0, hrow]; omega, e1, ev⟩
    · refine .inr ⟨fun m h1 h2 e => ?_, ev⟩
      by_cases hb : 8 * (16 - n) ≤ m
      · exact hm m h1 hb e
      · exact hm' (m - 8 * (16 - (n + 1))) (by omega) (by rw [hrow, e]; omega)

include H in
/-- One plane's writes to the table. -/
theorem trR7_cases (hs : s < 6) (iv : BitVec 32) (h : TabOk iv) (hR : RowsAt iv V) (x : Nat) (hx : x < 2) (d : Nat) (hd : d + 1536 ≤ 3072) (hlo : lo ≤ d) (r : Nat) (hr : r < 3) (f13 : BufAt (F := F) c arg13) (f7 : BufAt (F := F) c arg7) (y : S96000x128.Idx) :
    (∃ m < 128, (y 0).val = 3 * (V + 128 * x + m) + r ∧ ∀ k < 4, byteAt k (rd c arg7 (trR7 c arg7 arg8 arg13 f8 s hs iv h x hx d hd r hr f13 f7) y) = code (d + 512 * r + 128 * k + (y 1).val) (V + 128 * x + m))
      ∨ ((∀ m < 128, (y 0).val ≠ 3 * (V + 128 * x + m) + r) ∧ rd c arg7 (trR7 c arg7 arg8 arg13 f8 s hs iv h x hx d hd r hr f13 f7) y = rd c arg7 f7 y) := by
  unfold trR7
  rcases putTs_cases c arg7 iv h hR x hx r hr _ y 16 (Nat.le_refl _) f7 with ⟨z, e0, e1, ev⟩ | ⟨hm, ev⟩
  · refine .inl ⟨(z 0).val, (z 0).isLt, e0, fun k hk => ?_⟩
    rw [ev, transpose_apply _ _ _ z (ValueIdx.ix2 (z 1) (z 0) : S128x128.Idx) (fun b => by match b with | ⟨0, _⟩ => rfl | ⟨1, _⟩ => rfl)]
    refine (trR13_at c arg8 arg13 f8 H hs x hx d hd hlo r hr f13 (ValueIdx.ix2 (z 1) (z 0)) k hk).trans ?_
    show code (d + 512 * r + 128 * k + (z 1).val) (V + (128 * x + (z 0).val)) = _
    rw [e1, Nat.add_assoc V]
  · exact .inr ⟨fun m hm' => hm m hm' (by omega), ev⟩

/-- The table holds the codes from row `lo` on of the columns below `n`. -/
def Tab (f7 : BufAt (F := F) c arg7) (code : ℕ → ℕ → BitVec 8) (lo n : ℕ) : Prop :=
  ∀ y : S96000x128.Idx, (y 0).val < 3 * n → ∀ k < 4, byteAt k (rd c arg7 f7 y) = code (lo + 512 * ((y 0).val % 3) + 128 * k + (y 1).val) ((y 0).val / 3)

include H in
theorem trTile7_tab (hs : s < 6) (iv : BitVec 32) (h : TabOk iv) (hR : RowsAt iv V) (x : Nat) (hx : x < 2) (d : Nat) (hd : d + 1536 ≤ 3072) (hlo : lo ≤ d) (f13 : BufAt (F := F) c arg13) (f7 : BufAt (F := F) c arg7)
    (hT : Tab c arg7 f7 code d (V + 128 * x)) : Tab c arg7 (trTile7 c arg7 arg8 arg13 f8 s hs iv h x hx d hd f13 f7) code d (V + 128 * x + 128) := by
  intro y hy k hk
  unfold trTile7
  rcases trR7_cases c arg7 arg8 arg13 f8 H hs iv h hR x hx d hd hlo 2 (by omega) (trR13 c arg8 arg13 f8 s hs x hx d hd 1 (by omega) (trR13 c arg8 arg13 f8 s hs x hx d hd 0 (by omega) f13)) _ y with ⟨m, hm, e0, ev⟩ | ⟨m2, ev⟩
  · rw [ev k hk, show (y 0).val % 3 = 2 by omega, show (y 0).val / 3 = V + 128 * x + m by omega]
  rw [ev]
  rcases trR7_cases c arg7 arg8 arg13 f8 H hs iv h hR x hx d hd hlo 1 (by omega) (trR13 c arg8 arg13 f8 s hs x hx d hd 0 (by omega) f13) _ y with ⟨m, hm, e0, ev⟩ | ⟨m1, ev⟩
  · rw [ev k hk, show (y 0).val % 3 = 1 by omega, show (y 0).val / 3 = V + 128 * x + m by omega]
  rw [ev]
  rcases trR7_cases c arg7 arg8 arg13 f8 H hs iv h hR x hx d hd hlo 0 (by omega) f13 f7 y with ⟨m, hm, e0, ev⟩ | ⟨m0, ev⟩
  · rw [ev k hk, show (y 0).val % 3 = 0 by omega, show (y 0).val / 3 = V + 128 * x + m by omega]
  rw [ev]
  refine hT y ?_ k hk
  have a2 := m2 ((y 0).val / 3 - (V + 128 * x))
  have a1 := m1 ((y 0).val / 3 - (V + 128 * x))
  have a0 := m0 ((y 0).val / 3 - (V + 128 * x))
  omega

end

section
variable (c : Dev nD) (arg3 arg9 : Memref sig .tc .vmem S250x128 .f32) (arg7 : Memref sig .tc .vmem S96000x128 .i32) (arg8 : Memref sig .tc .vmem S6x3072x256 .i8)
  (arg13 : Memref sig .tc .vmem S6x128x128 .i32)

theorem rowsAt1 (k : Fin k0_t1_loop.trips) : RowsAt (Scf.iv 0#32 1#32 k) (256 * k.val) := by
  have : ∀ (k : Fin k0_t1_loop.trips) (x : Fin 2) (j : Fin 16) (r : Fin 3), tabRow' (Scf.iv 0#32 1#32 k) x.val j.val r.val = 3 * (256 * k.val + 128 * x.val + 8 * j.val) + r.val := by decide +kernel
  intro x hx j hj r hr
  exact this k ⟨x, hx⟩ ⟨j, hj⟩ ⟨r, hr⟩
theorem rowsAt6 (k : Fin k0_t6_loop.trips) : RowsAt (Scf.iv 0#32 1#32 k) (256 * k.val) := by
  have : ∀ (k : Fin k0_t6_loop.trips) (x : Fin 2) (j : Fin 16) (r : Fin 3), tabRow' (Scf.iv 0#32 1#32 k) x.val j.val r.val = 3 * (256 * k.val + 128 * x.val + 8 * j.val) + r.val := by decide +kernel
  intro x hx j hj r hr
  exact this k ⟨x, hx⟩ ⟨j, hj⟩ ⟨r, hr⟩
theorem statRow1 (k : Fin k0_t1_loop.trips) (x : ℕ) (hx : x < 2) : statRow (Scf.iv 0#32 1#32 k) x = 2 * k.val + x := by
  have : ∀ (k : Fin k0_t1_loop.trips) (x : Fin 2), statRow (Scf.iv 0#32 1#32 k) x.val = 2 * k.val + x.val := by decide +kernel
  exact this k ⟨x, hx⟩

theorem nx7_tab (code : ℕ → ℕ → BitVec 8) (k : Fin k0_t1_loop.trips) (f8 : BufAt (F := F) c arg8) (f13 : BufAt (F := F) c arg13) (f7 : BufAt (F := F) c arg7)
    (H : H8 c arg8 f8 code (k.val % 6) 0 (256 * k.val)) (hT : Tab c arg7 f7 code 0 (256 * k.val)) : Tab c arg7 (nx7 c arg7 arg8 arg13 k f8 f13 f7) code 0 (256 * (k.val + 1)) := by
  unfold nx7
  rw [← slotOf1] at H
  rw [show 256 * (k.val + 1) = 256 * k.val + 128 * 1 + 128 by omega]
  refine trTile7_tab c arg7 arg8 arg13 f8 H _ _ _ (rowsAt1 k) 1 (by omega) 0 (by omega) (by omega) _ _ ?_
  rw [show 256 * k.val + 128 * 1 = 256 * k.val + 128 * 0 + 128 by omega]
  exact trTile7_tab c arg7 arg8 arg13 f8 H _ _ _ (rowsAt1 k) 0 (by omega) 0 (by omega) (by omega) _ _ hT

theorem ny7_tab (code : ℕ → ℕ → BitVec 8) (k : Fin k0_t6_loop.trips) (f8 : BufAt (F := F) c arg8) (f13 : BufAt (F := F) c arg13) (f7 : BufAt (F := F) c arg7)
    (H : H8 c arg8 f8 code (k.val % 6) 1536 (256 * k.val)) (hT : Tab c arg7 f7 code 1536 (256 * k.val)) : Tab c arg7 (ny7 c arg7 arg8 arg13 k f8 f13 f7) code 1536 (256 * (k.val + 1)) := by
  unfold ny7
  rw [← slotOf6] at H
  rw [show 256 * (k.val + 1) = 256 * k.val + 128 * 1 + 128 by omega]
  refine trTile7_tab c arg7 arg8 arg13 f8 H _ _ _ (rowsAt6 k) 1 (by omega) 1536 (by omega) (by omega) _ _ ?_
  rw [show 256 * k.val + 128 * 1 = 256 * k.val + 128 * 0 + 128 by omega]
  exact trTile7_tab c arg7 arg8 arg13 f8 H _ _ _ (rowsAt6 k) 0 (by omega) 1536 (by omega) (by omega) _ _ hT

/-- The reciprocals of the first `n` rows of tiles. -/
def Stat (f9 : BufAt (F := F) c arg9) (inv : ℕ → F .f32) (n : ℕ) : Prop :=
  ∀ y : S250x128.Idx, (y 0).val < n → rd c arg9 f9 y = inv (128 * (y 0).val + (y 1).val)

/-- A tile's reciprocals, read off the codes and the scales. -/
def StatTile (code : ℕ → ℕ → BitVec 8) (scl inv : ℕ → F .f32) : Prop :=
  ∀ (arg8 : Memref sig .tc .vmem S6x3072x256 .i8) (f8 : BufAt (F := F) c arg8) (s : ℕ) (hs : s < 6) (V x : ℕ) (hx : x < 2) (sc : Vec F S1x128 .f32) (z : S1x128.Idx), H8 c arg8 f8 code s 0 V →
    (∀ z : S1x128.Idx, sc z = scl (V + 128 * x + (z 1).val)) →
    invOf (totsV c arg8 f8 s hs (128 * x) (by omega) (scaleTile sc) 6 (by omega) (broadcast S8x128 (Scalar.ofBits .f32 0x00000000#32))) z = inv (V + 128 * x + (z 1).val)

theorem row_at {e : EltTy} (M : Memref sig .tc .vmem S250x128 e) (f : BufAt (F := F) c M) (r : ℕ) (hr : r < 250) (z : S1x128.Idx) (u : S250x128.Idx) (h0 : (u 0).val = r) (h1 : (u 1).val = (z 1).val) :
    M.view.readAt (Elt F) (rowRect r hr).toLoadRect f z = rd c M f u := by
  have z0 : (z 0).val < 1 := (z 0).isLt
  show M.view.read (Elt F) f _ = _
  congr 1
  refine Shape.idx_ext₂ ?_ ?_
  · show r + 1 * (z 0).val = _; omega
  · show 0 + 1 * (z 1).val = _; omega

theorem statV_stat (code : ℕ → ℕ → BitVec 8) (scl inv : ℕ → F .f32) (hS : StatTile c code scl inv) (k : Fin k0_t1_loop.trips) (f8 : BufAt (F := F) c arg8) (f3 : BufAt (F := F) c arg3) (f9 : BufAt (F := F) c arg9)
    (H : H8 c arg8 f8 code (k.val % 6) 0 (256 * k.val)) (h3 : ∀ y : S250x128.Idx, rd c arg3 f3 y = scl (128 * (y 0).val + (y 1).val)) (x : ℕ) (hx : x < 2)
    (h : Stat c arg9 f9 inv (2 * k.val + x)) : Stat c arg9 (statV c arg8 f8 arg3 arg9 _ (slot1 k) _ (statOk1 k) x hx f3 f9) inv (2 * k.val + x + 1) := by
  intro y hy
  have hrow := statRow1 k x hx
  have hlt := statOk1 k x hx
  unfold statV
  rcases view_cases arg9.view (rowRect (statRow (Scf.iv 0#32 1#32 k) x) hlt) f9 (invOf (totsV c arg8 f8 _ (slot1 k) (128 * x) (by omega) (scaleTile (arg3.view.readAt (Elt F) (rowRect (statRow (Scf.iv 0#32 1#32 k) x) hlt).toLoadRect f3)) 6 (by omega)
      (broadcast S8x128 (Scalar.ofBits .f32 0x00000000#32)))) y with ⟨z, hz, ev⟩ | ⟨hm, ev⟩
  · have z0 : (z 0).val < 1 := (z 0).isLt
    have e0 : (y 0).val = statRow (Scf.iv 0#32 1#32 k) x + 1 * (z 0).val := hz 0
    have e1 : (y 1).val = 0 + 1 * (z 1).val := hz 1
    refine ev.trans ?_
    rw [← slotOf1] at H
    rw [hS arg8 f8 _ (slot1 k) (256 * k.val) x hx _ z H ?_]
    · congr 1; omega
    · intro z'
      have z'1 : (z' 1).val < 128 := (z' 1).isLt
      rw [row_at c arg3 f3 _ hlt z' (ValueIdx.ix2 (⟨_, hlt⟩ : Fin 250) (z' 1)) rfl rfl, h3]
      show scl (128 * statRow (Scf.iv 0#32 1#32 k) x + (z' 1).val) = _
      congr 1; omega
  · refine ev.trans (h y ?_)
    by_contra hlt'
    obtain ⟨a, ha⟩ := hm (ValueIdx.ix2 (⟨0, Nat.one_pos⟩ : Fin 1) (y 1))
    match a with
    | ⟨0, _⟩ => exact ha (show (y 0).val = statRow (Scf.iv 0#32 1#32 k) x + 1 * 0 by omega)
    | ⟨1, _⟩ => exact ha (show (y 1).val = 0 + 1 * (y 1).val by omega)

theorem nx9_stat (code : ℕ → ℕ → BitVec 8) (scl inv : ℕ → F .f32) (hS : StatTile c code scl inv) (k : Fin k0_t1_loop.trips) (f8 : BufAt (F := F) c arg8) (f3 : BufAt (F := F) c arg3) (f9 : BufAt (F := F) c arg9)
    (H : H8 c arg8 f8 code (k.val % 6) 0 (256 * k.val)) (h3 : ∀ y : S250x128.Idx, rd c arg3 f3 y = scl (128 * (y 0).val + (y 1).val))
    (h : Stat c arg9 f9 inv (2 * k.val)) : Stat c arg9 (nx9 c arg3 arg8 arg9 f3 k f8 f9) inv (2 * (k.val + 1)) :=
  statV_stat c arg3 arg9 arg8 code scl inv hS k f8 f3 _ H h3 1 (by omega) (statV_stat c arg3 arg9 arg8 code scl inv hS k f8 f3 f9 H h3 0 (by omega) h)

end

end Cert.Proof.Kernel
-- ==== Proof.ValEmit.lean ====
/-
  What the emitting half's buffers hold, element by element: a token's embedding is its codes by its scale, its result
  the embedding by its reciprocal and the weights.
-/
module

public import proofs.«01_k».proof.Proof.ValLoad
public import proofs.«01_k».proof.Proof.EmitWp

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

/-- A code by a scale, -/
def embS (b : BitVec 8) (s : F .bf16) : F .bf16 := mulf (sitofp .bf16 (fun _ : S_.Idx => b)) (fun _ : S_.Idx => s) (fun a => a.elim0)
/-- an embedding by a reciprocal and a weight, -/
def outS (e : F .bf16) (i w : F .f32) : F .bf16 := truncf .bf16 (mulf (mulf (extf .f32 (fun _ : S_.Idx => e) bitsLt_bf16_f32) (fun _ : S_.Idx => i)) (fun _ : S_.Idx => w)) bitsLt_bf16_f32 (fun a => a.elim0)
/-- and a scale rounded. -/
def narrowS (s : F .f32) : F .bf16 := truncf .bf16 (fun _ : S_.Idx => s) bitsLt_bf16_f32 (fun a => a.elim0)

theorem bytes_at (w : IVec S8x128 32) (y : S32x128.Idx) (z : S8x128.Idx) (p : ℕ) (hp : p < 4) (h0 : (y 0).val = 4 * (z 0).val + p) (h1 : (y 1).val = (z 1).val) :
    bitcast S32x128 8 w bitcasts_S8x128_w32_S32x128_w8 y = byteAt p (w z) := by
  apply BitVec.eq_of_getLsbD_eq
  intro i hi
  have er : S32x128.row y = (y 0).val := rfl
  rw [bitcast_getLsbD w _ y i hi (by decide), BitVec.getLsbD_extractLsb']
  simp only [hi, decide_true, Bool.true_and]
  have e1 : (S32x128.row y * 8 + i) % 32 = 8 * p + i := by omega
  rw [e1]
  congr 2
  funext a
  match a with
  | ⟨0, _⟩ => exact Fin.ext ((Shape.Bitcasts.srcIdx_row bitcasts_S8x128_w32_S32x128_w8 y _ _ ⟨0, Nat.zero_lt_two⟩ rfl).trans (show (S32x128.row y * 8 + i) / 32 = (z 0).val by omega))
  | ⟨1, _⟩ => exact Fin.ext ((Shape.Bitcasts.srcIdx_other bitcasts_S8x128_w32_S32x128_w8 y _ _ ⟨1, Nat.one_lt_two⟩ (by show ¬ 1 + 2 = 2; omega)).trans h1)

theorem embOf_at (w : IVec S8x128 32) (sc : FVec F S32x128 .bf16) (y : S32x128.Idx) (z : S8x128.Idx) (p : ℕ) (hp : p < 4) (h0 : (y 0).val = 4 * (z 0).val + p) (h1 : (y 1).val = (z 1).val) :
    embOf w sc y = embS (byteAt p (w z)) (sc y) := by
  rw [← bytes_at w y z p hp h0 h1]; rfl

theorem outOf_at (e : FVec F S32x128 .bf16) (iv : FVec F S32x128 .f32) (wt : Vec F S1x128 .f32) (y : S32x128.Idx) (z : S1x128.Idx) (h1 : (z 1).val = (y 1).val) :
    outOf e iv wt y = outS (e y) (iv y) (wt z) := by
  have z0 : (z 0).val < 1 := (z 0).isLt
  rw [← broadcastTo_apply wt broadcasts_S1x128_S32x128 y z (fun a => by
    match a with
    | ⟨0, _⟩ => exact (show (z 0).val = 0 by omega).trans (if_pos rfl).symm
    | ⟨1, _⟩ => exact h1.trans (if_neg (show ¬ S1x128.size 1 = 1 by decide)).symm)]
  rfl

theorem cat4_at (x0 x1 x2 x3 : FVec F S8x128 .f32) (S : ℕ → F .f32) (h0 : ∀ z : S8x128.Idx, x0 z = S (0 * 8 + (z 0).val)) (h1 : ∀ z : S8x128.Idx, x1 z = S (1 * 8 + (z 0).val))
    (h2 : ∀ z : S8x128.Idx, x2 z = S (2 * 8 + (z 0).val)) (h3 : ∀ z : S8x128.Idx, x3 z = S (3 * 8 + (z 0).val)) (y : S32x128.Idx) : cat4 x0 x1 x2 x3 y = S (y 0).val := by
  have y0 : (y 0).val < 32 := (y 0).isLt
  have key : ∀ (k : Nat) (hk : k < 4) (x : FVec F S8x128 .f32) (hx : ([⟨S8x128, x0⟩, ⟨S8x128, x1⟩, ⟨S8x128, x2⟩, ⟨S8x128, x3⟩] : List ((s : Shape) × (s.Idx → F .f32)))[k]'hk = ⟨S8x128, x⟩)
      (pre : Nat) (hpre : (((([⟨S8x128, x0⟩, ⟨S8x128, x1⟩, ⟨S8x128, x2⟩, ⟨S8x128, x3⟩] : List ((s : Shape) × (s.Idx → F .f32))).take k).map (·.1)).map fun s => if h : s.rank = S32x128.rank then s.size ((0 : Fin S32x128.rank).cast h.symm) else 0).sum = pre)
      (hp : pre = 8 * k) (e : (y 0).val / 8 = k) (h : ∀ z : S8x128.Idx, x z = S (k * 8 + (z 0).val)), cat4 x0 x1 x2 x3 y = S (y 0).val := by
    intro k hk x hx pre hpre hp e h
    refine (concatenate_apply_piece (t := S32x128) 0 ([⟨S8x128, x0⟩, ⟨S8x128, x1⟩, ⟨S8x128, x2⟩, ⟨S8x128, x3⟩] : List ((s : Shape) × (s.Idx → F .f32))) _ y k hk S8x128 x hx rfl pre hpre (ValueIdx.ix2 (⟨(y 0).val - 8 * k, by omega⟩ : Fin 8) (y 1 : Fin 128)) ?_ ?_).trans ?_
    · intro b hb
      match b with
      | ⟨0, _⟩ => exact absurd rfl hb
      | ⟨1, _⟩ => rfl
    · show pre + ((y 0).val - 8 * k) = (y 0).val; omega
    · rw [h]
      show S (k * 8 + ((y 0).val - 8 * k)) = _
      congr 1; omega
  rcases (by omega : (y 0).val / 8 = 0 ∨ (y 0).val / 8 = 1 ∨ (y 0).val / 8 = 2 ∨ (y 0).val / 8 = 3) with e | e | e | e
  · exact key 0 (by omega) x0 rfl 0 rfl rfl e h0
  · exact key 1 (by omega) x1 rfl 8 rfl rfl e h1
  · exact key 2 (by omega) x2 rfl 16 rfl rfl e h2
  · exact key 3 (by omega) x3 rfl 24 rfl rfl e h3

section
variable (c : Dev nD) (arg0 : Memref sig .tc .smem S8x4096 .i32)
  (arg7 : Memref sig .tc .vmem S96000x128 .i32) (arg12 : Memref sig .tc .vmem S24x128 .f32) (arg14 : Memref sig .tc .vmem S120x128 .i32)
  (f0 : BufAt (F := F) c arg0) (f7 : BufAt (F := F) c arg7) (f12 : BufAt (F := F) c arg12) (hids : IdsOk c arg0 f0)

theorem tokV_at (o : Fin 2 → Nat) (ho : ∀ a, o a + S1x1.size a ≤ S8x4096.size a) (y : S8x4096.Idx) (hy : ∀ a, (y a).val = o a) : tokV c arg0 f0 o ho = rd c arg0 f0 y := by
  show arg0.view.read (Elt F) f0 _ = _
  congr 1
  funext a
  refine Fin.ext ?_
  rw [hy]
  match a with
  | ⟨0, _⟩ => show o 0 + 1 * 0 = o 0; omega
  | ⟨1, _⟩ => show o 1 + 1 * 0 = o 1; omega

theorem scalV_at (arg1 : Memref sig .tc .smem S32000 .f32) (f1 : BufAt (F := F) c arg1) (o : Fin 2 → Nat) (ho : ∀ a, o a + S1x1.size a ≤ S8x4096.size a) (y : S32000.Idx) (hy : (y 0).val = (tokV c arg0 f0 o ho).toNat) :
    scalV c arg0 f0 hids arg1 f1 o ho = rd c arg1 f1 y := by
  show arg1.view.read (Elt F) f1 _ = _
  congr 1
  funext a
  refine Fin.ext ?_
  match a with
  | ⟨0, _⟩ => rw [show (y ⟨0, by decide⟩).val = _ from hy]; show (tokV c arg0 f0 o ho).toNat + 1 * 0 = _; omega

variable (code : ℕ → ℕ → BitVec 8) (lo : ℕ) (hT : Tab c arg7 f7 code lo 32000)
include hT

/-- A token's three rows of the stage. -/
theorem stage_cases (o : Fin 2 → Nat) (ho : ∀ a, o a + S1x1.size a ≤ S8x4096.size a) (w : Nat) (hw : w + 80 < 120) (f14 : BufAt (F := F) c arg14) (hlt : (tokV c arg0 f0 o ho).toNat < 32000) (y : S120x128.Idx) :
    (∃ r < 3, (y 0).val = w + 40 * r ∧ ∀ k < 4, byteAt k (rd c arg14 (stageV c arg0 arg7 arg14 f0 f7 hids o ho w hw f14) y) = code (lo + 512 * r + 128 * k + (y 1).val) (tokV c arg0 f0 o ho).toNat)
      ∨ ((∀ r < 3, (y 0).val ≠ w + 40 * r) ∧ rd c arg14 (stageV c arg0 arg7 arg14 f0 f7 hids o ho w hw f14) y = rd c arg14 f14 y) := by
  have := rows_cases (F := F) (R := 120) (n := 3) (o := w) (st := 40) arg14.view (hin := stage_inb hw) (hpos := pos40) f14
    (shapeCast S3x128 (arg7.view.readAt (Elt F) (Rect.unit (s := S96000x128) (k0_off212 (tokV c arg0 f0 o ho)) S3x128.size (k0_off212_inb _ (hids o ho))).toLoadRect f7) shapeCasts_S3x128_S3x128) y
  unfold stageV
  rcases this with ⟨x, e0, e1, ev⟩ | hm
  · have x0 : (x 0).val < 3 := (x 0).isLt
    have x1 : (x 1).val < 128 := (x 1).isLt
    refine .inl ⟨(x 0).val, x0, e0, fun k hk => ?_⟩
    have em : (tokV c arg0 f0 o ho * 3#32).toNat = 3 * (tokV c arg0 f0 o ho).toNat := by rw [BitVec.toNat_mul]; show _ * 3 % _ = _; omega
    have er : arg7.view.readAt (Elt F) (Rect.unit (s := S96000x128) (k0_off212 (tokV c arg0 f0 o ho)) S3x128.size (k0_off212_inb _ (hids o ho))).toLoadRect f7 x
        = rd c arg7 f7 (ValueIdx.ix2 (⟨3 * (tokV c arg0 f0 o ho).toNat + (x 0).val, by omega⟩ : Fin 96000) (x 1 : Fin 128)) := by
      show arg7.view.read (Elt F) f7 _ = _
      congr 1
      refine Shape.idx_ext₂ ?_ ?_
      · show (tokV c arg0 f0 o ho * 3#32).toNat + 1 * (x 0).val = 3 * (tokV c arg0 f0 o ho).toNat + (x 0).val; omega
      · show 0 + 1 * (x 1).val = (x 1).val; omega
    refine (congrArg (byteAt k) ((ev.trans (congrFun (shapeCast_self (s := S3x128) _ shapeCasts_S3x128_S3x128) x)).trans er)).trans ((hT _ (show 3 * (tokV c arg0 f0 o ho).toNat + (x 0).val < _ by omega) k hk).trans ?_)
    show code (lo + 512 * ((3 * (tokV c arg0 f0 o ho).toNat + (x 0).val) % 3) + 128 * k + (x 1).val) ((3 * (tokV c arg0 f0 o ho).toNat + (x 0).val) / 3) = _
    rw [e1]
    congr 1 <;> omega
  · exact .inr hm

/-- The stage holds the first `n` tokens of a group. -/
def St (f14 : BufAt (F := F) c arg14) (code : ℕ → ℕ → BitVec 8) (lo : ℕ) (tk : ℕ → ℕ) (n : ℕ) : Prop :=
  ∀ t < n, ∀ r < 3, ∀ y : S120x128.Idx, (y 0).val = t % 4 * 8 + t / 4 + 40 * r → ∀ k < 4, byteAt k (rd c arg14 f14 y) = code (lo + 512 * r + 128 * k + (y 1).val) (tk t)

variable (s b t0 g : BitVec 32) (h : EmitOk s b t0 g) (tk : ℕ → ℕ) (htk : ∀ t (ht : t < 32), (tokV c arg0 f0 (tokOff b t0 g t) (h.tok t ht)).toNat = tk t) (hlt : ∀ t < 32, tk t < 32000)
include htk hlt

theorem stage_St (t : ℕ) (ht : t < 32) (f14 : BufAt (F := F) c arg14) (hS : St c arg14 f14 code lo tk t) :
    St c arg14 (stageV c arg0 arg7 arg14 f0 f7 hids (tokOff b t0 g t) (h.tok t ht) (t % 4 * 8 + t / 4) (at_lt ht) f14) code lo tk (t + 1) := by
  intro t' ht' r hr y hy k hk
  rcases stage_cases c arg0 arg7 arg14 f0 f7 hids code lo hT (tokOff b t0 g t) (h.tok t ht) (t % 4 * 8 + t / 4) (at_lt ht) f14 (by rw [htk t ht]; exact hlt t ht) y with ⟨r', hr', e0, ev⟩ | ⟨hm, ev⟩
  · have e2 : r' = r := by
      clear ev hS htk hlt
      have a1 : t' % 4 ≤ 3 := by omega
      have a2 : t' / 4 ≤ 7 := by omega
      have a3 : t % 4 ≤ 3 := by omega
      have a4 : t / 4 ≤ 7 := by omega
      generalize t' % 4 = p1 at *
      generalize t' / 4 = p2 at *
      generalize t % 4 = p3 at *
      generalize t / 4 = p4 at *
      omega
    have e1 : t' = t := by
      have a2 : t' / 4 ≤ 7 := by omega
      have a4 : t / 4 ≤ 7 := by omega
      have e3 : t' % 4 = t % 4 := by
        clear ev hS htk hlt
        subst e2
        generalize t' % 4 = p1 at *
        generalize t' / 4 = p2 at *
        generalize t % 4 = p3 at *
        generalize t / 4 = p4 at *
        omega
      omega
    rw [ev k hk, htk t ht, e1, e2]
  · rw [ev]
    have : t' ≠ t := fun e => hm r hr (by rw [hy, e])
    exact hS t' (by omega) r hr y hy k hk

theorem toks14_St (t8 : Nat) (h8 : t8 < 4) : ∀ (n : Nat) (hn : n ≤ 8) (f14 : BufAt (F := F) c arg14), St c arg14 f14 code lo tk (t8 * 8 + (8 - n)) →
    St c arg14 (toks14 c arg0 arg7 arg14 f0 f7 hids s b t0 g h t8 h8 n hn f14) code lo tk (t8 * 8 + 8)
  | 0, _, f14, hS => hS
  | n + 1, hn, f14, hS => by
    unfold toks14
    refine toks14_St t8 h8 n (by omega) _ ?_
    have := stage_St c arg0 arg7 arg14 f0 f7 hids code lo hT s b t0 g h tk htk hlt (t8 * 8 + (8 - (n + 1))) (by omega) f14 hS
    rw [show t8 * 8 + (8 - n) = t8 * 8 + (8 - (n + 1)) + 1 by omega]
    exact this

theorem tok814_St (t8 : Nat) (h8 : t8 < 4) (f14 : BufAt (F := F) c arg14) (hS : St c arg14 f14 code lo tk (t8 * 8)) :
    St c arg14 (tok814 c arg0 arg7 arg14 f0 f7 hids s b t0 g h t8 h8 f14) code lo tk (t8 * 8 + 8) := by
  unfold tok814
  refine toks14_St c arg0 arg7 arg14 f0 f7 hids code lo hT s b t0 g h tk htk hlt t8 h8 7 _ _ ?_
  exact stage_St c arg0 arg7 arg14 f0 f7 hids code lo hT s b t0 g h tk htk hlt (t8 * 8) (by omega) f14 hS

theorem group14_St (f14 : BufAt (F := F) c arg14) : St c arg14 (group14 c arg0 arg7 arg14 f0 f7 hids s b t0 g h f14) code lo tk 32 := by
  unfold group14
  refine tok814_St c arg0 arg7 arg14 f0 f7 hids code lo hT s b t0 g h tk htk hlt 3 _ _ ?_
  refine tok814_St c arg0 arg7 arg14 f0 f7 hids code lo hT s b t0 g h tk htk hlt 2 _ _ ?_
  refine tok814_St c arg0 arg7 arg14 f0 f7 hids code lo hT s b t0 g h tk htk hlt 1 _ _ ?_
  refine tok814_St c arg0 arg7 arg14 f0 f7 hids code lo hT s b t0 g h tk htk hlt 0 _ _ ?_
  intro t ht
  exact absurd ht (by omega)

omit hT htk hlt
variable (v6 : IVec S8x128 32) (hv6 : ∀ y : S8x128.Idx, v6 y = BitVec.ofNat 32 (y 0).val) (arg1 : Memref sig .tc .smem S32000 .f32) (f1 : BufAt (F := F) c arg1)
  (S : ℕ → F .f32) (hS : ∀ t (ht : t < 32), scalV c arg0 f0 hids arg1 f1 (tokOff b t0 g t) (h.tok t ht) = S t)
include hv6 hS

theorem toksS_at (t8 : Nat) (h8 : t8 < 4) (y : S8x128.Idx) : ∀ (n : Nat) (hn : n ≤ 8) (sv : FVec F S8x128 .f32), ((y 0).val < 8 - n → sv y = S (t8 * 8 + (y 0).val)) →
    toksS c arg0 f0 hids v6 s b t0 g h arg1 f1 t8 h8 n hn sv y = S (t8 * 8 + (y 0).val)
  | 0, _, sv, hs => hs (y 0).isLt
  | n + 1, hn, sv, hs => by
    have y0 : (y 0).val < 8 := (y 0).isLt
    unfold toksS
    refine toksS_at t8 h8 y n (by omega) _ fun hlt => ?_
    show Scalar.select (BitVec.ofBool (v6 y == BitVec.ofNat 32 (8 - (n + 1)))) (scalV c arg0 f0 hids arg1 f1 (tokOff b t0 g (t8 * 8 + (8 - (n + 1)))) (h.tok _ (by omega))) (sv y) = _
    rw [hv6, hS _ (by omega)]
    by_cases e : (y 0).val = 8 - (n + 1)
    · rw [e, beq_self_eq_true]; rfl
    · have : (BitVec.ofNat 32 (y 0).val == BitVec.ofNat 32 (8 - (n + 1))) = false := by
        rw [beq_eq_false_iff_ne]
        intro h
        have := congrArg BitVec.toNat h
        simp only [BitVec.toNat_ofNat] at this
        omega
      rw [this]
      exact hs (by omega)

theorem tok8S_at (t8 : Nat) (h8 : t8 < 4) (y : S8x128.Idx) : tok8S c arg0 f0 hids v6 s b t0 g h arg1 f1 t8 h8 y = S (t8 * 8 + (y 0).val) := by
  unfold tok8S
  refine toksS_at c arg0 f0 hids s b t0 g h v6 hv6 arg1 f1 S hS t8 h8 y 7 _ _ fun hlt => ?_
  show scalV c arg0 f0 hids arg1 f1 (tokOff b t0 g (t8 * 8)) (h.tok _ (by omega)) = _
  rw [hS _ (by omega), show (y 0).val = 0 by omega]; rfl

theorem groupS_at (y : S32x128.Idx) : groupS c arg0 f0 hids v6 s b t0 g h arg1 f1 y = S (y 0).val := by
  unfold groupS
  exact cat4_at _ _ _ _ S (tok8S_at c arg0 f0 hids s b t0 g h v6 hv6 arg1 f1 S hS 0 _) (tok8S_at c arg0 f0 hids s b t0 g h v6 hv6 arg1 f1 S hS 1 _)
    (tok8S_at c arg0 f0 hids s b t0 g h v6 hv6 arg1 f1 S hS 2 _) (tok8S_at c arg0 f0 hids s b t0 g h v6 hv6 arg1 f1 S hS 3 _) y
end

section
variable (c : Dev nD) (arg12 : Memref sig .tc .vmem S24x128 .f32) (arg14 : Memref sig .tc .vmem S120x128 .i32)
  (f12 : BufAt (F := F) c arg12) (s b t0 g : BitVec 32) (h : EmitOk s b t0 g)
  (M : Memref sig .tc .vmem S4x256x1536 .bf16) (sl gN : ℕ)

/-- A slot's rows of the groups before `gN`, and the first `n` tiles of group `gN`. -/
def Part (f : BufAt (F := F) c M) (spec : ℕ → ℕ → F .bf16) (sl gN n : ℕ) : Prop :=
  ∀ z : S4x256x1536.Idx, (z 0).val = sl → ((z 1).val < 32 * gN ∨ (z 1).val < 32 * gN + 32 ∧ (z 2).val < 128 * n) → rd c M f z = spec (z 1).val (z 2).val

theorem part_zero {f : BufAt (F := F) c M} {spec : ℕ → ℕ → F .bf16} {sl : ℕ} : Part c M f spec sl 0 0 := fun z _ h => by omega
theorem part_next {f : BufAt (F := F) c M} {spec : ℕ → ℕ → F .bf16} {sl gN : ℕ} (h : Part c M f spec sl gN 12) : Part c M f spec sl (gN + 1) 0 := fun z hz hh =>
  h z hz (by have : (z 2).val < 1536 := (z 2).isLt; omega)

variable (code : ℕ → ℕ → BitVec 8) (lo : ℕ) (tk : ℕ → ℕ) (f14 : BufAt (F := F) c arg14) (hSt : St c arg14 f14 code lo tk 32)

theorem stage8_at (r : Nat) (hr : r + 8 ≤ 120) (z : S8x128.Idx) (y : S120x128.Idx) (h0 : (y 0).val = r + (z 0).val) (h1 : (y 1).val = (z 1).val) : stage8 c arg14 r hr f14 z = rd c arg14 f14 y := by
  show arg14.view.read (Elt F) f14 _ = _
  congr 1
  refine Shape.idx_ext₂ ?_ ?_
  · show r + 1 * (z 0).val = _; omega
  · show 0 + 1 * (z 1).val = _; omega

include hSt in
theorem stage8_byte (r : Nat) (hr : r < 3) (i : ℕ) (hi : i < 4) (z : S8x128.Idx) (k : ℕ) (hk : k < 4) :
    byteAt k (stage8 c arg14 (r * 40 + 8 * i) (by omega) f14 z) = code (lo + 512 * r + 128 * k + (z 1).val) (tk (4 * (z 0).val + i)) := by
  have z0 : (z 0).val < 8 := (z 0).isLt
  rw [stage8_at c arg14 f14 (r * 40 + 8 * i) (by omega) z (ValueIdx.ix2 (⟨r * 40 + 8 * i + (z 0).val, by omega⟩ : Fin 120) (z 1 : Fin 128)) rfl rfl]
  refine (hSt (4 * (z 0).val + i) (by omega) r hr _ ?_ k hk)
  show r * 40 + 8 * i + (z 0).val = _
  omega

include hSt in
theorem stage8_pick (r : Nat) (hr : r < 3) (z : S8x128.Idx) (k : ℕ) (hk : k < 4) (p : ℕ) (hp : p < 4) :
    byteAt k (pick4 p (stage8 c arg14 (r * 40 + 0) (by omega) f14 z) (stage8 c arg14 (r * 40 + 8) (by omega) f14 z) (stage8 c arg14 (r * 40 + 16) (by omega) f14 z) (stage8 c arg14 (r * 40 + 24) (by omega) f14 z))
      = code (lo + 512 * r + 128 * k + (z 1).val) (tk (4 * (z 0).val + p)) :=
  pick4_of (P := fun p w => byteAt k w = code (lo + 512 * r + 128 * k + (z 1).val) (tk (4 * (z 0).val + p)))
    (stage8_byte c arg14 code lo tk f14 hSt r hr 0 (by omega) z k hk) (stage8_byte c arg14 code lo tk f14 hSt r hr 1 (by omega) z k hk)
    (stage8_byte c arg14 code lo tk f14 hSt r hr 2 (by omega) z k hk) (stage8_byte c arg14 code lo tk f14 hSt r hr 3 (by omega) z k hk) p hp

variable (sc : FVec F S32x128 .bf16) (iv : FVec F S32x128 .f32)

include hSt in
theorem tile_at (r k : ℕ) (hr : r < 3) (hk : k < 4) (w : IVec S8x128 32)
    (hw : ∀ (z : S8x128.Idx) (p : ℕ), p < 4 → byteAt p (w z) = byteAt k (pick4 p (stage8 c arg14 (r * 40 + 0) (by omega) f14 z) (stage8 c arg14 (r * 40 + 8) (by omega) f14 z) (stage8 c arg14 (r * 40 + 16) (by omega) f14 z) (stage8 c arg14 (r * 40 + 24) (by omega) f14 z)))
    (x : S32x128.Idx) : embOf w sc x = embS (code (lo + (128 * (4 * r + k) + (x 1).val)) (tk (x 0).val)) (sc x) := by
  have x0 : (x 0).val < 32 := (x 0).isLt
  rw [embOf_at w sc x (ValueIdx.ix2 (⟨(x 0).val / 4, by omega⟩ : Fin 8) (x 1 : Fin 128)) ((x 0).val % 4) (by omega) (show (x 0).val = 4 * ((x 0).val / 4) + (x 0).val % 4 by omega) rfl,
    hw _ _ (by omega), stage8_pick c arg14 code lo tk f14 hSt r hr _ k hk _ (by omega)]
  show embS (code (lo + 512 * r + 128 * k + (x 1).val) (tk (4 * ((x 0).val / 4) + (x 0).val % 4))) _ = _
  congr 2
  · omega
  · congr 1; omega

variable (base : ℕ) (hb : base ≤ 12) (hlo : lo = 128 * base) (wt : ℕ → F .f32) (h12 : ∀ y : S24x128.Idx, rd c arg12 f12 y = wt (128 * (y 0).val + (y 1).val))

include h12 hlo in
theorem wt_at (e : FVec F S32x128 .bf16) (j : ℕ) (hj : j < 12) (x : S32x128.Idx) :
    outOf e iv (wtV c arg12 f12 (base + j) (by omega)) x = outS (e x) (iv x) (wt (lo + (128 * j + (x 1).val))) := by
  rw [outOf_at e iv _ x (ValueIdx.ix2 (⟨0, Nat.one_pos⟩ : Fin 1) (x 1 : Fin 128)) rfl]
  congr 1
  have : wtV c arg12 f12 (base + j) (by omega) (ValueIdx.ix2 (⟨0, Nat.one_pos⟩ : Fin 1) (x 1 : Fin 128)) = rd c arg12 f12 (ValueIdx.ix2 (⟨base + j, by omega⟩ : Fin 24) (x 1 : Fin 128)) := by
    show arg12.view.read (Elt F) f12 _ = _
    congr 1
    refine Shape.idx_ext₂ ?_ ?_
    · show base + j + 1 * 0 = base + j; omega
    · show 0 + 1 * (x 1).val = (x 1).val; omega
  rw [this, h12]
  show wt (128 * (base + j) + (x 1).val) = _
  congr 1; omega

variable (hs : (Scalar.indexCast s).toNat = sl) (hg : (Scalar.indexCast (Scalar.muli g 32#32)).toNat = 32 * gN)
include hs hg in
theorem putE_part (j : Nat) (hj : j < 12) (v : FVec F S32x128 .bf16) (f : BufAt (F := F) c M) (spec : ℕ → ℕ → F .bf16)
    (hv : ∀ x : S32x128.Idx, v x = spec (32 * gN + (x 0).val) (128 * j + (x 1).val)) (hP : Part c M f spec sl gN j) :
    Part c M (putEV c s b t0 g h M j hj v f) spec sl gN (j + 1) := by
  intro z hz hh
  unfold putEV
  rcases view_cases M.view (Rect.unit (s := S4x256x1536) (outOff s g j) S1x32x128.size (h.out j hj)) f (shapeCast S1x32x128 v shapeCasts_S32x128_S1x32x128) z with ⟨x, hx, ev⟩ | ⟨hm, ev⟩
  · have e1 : (z 1).val = (Scalar.indexCast (Scalar.muli g 32#32)).toNat + 1 * (x 1).val := hx 1
    have e2 : (z 2).val = 128 * j + 1 * (x 2).val := hx 2
    have x0 : (x 0).val < 1 := (x 0).isLt
    have ec : shapeCast S1x32x128 v shapeCasts_S32x128_S1x32x128 x = v (ValueIdx.ix2 (x 1 : Fin 32) (x 2 : Fin 128)) := by
      refine (shapeCast_addUnit_apply (n := 2) (d := ![32, 128]) (v := v) (h := shapeCasts_S32x128_S1x32x128) (j := x)).trans ?_
      congr 1
      funext a
      match a with
      | ⟨0, _⟩ => rfl
      | ⟨1, _⟩ => rfl
    refine (ev.trans (ec.trans (hv _))).trans ?_
    show spec (32 * gN + (x 1).val) (128 * j + (x 2).val) = _
    congr 1 <;> omega
  · refine ev.trans (hP z hz ?_)
    by_contra hcon
    have z2 : (z 2).val < 1536 := (z 2).isLt
    obtain ⟨a, ha⟩ := hm (ValueIdx.ix3 (⟨0, Nat.one_pos⟩ : Fin 1) (⟨(z 1).val - 32 * gN, by omega⟩ : Fin 32) (⟨(z 2).val - 128 * j, by omega⟩ : Fin 128))
    match a with
    | ⟨0, _⟩ => exact ha (show (z 0).val = (Scalar.indexCast s).toNat + 1 * 0 by omega)
    | ⟨1, _⟩ => exact ha (show (z 1).val = (Scalar.indexCast (Scalar.muli g 32#32)).toNat + 1 * ((z 1).val - 32 * gN) by omega)
    | ⟨2, _⟩ => exact ha (show (z 2).val = 128 * j + 1 * ((z 2).val - 128 * j) by omega)

variable (spec16 spec15 : ℕ → ℕ → F .bf16)
  (h16 : ∀ (x : S32x128.Idx) (d : ℕ), spec16 (32 * gN + (x 0).val) d = embS (code (lo + d) (tk (x 0).val)) (sc x))
  (h15 : ∀ (x : S32x128.Idx) (d : ℕ), spec15 (32 * gN + (x 0).val) d = outS (spec16 (32 * gN + (x 0).val) d) (iv x) (wt (lo + d)))

include hs hg hSt h16 in
theorem emitR16_part (r : Nat) (hr : r < 3) (f : BufAt (F := F) c M) (hP : Part c M f spec16 sl gN (4 * r)) : Part c M (emitR16 c arg14 s b t0 g h M r hr sc f14 f) spec16 sl gN (4 * (r + 1)) := by
  unfold emitR16
  simp only []
  refine putE_part c s b t0 g h M sl gN hs hg (4 * r + 3) _ _ _ spec16 (fun x => ?_) ?_
  · rw [h16]; exact tile_at c arg14 code lo tk f14 hSt sc r 3 hr (by omega) _ (fun z p hp => tb3_at _ _ _ _ z p hp) x
  refine putE_part c s b t0 g h M sl gN hs hg (4 * r + 2) _ _ _ spec16 (fun x => ?_) ?_
  · rw [h16]; exact tile_at c arg14 code lo tk f14 hSt sc r 2 hr (by omega) _ (fun z p hp => tb2_at _ _ _ _ z p hp) x
  refine putE_part c s b t0 g h M sl gN hs hg (4 * r + 1) _ _ _ spec16 (fun x => ?_) ?_
  · rw [h16]; exact tile_at c arg14 code lo tk f14 hSt sc r 1 hr (by omega) _ (fun z p hp => tb1_at _ _ _ _ z p hp) x
  refine putE_part c s b t0 g h M sl gN hs hg (4 * r + 0) _ _ _ spec16 (fun x => ?_) hP
  · rw [h16]; exact tile_at c arg14 code lo tk f14 hSt sc r 0 hr (by omega) _ (fun z p hp => tb0_at _ _ _ _ z p hp) x

include hs hg hSt h16 h15 h12 hlo in
theorem emitR15_part (r : Nat) (hr : r < 3) (f : BufAt (F := F) c M) (hP : Part c M f spec15 sl gN (4 * r)) : Part c M (emitR15 c arg12 arg14 f12 s b t0 g h M base hb r hr sc iv f14 f) spec15 sl gN (4 * (r + 1)) := by
  have key : ∀ (k : ℕ) (hk : k < 4) (w : IVec S8x128 32) (hw : ∀ (z : S8x128.Idx) (p : ℕ), p < 4 → byteAt p (w z) = byteAt k (pick4 p (stage8 c arg14 (r * 40 + 0) (by omega) f14 z) (stage8 c arg14 (r * 40 + 8) (by omega) f14 z) (stage8 c arg14 (r * 40 + 16) (by omega) f14 z) (stage8 c arg14 (r * 40 + 24) (by omega) f14 z)))
      (x : S32x128.Idx), outOf (embOf w sc) iv (wtV c arg12 f12 (base + (4 * r + k)) (by omega)) x = spec15 (32 * gN + (x 0).val) (128 * (4 * r + k) + (x 1).val) := fun k hk w hw x => by
    rw [wt_at c arg12 f12 lo iv base hb hlo wt h12 _ (4 * r + k) (by omega) x, h15, h16, tile_at c arg14 code lo tk f14 hSt sc r k hr hk w hw x]
  unfold emitR15
  simp only []
  refine putE_part c s b t0 g h M sl gN hs hg (4 * r + 3) _ _ _ spec15 (key 3 (by omega) _ fun z p hp => tb3_at _ _ _ _ z p hp) ?_
  refine putE_part c s b t0 g h M sl gN hs hg (4 * r + 2) _ _ _ spec15 (key 2 (by omega) _ fun z p hp => tb2_at _ _ _ _ z p hp) ?_
  refine putE_part c s b t0 g h M sl gN hs hg (4 * r + 1) _ _ _ spec15 (key 1 (by omega) _ fun z p hp => tb1_at _ _ _ _ z p hp) ?_
  exact putE_part c s b t0 g h M sl gN hs hg (4 * r + 0) _ _ _ spec15 (key 0 (by omega) _ fun z p hp => tb0_at _ _ _ _ z p hp) hP

include hs hg hSt h16 in
theorem group16_part (f : BufAt (F := F) c M) (hP : Part c M f spec16 sl gN 0) : Part c M (group16 c arg14 s b t0 g h M sc f14 f) spec16 sl (gN + 1) 0 := by
  unfold group16
  refine part_next c M ?_
  refine emitR16_part c arg14 s b t0 g h M sl gN code lo tk f14 hSt sc hs hg spec16 h16 2 _ _ ?_
  refine emitR16_part c arg14 s b t0 g h M sl gN code lo tk f14 hSt sc hs hg spec16 h16 1 _ _ ?_
  exact emitR16_part c arg14 s b t0 g h M sl gN code lo tk f14 hSt sc hs hg spec16 h16 0 _ _ hP

include hs hg hSt h16 h15 h12 hlo in
theorem group15_part (f : BufAt (F := F) c M) (hP : Part c M f spec15 sl gN 0) : Part c M (group15 c arg12 arg14 f12 s b t0 g h M base hb sc iv f14 f) spec15 sl (gN + 1) 0 := by
  unfold group15
  refine part_next c M ?_
  refine emitR15_part c arg12 arg14 f12 s b t0 g h M sl gN code lo tk f14 hSt sc iv base hb hlo wt h12 hs hg spec16 spec15 h16 h15 2 _ _ ?_
  refine emitR15_part c arg12 arg14 f12 s b t0 g h M sl gN code lo tk f14 hSt sc iv base hb hlo wt h12 hs hg spec16 spec15 h16 h15 1 _ _ ?_
  exact emitR15_part c arg12 arg14 f12 s b t0 g h M sl gN code lo tk f14 hSt sc iv base hb hlo wt h12 hs hg spec16 spec15 h16 h15 0 _ _ hP
end

end Cert.Proof.Kernel
-- ==== Proof.ValTrip.lean ====
/-
  The loops' invariants on values, and that a trip keeps each.
-/
module

public import proofs.«01_k».proof.Proof.ValEmit
public import proofs.«01_k».proof.Proof.Trip4
public import proofs.«01_k».proof.Proof.Trip7
public import proofs.«01_k».proof.Proof.Batch

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

/-- What the values are said to be: a code by its row and column, a position's id, a column's scale and reciprocal, a row's
    weight; `val` is whether anything is said of them at all. -/
structure Spec (F : FTy → Type) [FloatOps F] where
  val : Prop
  code : ℕ → ℕ → BitVec 8
  tok : ℕ → ℕ → ℕ
  scl : ℕ → F .f32
  inv : ℕ → F .f32
  wt : ℕ → F .f32

/-- A position's embedding, -/
def Spec.emb (S : Spec F) (b t d : ℕ) : F .bf16 := embS (S.code d (S.tok b t)) (narrowS (S.scl (S.tok b t)))
/-- and its result. -/
def Spec.out (S : Spec F) (b t d : ℕ) : F .bf16 := outS (S.emb b t d) (S.inv (S.tok b t)) (S.wt d)

theorem trips5 : k0_t5_loop.trips = 8 := by decide +kernel
theorem trips8 : k0_t8_loop.trips = 8 := by decide +kernel

section
variable (c : Dev nD)

/-- After a write through a rectangle read at another shape. -/
theorem resh_cases {sp : Space} {s s' : Shape} {e : EltTy} (v : View sig .tc sp s e) (r : Rect s) (h : s'.numel = r.shape.numel) (f : v.ty.Contents (Elt F)) (w : s'.Idx → Elt F e) (y : s.Idx) :
    (∃ x : s'.Idx, y = r.emb (Shape.reshapeEquiv h x) ∧ v.read (Elt F) (((v.slice r).reshape s' h).write (Elt F) f w Finset.univ) y = w x)
      ∨ ((∀ x : s'.Idx, y ≠ r.emb (Shape.reshapeEquiv h x)) ∧ v.read (Elt F) (((v.slice r).reshape s' h).write (Elt F) f w Finset.univ) y = v.read (Elt F) f y) := by
  by_cases hx : ∃ x : s'.Idx, y = r.emb (Shape.reshapeEquiv h x)
  · obtain ⟨x, rfl⟩ := hx
    refine .inl ⟨x, rfl, ?_⟩
    rw [View.read_apply, show v.emb (r.emb (Shape.reshapeEquiv h x)) = ((v.slice r).reshape s' h).emb x from rfl, View.write_emb_of_mem _ _ (Finset.mem_univ _), cast_cast, cast_eq]
  · have hx' : ∀ x : s'.Idx, y ≠ r.emb (Shape.reshapeEquiv h x) := fun x e => hx ⟨x, e⟩
    refine .inr ⟨hx', ?_⟩
    rw [View.read_apply, View.read_apply, View.write_of_not_mem]
    unfold View.setOn
    rw [Finset.mem_map]
    rintro ⟨x, -, e⟩
    exact hx' x (v.emb.injective (show v.emb (r.emb (Shape.reshapeEquiv h x)) = v.emb y from e)).symm

/-- The same for a block of one member's rows, written as a matrix. -/
theorem blk_cases {sp : Space} {e : EltTy} {N D1 D2 a b : ℕ} (v : View sig .tc sp ⟨3, ![N, D1, D2]⟩ e) {off : Fin 3 → ℕ} {o0 o1 o2 : ℕ} (eo : off = ![o0, o1, o2])
    (hin : ∀ i, off i + (![1, a, b] : Fin 3 → ℕ) i ≤ (⟨3, ![N, D1, D2]⟩ : Shape).size i)
    (h : (⟨2, ![a, b]⟩ : Shape).numel = (Rect.unit (s := ⟨3, ![N, D1, D2]⟩) off ![1, a, b] hin).shape.numel) (f : v.ty.Contents (Elt F)) (w : (⟨2, ![a, b]⟩ : Shape).Idx → Elt F e) (y : (⟨3, ![N, D1, D2]⟩ : Shape).Idx) :
    (∃ x : (⟨2, ![a, b]⟩ : Shape).Idx, (y 0).val = o0 ∧ (y 1).val = o1 + (x 0).val ∧ (y 2).val = o2 + (x 1).val
        ∧ v.read (Elt F) (((v.slice (Rect.unit (s := ⟨3, ![N, D1, D2]⟩) off ![1, a, b] hin)).reshape ⟨2, ![a, b]⟩ h).write (Elt F) f w Finset.univ) y = w x)
      ∨ (¬ ((y 0).val = o0 ∧ o1 ≤ (y 1).val ∧ (y 1).val < o1 + a ∧ o2 ≤ (y 2).val ∧ (y 2).val < o2 + b)
        ∧ v.read (Elt F) (((v.slice (Rect.unit (s := ⟨3, ![N, D1, D2]⟩) off ![1, a, b] hin)).reshape ⟨2, ![a, b]⟩ h).write (Elt F) f w Finset.univ) y = v.read (Elt F) f y) := by
  subst eo
  rcases resh_cases v (Rect.unit (s := ⟨3, ![N, D1, D2]⟩) ![o0, o1, o2] ![1, a, b] hin) h f w y with ⟨x, e, ev⟩ | ⟨hm, ev⟩
  · refine .inl ⟨x, ?_, ?_, ?_, ev⟩ <;> rw [e] <;> erw [resh_drop]
    · show o0 + 1 * 0 = _; omega
    · show o1 + 1 * (x 0).val = _; omega
    · show o2 + 1 * (x 1).val = _; omega
  · refine .inr ⟨?_, ev⟩
    rintro ⟨e0, l1, u1, l2, u2⟩
    refine hm (ValueIdx.ix2 (⟨(y 1).val - o1, by omega⟩ : Fin a) (⟨(y 2).val - o2, by omega⟩ : Fin b)) ?_
    erw [resh_drop]
    refine Shape.idx3_ext ?_ ?_ ?_
    · show (y 0).val = o0 + 1 * 0; omega
    · show (y 1).val = o1 + 1 * ((y 1).val - o1); omega
    · show (y 2).val = o2 + 1 * ((y 2).val - o2); omega

/-- What such a block reads. -/
theorem blk_read {sp : Space} {e : EltTy} {N D1 D2 a b : ℕ} (v : View sig .tc sp ⟨3, ![N, D1, D2]⟩ e) {off : Fin 3 → ℕ} {o0 o1 o2 : ℕ} (eo : off = ![o0, o1, o2])
    (hin : ∀ i, off i + (![1, a, b] : Fin 3 → ℕ) i ≤ (⟨3, ![N, D1, D2]⟩ : Shape).size i)
    (h : (⟨2, ![a, b]⟩ : Shape).numel = (Rect.unit (s := ⟨3, ![N, D1, D2]⟩) off ![1, a, b] hin).shape.numel) (f : v.ty.Contents (Elt F)) (x : (⟨2, ![a, b]⟩ : Shape).Idx) (y : (⟨3, ![N, D1, D2]⟩ : Shape).Idx)
    (h0 : (y 0).val = o0) (h1 : (y 1).val = o1 + (x 0).val) (h2 : (y 2).val = o2 + (x 1).val) :
    ((v.slice (Rect.unit (s := ⟨3, ![N, D1, D2]⟩) off ![1, a, b] hin)).reshape ⟨2, ![a, b]⟩ h).read (Elt F) f x = v.read (Elt F) f y := by
  subst eo
  show v.read (Elt F) f ((Rect.unit (s := ⟨3, ![N, D1, D2]⟩) ![o0, o1, o2] ![1, a, b] hin).emb (Shape.reshapeEquiv h x)) = _
  congr 1
  erw [resh_drop]
  refine Shape.idx3_ext ?_ ?_ ?_
  · show o0 + 1 * 0 = _; omega
  · show o1 + 1 * (x 0).val = _; omega
  · show o2 + 1 * (x 1).val = _; omega

/-! ### The codes' blocks -/

variable (arg2 : Memref sig .tc .hbm S3072x32000 .i8) (arg8 : Memref sig .tc .vmem S6x3072x256 .i8) (S : Spec F)

/-- A slot holds column block `j`, from row `lo` on. -/
def Q8 (lo j : ℕ) (f8 : BufAt (F := F) c arg8) : Prop := S.val → H8 c arg8 f8 S.code (j % 6) lo (256 * j)

theorem raw_fill {a lo s V : ℕ} {o8 : Fin 3 → ℕ} {o2 : Fin 2 → ℕ} {h8 : ∀ i, o8 i + (![1, a, 256] : Fin 3 → ℕ) i ≤ S6x3072x256.size i} {h2 : ∀ i, o2 i + (![a, 256] : Fin 2 → ℕ) i ≤ S3072x32000.size i}
    (h : (⟨2, ![a, 256]⟩ : Shape).numel = (Rect.unit (s := S6x3072x256) o8 ![1, a, 256] h8).shape.numel) (e8 : o8 = ![s, lo, 0]) (e2 : o2 = ![lo, V]) (ha : 3072 ≤ lo + a)
    (code : ℕ → ℕ → BitVec 8) (f2 : BufAt (F := F) c arg2) (h2c : ∀ y : S3072x32000.Idx, rd c arg2 f2 y = code (y 0).val (y 1).val) (fd : BufAt (F := F) c arg8) :
    H8 c arg8 (((arg8.view.slice (Rect.unit (s := S6x3072x256) o8 ![1, a, 256] h8)).reshape ⟨2, ![a, 256]⟩ h).write (Elt F) fd
      ((arg2.view.slice (Rect.unit (s := S3072x32000) o2 ![a, 256] h2)).read (Elt F) f2) Finset.univ) code s lo V := by
  intro u hu hlo
  have u1 : (u 1).val < 3072 := (u 1).isLt
  have u2 : (u 2).val < 256 := (u 2).isLt
  rcases blk_cases (F := F) arg8.view e8 h8 h fd ((arg2.view.slice (Rect.unit (s := S3072x32000) o2 ![a, 256] h2)).read (Elt F) f2) u with ⟨x, x0, x1, x2, ev⟩ | ⟨hm, -⟩
  · subst e2
    refine ev.trans ((h2c ((Rect.unit (s := S3072x32000) ![lo, V] ![a, 256] h2).emb x)).trans ?_)
    show code (lo + 1 * (x 0).val) (V + 1 * (x 1).val) = _
    rw [x1, x2]
    congr 1 <;> omega
  · exact absurd ⟨hu, hlo, by omega, by omega, by omega⟩ hm

/-! ### The results' blocks -/

/-- The number of the block an element of a result lies in. -/
def bn (z : S8x4096x3072.Idx) : ℕ := 16 * (z 0).val + (z 1).val / 256 + if 1536 ≤ (z 2).val then 128 else 0

/-- The first `n` blocks that go through slot `p` are written. -/
def QO (O : Memref sig .tc .hbm S8x4096x3072 .bf16) (val : Prop) (spec : ℕ → ℕ → ℕ → F .bf16) (p : Fin 4) (n : ℕ) (f : BufAt (F := F) c O) : Prop :=
  val → ∀ z : S8x4096x3072.Idx, bn z % 4 = p.val → bn z < 4 * n → rd c O f z = spec (z 0).val (z 1).val (z 2).val

/-- A slot's groups before `g`, of trip `k`, from column `lo` on. -/
def QE (M : Memref sig .tc .vmem S4x256x1536 .bf16) (val : Prop) (spec : ℕ → ℕ → ℕ → F .bf16) (lo k g : ℕ) (f : BufAt (F := F) c M) : Prop :=
  val → Part c M f (fun z1 z2 => spec (k / 16) (256 * (k % 16) + z1) (lo + z2)) (k % 4) g 0

theorem out_write (O : Memref sig .tc .hbm S8x4096x3072 .bf16) (M : Memref sig .tc .vmem S4x256x1536 .bf16) {oO oS : Fin 3 → ℕ} {hO : ∀ i, oO i + (![1, 256, 1536] : Fin 3 → ℕ) i ≤ S8x4096x3072.size i}
    {hS : ∀ i, oS i + (![1, 256, 1536] : Fin 3 → ℕ) i ≤ S4x256x1536.size i} (h : (⟨2, ![256, 1536]⟩ : Shape).numel = (Rect.unit (s := S8x4096x3072) oO ![1, 256, 1536] hO).shape.numel)
    (h' : (⟨2, ![256, 1536]⟩ : Shape).numel = (Rect.unit (s := S4x256x1536) oS ![1, 256, 1536] hS).shape.numel) {lo k n0 : ℕ} (hlo : lo = 0 ∧ n0 = 0 ∨ lo = 1536 ∧ n0 = 32) (hk : k < 128)
    (eO : oO = ![k / 16, 256 * (k % 16), lo]) (eS : oS = ![k % 4, 0, 0]) (val : Prop) (spec : ℕ → ℕ → ℕ → F .bf16) (fM : BufAt (F := F) c M) (fd : BufAt (F := F) c O)
    (hM : QE c M val spec lo k 8 fM) (hd : QO c O val spec (sw k) (n0 + k / 4) fd) :
    QO c O val spec (sw k) (n0 + k / 4 + 1) (((O.view.slice (Rect.unit (s := S8x4096x3072) oO ![1, 256, 1536] hO)).reshape ⟨2, ![256, 1536]⟩ h).write (Elt F) fd
      (((M.view.slice (Rect.unit (s := S4x256x1536) oS ![1, 256, 1536] hS)).reshape ⟨2, ![256, 1536]⟩ h').read (Elt F) fM) Finset.univ) := by
  intro hv z hp hn
  have z0 : (z 0).val < 8 := (z 0).isLt
  have z1 : (z 1).val < 4096 := (z 1).isLt
  have z2 : (z 2).val < 3072 := (z 2).isLt
  have hp' : bn z % 4 = k % 4 := hp
  rcases blk_cases (F := F) O.view eO hO h fd (((M.view.slice (Rect.unit (s := S4x256x1536) oS ![1, 256, 1536] hS)).reshape ⟨2, ![256, 1536]⟩ h').read (Elt F) fM) z with ⟨x, x0, x1, x2, ev⟩ | ⟨hm, ev⟩
  · have l0 : (x 0).val < 256 := (x 0).isLt
    have l1 : (x 1).val < 1536 := (x 1).isLt
    refine ev.trans ?_
    rw [blk_read (F := F) M.view eS hS h' fM x (ValueIdx.ix3 (⟨k % 4, by omega⟩ : Fin 4) (x 0 : Fin 256) (x 1 : Fin 1536)) rfl (by show (x 0).val = _; omega) (by show (x 1).val = _; omega)]
    refine (hM hv _ rfl (.inl l0)).trans ?_
    show spec (k / 16) (256 * (k % 16) + (x 0).val) (lo + (x 1).val) = _
    rw [x0, x1, x2]
  · refine ev.trans (hd hv z hp ?_)
    by_contra hc
    refine hm ?_
    unfold bn at hp' hn hc
    split at hn <;> rename_i hz <;> simp only [hz, if_true, if_false] at hp' hc <;> rcases hlo with ⟨e, e'⟩ | ⟨e, e'⟩ <;> subst e e' <;> refine ⟨?_, ?_, ?_, ?_, ?_⟩ <;> omega

theorem part_bn (O : Memref sig .tc .hbm S8x4096x3072 .bf16) (z : S8x4096x3072.Idx) (p : Fin 4) (h : bn z % 4 = p.val) : O.view.emb z ∈ part c O gO p := by
  unfold part View.setOn
  refine Finset.mem_map.mpr ⟨z, Finset.mem_filter.mpr ⟨Finset.mem_univ _, Fin.ext ?_⟩, rfl⟩
  show (z 1).val / 256 % 4 = p.val
  rw [← h]
  unfold bn
  split <;> omega

theorem QO_congr (O : Memref sig .tc .hbm S8x4096x3072 .bf16) (val : Prop) (spec : ℕ → ℕ → ℕ → F .bf16) (n : ℕ) (p : Fin 4) (f f' : BufAt (F := F) c O) (h : ∀ i ∈ part c O gO p, f' i = f i) (hq : QO c O val spec p n f) :
    QO c O val spec p n f' := fun hv z hz hn => by
  rw [← hq hv z hz hn]
  show O.view.read (Elt F) f' z = O.view.read (Elt F) f z
  rw [View.read_apply, View.read_apply, h _ (part_bn c O z p hz)]

theorem QO_zero (O : Memref sig .tc .hbm S8x4096x3072 .bf16) (val : Prop) (spec : ℕ → ℕ → ℕ → F .bf16) (p : Fin 4) (f : BufAt (F := F) c O) : QO c O val spec p 0 f := fun _ z _ h => by omega

/-- All blocks written, a result holds what is said of it. -/
theorem QO_all (O : Memref sig .tc .hbm S8x4096x3072 .bf16) (val : Prop) (spec : ℕ → ℕ → ℕ → F .bf16) (f : BufAt (F := F) c O) (h : ∀ p, QO c O val spec p 64 f) (hv : val) (z : S8x4096x3072.Idx) :
    rd c O f z = spec (z 0).val (z 1).val (z 2).val := by
  have z0 : (z 0).val < 8 := (z 0).isLt
  have z1 : (z 1).val < 4096 := (z 1).isLt
  refine h ⟨bn z % 4, Nat.mod_lt _ (by omega)⟩ hv z rfl ?_
  unfold bn
  split <;> omega

/-! ### The groups -/

section
variable (arg0 : Memref sig .tc .smem S8x4096 .i32) (arg1 : Memref sig .tc .smem S32000 .f32)
  (arg7 : Memref sig .tc .vmem S96000x128 .i32) (arg10 : Memref sig .tc .smem S32000 .f32) (arg12 : Memref sig .tc .vmem S24x128 .f32) (arg14 : Memref sig .tc .vmem S120x128 .i32)
  (arg15 arg16 : Memref sig .tc .vmem S4x256x1536 .bf16)
  (f0 : BufAt (F := F) c arg0) (f1 : BufAt (F := F) c arg1) (f7 : BufAt (F := F) c arg7) (f10 : BufAt (F := F) c arg10) (f12 : BufAt (F := F) c arg12) (hids : IdsOk c arg0 f0)

/-- The ids, a column's numbers, the weights, as they are said to be. -/
def Ids0 : Prop := S.val → (∀ y : S8x4096.Idx, (rd c arg0 f0 y : BitVec 32).toNat = S.tok (y 0).val (y 1).val) ∧ ∀ b t, S.tok b t < 32000
def Col (v : ℕ → F .f32) {sp : Space} (M : Memref sig .tc sp S32000 .f32) (f : BufAt (F := F) c M) : Prop := S.val → ∀ y : S32000.Idx, rd c M f y = v (y 0).val
def Wts : Prop := S.val → ∀ y : S24x128.Idx, rd c arg12 f12 y = S.wt (128 * (y 0).val + (y 1).val)
def QT (lo n : ℕ) : Prop := S.val → Tab c arg7 f7 S.code lo n

variable (h0 : Ids0 c S arg0 f0) (h1 : Col c S S.scl arg1 f1) (h10 : Col c S S.inv arg10 f10) (h12 : Wts c S arg12 f12)
  (v6 : IVec S8x128 32) (hv6 : ∀ y, v6 y = BitVec.ofNat 32 (y 0).val)
  (s b t0 g : BitVec 32) (h : EmitOk s b t0 g) (k gN : ℕ) (hk : k < 128) (hgN : gN < 8) (es : s.toNat = k % 4) (eb : b.toNat = k / 16) (et : t0.toNat = 256 * (k % 16)) (eg : g.toNat = gN)

include eg hgN in
theorem mul32 : (Scalar.indexCast (Scalar.muli g 32#32) : BitVec 32).toNat = 32 * gN := by
  show (g * 32#32).toNat = _
  rw [BitVec.toNat_mul, eg]
  show gN * 32 % 2 ^ 32 = _
  omega

include h0 hk hgN eb et eg in
theorem tok_at (hv : S.val) (t : ℕ) (ht : t < 32) : (tokV c arg0 f0 (tokOff b t0 g t) (h.tok t ht)).toNat = S.tok (k / 16) (256 * (k % 16) + (32 * gN + t)) := by
  have e : (Scalar.indexCast (Scalar.addi (Scalar.addi t0 (Scalar.muli g 32#32)) (BitVec.ofNat 32 t)) : BitVec 32).toNat = 256 * (k % 16) + (32 * gN + t) := by
    have m : (Scalar.muli g 32#32 : BitVec 32).toNat = 32 * gN := mul32 g gN hgN eg
    show ((t0 + Scalar.muli g 32#32) + BitVec.ofNat 32 t).toNat = _
    rw [BitVec.toNat_add, BitVec.toNat_add, m, et, BitVec.toNat_ofNat]
    omega
  rw [tokV_at c arg0 f0 _ _ (ValueIdx.ix2 (⟨k / 16, by omega⟩ : Fin 8) (⟨256 * (k % 16) + (32 * gN + t), by omega⟩ : Fin 4096)) (fun a => by
    match a with
    | ⟨0, _⟩ => exact eb.symm
    | ⟨1, _⟩ => exact e.symm)]
  exact (h0 hv).1 _

include h0 hk hgN eb et eg in
theorem scal_at (hv : S.val) (v : ℕ → F .f32) (A : Memref sig .tc .smem S32000 .f32) (f : BufAt (F := F) c A) (hA : Col c S v A f) (t : ℕ) (ht : t < 32) :
    scalV c arg0 f0 hids A f (tokOff b t0 g t) (h.tok t ht) = v (S.tok (k / 16) (256 * (k % 16) + (32 * gN + t))) := by
  rw [scalV_at c arg0 f0 hids A f _ _ (ValueIdx.ix1 (⟨S.tok (k / 16) (256 * (k % 16) + (32 * gN + t)), (h0 hv).2 _ _⟩ : Fin 32000)) (tok_at c S arg0 f0 h0 s b t0 g h k gN hk hgN eb et eg hv t ht).symm]
  exact hA hv _

include h0 hk hgN eb et eg hv6 in
theorem grp_at (hv : S.val) (v : ℕ → F .f32) (A : Memref sig .tc .smem S32000 .f32) (f : BufAt (F := F) c A) (hA : Col c S v A f) (x : S32x128.Idx) :
    groupS c arg0 f0 hids v6 s b t0 g h A f x = v (S.tok (k / 16) (256 * (k % 16) + (32 * gN + (x 0).val))) :=
  groupS_at c arg0 f0 hids s b t0 g h v6 hv6 A f (fun t => v (S.tok (k / 16) (256 * (k % 16) + (32 * gN + t)))) (fun t ht => scal_at c S arg0 f0 hids h0 s b t0 g h k gN hk hgN eb et eg hv v A f hA t ht) x

variable (lo : ℕ) (hT : QT c S arg7 f7 lo 32000)

include h0 h1 hk hgN eb et eg hv6 hT es in
theorem emit16 (f14 : BufAt (F := F) c arg14) (f : BufAt (F := F) c arg16) (hE : QE c arg16 S.val S.emb lo k gN f) :
    QE c arg16 S.val S.emb lo k (gN + 1) (group16 c arg14 s b t0 g h arg16 (truncf .bf16 (groupS c arg0 f0 hids v6 s b t0 g h arg1 f1) bitsLt_bf16_f32) (group14 c arg0 arg7 arg14 f0 f7 hids s b t0 g h f14) f) := fun hv =>
  group16_part c arg14 s b t0 g h arg16 (k % 4) gN S.code lo (fun t => S.tok (k / 16) (256 * (k % 16) + (32 * gN + t))) _
    (group14_St c arg0 arg7 arg14 f0 f7 hids S.code lo (hT hv) s b t0 g h _ (fun t ht => tok_at c S arg0 f0 h0 s b t0 g h k gN hk hgN eb et eg hv t ht) (fun _ _ => (h0 hv).2 _ _) f14)
    _ es (mul32 g gN hgN eg) _ (fun x d => by
      show embS _ (narrowS _) = embS _ (narrowS (groupS c arg0 f0 hids v6 s b t0 g h arg1 f1 x))
      rw [grp_at c S arg0 f0 hids h0 v6 hv6 s b t0 g h k gN hk hgN eb et eg hv S.scl arg1 f1 h1 x]) f (hE hv)

include h0 h1 h10 h12 hk hgN eb et eg hv6 hT es in
theorem emit15 (base : ℕ) (hb : base ≤ 12) (hlo : lo = 128 * base) (f14 : BufAt (F := F) c arg14) (f : BufAt (F := F) c arg15) (hE : QE c arg15 S.val S.out lo k gN f) :
    QE c arg15 S.val S.out lo k (gN + 1) (group15 c arg12 arg14 f12 s b t0 g h arg15 base hb (truncf .bf16 (groupS c arg0 f0 hids v6 s b t0 g h arg1 f1) bitsLt_bf16_f32)
      (groupS c arg0 f0 hids v6 s b t0 g h arg10 f10) (group14 c arg0 arg7 arg14 f0 f7 hids s b t0 g h f14) f) := fun hv =>
  group15_part c arg12 arg14 f12 s b t0 g h arg15 (k % 4) gN S.code lo (fun t => S.tok (k / 16) (256 * (k % 16) + (32 * gN + t))) _
    (group14_St c arg0 arg7 arg14 f0 f7 hids S.code lo (hT hv) s b t0 g h _ (fun t ht => tok_at c S arg0 f0 h0 s b t0 g h k gN hk hgN eb et eg hv t ht) (fun _ _ => (h0 hv).2 _ _) f14)
    _ _ base hb hlo S.wt (h12 hv) es (mul32 g gN hgN eg) (fun z1 z2 => S.emb (k / 16) (256 * (k % 16) + z1) (lo + z2)) _ (fun x d => by
      show embS _ (narrowS _) = embS _ (narrowS (groupS c arg0 f0 hids v6 s b t0 g h arg1 f1 x))
      rw [grp_at c S arg0 f0 hids h0 v6 hv6 s b t0 g h k gN hk hgN eb et eg hv S.scl arg1 f1 h1 x]) (fun x d => by
      show outS _ _ _ = outS _ (groupS c arg0 f0 hids v6 s b t0 g h arg10 f10 x) _
      rw [grp_at c S arg0 f0 hids h0 v6 hv6 s b t0 g h k gN hk hgN eb et eg hv S.inv arg10 f10 h10 x]) f (hE hv)
end

theorem bOf4 (k : Fin k0_t4_loop.trips) : (bOf (Scf.iv 0#32 1#32 k) : BitVec 32).toNat = k.val / 16 := by revert k; decide +kernel
theorem t0Of4 (k : Fin k0_t4_loop.trips) : (t0Of (Scf.iv 0#32 1#32 k) : BitVec 32).toNat = 256 * (k.val % 16) := by revert k; decide +kernel
theorem iv5 (k : Fin k0_t5_loop.trips) : (Scf.iv 0#32 1#32 k : BitVec 32).toNat = k.val := by revert k; decide +kernel
theorem bOf7 (k : Fin k0_t7_loop.trips) : (bOf (Scf.iv 0#32 1#32 k) : BitVec 32).toNat = k.val / 16 := by revert k; decide +kernel
theorem t0Of7 (k : Fin k0_t7_loop.trips) : (t0Of (Scf.iv 0#32 1#32 k) : BitVec 32).toNat = 256 * (k.val % 16) := by revert k; decide +kernel
theorem iv8 (k : Fin k0_t8_loop.trips) : (Scf.iv 0#32 1#32 k : BitVec 32).toNat = k.val := by revert k; decide +kernel

/-! ### The reciprocals' rows -/

/-- The copied rows hold the reciprocals. -/
theorem put10_at (arg9 : Memref sig .tc .vmem S250x128 .f32) (arg10 : Memref sig .tc .smem S32000 .f32) (f9 : BufAt (F := F) c arg9) (f10 f : BufAt (F := F) c arg10) (inv : ℕ → F .f32)
    (h9 : Stat c arg9 f9 inv 250) (k : Fin 250) (hf : ∀ i ∈ part c arg10 g10 k, f i = put10 c arg9 arg10 f9 k f10 i) (y : S32000.Idx) (hy : (y 0).val / 128 = k.val) :
    rd c arg10 f y = inv (y 0).val := by
  have y0 : (y 0).val < 32000 := (y 0).isLt
  have hm : arg10.view.emb y ∈ part c arg10 g10 k := by
    unfold part View.setOn
    exact Finset.mem_map.mpr ⟨y, Finset.mem_filter.mpr ⟨Finset.mem_univ _, Fin.ext hy⟩, rfl⟩
  have e : rd c arg10 f y = rd c arg10 (put10 c arg9 arg10 f9 k f10) y := by
    show arg10.view.read (Elt F) f y = arg10.view.read (Elt F) _ y
    rw [View.read_apply, View.read_apply, hf _ hm]
  rw [e]
  rcases view_cases (F := F) arg10.view (Rect.unit (s := S32000) ![128 * k.val] S128.size (off128_inb k.isLt)) f10 ((row9 arg9 k).view.read (Elt F) f9) y with ⟨x, hx, ev⟩ | ⟨hm, -⟩
  · refine ev.trans ?_
    have e0 : (y 0).val = 128 * k.val + 1 * (x 0).val := hx 0
    have er : (row9 arg9 k).view.read (Elt F) f9 x = rd c arg9 f9 (ValueIdx.ix2 (k : Fin 250) (x 0 : Fin 128)) := by
      show arg9.view.read (Elt F) f9 ((Rect.unit (s := S250x128) ![k.val, 0] S1x128.size (offrow_inb k.isLt)).emb (Shape.reshapeEquiv _ x)) = _
      congr 1
      have er : ∀ h : S128.numel = S1x128.numel, Shape.reshapeEquiv h (x : S128.Idx) = (ValueIdx.ix2 (⟨0, Nat.one_pos⟩ : Fin 1) (⟨(x 0).val, (x 0).isLt⟩ : Fin 128) : S1x128.Idx) := fun h =>
        Shape.reshapeEquiv_eq_of_rowMajor h ((Shape.rowMajor_val_two (d := ![1, 128]) (ValueIdx.ix2 (⟨0, Nat.one_pos⟩ : Fin 1) (⟨(x 0).val, (x 0).isLt⟩ : Fin 128))).trans
          (Eq.trans (show 0 * 128 + (x 0).val = (x 0).val by omega) (Shape.rowMajor_val_one (d := ![128]) x).symm))
      erw [er]
      refine Shape.idx_ext₂ ?_ ?_
      · show k.val + 1 * 0 = k.val; omega
      · show 0 + 1 * (x 0).val = (x 0).val; omega
    refine er.trans ((h9 _ k.isLt).trans ?_)
    show inv (128 * k.val + (x 0).val) = _
    congr 1; omega
  · obtain ⟨a, ha⟩ := hm (ValueIdx.ix1 (⟨(y 0).val - 128 * k.val, by omega⟩ : Fin 128))
    match a with
    | ⟨0, _⟩ => exact absurd (show (y 0).val = 128 * k.val + 1 * ((y 0).val - 128 * k.val) by omega) ha

/-- A row of copied reciprocals. -/
def Q10 (arg10 : Memref sig .tc .smem S32000 .f32) (k : Fin 250) (f : BufAt (F := F) c arg10) : Prop := S.val → ∀ y : S32000.Idx, (y 0).val / 128 = k.val → rd c arg10 f y = S.inv (y 0).val

theorem Q10_congr (arg10 : Memref sig .tc .smem S32000 .f32) (k : Fin 250) (f f' : BufAt (F := F) c arg10) (h : ∀ i ∈ part c arg10 g10 k, f' i = f i) (hq : Q10 c S arg10 k f) : Q10 c S arg10 k f' := fun hv y hy => by
  have hm : arg10.view.emb y ∈ part c arg10 g10 k := by
    unfold part View.setOn
    exact Finset.mem_map.mpr ⟨y, Finset.mem_filter.mpr ⟨Finset.mem_univ _, Fin.ext hy⟩, rfl⟩
  rw [← hq hv y hy]
  show arg10.view.read (Elt F) f' y = arg10.view.read (Elt F) f y
  rw [View.read_apply, View.read_apply, h _ hm]

theorem Q10_all (arg10 : Memref sig .tc .smem S32000 .f32) (f : BufAt (F := F) c arg10) (h : ∀ k, Q10 c S arg10 k f) : Col c S S.inv arg10 f := fun hv y => by
  have y0 : (y 0).val < 32000 := (y 0).isLt
  exact h ⟨(y 0).val / 128, by omega⟩ hv y rfl
end

end Cert.Proof.Kernel
-- ==== Proof.MainWp.lean ====
/-
  The body's run: from its buffers and cells to the same, the copies all waited for.
-/
module

public import proofs.«01_k».proof.Proof.Main
public import proofs.«01_k».proof.Proof.ValTrip

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

theorem trips1 : k0_t1_loop.trips = 125 := by decide +kernel
theorem trips2 : k0_t2_loop.trips = 250 := by decide +kernel
theorem trips3 : k0_t3_loop.trips = 250 := by decide +kernel
theorem trips4 : k0_t4_loop.trips = 128 := by decide +kernel
theorem trips6 : k0_t6_loop.trips = 125 := by decide +kernel
theorem trips7 : k0_t7_loop.trips = 128 := by decide +kernel

section
variable (c : Dev nD) (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4)

/-! ### Slots dealt and gathered -/

include harg2 harg8 in
theorem ring_in (f2 : BufAt (F := F) c arg2) (P8 : ℕ → BufAt (F := F) c arg8 → Prop) (N : ℕ) (f8 : BufAt (F := F) c arg8) :
    iprop(bigSep Finset.univ (fun p => Rest c (cell6 arg17 p)) ∗ onS c arg8 Finset.univ fullShare f8 ∗ onS c arg2 Finset.univ fullShare f2)
      ⊢ (bigSep Finset.univ (Ring c arg2 arg8 arg17 f2 P8 N 0 0) : sProp 𝕄) := by
  rw [deal c arg8 g8 harg8, deal c arg2 g2 harg2, ← bigSep_sep', ← bigSep_sep']
  refine bigSep_mono fun p _ => ?_
  unfold Ring
  rw [if_neg (by omega)]
  show (_ : sProp 𝕄) ⊢ _
  iintro ⟨Hr, H8, H2⟩
  isplitl [Hr]; · iexact Hr
  isplitl [H8]
  · iexists f8
    isplitr
    · ipureintro; trivial
    iexact H8
  iexact H2

include harg2 harg8 in
theorem ring_out (f2 : BufAt (F := F) c arg2) (P8 : ℕ → BufAt (F := F) c arg8 → Prop) (N : ℕ) :
    (bigSep Finset.univ (Ring c arg2 arg8 arg17 f2 P8 N 125 125) : sProp 𝕄)
      ⊢ iprop(bigSep Finset.univ (fun p => Rest c (cell6 arg17 p)) ∗ (∃ f8, onS c arg8 Finset.univ fullShare f8) ∗ onS c arg2 Finset.univ fullShare f2) := by
  have h : (bigSep Finset.univ (Ring c arg2 arg8 arg17 f2 P8 N 125 125) : sProp 𝕄)
      ⊢ bigSep Finset.univ (fun p => iprop(Rest c (cell6 arg17 p) ∗ Raw c arg8 (fun _ => True) p ∗ Src c arg2 f2 p)) := by
    refine bigSep_mono fun p _ => ?_
    unfold Ring
    rw [if_neg (by unfold blk; omega)]
    show (_ : sProp 𝕄) ⊢ _
    exact .rfl
  refine h.trans ?_
  rw [deal c arg2 g2 harg2, bigSep_sep', bigSep_sep']
  iintro ⟨Hr, H8, H2⟩
  ihave H8 := (undeal c arg8 g8 harg8 (fun _ _ => True) fun _ _ _ _ _ => trivial) $$ H8
  icases H8 with ⟨%f8, -, H8⟩
  isplitl [Hr]; · iexact Hr
  isplitl [H8]
  · iexists f8; iexact H8
  iexact H2

section
variable (a : DmaSems sig S4) (M : Memref sig .tc .vmem S4x256x1536 .bf16) (hM : M.IsWhole) (O : Memref sig .tc .hbm S8x4096x3072 .bf16) (hO : O.IsWhole)

variable (P : Fin 4 → ℕ → BufAt (F := F) c O → Prop)

include hM hO in
theorem slot_in (hP : ∀ p f, P p 0 f) (fM : BufAt (F := F) c M) (fO : BufAt (F := F) c O) :
    iprop(bigSep Finset.univ (fun p => Rest c (cell4 a p)) ∗ onS c M Finset.univ fullShare fM ∗ onS c O Finset.univ fullShare fO)
      ⊢ (bigSep Finset.univ (WSl c a M O P 0 0) : sProp 𝕄) := by
  rw [deal c M g4 hM, deal c O gO hO, ← bigSep_sep', ← bigSep_sep']
  refine bigSep_mono fun p _ => ?_
  unfold WSl
  rw [if_neg (by omega)]
  show (_ : sProp 𝕄) ⊢ _
  iintro ⟨Hr, HM, HO⟩
  isplitl [Hr]; · iexact Hr
  isplitl [HM]
  · iexists fM; iexact HM
  iexists fO
  isplitr
  · ipureintro; exact hP p fO
  iexact HO

include hM hO in
theorem slot_out (n : ℕ) (hP : ∀ p f f', (∀ i ∈ part c O gO p, f' i = f i) → P p n f → P p n f') :
    (bigSep Finset.univ (WDr c a M O P n 4) : sProp 𝕄)
      ⊢ iprop(bigSep Finset.univ (fun p => Rest c (cell4 a p)) ∗ (∃ f, onS c M Finset.univ fullShare f) ∗ (∃ f, ⌜∀ p, P p n f⌝ ∗ onS c O Finset.univ fullShare f)) := by
  have h : (bigSep Finset.univ (WDr c a M O P n 4) : sProp 𝕄)
      ⊢ bigSep Finset.univ (fun p => iprop(Rest c (cell4 a p) ∗ (∃ f, ⌜True⌝ ∗ onS c M (part c M g4 p) fullShare f) ∗ (∃ f, ⌜P p n f⌝ ∗ onS c O (part c O gO p) fullShare f))) := by
    refine bigSep_mono fun p _ => ?_
    unfold WDr
    rw [if_pos p.isLt]
    show (_ : sProp 𝕄) ⊢ _
    iintro ⟨Hr, ⟨%f, HM⟩, HO⟩
    isplitl [Hr]; · iexact Hr
    isplitl [HM]
    · iexists f
      isplitr
      · ipureintro; trivial
      iexact HM
    iexact HO
  refine h.trans ?_
  rw [bigSep_sep', bigSep_sep']
  iintro ⟨Hr, HM, HO⟩
  ihave HM := (undeal c M g4 hM (fun _ _ => True) fun _ _ _ _ _ => trivial) $$ HM
  icases HM with ⟨%fM, -, HM⟩
  ihave HO := (undeal c O gO hO (fun p => P p n) hP) $$ HO
  icases HO with ⟨%fO, %hfO, HO⟩
  isplitl [Hr]; · iexact Hr
  isplitl [HM]
  · iexists fM; iexact HM
  iexists fO
  isplitr
  · ipureintro; exact hfO
  iexact HO
end

/-! ### The starts and the waits -/

theorem o1 (r : Fin 5) : k0_off1 (BitVec.ofNat 32 r.val) = ![r.val] := by revert r; decide +kernel
theorem o2 (r : Fin 5) : k0_off2 (BitVec.ofNat 32 r.val) = ![r.val, 0, 0] := by revert r; decide +kernel
theorem o3 (r : Fin 5) : k0_off3 (BitVec.ofNat 32 r.val) = ![0, 256 * r.val] := by revert r; decide +kernel
theorem o325 (r : Fin 5) : k0_off325 (BitVec.ofNat 32 r.val) = ![r.val, 1536, 0] := by revert r; decide +kernel
theorem o326 (r : Fin 5) : k0_off326 (BitVec.ofNat 32 r.val) = ![1536, 256 * r.val] := by revert r; decide +kernel
theorem o322 (r : Fin 4) : k0_off322 (BitVec.ofNat 32 (124 + r.val)) = ![r.val] := by revert r; decide +kernel

section
variable (f2 : BufAt (F := F) c arg2)
variable (S : Spec F) (hf2 : S.val → ∀ y : S3072x32000.Idx, rd c arg2 f2 y = S.code (y 0).val (y 1).val)
include hf2

theorem wp_enq1 {Q : PUnit.{1} → sProp 𝕄} (r : Fin 5) (K : PF) :
    bigSep Finset.univ (Ring c arg2 arg8 arg17 f2 (Q8 c arg8 S 0) (N1 arg8) 0 r.val)
      ⊢ iprop((bigSep Finset.univ (Ring c arg2 arg8 arg17 f2 (Q8 c arg8 S 0) (N1 arg8) 0 (r.val + 1)) -∗ wpK c K Q) -∗ wpK c (enq1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r K) Q) :=
  wp_pro1 c arg2 arg8 arg17 f2 (Q8 c arg8 S 0) r.val r.isLt (k := fun _ => K) (o1 r) (o2 r) (o3 r) fun fd hv =>
    raw_fill c arg2 arg8 _ ((o2 r).trans (by rw [Nat.mod_eq_of_lt (show r.val < 6 by omega)])) (o3 r) (by omega) S.code f2 (hf2 hv) fd
theorem wp_enq6 {Q : PUnit.{1} → sProp 𝕄} (r : Fin 5) (K : PF) :
    bigSep Finset.univ (Ring c arg2 arg8 arg17 f2 (Q8 c arg8 S 1536) (N6 arg8) 0 r.val)
      ⊢ iprop((bigSep Finset.univ (Ring c arg2 arg8 arg17 f2 (Q8 c arg8 S 1536) (N6 arg8) 0 (r.val + 1)) -∗ wpK c K Q) -∗ wpK c (enq6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r K) Q) :=
  wp_pro6 c arg2 arg8 arg17 f2 (Q8 c arg8 S 1536) r.val r.isLt (k := fun _ => K) (o1 r) (o325 r) (o326 r) fun fd hv =>
    raw_fill c arg2 arg8 _ ((o325 r).trans (by rw [Nat.mod_eq_of_lt (show r.val < 6 by omega)])) (o326 r) (by omega) S.code f2 (hf2 hv) fd
end

/-- Both results with the first `j` slots waited for. -/
abbrev Drs (S : Spec F) (n j : ℕ) : sProp 𝕄 :=
  iprop(bigSep Finset.univ (WDr c arg19 arg15 arg5 (QO c arg5 S.val S.out) n j) ∗ bigSep Finset.univ (WDr c arg20 arg16 arg6 (QO c arg6 S.val S.emb) n j) ∗ Owes (F := F) c)

theorem wp_waitA {Q : PUnit.{1} → sProp 𝕄} (S : Spec F) (n : ℕ) (r : Fin 4) (K : PF) :
    Drs c arg5 arg6 arg15 arg16 arg19 arg20 S n r.val
      ⊢ iprop((Drs c arg5 arg6 arg15 arg16 arg19 arg20 S n (r.val + 1) -∗ wpK c K Q) -∗ wpK c (waitA arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r K) Q) := by
  have W5 := wp_drain (Q := Q) c arg19 arg15 arg5 (QO c arg5 S.val S.out) (srcw := stgV arg15 r) (dstw := outA arg5 r) (hsrc := (harg15.wordExact_slice rfl _ (k0_off324_wordsbf16 r)).reshape _ _) (hdst := (harg5.wordExact_slice rfl _ (k0_off323_wordsbf16 r)).reshape _ _)
    (k := fun _ => .op (.waitDma2 (cellV arg20 r) (stgV arg16 r) (outA arg6 r) ((harg16.wordExact_slice rfl _ (k0_off324_wordsbf16 r)).reshape _ _) ((harg6.wordExact_slice rfl _ (k0_off323_wordsbf16 r)).reshape _ _)) fun _ => K)
    (h := k0_off322_inb r) n r.val r.isLt (o322 r) rfl
  have W6 := wp_drain (Q := Q) c arg20 arg16 arg6 (QO c arg6 S.val S.emb) (srcw := stgV arg16 r) (dstw := outA arg6 r) (hsrc := (harg16.wordExact_slice rfl _ (k0_off324_wordsbf16 r)).reshape _ _) (hdst := (harg6.wordExact_slice rfl _ (k0_off323_wordsbf16 r)).reshape _ _)
    (k := fun _ => K) (h := k0_off322_inb r) n r.val r.isLt (o322 r) rfl
  unfold Drs waitA
  iintro ⟨H5, H6, HO⟩ Hk
  iapply W5 $$ [H5 HO]
  · isplitl [H5] <;> iassumption
  iintro ⟨H5, HO⟩
  iapply W6 $$ [H6 HO]
  · isplitl [H6] <;> iassumption
  iintro ⟨H6, HO⟩
  iapply Hk
  isplitl [H5]; · iexact H5
  isplitl [H6] <;> iassumption

theorem wp_waitB {Q : PUnit.{1} → sProp 𝕄} (S : Spec F) (n : ℕ) (r : Fin 4) (K : PF) :
    Drs c arg5 arg6 arg15 arg16 arg19 arg20 S n r.val
      ⊢ iprop((Drs c arg5 arg6 arg15 arg16 arg19 arg20 S n (r.val + 1) -∗ wpK c K Q) -∗ wpK c (waitB arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r K) Q) := by
  have W5 := wp_drain (Q := Q) c arg19 arg15 arg5 (QO c arg5 S.val S.out) (srcw := stgV arg15 r) (dstw := outB arg5 r) (hsrc := (harg15.wordExact_slice rfl _ (k0_off324_wordsbf16 r)).reshape _ _) (hdst := (harg5.wordExact_slice rfl _ (k0_off544_wordsbf16 r)).reshape _ _)
    (k := fun _ => .op (.waitDma2 (cellV arg20 r) (stgV arg16 r) (outB arg6 r) ((harg16.wordExact_slice rfl _ (k0_off324_wordsbf16 r)).reshape _ _) ((harg6.wordExact_slice rfl _ (k0_off544_wordsbf16 r)).reshape _ _)) fun _ => K)
    (h := k0_off322_inb r) n r.val r.isLt (o322 r) rfl
  have W6 := wp_drain (Q := Q) c arg20 arg16 arg6 (QO c arg6 S.val S.emb) (srcw := stgV arg16 r) (dstw := outB arg6 r) (hsrc := (harg16.wordExact_slice rfl _ (k0_off324_wordsbf16 r)).reshape _ _) (hdst := (harg6.wordExact_slice rfl _ (k0_off544_wordsbf16 r)).reshape _ _)
    (k := fun _ => K) (h := k0_off322_inb r) n r.val r.isLt (o322 r) rfl
  unfold Drs waitB
  iintro ⟨H5, H6, HO⟩ Hk
  iapply W5 $$ [H5 HO]
  · isplitl [H5] <;> iassumption
  iintro ⟨H5, HO⟩
  iapply W6 $$ [H6 HO]
  · isplitl [H6] <;> iassumption
  iintro ⟨H6, HO⟩
  iapply Hk
  isplitl [H5]; · iexact H5
  isplitl [H6] <;> iassumption

/-! ### The loops -/

section
variable (f2 : BufAt (F := F) c arg2) (f3 : BufAt (F := F) c arg3) {q3 : PosShare TreeShare} (S : Spec F) (hf2 : S.val → ∀ y : S3072x32000.Idx, rd c arg2 f2 y = S.code (y 0).val (y 1).val)
  (hf3 : S.val → ∀ y : S250x128.Idx, rd c arg3 f3 y = S.scl (128 * (y 0).val + (y 1).val)) (hS : S.val → StatTile c S.code S.scl S.inv)

/-- The packed codes and the reciprocals of the columns before `n`. -/
def Q1 (n : ℕ) (f7 : BufAt (F := F) c arg7) (f9 : BufAt (F := F) c arg9) : Prop := S.val → Tab c arg7 f7 S.code 0 (256 * n) ∧ Stat c arg9 f9 S.inv (2 * n)

theorem Q1_zero (f7 : BufAt (F := F) c arg7) (f9 : BufAt (F := F) c arg9) : Q1 c arg7 arg9 S 0 f7 f9 := fun _ => ⟨fun y hy => absurd hy (by omega), fun y hy => absurd hy (by omega)⟩

include hf2 in
theorem raw1 (k : Fin k0_t1_loop.trips) (h) (fd : BufAt (F := F) c arg8) : Q8 c arg8 S 0 (k.val + 5) (((arg8.slice (Rect.unit (s := S6x3072x256) (k0_off8 k) S1x3072x256.size (k0_off8_inb k h)) (fun _ => rfl)).squeeze S3072x256 squeezes_S1x3072x256_S3072x256).view.write (Elt F) fd
    ((arg2.slice (Rect.unit (s := S3072x32000) (k0_off9 k) S3072x256.size (k0_off9_inb k h)) (fun _ => rfl)).view.read (Elt F) f2) Finset.univ) := fun hv =>
  raw_fill c arg2 arg8 _ (k0_off8_eq k) ((k0_off9_eq k).trans (by rw [show 256 * k.val + 1280 = 256 * (k.val + 5) by omega])) (by omega) S.code f2 (hf2 hv) fd

include hf2 in
theorem raw6 (k : Fin k0_t6_loop.trips) (h) (fd : BufAt (F := F) c arg8) : Q8 c arg8 S 1536 (k.val + 5) (((arg8.slice (Rect.unit (s := S6x3072x256) (k0_off331 k) S1x1536x256.size (k0_off331_inb k h)) (fun _ => rfl)).squeeze S1536x256 squeezes_S1x1536x256_S1536x256).view.write (Elt F) fd
    ((arg2.slice (Rect.unit (s := S3072x32000) (k0_off332 k) S1536x256.size (k0_off332_inb k h)) (fun _ => rfl)).view.read (Elt F) f2) Finset.univ) := fun hv =>
  raw_fill c arg2 arg8 _ (k0_off331_eq k) ((k0_off332_eq k).trans (by rw [show 256 * k.val + 1280 = 256 * (k.val + 5) by omega])) (by omega) S.code f2 (hf2 hv) fd

include hf3 hS in
theorem step1 (k : Fin k0_t1_loop.trips) (f8 : BufAt (F := F) c arg8) (f7 : BufAt (F := F) c arg7) (f9 : BufAt (F := F) c arg9) (f13 : BufAt (F := F) c arg13) (h8 : Q8 c arg8 S 0 k.val f8) (h : Q1 c arg7 arg9 S k.val f7 f9) :
    Q1 c arg7 arg9 S (k.val + 1) (nx7 c arg7 arg8 arg13 k f8 f13 f7) (nx9 c arg3 arg8 arg9 f3 k f8 f9) := fun hv =>
  ⟨nx7_tab c arg7 arg8 arg13 S.code k f8 f13 f7 (h8 hv) (h hv).1, nx9_stat c arg3 arg9 arg8 S.code S.scl S.inv (hS hv) k f8 f3 f9 (h8 hv) (hf3 hv) (h hv).2⟩

theorem step6 (k : Fin k0_t6_loop.trips) (f8 : BufAt (F := F) c arg8) (f7 : BufAt (F := F) c arg7) (f13 : BufAt (F := F) c arg13) (h8 : Q8 c arg8 S 1536 k.val f8) (h : QT c S arg7 f7 1536 (256 * k.val)) :
    QT c S arg7 (ny7 c arg7 arg8 arg13 k f8 f13 f7) 1536 (256 * (k.val + 1)) := fun hv =>
  ny7_tab c arg7 arg8 arg13 S.code k f8 f13 f7 (h8 hv) (h hv)

include hf2 hf3 hS in
theorem wp_loop1 {Q : PUnit.{1} → sProp 𝕄} (v6 : IVec S8x128 32) (kk : PUnit.{1} → PF) :
    iprop(bigSep Finset.univ (Ring c arg2 arg8 arg17 f2 (Q8 c arg8 S 0) (N1 arg8) 0 5) ∗ Owes c ∗ onS c arg3 Finset.univ q3 f3
      ∗ (∃ f, onS c arg7 Finset.univ fullShare f) ∗ (∃ f, onS c arg9 Finset.univ fullShare f) ∗ (∃ f, onS c arg13 Finset.univ fullShare f))
    ⊢ iprop((iprop(bigSep Finset.univ (Ring c arg2 arg8 arg17 f2 (Q8 c arg8 S 0) (N1 arg8) 125 125) ∗ Owes c ∗ onS c arg3 Finset.univ q3 f3
      ∗ (∃ f7 f9, ⌜Q1 c arg7 arg9 S 125 f7 f9⌝ ∗ onS c arg7 Finset.univ fullShare f7 ∗ onS c arg9 Finset.univ fullShare f9) ∗ (∃ f, onS c arg13 Finset.univ fullShare f)) -∗ wpK c (kk ⟨⟩) Q)
      -∗ wpK c (Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) >>= kk) Q) := by
  have L := wp_loopK (Q := Q) (lp := k0_t1_loop) (ok := k0_t1_ok) (body := k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) (kk := kk) c (inv1 c arg2 arg3 arg7 arg8 arg9 arg13 arg17 f2 (Q8 c arg8 S 0) f3 (Q1 c arg7 arg9 S) q3) (fun k => by
    rw [body1]
    exact wp_trip1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 (Q8 c arg8 S 0) f3 (Q1 c arg7 arg9 S) (raw1 c arg2 arg8 f2 S hf2) (step1 c arg3 arg7 arg8 arg9 arg13 f3 S hf3 hS) k)
  rw [trips1] at L
  unfold inv1 at L
  rw [show min (0 + 5) 125 = 5 from rfl, show min (125 + 5) 125 = 125 from rfl] at L
  iintro ⟨HR, HO, H3, ⟨%f7, H7⟩, ⟨%f9, H9⟩, ⟨%f13, H13⟩⟩ Hk
  iapply L $$ [HR HO H3 H7 H9 H13]
  · isplitl [HR]; · iexact HR
    isplitl [HO]; · iexact HO
    isplitl [H3]; · iexact H3
    iexists f7, f9, f13
    isplitr
    · ipureintro; exact Q1_zero c arg7 arg9 S f7 f9
    isplitl [H7]; · iexact H7
    isplitl [H9] <;> iassumption
  iintro ⟨HR, HO, H3, ⟨%g7, %g9, %g13, %hg, H7, H9, H13⟩⟩
  iapply Hk
  isplitl [HR]; · iexact HR
  isplitl [HO]; · iexact HO
  isplitl [H3]; · iexact H3
  isplitl [H7 H9]
  · iexists g7, g9
    isplitr
    · ipureintro; exact hg
    isplitl [H7] <;> iassumption
  iexists g13; iexact H13

include hf2 in
theorem wp_loop6 {Q : PUnit.{1} → sProp 𝕄} (v6 : IVec S8x128 32) (kk : PUnit.{1} → PF) :
    iprop(bigSep Finset.univ (Ring c arg2 arg8 arg17 f2 (Q8 c arg8 S 1536) (N6 arg8) 0 5) ∗ Owes c
      ∗ (∃ f, onS c arg7 Finset.univ fullShare f) ∗ (∃ f, onS c arg13 Finset.univ fullShare f))
    ⊢ iprop((iprop(bigSep Finset.univ (Ring c arg2 arg8 arg17 f2 (Q8 c arg8 S 1536) (N6 arg8) 125 125) ∗ Owes c
      ∗ (∃ f, ⌜QT c S arg7 f 1536 32000⌝ ∗ onS c arg7 Finset.univ fullShare f) ∗ (∃ f, onS c arg13 Finset.univ fullShare f)) -∗ wpK c (kk ⟨⟩) Q)
      -∗ wpK c (Scf.Loop.for k0_t6_loop k0_t6_ok ⟨⟩ (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) >>= kk) Q) := by
  have L := wp_loopK (Q := Q) (lp := k0_t6_loop) (ok := k0_t6_ok) (body := k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) (kk := kk) c (inv6 c arg2 arg7 arg8 arg13 arg17 f2 (Q8 c arg8 S 1536) (fun k f => QT c S arg7 f 1536 (256 * k))) (fun k => by
    rw [body6]
    exact wp_trip6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 (Q8 c arg8 S 1536) (fun k f => QT c S arg7 f 1536 (256 * k)) (raw6 c arg2 arg8 f2 S hf2) (step6 c arg7 arg8 arg13 S) k)
  rw [trips6] at L
  unfold inv6 at L
  rw [show min (0 + 5) 125 = 5 from rfl, show min (125 + 5) 125 = 125 from rfl] at L
  iintro ⟨HR, HO, ⟨%f7, H7⟩, ⟨%f13, H13⟩⟩ Hk
  iapply L $$ [HR HO H7 H13]
  · isplitl [HR]; · iexact HR
    isplitl [HO]; · iexact HO
    iexists f7, f13
    isplitr
    · ipureintro; exact fun _ y hy => absurd hy (by omega)
    isplitl [H7] <;> iassumption
  iintro ⟨HR, HO, ⟨%g7, %g13, %hg, H7, H13⟩⟩
  iapply Hk
  isplitl [HR]; · iexact HR
  isplitl [HO]; · iexact HO
  isplitl [H7]
  · iexists g7
    isplitr
    · ipureintro; exact hg
    iexact H7
  iexists g13; iexact H13
end

section
variable (f9 : BufAt (F := F) c arg9) (f10 : BufAt (F := F) c arg10)

theorem body2 (v6 : IVec S8x128 32) (k : Fin k0_t2_loop.trips) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k () = .op (.enqueueDma ((arg9.slice (Rect.unit (s := S250x128) (k0_off205 k) S1x128.size (k0_off205_inb k)) (fun _ => rfl)).squeeze S128 squeezes_S1x128_S128)
          (.here (arg10.slice (Rect.unit (s := S32000) (k0_off204 k) S128.size (k0_off204_inb k)) (fun _ => rfl))) (.dma arg18.sem) ((View.wordExact_bits rfl).reshape _ _) (View.wordExact_bits rfl) ⟨Or.inl rfl, trivial⟩) fun _ => .ret ⟨⟩ := rfl
theorem body3 (v6 : IVec S8x128 32) (k : Fin k0_t3_loop.trips) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6 k () = .op (.waitDma2 arg18.sem ((arg9.slice (Rect.unit (s := S250x128) (k0_off207 k) S1x128.size (k0_off207_inb k)) (fun _ => rfl)).squeeze S128 squeezes_S1x128_S128)
          (arg10.slice (Rect.unit (s := S32000) (k0_off206 k) S128.size (k0_off206_inb k)) (fun _ => rfl)) ((View.wordExact_bits rfl).reshape _ _) (View.wordExact_bits rfl)) fun _ => .ret ⟨⟩ := rfl

theorem wp_loop2 {Q : PUnit.{1} → sProp 𝕄} (v6 : IVec S8x128 32) (kk : PUnit.{1} → PF) :
    iprop(Rest c arg18.sem ∗ onS c arg9 Finset.univ fullShare f9 ∗ onS c arg10 Finset.univ fullShare f10)
    ⊢ iprop((Bat c arg9 arg10 arg18 f9 f10 250 0 -∗ wpK c (kk ⟨⟩) Q) -∗ wpK c (Scf.Loop.for k0_t2_loop k0_t2_ok ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) >>= kk) Q) := by
  have L := wp_loopK (Q := Q) (lp := k0_t2_loop) (ok := k0_t2_ok) (body := k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) (kk := kk) c
    (fun k => iprop(Bat c arg9 arg10 arg18 f9 f10 k 0 ∗ bigSep (Ring.rangeSet 250 k 250) (Left c arg9 arg10 f9 f10))) (fun k => by
    have hk : k.val < 250 := Nat.lt_of_lt_of_eq k.isLt trips2
    have W := wp_start2 (Q := fun _ => iprop(Bat c arg9 arg10 arg18 f9 f10 (k.val + 1) 0 ∗ bigSep (Ring.rangeSet 250 (k.val + 1) 250) (Left c arg9 arg10 f9 f10))) c arg9 arg10 arg18 f9 f10 ⟨k.val, hk⟩ (h10 := k0_off204_inb k) (h9 := k0_off205_inb k)
      (hsrc := (View.wordExact_bits rfl).reshape _ _) (hdst := View.wordExact_bits rfl) (hsem := ⟨Or.inl rfl, trivial⟩) (K := fun _ => .ret ⟨⟩) (k0_off204_eq k) (k0_off205_eq k)
    rw [body2, Ring.bigSep_rangeSet_head hk hk]
    iintro ⟨HB, Hh, Ht⟩
    iapply W $$ [HB Hh]
    · isplitl [Hh] <;> iassumption
    iintro HB
    iapply (wp_retK c)
    isplitl [HB] <;> iassumption)
  rw [trips2, Ring.rangeSet_univ, Ring.bigSep_rangeSet_empty (le_refl 250)] at L
  iintro ⟨Hr, H9, H10⟩ Hk
  imod (Transfers.batch_alloc' ECd (c : Thread nD τ) () (N10 arg10) (D10 c arg9 arg10 f9 f10) (sm := .dma arg18.sem) (E := Set.univ)) $$ Hr with HB
  ihave H9 := (Entails.of_eq (deal c arg9 g9 harg9 fullShare f9)) $$ H9
  ihave H10 := (Entails.of_eq (deal c arg10 g10 harg10 fullShare f10)) $$ H10
  iapply L $$ [HB H9 H10]
  · isplitl [HB]; · iexact HB
    iapply (Entails.of_eq (bigSep_sep' Finset.univ (fun k => onS c arg10 (part c arg10 g10 k) fullShare f10) (fun k => onS c arg9 (part c arg9 g9 k) fullShare f9)).symm)
    isplitl [H10] <;> iassumption
  iintro ⟨HB, -⟩
  iapply Hk $$ HB

theorem wp_loop3 {Q : PUnit.{1} → sProp 𝕄} (S : Spec F) (h9 : S.val → Stat c arg9 f9 S.inv 250) (v6 : IVec S8x128 32) (kk : PUnit.{1} → PF) :
    iprop(Bat c arg9 arg10 arg18 f9 f10 250 0 ∗ Owes c)
    ⊢ iprop((iprop(Rest c arg18.sem ∗ Owes c ∗ onS c arg9 Finset.univ fullShare f9 ∗ (∃ f, ⌜Col c S S.inv arg10 f⌝ ∗ onS c arg10 Finset.univ fullShare f)) -∗ wpK c (kk ⟨⟩) Q)
      -∗ wpK c (Scf.Loop.for k0_t3_loop k0_t3_ok ⟨⟩ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) >>= kk) Q) := by
  have L := wp_loopK (Q := Q) (lp := k0_t3_loop) (ok := k0_t3_ok) (body := k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) (kk := kk) c (Wt c arg9 arg10 arg18 f9 f10) (fun k => by
    have hk : k.val < 250 := Nat.lt_of_lt_of_eq k.isLt trips3
    have W := wp_wait2 (Q := fun _ => Wt c arg9 arg10 arg18 f9 f10 (k.val + 1)) c arg9 arg10 arg18 f9 f10 k.val hk
      (srcw := (arg9.slice (Rect.unit (s := S250x128) (k0_off207 k) S1x128.size (k0_off207_inb k)) (fun _ => rfl)).squeeze S128 squeezes_S1x128_S128)
      (dstw := arg10.slice (Rect.unit (s := S32000) (k0_off206 k) S128.size (k0_off206_inb k)) (fun _ => rfl))
      (hsrc := (View.wordExact_bits rfl).reshape _ _) (hdst := View.wordExact_bits rfl) (K := fun _ => .ret ⟨⟩) rfl
    rw [body3]
    iintro HB
    iapply W $$ HB
    iintro HB
    iapply (wp_retK c)
    iexact HB)
  rw [trips3] at L
  unfold Wt at L
  rw [if_pos (by omega), if_neg (by omega), Nat.zero_mul] at L
  have hD : (bigSep Finset.univ (D10 c arg9 arg10 f9 f10) : sProp 𝕄)
      ⊢ bigSep Finset.univ (fun k => iprop((∃ f, ⌜Q10 c S arg10 k f⌝ ∗ onS c arg10 (part c arg10 g10 k) fullShare f) ∗ onS c arg9 (part c arg9 g9 k) fullShare f9)) := by
    refine bigSep_mono fun k _ => ?_
    show iprop(onS c arg10 (part c arg10 g10 k) fullShare (put10 c arg9 arg10 f9 k f10) ∗ onS c arg9 (part c arg9 g9 k) fullShare f9) ⊢ (_ : sProp 𝕄)
    iintro ⟨H10, H9⟩
    isplitl [H10]
    · iexists (put10 c arg9 arg10 f9 k f10)
      isplitr
      · ipureintro; exact fun hv y hy => put10_at c arg9 arg10 f9 f10 _ S.inv (h9 hv) k (fun _ _ => rfl) y hy
      iexact H10
    iexact H9
  rw [bigSep_sep'] at hD
  iintro H Hk
  iapply L $$ H
  iintro ⟨HD, Hr, HO⟩
  ihave HD := hD $$ HD
  icases HD with ⟨H10, H9⟩
  ihave H10 := (undeal c arg10 g10 harg10 (Q10 c S arg10) (Q10_congr c S arg10)) $$ H10
  icases H10 with ⟨%f, %hf, H10⟩
  ihave H9 := (Entails.of_eq (deal c arg9 g9 harg9 fullShare f9).symm) $$ H9
  iapply Hk
  isplitl [Hr]; · iexact Hr
  isplitl [HO]; · iexact HO
  isplitl [H9]; · iexact H9
  iexists f
  isplitr
  · ipureintro; exact Q10_all c S arg10 f hf
  iexact H10
end

theorem blk4 (O : Memref sig .tc .hbm S8x4096x3072 .bf16) (M : Memref sig .tc .vmem S4x256x1536 .bf16) (val : Prop) (spec : ℕ → ℕ → ℕ → F .bf16) (k : Fin k0_t4_loop.trips) (f : BufAt (F := F) c M) (fd : BufAt (F := F) c O)
    (hE : QE c M val spec 0 k.val k0_t5_loop.trips f) (hd : QO c O val spec (sw k.val) (0 + k.val / 4) fd) :
    QO c O val spec (sw k.val) (0 + k.val / 4 + 1) (((O.slice (Rect.unit (s := S8x4096x3072) (k0_off320 k) S1x256x1536.size (k0_off320_inb k)) (fun _ => rfl)).squeeze S256x1536 squeezes_S1x256x1536_S256x1536).view.write (Elt F) fd
      (((M.slice (Rect.unit (s := S4x256x1536) (k0_off321 k) S1x256x1536.size (k0_off321_inb k)) (fun _ => rfl)).squeeze S256x1536 squeezes_S1x256x1536_S256x1536).view.read (Elt F) f) Finset.univ) :=
  out_write c O M _ _ (.inl ⟨rfl, rfl⟩) (Nat.lt_of_lt_of_eq k.isLt trips4) (k0_off320_eq k) (k0_off321_eq k) val spec f fd (by rw [← trips5]; exact hE) hd

theorem blk7 (O : Memref sig .tc .hbm S8x4096x3072 .bf16) (M : Memref sig .tc .vmem S4x256x1536 .bf16) (val : Prop) (spec : ℕ → ℕ → ℕ → F .bf16) (k : Fin k0_t7_loop.trips) (f : BufAt (F := F) c M) (fd : BufAt (F := F) c O)
    (hE : QE c M val spec 1536 k.val k0_t8_loop.trips f) (hd : QO c O val spec (sw k.val) (32 + k.val / 4) fd) :
    QO c O val spec (sw k.val) (32 + k.val / 4 + 1) (((O.slice (Rect.unit (s := S8x4096x3072) (k0_off542 k) S1x256x1536.size (k0_off542_inb k)) (fun _ => rfl)).squeeze S256x1536 squeezes_S1x256x1536_S256x1536).view.write (Elt F) fd
      (((M.slice (Rect.unit (s := S4x256x1536) (k0_off543 k) S1x256x1536.size (k0_off543_inb k)) (fun _ => rfl)).squeeze S256x1536 squeezes_S1x256x1536_S256x1536).view.read (Elt F) f) Finset.univ) :=
  out_write c O M _ _ (.inr ⟨rfl, rfl⟩) (Nat.lt_of_lt_of_eq k.isLt trips7) (k0_off542_eq k) (k0_off543_eq k) val spec f fd (by rw [← trips8]; exact hE) hd

section
variable (f0 : BufAt (F := F) c arg0) (f1 : BufAt (F := F) c arg1) (f7 : BufAt (F := F) c arg7) (f10 : BufAt (F := F) c arg10) (f12 : BufAt (F := F) c arg12)
  (hids : IdsOk c arg0 f0) {q0 q1 : PosShare TreeShare}
  (S : Spec F) (h0 : Ids0 c S arg0 f0) (h1 : Col c S S.scl arg1 f1) (h10 : Col c S S.inv arg10 f10) (h12 : Wts c S arg12 f12)
include hids h0 h1 h10 h12

theorem wp_loop4 {Q : PUnit.{1} → sProp 𝕄} (hT : QT c S arg7 f7 0 32000) (v6 : IVec S8x128 32) (hv6 : ∀ y, v6 y = BitVec.ofNat 32 (y 0).val) (kk : PUnit.{1} → PF) :
    iprop(Rings4 c arg5 arg6 arg15 arg16 arg19 arg20 (QO c arg5 S.val S.out) (QO c arg6 S.val S.emb) 0 0 ∗ Read4 c arg0 arg1 arg7 arg10 arg12 arg14 f0 f1 f7 f10 f12 q0 q1)
    ⊢ iprop((iprop(Drs c arg5 arg6 arg15 arg16 arg19 arg20 S 32 0 ∗ Read4 c arg0 arg1 arg7 arg10 arg12 arg14 f0 f1 f7 f10 f12 q0 q1) -∗ wpK c (kk ⟨⟩) Q)
      -∗ wpK c (Scf.Loop.for k0_t4_loop k0_t4_ok ⟨⟩ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) >>= kk) Q) := by
  have L := wp_loopK (Q := Q) (lp := k0_t4_loop) (ok := k0_t4_ok) (body := k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) (kk := kk) c
    (fun i => iprop(Rings4 c arg5 arg6 arg15 arg16 arg19 arg20 (QO c arg5 S.val S.out) (QO c arg6 S.val S.emb) 0 i ∗ Read4 c arg0 arg1 arg7 arg10 arg12 arg14 f0 f1 f7 f10 f12 q0 q1)) (fun k => by
    rw [body4]
    exact wp_trip4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 (QO c arg5 S.val S.out) (QO c arg6 S.val S.emb) 0 f0 f1 f7 f10 f12 hids v6 (fun k => QE c arg15 S.val S.out 0 k.val) (fun k => QE c arg16 S.val S.emb 0 k.val) (fun k f hv => part_zero c arg15) (fun k f hv => part_zero c arg16)
      (fun k g f14 f hE => emit15 c S arg0 arg1 arg7 arg10 arg12 arg14 arg15 f0 f1 f7 f10 f12 hids h0 h1 h10 h12 v6 hv6 _ _ _ _ (emitOk5 k g) k.val g.val (Nat.lt_of_lt_of_eq k.isLt trips4) (Nat.lt_of_lt_of_eq g.isLt trips5)
        (slot4 k) (bOf4 k) (t0Of4 k) (iv5 g) 0 hT 0 (Nat.zero_le 12) rfl f14 f hE)
      (fun k g f14 f hE => emit16 c S arg0 arg1 arg7 arg14 arg16 f0 f1 f7 hids h0 h1 v6 hv6 _ _ _ _ (emitOk5 k g) k.val g.val (Nat.lt_of_lt_of_eq k.isLt trips4) (Nat.lt_of_lt_of_eq g.isLt trips5)
        (slot4 k) (bOf4 k) (t0Of4 k) (iv5 g) 0 hT f14 f hE)
      (blk4 c arg5 arg15 S.val S.out)
      (blk4 c arg6 arg16 S.val S.emb) k)
  rw [trips4] at L
  unfold Rings4 at L
  rw [WSl_drain c arg19 arg15 arg5, WSl_drain c arg20 arg16 arg6] at L
  exact L

theorem wp_loop7 {Q : PUnit.{1} → sProp 𝕄} (hT : QT c S arg7 f7 1536 32000) (v6 : IVec S8x128 32) (hv6 : ∀ y, v6 y = BitVec.ofNat 32 (y 0).val) (kk : PUnit.{1} → PF) :
    iprop(Drs c arg5 arg6 arg15 arg16 arg19 arg20 S 32 4 ∗ Read7 c arg0 arg1 arg7 arg10 arg12 arg14 f0 f1 f7 f10 f12 q0 q1)
    ⊢ iprop((iprop(Drs c arg5 arg6 arg15 arg16 arg19 arg20 S 64 0 ∗ Read7 c arg0 arg1 arg7 arg10 arg12 arg14 f0 f1 f7 f10 f12 q0 q1) -∗ wpK c (kk ⟨⟩) Q)
      -∗ wpK c (Scf.Loop.for k0_t7_loop k0_t7_ok ⟨⟩ (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) >>= kk) Q) := by
  have L := wp_loopK (Q := Q) (lp := k0_t7_loop) (ok := k0_t7_ok) (body := k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v6) (kk := kk) c
    (fun i => iprop(Rings7 c arg5 arg6 arg15 arg16 arg19 arg20 (QO c arg5 S.val S.out) (QO c arg6 S.val S.emb) 32 i ∗ Read7 c arg0 arg1 arg7 arg10 arg12 arg14 f0 f1 f7 f10 f12 q0 q1)) (fun k => by
    rw [body7]
    exact wp_trip7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 (QO c arg5 S.val S.out) (QO c arg6 S.val S.emb) 32 f0 f1 f7 f10 f12 hids v6 (fun k => QE c arg15 S.val S.out 1536 k.val) (fun k => QE c arg16 S.val S.emb 1536 k.val) (fun k f hv => part_zero c arg15) (fun k f hv => part_zero c arg16)
      (fun k g f14 f hE => emit15 c S arg0 arg1 arg7 arg10 arg12 arg14 arg15 f0 f1 f7 f10 f12 hids h0 h1 h10 h12 v6 hv6 _ _ _ _ (emitOk8 k g) k.val g.val (Nat.lt_of_lt_of_eq k.isLt trips7) (Nat.lt_of_lt_of_eq g.isLt trips8)
        (slot7 k) (bOf7 k) (t0Of7 k) (iv8 g) 1536 hT 12 (Nat.le_refl 12) rfl f14 f hE)
      (fun k g f14 f hE => emit16 c S arg0 arg1 arg7 arg14 arg16 f0 f1 f7 hids h0 h1 v6 hv6 _ _ _ _ (emitOk8 k g) k.val g.val (Nat.lt_of_lt_of_eq k.isLt trips7) (Nat.lt_of_lt_of_eq g.isLt trips8)
        (slot7 k) (bOf7 k) (t0Of7 k) (iv8 g) 1536 hT f14 f hE)
      (blk7 c arg5 arg15 S.val S.out)
      (blk7 c arg6 arg16 S.val S.emb) k)
  rw [trips7] at L
  unfold Rings7 at L
  rw [WSl_drain c arg19 arg15 arg5, WSl_drain c arg20 arg16 arg6, ← WDr_rest c arg19 arg15 arg5, ← WDr_rest c arg20 arg16 arg6] at L
  exact L
end
end

end Cert.Proof.Kernel
-- ==== Proof.Whole.lean ====
/-
  The whole body.
-/
module

public import proofs.«01_k».proof.Proof.MainWp

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

section
variable (c : Dev nD) (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4)

theorem wp_wandK {p : PF} {Q Q' : PUnit.{1} → sProp 𝕄} : wpK c p Q ⊢ iprop((∀ a, Q a -∗ Q' a) -∗ wpK c p Q') := wp_wand _ _ _

section
variable (f2 : BufAt (F := F) c arg2) (S : Spec F) (hf2 : S.val → ∀ y : S3072x32000.Idx, rd c arg2 f2 y = S.code (y 0).val (y 1).val)
include hf2
theorem wp_enq1' {Q : PUnit.{1} → sProp 𝕄} (r : Fin 5) (j j' : ℕ) (e : r.val = j) (e' : r.val + 1 = j') (K : PF) :
    bigSep Finset.univ (Ring c arg2 arg8 arg17 f2 (Q8 c arg8 S 0) (N1 arg8) 0 j)
      ⊢ iprop((bigSep Finset.univ (Ring c arg2 arg8 arg17 f2 (Q8 c arg8 S 0) (N1 arg8) 0 j') -∗ wpK c K Q) -∗ wpK c (enq1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r K) Q) := by
  subst e e'; exact wp_enq1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 r K
theorem wp_enq6' {Q : PUnit.{1} → sProp 𝕄} (r : Fin 5) (j j' : ℕ) (e : r.val = j) (e' : r.val + 1 = j') (K : PF) :
    bigSep Finset.univ (Ring c arg2 arg8 arg17 f2 (Q8 c arg8 S 1536) (N6 arg8) 0 j)
      ⊢ iprop((bigSep Finset.univ (Ring c arg2 arg8 arg17 f2 (Q8 c arg8 S 1536) (N6 arg8) 0 j') -∗ wpK c K Q) -∗ wpK c (enq6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r K) Q) := by
  subst e e'; exact wp_enq6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 r K
end
theorem wp_waitA' {Q : PUnit.{1} → sProp 𝕄} (S : Spec F) (n : ℕ) (r : Fin 4) (j j' : ℕ) (e : r.val = j) (e' : r.val + 1 = j') (K : PF) :
    Drs c arg5 arg6 arg15 arg16 arg19 arg20 S n j
      ⊢ iprop((Drs c arg5 arg6 arg15 arg16 arg19 arg20 S n j' -∗ wpK c K Q) -∗ wpK c (waitA arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r K) Q) := by
  subst e e'; exact wp_waitA c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 S n r K
theorem wp_waitB' {Q : PUnit.{1} → sProp 𝕄} (S : Spec F) (n : ℕ) (r : Fin 4) (j j' : ℕ) (e : r.val = j) (e' : r.val + 1 = j') (K : PF) :
    Drs c arg5 arg6 arg15 arg16 arg19 arg20 S n j
      ⊢ iprop((Drs c arg5 arg6 arg15 arg16 arg19 arg20 S n j' -∗ wpK c K Q) -∗ wpK c (waitB arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r K) Q) := by
  subst e e'; exact wp_waitB c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 S n r K

variable (f0 : BufAt (F := F) c arg0) (f1 : BufAt (F := F) c arg1) (f2 : BufAt (F := F) c arg2) (f3 : BufAt (F := F) c arg3) (f4 : BufAt (F := F) c arg4)
  (hids : IdsOk c arg0 f0) (q0 q1 q3 q4 : PosShare TreeShare)
  (S : Spec F) (h0 : Ids0 c S arg0 f0) (h1 : Col c S S.scl arg1 f1) (hf2 : S.val → ∀ y : S3072x32000.Idx, rd c arg2 f2 y = S.code (y 0).val (y 1).val)
  (hf3 : S.val → ∀ y : S250x128.Idx, rd c arg3 f3 y = S.scl (128 * (y 0).val + (y 1).val)) (hS : S.val → StatTile c S.code S.scl S.inv)

/-- The weights as the kernel widens them. -/
def wts : BufAt (F := F) c arg12 → BufAt (F := F) c arg12 := fun f => (arg12.access (Rect.unit (s := S24x128) ![0, 0] S24x128.size inb_S24x128_S24x128_0_0)).write (Elt F) f (k0_pay1471 (arg4.view.readAt (Elt F) rAll f4)) Finset.univ
variable (h4 : ∀ f, Wts c S arg12 (wts c arg4 arg12 f4 f))

/-- A buffer with anything in it. -/
abbrev Has {sp : Space} {s : Shape} {e : EltTy} (m : Memref sig .tc sp s e) : sProp 𝕄 := iprop(∃ f, onS (F := F) c m Finset.univ fullShare f)

/-- What the second phase works on, -/
def Res2 (f10 : BufAt (F := F) c arg10) (f12 : BufAt (F := F) c arg12) : sProp 𝕄 :=
  iprop(onS c arg0 Finset.univ q0 f0 ∗ onS c arg1 Finset.univ q1 f1 ∗ onS c arg2 Finset.univ fullShare f2
    ∗ onS c arg10 Finset.univ fullShare f10 ∗ onS c arg12 Finset.univ fullShare f12
    ∗ Has (F := F) c arg7 ∗ Has (F := F) c arg8 ∗ Has (F := F) c arg13 ∗ Has (F := F) c arg14
    ∗ bigSep Finset.univ (fun p => Rest (F := F) c (cell6 arg17 p)) ∗ Drs c arg5 arg6 arg15 arg16 arg19 arg20 S 32 4)
/-- and what it leaves. -/
def End2 (f10 : BufAt (F := F) c arg10) (f12 : BufAt (F := F) c arg12) : sProp 𝕄 :=
  iprop(onS c arg0 Finset.univ q0 f0 ∗ onS c arg1 Finset.univ q1 f1 ∗ onS c arg2 Finset.univ fullShare f2
    ∗ onS c arg10 Finset.univ fullShare f10 ∗ onS c arg12 Finset.univ fullShare f12
    ∗ Has (F := F) c arg7 ∗ Has (F := F) c arg8 ∗ Has (F := F) c arg13 ∗ Has (F := F) c arg14
    ∗ bigSep Finset.univ (fun p => Rest (F := F) c (cell6 arg17 p)) ∗ Drs c arg5 arg6 arg15 arg16 arg19 arg20 S 64 4)

theorem rowNums_at (y : S8x128.Idx) : rowNums y = BitVec.ofNat 32 (y 0).val := by
  show BitVec.ofNat 32 (0 * 8 + (y 0).val) = _
  rw [Nat.zero_mul, Nat.zero_add]

include hids h0 h1 hf2 in
theorem wp_phase2 (f10 : BufAt (F := F) c arg10) (f12 : BufAt (F := F) c arg12) (h10 : Col c S S.inv arg10 f10) (h12 : Wts c S arg12 f12) :
    Res2 c arg0 arg1 arg2 arg5 arg6 arg7 arg8 arg10 arg12 arg13 arg14 arg15 arg16 arg17 arg19 arg20 f0 f1 f2 q0 q1 S f10 f12
      ⊢ wpK c (phase2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20) fun _ => End2 c arg0 arg1 arg2 arg5 arg6 arg7 arg8 arg10 arg12 arg13 arg14 arg15 arg16 arg17 arg19 arg20 f0 f1 f2 q0 q1 S f10 f12 := by
  unfold Res2 End2 phase2
  iintro ⟨H0, H1, H2, H10, H12, H7, ⟨%f8, H8⟩, H13, ⟨%f14, H14⟩, Hc, HD⟩
  icases HD with ⟨HD5, HD6, HO⟩
  ihave HR := (ring_in c arg2 harg2 arg8 harg8 arg17 f2 (Q8 c arg8 S 1536) (N6 arg8) f8) $$ [Hc H8 H2]
  · isplitl [Hc]; · iexact Hc
    isplitl [H8] <;> iassumption
  iapply (wp_enq6' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 0 0 1 rfl rfl _) $$ HR
  iintro HR
  iapply (wp_enq6' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 1 1 2 rfl rfl _) $$ HR
  iintro HR
  iapply (wp_enq6' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 2 2 3 rfl rfl _) $$ HR
  iintro HR
  iapply (wp_enq6' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 3 3 4 rfl rfl _) $$ HR
  iintro HR
  iapply (wp_enq6' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 4 4 5 rfl rfl _) $$ HR
  iintro HR
  iapply (wp_loop6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 rowNums _) $$ [HR HO H7 H13]
  · isplitl [HR]; · iexact HR
    isplitl [HO]; · iexact HO
    isplitl [H7] <;> iassumption
  iintro ⟨HR, HO, ⟨%f7, %hT, H7⟩, H13⟩
  ihave HR := (ring_out c arg2 harg2 arg8 harg8 arg17 f2 (Q8 c arg8 S 1536) (N6 arg8)) $$ HR
  icases HR with ⟨Hc, H8, H2⟩
  iapply (wp_loop7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f0 f1 f7 f10 f12 hids S h0 h1 h10 h12 hT rowNums rowNums_at _) $$ [HD5 HD6 HO H0 H1 H7 H10 H12 H14]
  · isplitl [HD5 HD6 HO]
    · isplitl [HD5]; · iexact HD5
      isplitl [HD6] <;> iassumption
    isplitl [H0 H1 H7 H10]
    · isplitl [H0]; · iexact H0
      isplitl [H1]; · iexact H1
      isplitl [H7] <;> iassumption
    isplitl [H12]; · iexact H12
    iexists f14; iexact H14
  iintro ⟨HD, ⟨⟨H0, H1, H7, H10⟩, H12, H14⟩⟩
  iapply (wp_waitB' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 S 64 0 0 1 rfl rfl _) $$ HD
  iintro HD
  iapply (wp_waitB' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 S 64 1 1 2 rfl rfl _) $$ HD
  iintro HD
  iapply (wp_waitB' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 S 64 2 2 3 rfl rfl _) $$ HD
  iintro HD
  iapply (wp_waitB' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 S 64 3 3 4 rfl rfl _) $$ HD
  iintro HD
  iapply (wp_retK c)
  isplitl [H0]; · iexact H0
  isplitl [H1]; · iexact H1
  isplitl [H2]; · iexact H2
  isplitl [H10]; · iexact H10
  isplitl [H12]; · iexact H12
  isplitl [H7]; · iexists f7; iexact H7
  isplitl [H8]; · iexact H8
  isplitl [H13]; · iexact H13
  isplitl [H14]; · iexact H14
  isplitl [Hc]; · iexact Hc
  iexact HD

/-- The buffers and cells of the body, with the arguments as they are. -/
def Res : sProp 𝕄 :=
  iprop(onS c arg0 Finset.univ q0 f0 ∗ onS c arg1 Finset.univ q1 f1 ∗ onS c arg2 Finset.univ fullShare f2 ∗ onS c arg3 Finset.univ q3 f3 ∗ onS c arg4 Finset.univ q4 f4
    ∗ Has (F := F) c arg5 ∗ Has (F := F) c arg6 ∗ Has (F := F) c arg7 ∗ Has (F := F) c arg8 ∗ Has (F := F) c arg9 ∗ Has (F := F) c arg10 ∗ Has (F := F) c arg12
    ∗ Has (F := F) c arg13 ∗ Has (F := F) c arg14 ∗ Has (F := F) c arg15 ∗ Has (F := F) c arg16
    ∗ bigSep Finset.univ (fun p => Rest (F := F) c (cell6 arg17 p)) ∗ Rest (F := F) c arg18.sem
    ∗ bigSep Finset.univ (fun p => Rest (F := F) c (cell4 arg19 p)) ∗ bigSep Finset.univ (fun p => Rest (F := F) c (cell4 arg20 p)) ∗ Owes (F := F) c)

/-- The same after the body, the results written. -/
def Res' : sProp 𝕄 :=
  iprop(onS c arg0 Finset.univ q0 f0 ∗ onS c arg1 Finset.univ q1 f1 ∗ onS c arg2 Finset.univ fullShare f2 ∗ onS c arg3 Finset.univ q3 f3 ∗ onS c arg4 Finset.univ q4 f4
    ∗ (∃ f, ⌜S.val → ∀ z : S8x4096x3072.Idx, rd c arg5 f z = S.out (z 0).val (z 1).val (z 2).val⌝ ∗ onS (F := F) c arg5 Finset.univ fullShare f)
    ∗ (∃ f, ⌜S.val → ∀ z : S8x4096x3072.Idx, rd c arg6 f z = S.emb (z 0).val (z 1).val (z 2).val⌝ ∗ onS (F := F) c arg6 Finset.univ fullShare f)
    ∗ Has (F := F) c arg7 ∗ Has (F := F) c arg8 ∗ Has (F := F) c arg9 ∗ Has (F := F) c arg10 ∗ Has (F := F) c arg12
    ∗ Has (F := F) c arg13 ∗ Has (F := F) c arg14 ∗ Has (F := F) c arg15 ∗ Has (F := F) c arg16
    ∗ bigSep Finset.univ (fun p => Rest (F := F) c (cell6 arg17 p)) ∗ Rest (F := F) c arg18.sem
    ∗ bigSep Finset.univ (fun p => Rest (F := F) c (cell4 arg19 p)) ∗ bigSep Finset.univ (fun p => Rest (F := F) c (cell4 arg20 p)) ∗ Owes (F := F) c)

include hids h0 h1 hf2 hf3 hS h4 in
theorem wp_whole :
    Res c arg0 arg1 arg2 arg3 arg4 arg5 arg6 arg7 arg8 arg9 arg10 arg12 arg13 arg14 arg15 arg16 arg17 arg18 arg19 arg20 f0 f1 f2 f3 f4 q0 q1 q3 q4
      ⊢ wpK c (cc0_embed_rmsnorm (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20) fun _ => Res' c arg0 arg1 arg2 arg3 arg4 arg5 arg6 arg7 arg8 arg9 arg10 arg12 arg13 arg14 arg15 arg16 arg17 arg18 arg19 arg20 f0 f1 f2 f3 f4 q0 q1 q3 q4 S := by
  have P2 := wp_phase2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f0 f1 f2 hids q0 q1 S h0 h1 hf2
  rw [whole_eq]
  unfold Res Res' whole phase1
  iintro ⟨H0, H1, H2, H3, H4, ⟨%f5, H5⟩, ⟨%f6, H6⟩, H7, ⟨%f8, H8⟩, H9, ⟨%f10, H10⟩, ⟨%f12, H12⟩, H13, ⟨%f14, H14⟩, ⟨%f15, H15⟩, ⟨%f16, H16⟩, Hc, H18, H19, H20, HO⟩
  iapply (wp_loadU c) $$ H4
  iintro H4
  iapply (wp_loadU c) $$ H12
  iintro H12
  iapply (wp_storeU c) $$ H12
  iintro H12
  ihave HR := (ring_in c arg2 harg2 arg8 harg8 arg17 f2 (Q8 c arg8 S 0) (N1 arg8) f8) $$ [Hc H8 H2]
  · isplitl [Hc]; · iexact Hc
    isplitl [H8] <;> iassumption
  iapply (wp_enq1' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 0 0 1 rfl rfl _) $$ HR
  iintro HR
  iapply (wp_enq1' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 1 1 2 rfl rfl _) $$ HR
  iintro HR
  iapply (wp_enq1' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 2 2 3 rfl rfl _) $$ HR
  iintro HR
  iapply (wp_enq1' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 3 3 4 rfl rfl _) $$ HR
  iintro HR
  iapply (wp_enq1' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 S hf2 4 4 5 rfl rfl _) $$ HR
  iintro HR
  iapply (wp_loop1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f2 f3 S hf2 hf3 hS rowNums _) $$ [HR HO H3 H7 H9 H13]
  · isplitl [HR]; · iexact HR
    isplitl [HO]; · iexact HO
    isplitl [H3]; · iexact H3
    isplitl [H7]; · iexact H7
    isplitl [H9] <;> iassumption
  iintro ⟨HR, HO, H3, ⟨%f7, %f9, %h79, H7, H9⟩, H13⟩
  ihave HR := (ring_out c arg2 harg2 arg8 harg8 arg17 f2 (Q8 c arg8 S 0) (N1 arg8)) $$ HR
  icases HR with ⟨Hc, H8, H2⟩
  iapply (wp_loop2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f9 f10 rowNums _) $$ [H18 H9 H10]
  · isplitl [H18]; · iexact H18
    isplitl [H9] <;> iassumption
  iintro HB
  iapply (wp_loop3 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f9 f10 S (fun hv => (h79 hv).2) rowNums _) $$ [HB HO]
  · isplitl [HB] <;> iassumption
  iintro ⟨H18, HO, H9, ⟨%g10, %h10, H10⟩⟩
  ihave H5 := (slot_in c arg19 arg15 harg15 arg5 harg5 (QO c arg5 S.val S.out) (QO_zero c arg5 S.val S.out) f15 f5) $$ [H19 H15 H5]
  · isplitl [H19]; · iexact H19
    isplitl [H15] <;> iassumption
  ihave H6 := (slot_in c arg20 arg16 harg16 arg6 harg6 (QO c arg6 S.val S.emb) (QO_zero c arg6 S.val S.emb) f16 f6) $$ [H20 H16 H6]
  · isplitl [H20]; · iexact H20
    isplitl [H16] <;> iassumption
  iapply (wp_loop4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 f0 f1 f7 g10 (wts c arg4 arg12 f4 f12) hids S h0 h1 h10 (h4 f12) (fun hv => (h79 hv).1) rowNums rowNums_at _) $$ [H5 H6 HO H0 H1 H7 H10 H12 H14]
  · isplitl [H5 H6 HO]
    · isplitl [H5]; · iexact H5
      isplitl [H6] <;> iassumption
    isplitl [H0 H1 H7 H10]
    · isplitl [H0]; · iexact H0
      isplitl [H1]; · iexact H1
      isplitl [H7] <;> iassumption
    isplitl [H12]; · iexact H12
    iexists f14; iexact H14
  iintro ⟨HD, ⟨⟨H0, H1, H7, H10⟩, H12, H14⟩⟩
  iapply (wp_waitA' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 S 32 0 0 1 rfl rfl _) $$ HD
  iintro HD
  iapply (wp_waitA' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 S 32 1 1 2 rfl rfl _) $$ HD
  iintro HD
  iapply (wp_waitA' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 S 32 2 2 3 rfl rfl _) $$ HD
  iintro HD
  iapply (wp_waitA' c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 S 32 3 3 4 rfl rfl _) $$ HD
  iintro HD
  ihave HE := (P2 g10 (wts c arg4 arg12 f4 f12) h10 (h4 f12)) $$ [H0 H1 H2 H10 H12 H7 H8 H13 H14 Hc HD]
  · unfold Res2
    isplitl [H0]; · iexact H0
    isplitl [H1]; · iexact H1
    isplitl [H2]; · iexact H2
    isplitl [H10]; · iexact H10
    isplitl [H12]; · iexact H12
    isplitl [H7]; · iexists f7; iexact H7
    isplitl [H8]; · iexact H8
    isplitl [H13]; · iexact H13
    isplitl [H14]; · iexact H14
    isplitl [Hc]; · iexact Hc
    iexact HD
  iapply (wp_wandK c) $$ HE
  iintro %u HE
  unfold End2
  icases HE with ⟨H0, H1, H2, H10, H12, H7, H8, H13, H14, Hc, HD5, HD6, HO⟩
  ihave H5 := (slot_out c arg19 arg15 harg15 arg5 harg5 (QO c arg5 S.val S.out) 64 (fun p f f' => QO_congr c arg5 S.val S.out 64 p f f')) $$ HD5
  icases H5 with ⟨H19, H15, ⟨%g5, %hg5, H5⟩⟩
  ihave H6 := (slot_out c arg20 arg16 harg16 arg6 harg6 (QO c arg6 S.val S.emb) 64 (fun p f f' => QO_congr c arg6 S.val S.emb 64 p f f')) $$ HD6
  icases H6 with ⟨H20, H16, ⟨%g6, %hg6, H6⟩⟩
  isplitl [H0]; · iexact H0
  isplitl [H1]; · iexact H1
  isplitl [H2]; · iexact H2
  isplitl [H3]; · iexact H3
  isplitl [H4]; · iexact H4
  isplitl [H5]
  · iexists g5
    isplitr
    · ipureintro; exact QO_all c arg5 S.val S.out g5 hg5
    iexact H5
  isplitl [H6]
  · iexists g6
    isplitr
    · ipureintro; exact QO_all c arg6 S.val S.emb g6 hg6
    iexact H6
  isplitl [H7]; · iexact H7
  isplitl [H8]; · iexact H8
  isplitl [H9]; · iexists f9; iexact H9
  isplitl [H10]; · iexists g10; iexact H10
  isplitl [H12]; · iexists _; iexact H12
  isplitl [H13]; · iexact H13
  isplitl [H14]; · iexact H14
  isplitl [H15]; · iexact H15
  isplitl [H16]; · iexact H16
  isplitl [Hc]; · iexact Hc
  isplitl [H18]; · iexact H18
  isplitl [H19]; · iexact H19
  isplitl [H20]; · iexact H20
  iexact HO
end

end Cert.Proof.Kernel
-- ==== Proof.Wins.lean ====
/-
  What the region finds in its arrays, in terms of the arguments.
-/
module

public import proofs.«01_k».proof.Proof.Whole
public import proofs.«01_k».proof.Proof.Gen.Kernel.Launch
public import proofs.«01_k».proof.Proof.Gen.Kernel.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

variable (m : (ℓ : Loc nD τ sig) → Buf (Elt F) ℓ)

/-- What a run's memory says of the values. -/
def specOf (val : Prop) (inv : Dev nD → ℕ → F .f32) (c : Dev nD) : Spec F where
  val := val
  code d v := if h : d < 3072 ∧ v < 32000 then m ((c : Thread nD τ).loc main_arg1) (ValueIdx.ix2 (⟨d, h.1⟩ : Fin 3072) (⟨v, h.2⟩ : Fin 32000)) else 0#8
  tok b t := if h : b < 8 ∧ t < 4096 then (m ((c : Thread nD τ).loc main_arg0) (ValueIdx.ix2 (⟨b, h.1⟩ : Fin 8) (⟨t, h.2⟩ : Fin 4096)) : BitVec 32).toNat else 0
  scl v := if h : v < 32000 then m ((c : Thread nD τ).loc main_arg2) (ValueIdx.ix1 (⟨v, h⟩ : Fin 32000)) else Scalar.ofBits .f32 0x00000000#32
  inv := inv c
  wt d := if h : d < 3072 then extf .f32 (fun _ : S_.Idx => (m ((c : Thread nD τ).loc main_arg3) (ValueIdx.ix1 (⟨d, h⟩ : Fin 3072)) : F .bf16)) bitsLt_bf16_f32 (fun a => a.elim0) else Scalar.ofBits .f32 0x00000000#32

theorem coord2 {s : Fin 2 → ℕ} (x : (⟨2, s⟩ : Shape).Idx) {u : (⟨2, s⟩ : Shape).Idx} (h : ∀ a, (u a).val = (x a).val) : u = x := funext fun a => Fin.ext (h a)

theorem iblk0_at (c : Dev nD) (t : Fin cfg0.N) (x : S8x4096.Idx) : iblk m c 0 t x = m ((c : Thread nD τ).loc main_arg0) x := by
  rw [← V_main_arg0 m c]
  show V m c main_arg0 _ = V m c main_arg0 x
  refine congrArg (V m c main_arg0) ?_
  funext a
  refine Fin.ext ?_
  match t, a with
  | ⟨0, _⟩, ⟨0, _⟩ => show 0 * 8 + 1 * (x 0).val = (x 0).val; omega
  | ⟨0, _⟩, ⟨1, _⟩ => show 0 * 4096 + 1 * (x 1).val = (x 1).val; omega

theorem iblk1_at (c : Dev nD) (t : Fin cfg0.N) (x : S32000.Idx) : iblk m c 1 t x = m ((c : Thread nD τ).loc main_arg2) x := by
  rw [← V_main_arg2 m c]
  show V m c main_arg2 _ = V m c main_arg2 x
  refine congrArg (V m c main_arg2) ?_
  funext a
  refine Fin.ext ?_
  match t, a with
  | ⟨0, _⟩, ⟨0, _⟩ => show 0 * 32000 + 1 * (x 0).val = (x 0).val; omega

theorem V_v0 (c : Dev nD) : V m c main_v0 = shapeCast S250x128 (m ((c : Thread nD τ).loc main_arg2)) shapeCasts_S32000_S250x128 := rfl
theorem V_v1 (c : Dev nD) : V m c main_v1 = shapeCast S24x128 (m ((c : Thread nD τ).loc main_arg3)) shapeCasts_S3072_S24x128 := rfl

theorem flat_ix {n a : ℕ} (h : (⟨1, ![n]⟩ : Shape).numel = (⟨2, ![a, 128]⟩ : Shape).numel) (x : (⟨2, ![a, 128]⟩ : Shape).Idx) (hx : 128 * (x 0).val + (x 1).val < n) :
    Shape.reshapeEquiv h.symm x = ValueIdx.ix1 (⟨128 * (x 0).val + (x 1).val, hx⟩ : Fin n) :=
  Shape.reshapeEquiv_eq_of_rowMajor _ ((Shape.rowMajor_val_one (d := ![n]) _).trans (Eq.trans (show 128 * (x 0).val + (x 1).val = (x 0).val * 128 + (x 1).val by omega)
    (Shape.rowMajor_val_two (d := ![a, 128]) x).symm))

theorem iblk2_at (c : Dev nD) (t : Fin cfg0.N) (val : Prop) (inv : Dev nD → ℕ → F .f32) (x : S250x128.Idx) : iblk m c 2 t x = (specOf m val inv c).scl (128 * (x 0).val + (x 1).val) := by
  have x0 : (x 0).val < 250 := (x 0).isLt
  have x1 : (x 1).val < 128 := (x 1).isLt
  have e : iblk m c 2 t x = V m c main_v0 x := by
    show V m c main_v0 _ = V m c main_v0 x
    refine congrArg (V m c main_v0) ?_
    funext a
    refine Fin.ext ?_
    match t, a with
    | ⟨0, _⟩, ⟨0, _⟩ => show 0 * 250 + 1 * (x 0).val = (x 0).val; omega
    | ⟨0, _⟩, ⟨1, _⟩ => show 0 * 128 + 1 * (x 1).val = (x 1).val; omega
  rw [e, V_v0]
  refine Eq.trans ?_ (dif_pos (show 128 * (x 0).val + (x 1).val < 32000 by omega)).symm
  exact congrArg (m ((c : Thread nD τ).loc main_arg2)) (flat_ix (n := 32000) (a := 250) (by decide +kernel) x _)

theorem iblk3_at (c : Dev nD) (t : Fin cfg0.N) (x : S24x128.Idx) (h : 128 * (x 0).val + (x 1).val < 3072) : iblk m c 3 t x = m ((c : Thread nD τ).loc main_arg3) (ValueIdx.ix1 (⟨128 * (x 0).val + (x 1).val, h⟩ : Fin 3072)) := by
  have e : iblk m c 3 t x = V m c main_v1 x := by
    show V m c main_v1 _ = V m c main_v1 x
    refine congrArg (V m c main_v1) ?_
    funext a
    refine Fin.ext ?_
    match t, a with
    | ⟨0, _⟩, ⟨0, _⟩ => show 0 * 24 + 1 * (x 0).val = (x 0).val; omega
    | ⟨0, _⟩, ⟨1, _⟩ => show 0 * 128 + 1 * (x 1).val = (x 1).val; omega
  rw [e, V_v1]
  exact congrArg (m ((c : Thread nD τ).loc main_arg3)) (flat_ix (n := 3072) (a := 24) (by decide +kernel) x h)

/-! ### The windows, and the weights, as they are said to be -/

section
variable (c : Dev nD) (val : Prop) (inv : Dev nD → ℕ → F .f32)

theorem ids0_of (hm : ∀ x : S8x4096.Idx, (m ((c : Thread nD τ).loc main_arg0) x : BitVec 32).toNat < 32000) (arg0 : Memref sig .tc .smem S8x4096 .i32) (f0 : BufAt (F := F) c arg0) (t : Fin cfg0.N)
    (e : arg0.view.read (Elt F) f0 = iblk m c 0 t) : Ids0 c (specOf m val inv c) arg0 f0 := fun _ => by
  constructor
  · intro y
    have y0 : (y 0).val < 8 := (y 0).isLt
    have y1 : (y 1).val < 4096 := (y 1).isLt
    rw [show rd c arg0 f0 y = m ((c : Thread nD τ).loc main_arg0) y from (congrFun e y).trans (iblk0_at m c t y)]
    refine Eq.trans ?_ (dif_pos (⟨y0, y1⟩ : (y 0).val < 8 ∧ (y 1).val < 4096)).symm
    exact congrArg (fun z => (m ((c : Thread nD τ).loc main_arg0) z : BitVec 32).toNat) (ix2_eta y)
  · intro b t
    show (if h : b < 8 ∧ t < 4096 then (m ((c : Thread nD τ).loc main_arg0) (ValueIdx.ix2 (⟨b, h.1⟩ : Fin 8) (⟨t, h.2⟩ : Fin 4096)) : BitVec 32).toNat else 0) < 32000
    split
    · exact hm _
    · omega

theorem col_of (arg1 : Memref sig .tc .smem S32000 .f32) (f1 : BufAt (F := F) c arg1) (t : Fin cfg0.N) (e : arg1.view.read (Elt F) f1 = iblk m c 1 t) :
    Col c (specOf m val inv c) (specOf m val inv c).scl arg1 f1 := fun _ y => by
  have y0 : (y 0).val < 32000 := (y 0).isLt
  refine ((congrFun e y).trans (iblk1_at m c t y)).trans (Eq.trans ?_ (dif_pos y0).symm)
  exact congrArg (m ((c : Thread nD τ).loc main_arg2)) (Shape.idx1_ext rfl)

theorem code_of (y : S3072x32000.Idx) : rd c (Memref.whole main_arg1) (V m c main_arg1) y = (specOf m val inv c).code (y 0).val (y 1).val := by
  have y0 : (y 0).val < 3072 := (y 0).isLt
  have y1 : (y 1).val < 32000 := (y 1).isLt
  rw [V_main_arg1]
  refine Eq.trans ?_ (dif_pos (⟨y0, y1⟩ : (y 0).val < 3072 ∧ (y 1).val < 32000)).symm
  exact congrArg (m ((c : Thread nD τ).loc main_arg1)) (ix2_eta y)

theorem wts_of (arg4 : Memref sig .tc .vmem S24x128 .bf16) (arg12 : Memref sig .tc .vmem S24x128 .f32) (f4 : BufAt (F := F) c arg4) (t : Fin cfg0.N) (e : arg4.view.read (Elt F) f4 = iblk m c 3 t) (f : BufAt (F := F) c arg12) :
    Wts c (specOf m val inv c) arg12 (wts c arg4 arg12 f4 f) := fun _ y => by
  have y0 : (y 0).val < 24 := (y 0).isLt
  have y1 : (y 1).val < 128 := (y 1).isLt
  have hy : 128 * (y 0).val + (y 1).val < 3072 := by omega
  rcases view_cases (F := F) arg12.view (Rect.unit (s := S24x128) ![0, 0] S24x128.size inb_S24x128_S24x128_0_0) f (k0_pay1471 (arg4.view.readAt (Elt F) rAll f4)) y with ⟨x, hx, ev⟩ | ⟨hm, -⟩
  · refine Eq.trans (b := k0_pay1471 (arg4.view.readAt (Elt F) rAll f4) x) ev ?_
    have e0 : (y 0).val = 0 + 1 * (x 0).val := hx 0
    have e1 : (y 1).val = 0 + 1 * (x 1).val := hx 1
    have ex : y = x := Shape.idx_ext₂ (by omega) (by omega)
    subst ex
    have p : k0_pay1471 (arg4.view.readAt (Elt F) rAll f4) = extf .f32 (arg4.view.readAt (Elt F) rAll f4) bitsLt_bf16_f32 := by
      unfold k0_pay1471
      simp only [shapeCast_self]
    rw [p]
    refine Eq.trans ?_ (dif_pos hy).symm
    rw [← iblk3_at m c t y hy, ← e]
    show FloatOps.extf .f32 _ (arg4.view.read (Elt F) f4 (rAll.idx y)) = FloatOps.extf .f32 _ (arg4.view.read (Elt F) f4 y)
    congr 2
    refine Shape.idx_ext₂ ?_ ?_
    · show 0 + 1 * (y 0).val = (y 0).val; omega
    · show 0 + 1 * (y 1).val = (y 1).val; omega
  · obtain ⟨a, ha⟩ := hm y
    match a with
    | ⟨0, _⟩ => exact absurd (show (y 0).val = 0 + 1 * (y 0).val by omega) ha
    | ⟨1, _⟩ => exact absurd (show (y 1).val = 0 + 1 * (y 1).val by omega) ha
end

end Cert.Proof.Kernel
-- ==== Proof.Launch.lean ====
/-
  The launch: the region's buffers and cells handed to the body, and the arguments as they were after it.
-/
module

public import proofs.«01_k».proof.Proof.Wins
public import Idealize.ShloMosaic.Lib.Pipeline.FrameValue

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

open Idealize.ShloMosaic.Pipeline (Dat Cfg Window BodyObligation cellOf)

/-! ### Ids -/

theorem chk1_of {v : BitVec 32} (h : v.toNat < 32000) : k0_chk1 v := by
  have e : (v * 3#32).toNat = v.toNat * 3 := by rw [BitVec.toNat_mul]; show v.toNat * 3 % _ = _; omega
  constructor
  · intro a
    fin_cases a
    · show (v * 3#32).toNat + 3 ≤ 96000
      omega
    · show 0 + 128 ≤ 128
      omega
  · intro a
    fin_cases a
    show v.toNat + 1 ≤ 32000
    omega

theorem idsOk_of (c : Dev nD) (arg0 : Memref sig .tc .smem S8x4096 .i32) (f0 : BufAt (F := F) c arg0) (X : S8x4096.Idx → BitVec 32)
    (hX : arg0.view.read (Elt F) f0 = X) (h : ∀ x, (X x).toNat < 32000) : IdsOk c arg0 f0 := by
  subst hX
  exact fun o ho => chk1_of (h _)

/-! ### The region's resources -/

variable (m : (ℓ : Loc nD τ sig) → Buf (Elt F) ℓ) (ρ : Dev nD → PrngReg)

/-- The results, which the body's copies write, and the codes, which they read. -/
def R0 : Finset (Ref sig .tc) := {main_v2_0, main_v2_1}
def H0 : Finset (Ref sig .tc) := {main_arg1}
theorem H0_sub : H0 ⊆ Pipeline.restRefs sig spec0 := by decide
theorem R0_sub : R0 ⊆ Pipeline.restRefs sig spec0 \ H0 := by decide

/-- The body's cells. -/
abbrev osem0 : Fin 15 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14,
  SemLoc.dma 15, SemLoc.dma 16, SemLoc.dma 17, SemLoc.dma 18] : Fin 15 → SemLoc sig) j
theorem ownSemFacts0 : Pipeline.OwnSemFacts spec0 osem0 := by decide +kernel

abbrev buf (c : Dev nD) (b : Ref sig .tc) (f : Buf (Elt F) ((c : Thread nD τ).loc b)) : sProp 𝕄 := ((c : Thread nD τ).loc b) ↦{fullShare} f

/-- The cells by what they are for. -/
abbrev Cells (c : Dev nD) : sProp 𝕄 :=
  iprop(bigSep Finset.univ (fun p => Rest (F := F) c (cell6 cc0_scratch10 p)) ∗ Rest (F := F) c cc0_scratch11.sem
    ∗ bigSep Finset.univ (fun p => Rest (F := F) c (cell4 cc0_scratch12 p)) ∗ bigSep Finset.univ (fun p => Rest (F := F) c (cell4 cc0_scratch13 p)))

theorem cells_eq (c : Dev nD) :
    (Pipeline.ownSems0 (Ix := Unit) (Name := ℕ) (U := Pipeline.UD sig nD τ) (Lvl := ℕ) (Val := Elt F) (τ := τ) osem0 c : sProp 𝕄) = Cells (F := F) c := by
  rw [Pipeline.ownSems0_eq_of_list c osem0 [0, 1, 2, 3, 4, 5, 6, 7, 8, 9, 10, 11, 12, 13, 14] (by decide) (by decide)]
  unfold Cells
  rw [bigSep_univ_eq_bigSepL [(0 : Fin 6), 1, 2, 3, 4, 5] (by decide) (by decide), bigSep_univ_eq_bigSepL [(0 : Fin 4), 1, 2, 3] (by decide) (by decide), bigSep_univ_eq_bigSepL [(0 : Fin 4), 1, 2, 3] (by decide) (by decide)]
  have e : ∀ (a b c' : sProp 𝕄), iprop((a ∗ b) ∗ c') = iprop(a ∗ b ∗ c') := fun a b d => equiv_iff.mp ⟨BI.sep_assoc, BI.sep_assoc'⟩
  show _ = iprop((Rest c (cell6 cc0_scratch10 0) ∗ Rest c (cell6 cc0_scratch10 1) ∗ Rest c (cell6 cc0_scratch10 2) ∗ Rest c (cell6 cc0_scratch10 3) ∗ Rest c (cell6 cc0_scratch10 4) ∗ Rest c (cell6 cc0_scratch10 5))
    ∗ Rest c cc0_scratch11.sem
    ∗ (Rest c (cell4 cc0_scratch12 0) ∗ Rest c (cell4 cc0_scratch12 1) ∗ Rest c (cell4 cc0_scratch12 2) ∗ Rest c (cell4 cc0_scratch12 3))
    ∗ (Rest c (cell4 cc0_scratch13 0) ∗ Rest c (cell4 cc0_scratch13 1) ∗ Rest c (cell4 cc0_scratch13 2) ∗ Rest c (cell4 cc0_scratch13 3)))
  simp only [e]
  rfl

theorem hbmPts0_eq (c : Dev nD) :
    (bigSep H0 (fun b => ((c : Thread nD τ).loc b) ↦{fullShare} V m c b) : sProp 𝕄) = buf c main_arg1 (V m c main_arg1) := by
  rw [BI.bigSep_eq_bigSepL_of_eq [main_arg1] (by decide) (by decide)]; rfl
theorem ownedPts0_eq (c : Dev nD) :
    (Pipeline.owned R0 c : sProp 𝕄) = iprop((∃ f, buf c main_v2_0 f) ∗ (∃ f, buf c main_v2_1 f)) := by
  unfold Pipeline.owned; rw [BI.bigSep_eq_bigSepL_of_eq [main_v2_0, main_v2_1] (by decide) (by decide)]; rfl

theorem Phi_eq (c : Dev nD) :
    (Pipeline.ΦDR osem0 spec0 H0 R0 (V m) c : sProp 𝕄)
      = iprop(iprop((∃ f, buf c cc0_scratch0 f) ∗ (∃ f, buf c cc0_scratch1 f) ∗ (∃ f, buf c cc0_scratch2 f) ∗ (∃ f, buf c cc0_scratch4 f) ∗ (∃ f, buf c cc0_scratch5 f)
            ∗ (∃ f, buf c cc0_scratch6 f) ∗ (∃ f, buf c cc0_scratch7 f) ∗ (∃ f, buf c cc0_scratch8 f) ∗ (∃ f, buf c cc0_scratch9 f) ∗ (∃ f, buf c cc0_scratch3 f))
          ∗ (∃ r, prngReg c r) ∗ Cells (F := F) c ∗ buf c main_arg1 (V m c main_arg1) ∗ iprop((∃ f, buf c main_v2_0 f) ∗ (∃ f, buf c main_v2_1 f))) := by
  rw [Pipeline.ΦDR_eq, scopedRest0_eq, cells_eq, hbmPts0_eq, ownedPts0_eq]

/-- What the results hold once the body has run. -/
def outArr (S : Spec F) : S8x4096x3072.Idx → F .bf16 := fun z => S.out (z 0).val (z 1).val (z 2).val
def embArr (S : Spec F) : S8x4096x3072.Idx → F .bf16 := fun z => S.emb (z 0).val (z 1).val (z 2).val

/-- The two results, at contents of which only what has been written is said. -/
abbrev Outs (c : Dev nD) (S : Spec F) (n : ℕ) : sProp 𝕄 :=
  iprop((∃ f, ⌜0 < n → S.val → f = outArr S⌝ ∗ buf c main_v2_0 f) ∗ (∃ f, ⌜0 < n → S.val → f = embArr S⌝ ∗ buf c main_v2_1 f))

/-- The body's invariant: its scratch, its cells, the codes, the results. -/
def Phi (c : Dev nD) (S : Spec F) (n : ℕ) : sProp 𝕄 :=
  iprop(iprop((∃ f, buf c cc0_scratch0 f) ∗ (∃ f, buf c cc0_scratch1 f) ∗ (∃ f, buf c cc0_scratch2 f) ∗ (∃ f, buf c cc0_scratch4 f) ∗ (∃ f, buf c cc0_scratch5 f)
      ∗ (∃ f, buf c cc0_scratch6 f) ∗ (∃ f, buf c cc0_scratch7 f) ∗ (∃ f, buf c cc0_scratch8 f) ∗ (∃ f, buf c cc0_scratch9 f) ∗ (∃ f, buf c cc0_scratch3 f))
    ∗ (∃ r, prngReg c r) ∗ Cells (F := F) c ∗ buf c main_arg1 (V m c main_arg1) ∗ Outs c S n)

/-- Before the body nothing is said of the results. -/
theorem Phi_in (c : Dev nD) (S : Spec F) : (Pipeline.ΦDR osem0 spec0 H0 R0 (V m) c : sProp 𝕄) ⊢ Phi m c S 0 := by
  rw [Phi_eq]
  unfold Phi Outs
  iintro ⟨HS, Hg, HC, Ha, ⟨%f, Ho0⟩, ⟨%g, Ho1⟩⟩
  isplitl [HS]; · iexact HS
  isplitl [Hg]; · iexact Hg
  isplitl [HC]; · iexact HC
  isplitl [Ha]; · iexact Ha
  isplitl [Ho0]
  · iexists f
    isplitr
    · ipureintro; exact fun h => absurd h (Nat.lt_irrefl 0)
    iexact Ho0
  iexists g
  isplitr
  · ipureintro; exact fun h => absurd h (Nat.lt_irrefl 0)
  iexact Ho1

theorem Phi_out (c : Dev nD) (S : Spec F) (n : ℕ) : Phi m c S n ⊢ (Pipeline.ΦDR osem0 spec0 H0 R0 (V m) c : sProp 𝕄) := by
  rw [Phi_eq]
  unfold Phi Outs
  iintro ⟨HS, Hg, HC, Ha, ⟨%f, -, Ho0⟩, ⟨%g, -, Ho1⟩⟩
  isplitl [HS]; · iexact HS
  isplitl [Hg]; · iexact Hg
  isplitl [HC]; · iexact HC
  isplitl [Ha]; · iexact Ha
  isplitl [Ho0]
  · iexists f; iexact Ho0
  iexists g; iexact Ho1

/-- The buffers after the run, where the results are told. -/
def G0 (S : Dev nD → Spec F) (c : Dev nD) : (b : Ref sig .tc) → Buf (Elt F) ((c : Thread nD τ).loc b) :=
  Function.update (Function.update (V m c) main_v2_0 (outArr (S c))) main_v2_1 (embArr (S c))

theorem Phi_outG (S : Dev nD → Spec F) (c : Dev nD) (hv : (S c).val) (n : ℕ) (hn : 0 < n) : Phi m c (S c) n ⊢ (Pipeline.ΦDRG osem0 spec0 H0 R0 (V m) (G0 m S) c : sProp 𝕄) := by
  have e0 : G0 m S c main_v2_0 = outArr (S c) := by
    unfold G0
    rw [Function.update_of_ne (by decide), Function.update_self]
  have e1 : G0 m S c main_v2_1 = embArr (S c) := by
    unfold G0
    rw [Function.update_self]
  have er : (Pipeline.routed R0 c (G0 m S c) : sProp 𝕄) = iprop(buf c main_v2_0 (outArr (S c)) ∗ buf c main_v2_1 (embArr (S c))) := by
    unfold Pipeline.routed; rw [BI.bigSep_eq_bigSepL_of_eq [main_v2_0, main_v2_1] (by decide) (by decide), ← e0, ← e1]; rfl
  rw [Pipeline.ΦDRG_eq, scopedRest0_eq, cells_eq, hbmPts0_eq, er]
  unfold Phi Outs
  iintro ⟨HS, Hg, HC, Ha, ⟨%f, %hf, Ho0⟩, ⟨%g, %hg, Ho1⟩⟩
  obtain rfl := hf hn hv
  obtain rfl := hg hn hv
  isplitl [HS]; · iexact HS
  isplitl [Hg]; · iexact Hg
  isplitl [HC]; · iexact HC
  isplitl [Ha]; · iexact Ha
  isplitl [Ho0]; · iexact Ho0
  iexact Ho1

/-! ### What the pipeline is told -/

section
variable (val : Prop) (inv : Dev nD → ℕ → F .f32)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := Phi m c (specOf m val inv c) t.val
  q _ := fullShare
  owed _ := 0

theorem A_eq (c : Dev nD) (w : Fin cfg0.W) : (dats m val inv 0 c).A w = V m c (Pipeline.arrRef spec0 w) := by dsimp only [dats]
theorem after0 (c : Dev nD) (t : Fin cfg0.N) : (dats m val inv 0 c).after 0 t = iblk m c 0 t := by dsimp only [dats]
theorem after1 (c : Dev nD) (t : Fin cfg0.N) : (dats m val inv 0 c).after 1 t = iblk m c 1 t := by dsimp only [dats]
theorem after2 (c : Dev nD) (t : Fin cfg0.N) : (dats m val inv 0 c).after 2 t = iblk m c 2 t := by dsimp only [dats]
theorem after3 (c : Dev nD) (t : Fin cfg0.N) : (dats m val inv 0 c).after 3 t = iblk m c 3 t := by dsimp only [dats]

theorem before0 (c : Dev nD) (t : Fin cfg0.N) (d) : (dats m val inv 0 c).before 0 t d = iblk m c 0 t :=
  ((dats m val inv 0 c).before_in_eq_fetched 0 rfl (fun _ => rfl) (fun _ _ _ => rfl) (fun t => by rw [after0 m val inv]; unfold Dat.blockOf iblk; rw [A_eq m val inv]; try rfl) t d).trans
    (by unfold Dat.fetched Dat.blockOf iblk; rw [A_eq m val inv]; try rfl)
theorem before1 (c : Dev nD) (t : Fin cfg0.N) (d) : (dats m val inv 0 c).before 1 t d = iblk m c 1 t :=
  ((dats m val inv 0 c).before_in_eq_fetched 1 rfl (fun _ => rfl) (fun _ _ _ => rfl) (fun t => by rw [after1 m val inv]; unfold Dat.blockOf iblk; rw [A_eq m val inv]; try rfl) t d).trans
    (by unfold Dat.fetched Dat.blockOf iblk; rw [A_eq m val inv]; try rfl)
theorem before2 (c : Dev nD) (t : Fin cfg0.N) (d) : (dats m val inv 0 c).before 2 t d = iblk m c 2 t :=
  ((dats m val inv 0 c).before_in_eq_fetched 2 rfl (fun _ => rfl) (fun _ _ _ => rfl) (fun t => by rw [after2 m val inv]; unfold Dat.blockOf iblk; rw [A_eq m val inv]; try rfl) t d).trans
    (by unfold Dat.fetched Dat.blockOf iblk; rw [A_eq m val inv]; try rfl)
theorem before3 (c : Dev nD) (t : Fin cfg0.N) (d) : (dats m val inv 0 c).before 3 t d = iblk m c 3 t :=
  ((dats m val inv 0 c).before_in_eq_fetched 3 rfl (fun _ => rfl) (fun _ _ _ => rfl) (fun t => by rw [after3 m val inv]; unfold Dat.blockOf iblk; rw [A_eq m val inv]; try rfl) t d).trans
    (by unfold Dat.fetched Dat.blockOf iblk; rw [A_eq m val inv]; try rfl)

abbrev ms0 (t : Fin cfg0.N) : Memref sig .tc .smem S8x4096 .i32 := win0_0.stage (cfg0.slots t 0)
abbrev ms1 (t : Fin cfg0.N) : Memref sig .tc .smem S32000 .f32 := win0_1.stage (cfg0.slots t 1)
abbrev ms2 (t : Fin cfg0.N) : Memref sig .tc .vmem S250x128 .f32 := win0_2.stage (cfg0.slots t 2)
abbrev ms3 (t : Fin cfg0.N) : Memref sig .tc .vmem S24x128 .bf16 := win0_3.stage (cfg0.slots t 3)

def bodyPre (c : Dev nD) (t : Fin cfg0.N) : sProp 𝕄 :=
  iprop((dats m val inv 0 c).Φ t.castSucc ∗ (dats m val inv 0 c).owesAt () t.castSucc
    ∗ (∃ d, owns (c : Thread nD τ) (ms0 t) fullShare ((dats m val inv 0 c).before 0 t d)) ∗ (∃ d, owns (c : Thread nD τ) (ms1 t) fullShare ((dats m val inv 0 c).before 1 t d))
    ∗ (∃ d, owns (c : Thread nD τ) (ms2 t) fullShare ((dats m val inv 0 c).before 2 t d)) ∗ (∃ d, owns (c : Thread nD τ) (ms3 t) fullShare ((dats m val inv 0 c).before 3 t d)))
def bodyPost (c : Dev nD) (t : Fin cfg0.N) : sProp 𝕄 :=
  iprop((dats m val inv 0 c).Φ t.succ ∗ (dats m val inv 0 c).owesAt () t.succ
    ∗ owns (c : Thread nD τ) (ms0 t) fullShare ((dats m val inv 0 c).after 0 t) ∗ owns (c : Thread nD τ) (ms1 t) fullShare ((dats m val inv 0 c).after 1 t)
    ∗ owns (c : Thread nD τ) (ms2 t) fullShare ((dats m val inv 0 c).after 2 t) ∗ owns (c : Thread nD τ) (ms3 t) fullShare ((dats m val inv 0 c).after 3 t))

/-- Every id names a column of the table. -/
def Ids : Prop := ∀ (c : Dev nD) (x : S8x4096.Idx), (m ((c : Thread nD τ).loc main_arg0) x : BitVec 32).toNat < 32000

theorem iblk0_lt (hm : Ids m) (c : Dev nD) (t : Fin cfg0.N) (x : S8x4096.Idx) : (iblk m c 0 t x : BitVec 32).toNat < 32000 := by
  have h : ∀ y : S8x4096.Idx, (V m c main_arg0 y : BitVec 32).toNat < 32000 := by rw [V_main_arg0]; exact hm c
  exact h _

theorem owns_on (c : Dev nD) {sp : Space} {s : Shape} {e : EltTy} (M : Memref sig .tc sp s e) (hM : M.IsWhole) (X : s.Idx → Elt F e) :
    (owns (c : Thread nD τ) M fullShare X : sProp 𝕄) = iprop(∃ f, ⌜M.view.read (Elt F) f = X⌝ ∗ onS c M Finset.univ fullShare f) := by
  unfold owns; rw [hM.set_eq_univ]

theorem sound_body (hm : Ids m) (hS : ∀ c, val → StatTile c (specOf m val inv c).code (specOf m val inv c).scl (specOf m val inv c).inv) (c : Dev nD) (t : Fin cfg0.N) :
    bodyPre m val inv c t ⊢ wp frame (wpE (defs₀ (F := F)) Variants.none c none) Set.univ (bodyAt0 t) (fun _ => bodyPost m val inv c t) := by
  unfold bodyPre bodyPost bodyAt0
  rw [show (dats m val inv 0 c).Φ t.succ = Phi m c (specOf m val inv c) (t.val + 1) from rfl, show (dats m val inv 0 c).Φ t.castSucc = Phi m c (specOf m val inv c) t.val from rfl]
  unfold Phi Outs
  simp only [before0, before1, before2, before3, after0, after1, after2, after3]
  rw [owns_on c (ms0 t) (hstage0_0 0), owns_on c (ms1 t) (hstage0_1 0), owns_on c (ms2 t) (hstage0_2 0), owns_on c (ms3 t) (hstage0_3 0)]
  unfold Dat.owesAt Pipeline.owesWithin
  rw [show (dats m val inv 0 c).owed t.castSucc = 0 from rfl, show (dats m val inv 0 c).owed t.succ = 0 from rfl]
  iintro ⟨⟨⟨S0, S1, S2, S4, S5, S6, S7, S8, S9, S3⟩, Hg, ⟨C0, C1, C2, C3⟩, Ha, ⟨⟨%o0, -, Ho0⟩, ⟨%o1, -, Ho1⟩⟩⟩, ⟨%W, -, HW⟩, ⟨%d0, %f0, %e0, H0⟩, ⟨%d1, %f1, %e1, H1⟩, ⟨%d2, %f2, %e2, H2⟩, ⟨%d3, %f3, %e3, H3⟩⟩
  have hids : IdsOk c (ms0 t) f0 := idsOk_of c (ms0 t) f0 _ e0 (iblk0_lt m hm c t)
  have P := wp_whole c (ms0 t) (hstage0_0 0) (ms1 t) (hstage0_1 0) (Memref.whole main_arg1) (Memref.isWhole_whole _) (ms2 t) (hstage0_2 0) (ms3 t) (hstage0_3 0)
    (Memref.whole main_v2_0) (Memref.isWhole_whole _) (Memref.whole main_v2_1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _) (Memref.whole cc0_scratch9) (Memref.isWhole_whole _)
    cc0_scratch10 cc0_scratch11 cc0_scratch12 cc0_scratch13 f0 f1 (V m c main_arg1) f2 f3 hids fullShare fullShare fullShare fullShare (specOf m val inv c)
    (ids0_of m c val inv (hm c) (ms0 t) f0 t e0) (col_of m c val inv (ms1 t) f1 t e1) (fun _ => code_of m c val inv) (fun _ y => (congrFun e2 y).trans (iblk2_at m c t val inv y))
    (hS c) (wts_of m c val inv (ms3 t) (Memref.whole cc0_scratch5) f3 t e3)
  unfold Res Res' at P
  ihave HE := P $$ [S0 S1 S2 S3 S5 S6 S7 S8 S9 C0 C1 C2 C3 Ha Ho0 Ho1 HW H0 H1 H2 H3]
  · isplitl [H0]; · iexact H0
    isplitl [H1]; · iexact H1
    isplitl [Ha]; · iexact Ha
    isplitl [H2]; · iexact H2
    isplitl [H3]; · iexact H3
    isplitl [Ho0]; · iexists o0; iexact Ho0
    isplitl [Ho1]; · iexists o1; iexact Ho1
    isplitl [S0]; · iexact S0
    isplitl [S1]; · iexact S1
    isplitl [S2]; · iexact S2
    isplitl [S3]; · iexact S3
    isplitl [S5]; · iexact S5
    isplitl [S6]; · iexact S6
    isplitl [S7]; · iexact S7
    isplitl [S8]; · iexact S8
    isplitl [S9]; · iexact S9
    isplitl [C0]; · iexact C0
    isplitl [C1]; · iexact C1
    isplitl [C2]; · iexact C2
    isplitl [C3]; · iexact C3
    iexists W; iexact HW
  iapply (wp_wandK c) $$ HE
  iintro %u ⟨H0, H1, Ha, H2, H3, ⟨%g0, %hg0, Ho0⟩, ⟨%g1, %hg1, Ho1⟩, S0, S1, S2, S3, S5, S6, S7, S8, S9, C0, C1, C2, C3, ⟨%W', HW⟩⟩
  isplitl [S0 S1 S2 S3 S4 S5 S6 S7 S8 S9 C0 C1 C2 C3 Ha Ho0 Ho1 Hg]
  · isplitl [S0 S1 S2 S3 S4 S5 S6 S7 S8 S9]
    · isplitl [S0]; · iexact S0
      isplitl [S1]; · iexact S1
      isplitl [S2]; · iexact S2
      isplitl [S4]; · iexact S4
      isplitl [S5]; · iexact S5
      isplitl [S6]; · iexact S6
      isplitl [S7]; · iexact S7
      isplitl [S8]; · iexact S8
      isplitl [S9]; · iexact S9
      iexact S3
    isplitl [Hg]; · iexact Hg
    isplitl [C0 C1 C2 C3]
    · isplitl [C0]; · iexact C0
      isplitl [C1]; · iexact C1
      isplitl [C2]; · iexact C2
      iexact C3
    isplitl [Ha]; · iexact Ha
    isplitl [Ho0]
    · iexists g0
      isplitr
      · ipureintro; exact fun _ hv => funext (hg0 hv)
      iexact Ho0
    iexists g1
    isplitr
    · ipureintro; exact fun _ hv => funext (hg1 hv)
    iexact Ho1
  isplitl [HW]
  · iexists W'; isplitr; · ipureintro; exact fun _ _ => Or.inl trivial
    iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists f3; isplitr; · ipureintro; exact e3
  iexact H3

theorem defs₀_row (t : Fin cfg0.N) : defs₀ (F := F) .tc cfg0.body (cfg0.bodyArgs t (cfg0.slots t)) = bodyAt0 t := by
  unfold defs₀; rw [Defs.onTc_tc]

theorem body_obligation (hm : Ids m) (hS : ∀ c, val → StatTile c (specOf m val inv c).code (specOf m val inv c).scl (specOf m val inv c).inv) (c : Dev nD) : BodyObligation (dats (F := F) m val inv 0 c) (defs₀ (F := F)) Variants.none () Set.univ := fun t => by
  rw [bigSep_W0, bigSep_W0, defs₀_row]
  exact triple_restated (sound_body m val inv hm hS c t) rfl .rfl fun _ => .rfl

end

/-! ### The run -/

set_option maxHeartbeats 800000 in
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- Where nothing is said of the results. -/
theorem mute (inv : Dev nD → ℕ → F .f32) (c : Dev nD) : False → StatTile c (specOf m False inv c).code (specOf m False inv c).scl (specOf m False inv c).inv := fun h => h.elim

/-- Some reciprocal roots, for a run of whose results nothing is said. -/
def inv0 : Dev nD → ℕ → F .f32 := fun _ _ => FloatOps.ofBits .f32 0

set_option backward.isDefEq.respectTransparency.types false in
theorem run_main (hm : Ids m) : θ_run defs (onTc (τ := τ) (main (F := F))) (s₀ m ρ) (fun r => Pipeline.FramePostR cfgs (dats m False inv0) 0 R0 (V m) r ∧ r.2.sem = fun _ => 0) :=
  Pipeline.θ_run_frame_dmaR (Q' := _) cfgs (dats m False inv0) (0 : Fin 1) launch0 osem0 defs₀ Variants.none ownSemFacts0 H0 R0 H0_sub R0_sub m ρ main
    (hbody := fun c => (body_obligation m False inv0 hm (mute m inv0) c).loose) (hshare := fun c => (dats m False inv0 0 c).share_full fun _ => rfl)
    (howed := fun _ _ => rfl) (V := V m) (hmain := hmainD m) (hA := A_eq m False inv0)
    (hin := fun c => Phi_in m c (specOf m False inv0 c)) (hout := fun c => Phi_out m c (specOf m False inv0 c) _)

section
variable (inv : Dev nD → ℕ → F .f32) (hS : ∀ c, StatTile c (specOf m True inv c).code (specOf m True inv c).scl (specOf m True inv c).inv)

include hS in
set_option backward.isDefEq.respectTransparency.types false in
theorem run_value (hm : Ids m) : θ_run defs (onTc (τ := τ) (main (F := F))) (s₀ m ρ) (fun r => Pipeline.FramePostRG cfgs (dats m True inv) 0 R0 (V m) (G0 m (specOf m True inv)) r) :=
  Pipeline.θ_run_frame_dmaRG (Q' := _) cfgs (dats m True inv) (0 : Fin 1) launch0 osem0 defs₀ Variants.none ownSemFacts0 H0 R0 H0_sub R0_sub m ρ main
    (hbody := fun c => (body_obligation m True inv hm (fun c _ => hS c) c).loose) (hshare := fun c => (dats m True inv 0 c).share_full fun _ => rfl)
    (howed := fun _ _ => rfl) (V := V m) (hmain := hmainD m) (hA := A_eq m True inv) (G := G0 m (specOf m True inv))
    (hin := fun c => (Pipeline.ΦDRG_ΦDR osem0 spec0 H0 R0 (V m) (V m) c).trans (Phi_in m c (specOf m True inv c)))
    (hout := fun c => Phi_outG m (specOf m True inv) c trivial _ Nat.one_pos)
end

/-- The arguments after a run whose frame is known. -/
theorem args_of (val : Prop) (inv : Dev nD → ℕ → F .f32) {r : PUnit × MemSt nD τ sig (Elt F)} (h : Pipeline.FramePostR cfgs (dats m val inv) 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m val inv 0 c).arrAt_in 0 rfl _).trans ((A_eq m val inv c 0).trans (V_main_arg0 m c))),
    ((h c).2 main_arg1 (Finset.mem_sdiff.mpr ⟨Pipeline.mem_restRefs_of main_arg1 (by decide) (by decide), by decide⟩)).trans (V_main_arg1 m c),
    ((h c).1 1).trans (((dats m val inv 0 c).arrAt_in 1 rfl _).trans ((A_eq m val inv c 1).trans (V_main_arg2 m c))),
    ((h c).2 main_arg3 (Finset.mem_sdiff.mpr ⟨Pipeline.mem_restRefs_of main_arg3 (by decide) (by decide), by decide⟩)).trans (V_main_arg3 m c)⟩

/-- The run ends, the arguments as they were, every counter at zero. -/
theorem quiet (hm : Ids m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_of m False inv0 h.1, h.2⟩) (run_main m ρ hm)

/-- The run ends, the results as the specification says, the arguments as they were. -/
theorem value (inv : Dev nD → ℕ → F .f32) (hS : ∀ c, StatTile c (specOf m True inv c).code (specOf m True inv c).scl (specOf m True inv c).inv) (hm : Ids m) :
    θ_run defs (onTc (τ := τ) (main (F := F))) ⟨m, fun _ => 0, ρ⟩ (fun r => ∀ c : Dev nD,
      r.2.mem ((c.tc : Thread nD τ).loc main_v2_0) = outArr (specOf m True inv c)
      ∧ r.2.mem ((c.tc : Thread nD τ).loc main_v2_1) = embArr (specOf m True inv c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (h.2 c main_v2_0 (by decide)).trans (by unfold G0; rw [Function.update_of_ne (by decide), Function.update_self]),
    (h.2 c main_v2_1 (by decide)).trans (by unfold G0; rw [Function.update_self]),
    args_of m True inv h.1 c⟩) (run_value m ρ inv hS hm)

end Cert.Proof.Kernel
-- ==== Proof.Stat.lean ====
/-
  The statistics over the extended reals: a tile's nested sums are one sum over the table's rows.
-/
module

public import proofs.«01_k».proof.Proof.ValTrip
public import Idealize.ShloMosaic.Lib.Pointwise.Reduce

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

/-- The square of a scaled code. -/
def sqOf (b : BitVec 8) (s : EReal) : EReal := (FloatOps.sitofp (F := Ideal) .bf16 b * s) * (FloatOps.sitofp (F := Ideal) .bf16 b * s)

/-- The reciprocal root of the mean square of a column, plus epsilon. -/
def invI (code : ℕ → ℕ → BitVec 8) (scl : ℕ → EReal) (v : ℕ) : EReal :=
  FloatOps.rsqrt (F := Ideal) (φ := .f32) ((∑ d ∈ Finset.range 3072, sqOf (code d v) (scl v)) * Ideal.ofBits .f32 0x39AAAAAB#32 + Ideal.ofBits .f32 0x358637BD#32)

theorem sum_eights (g : ℕ → EReal) (n : ℕ) : ∑ j ∈ Finset.range n, ∑ y : Fin 8, g (8 * j + y.val) = ∑ d ∈ Finset.range (8 * n), g d := by
  induction n with
  | zero => rfl
  | succ n ih =>
    rw [Finset.sum_range_succ, ih, Nat.mul_succ, Finset.sum_range_add]
    exact congrArg₂ (· + ·) rfl (Finset.sum_range fun x => g (8 * n + x)).symm

section
variable (c : Dev nD) (arg8 : Memref sig .tc .vmem S6x3072x256 .i8) (f8 : BufAt (F := Ideal) c arg8) (code : ℕ → ℕ → BitVec 8) (s : ℕ) (hs : s < 6) (V x : ℕ) (hx : x + 128 ≤ 256)
  (H : H8 c arg8 f8 code s 0 V) (sc : FVec Ideal S32x128 .bf16) (r : ℕ → EReal) (hsc : ∀ z : S32x128.Idx, sc z = r (z 1).val)

/-- A row's contribution to a column of a tile. -/
def gq (code : ℕ → ℕ → BitVec 8) (V x : ℕ) (r : ℕ → EReal) (y : ℕ) (d : ℕ) : EReal := sqOf (code d (V + (x + y))) (r y)

include H hsc in
theorem sqr_at (d : ℕ) (hd : d + 32 ≤ 3072) (o : ℕ) (ho : o + 8 ≤ 32) (y : S8x128.Idx) :
    sqr (scaled sc (ldRawV c arg8 f8 s hs x hx d hd)) o ho y = gq code V x r (y 1).val (d + (o + (y 0).val)) := by
  have y0 : (y 0).val < 8 := (y 0).isLt
  have e : extractStridedSlice S8x128 ![o, 0] (scaled sc (ldRawV c arg8 f8 s hs x hx d hd)) (sl32_inb ho) y = FloatOps.sitofp (F := Ideal) .bf16 (code (d + (o + (y 0).val)) (V + (x + (y 1).val))) * r (y 1).val := by
    refine (extractStridedSlice_apply (s := S32x128) (t := S8x128) ![o, 0] _ (sl32_inb ho) y (ValueIdx.ix2 (⟨o + (y 0).val, by omega⟩ : Fin 32) (y 1 : Fin 128)) (fun a => by
      match a with
      | ⟨0, _⟩ => rfl
      | ⟨1, _⟩ => exact (Nat.zero_add _).symm)).trans ?_
    show FloatOps.sitofp (F := Ideal) .bf16 (shapeCast S32x128 (ldRawV c arg8 f8 s hs x hx d hd) shapeCasts_S1x32x128_S32x128 _) * sc _ = _
    rw [ldRaw_code c arg8 f8 H hs x hx d hd (Nat.zero_le d), hsc]
  show (_ : EReal) * _ = _
  rw [e]
  rfl

theorem addf_at {s : Shape} {φ : FTy} (u v : FVec Ideal s φ) (y : s.Idx) : addf u v y = (u y : EReal) + v y := rfl
theorem add_four (p q r t u : EReal) : p + (q + r + t + u) = p + q + r + t + u := by simp only [add_assoc]

/-- Four groups of eight rows. -/
def four (g : ℕ → EReal) (d : ℕ) : EReal := g d + g (d + 8) + g (d + 16) + g (d + 24)

theorem four_sum (g : ℕ → EReal) (d : ℕ) : four g d = ∑ j ∈ Finset.range 4, g (d + 8 * j) := by
  simp only [Finset.sum_range_succ, Finset.sum_range_zero, zero_add]
  rfl

include H hsc in
theorem acc0_at (d : ℕ) (hd : d + 32 ≤ 3072) (y : S8x128.Idx) :
    acc0 (scaled sc (ldRawV c arg8 f8 s hs x hx d hd)) y = four (fun k => gq code V x r (y 1).val k) (d + (y 0).val) := by
  have S := fun o ho => sqr_at c arg8 f8 code s hs V x hx H sc r hsc d hd o ho y
  unfold acc0
  rw [addf_at, addf_at, addf_at, S, S, S, S]
  unfold four
  refine congrArg₂ (· + ·) (congrArg₂ (· + ·) (congrArg₂ (· + ·) ?_ ?_) ?_) ?_ <;> refine congrArg _ ?_ <;> omega

include H hsc in
theorem acc1_at (a : FVec Ideal S8x128 .f32) (d : ℕ) (hd : d + 32 ≤ 3072) (y : S8x128.Idx) :
    acc1 a (scaled sc (ldRawV c arg8 f8 s hs x hx d hd)) y = (a y : EReal) + four (fun k => gq code V x r (y 1).val k) (d + (y 0).val) := by
  have S := fun o ho => sqr_at c arg8 f8 code s hs V x hx H sc r hsc d hd o ho y
  unfold acc1
  rw [addf_at, addf_at, addf_at, addf_at, S, S, S, S]
  unfold four
  rw [add_four]
  refine congrArg₂ (· + ·) (congrArg₂ (· + ·) (congrArg₂ (· + ·) (congrArg₂ (· + ·) rfl ?_) ?_) ?_) ?_ <;> refine congrArg _ ?_ <;> omega

include H hsc in
theorem accsV_at (e : ℕ) (he : e ≤ 3072) (y : S8x128.Idx) : ∀ (n : ℕ) (h : n * 32 ≤ e) (a : FVec Ideal S8x128 .f32),
    accsV c arg8 f8 s hs x hx sc e he n h a y = (a y : EReal) + ∑ j ∈ Finset.range n, four (fun k => gq code V x r (y 1).val k) (e - n * 32 + 32 * j + (y 0).val)
  | 0, _, a => (add_zero _).symm
  | n + 1, h, a => by
    unfold accsV
    rw [accsV_at e he y n (by omega), acc1_at c arg8 f8 code s hs V x hx H sc r hsc, Finset.sum_range_succ', add_assoc]
    refine congrArg₂ (· + ·) rfl ((add_comm _ _).trans (congrArg₂ (· + ·) (Finset.sum_congr rfl fun j hj => congrArg _ ?_) (congrArg _ ?_))) <;> omega

include H hsc in
theorem totsV_at (y : S8x128.Idx) : ∀ (n : ℕ) (h : n ≤ 6) (t : FVec Ideal S8x128 .f32),
    totsV c arg8 f8 s hs x hx sc n h t y = (t y : EReal) + ∑ j ∈ Finset.range (16 * n), four (fun k => gq code V x r (y 1).val k) ((6 - n) * 512 + 32 * j + (y 0).val)
  | 0, _, t => (add_zero _).symm
  | n + 1, h, t => by
    unfold totsV
    rw [totsV_at y n (by omega), Nat.mul_succ 16 n, Nat.add_comm (16 * n) 16, Finset.sum_range_add]
    rw [addf_at, accsV_at c arg8 f8 code s hs V x hx H sc r hsc, acc0_at c arg8 f8 code s hs V x hx H sc r hsc, add_assoc]
    refine congrArg₂ (· + ·) rfl (congrArg₂ (· + ·) ?_ (Finset.sum_congr rfl fun j hj => congrArg _ ?_))
    · refine Eq.trans ?_ (Finset.sum_range_succ' _ 15).symm
      rw [add_comm]
      refine congrArg₂ (· + ·) (Finset.sum_congr rfl fun j hj => congrArg _ ?_) (congrArg _ ?_) <;> omega
    · omega
end

theorem fours (g : ℕ → EReal) (n : ℕ) : ∑ j ∈ Finset.range n, four g (32 * j) = ∑ j ∈ Finset.range (4 * n), g (8 * j) := by
  induction n with
  | zero => rfl
  | succ n ih =>
    rw [Finset.sum_range_succ, ih, Nat.mul_succ, Finset.sum_range_add, four_sum]
    refine congrArg₂ (· + ·) rfl (Finset.sum_congr rfl fun j hj => congrArg g ?_)
    omega

theorem statTile_ideal (c : Dev nD) (code : ℕ → ℕ → BitVec 8) (scl : ℕ → EReal) : StatTile (F := Ideal) c code scl (invI code scl) := by
  intro arg8 f8 s hs V x hx sc z H hsc
  have z1 : (z 1).val < 128 := (z 1).isLt
  have hr : ∀ u : S32x128.Idx, scaleTile (F := Ideal) sc u = scl (V + 128 * x + (u 1).val) := fun u => by
    unfold scaleTile
    rw [shapeCast_self, shapeCast_self]
    exact (broadcastTo_apply (s := S1x128) (t := S32x128) _ broadcasts_S1x128_S32x128 u (ValueIdx.ix2 (⟨0, Nat.one_pos⟩ : Fin 1) (u 1 : Fin 128)) (fun a => by
      match a with
      | ⟨0, _⟩ => rfl
      | ⟨1, _⟩ => rfl)).trans (hsc _)
  generalize hT : totsV c arg8 f8 s hs (128 * x) _ (scaleTile sc) 6 _ (broadcast S8x128 (Scalar.ofBits .f32 0x00000000#32)) = T
  have hTy : ∀ y : S8x128.Idx, (T y : EReal) = ∑ j ∈ Finset.range 384, sqOf (code (8 * j + (y 0).val) (V + 128 * x + (y 1).val)) (scl (V + 128 * x + (y 1).val)) := fun y => by
    rw [← hT, totsV_at c arg8 f8 code s hs V (128 * x) _ H _ (fun n => scl (V + 128 * x + n)) hr y]
    have e0 : ((broadcast S8x128 (Scalar.ofBits (F := Ideal) .f32 0x00000000#32) : FVec Ideal S8x128 .f32) y : EReal) = 0 := Ideal.ofBits_zero_f32
    rw [e0, zero_add]
    have := fours (fun k => gq code V (128 * x) (fun n => scl (V + 128 * x + n)) (y 1).val (k + (y 0).val)) 96
    refine Eq.trans (Finset.sum_congr rfl fun j hj => ?_) (this.trans (Finset.sum_congr rfl fun j hj => ?_))
    · unfold four
      refine congrArg₂ (· + ·) (congrArg₂ (· + ·) (congrArg₂ (· + ·) ?_ ?_) ?_) ?_ <;> refine congrArg _ ?_ <;> omega
    · unfold gq
      simp only [Nat.add_assoc]
  unfold invOf
  rw [shapeCast_self]
  show FloatOps.rsqrt (F := Ideal) (φ := .f32) ((shapeCast S1x128 _ shapeCasts_S128_S1x128 z : EReal) * Ideal.ofBits .f32 0x39AAAAAB#32 + Ideal.ofBits .f32 0x358637BD#32) = _
  unfold invI
  refine congrArg (fun t : EReal => FloatOps.rsqrt (F := Ideal) (φ := .f32) (t * _ + _)) ?_
  have ez : ∀ h : S128.numel = S1x128.numel, Shape.reshapeEquiv h.symm z = (ValueIdx.ix1 (⟨(z 1).val, z1⟩ : Fin 128) : S128.Idx) := fun h =>
    Shape.reshapeEquiv_eq_of_rowMajor h.symm ((Shape.rowMajor_val_one (d := ![128]) _).trans (Eq.trans (show (z 1).val = (z 0).val * 128 + (z 1).val by
      have : (z 0).val < 1 := (z 0).isLt
      omega) (Shape.rowMajor_val_two (d := ![1, 128]) z).symm))
  show multiReduction (F := Ideal) .add [0] S128 T 0x00000000#32 reduces_S8x128_S128 (.inl rfl) rfl (Shape.reshapeEquiv _ z) = _
  rw [ez shapeCasts_S128_S1x128]
  show Ideal.reduceAdd reduces_S8x128_S128 T _ = _
  refine (Ideal.reduceAdd_r2_a0 (n0 := 8) (n1 := 128) reduces_S8x128_S128 T _).trans ?_
  refine (Finset.sum_congr rfl fun k _ => hTy _).trans ?_
  rw [Finset.sum_comm]
  exact sum_eights (fun d => sqOf (code d (V + 128 * x + (z 1).val)) (scl (V + 128 * x + (z 1).val))) 384

end Cert.Proof.Kernel
-- ==== Proof.Bridge.lean ====
/-
  The idealization read over the extended reals is the program read there: one proof of the program serves both.
-/
module

public import proofs.«01_k».proof.Proof.Launch
public import proofs.«01_k».proof.Proof.Stat
public import proofs.«01_k».proof.KernelIdeal
public import proofs.«01_k».proof.Proof.Gen.KernelIdeal

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "PF" => Prog (TpuEff nD τ sig (Elt F) Λ₀ Proc.tc) PUnit
local notation "𝕄" => MT nD τ sig Unit (Elt F) ℕ (Pipeline.UD sig nD τ) ℕ

set_option maxRecDepth 65536 in
set_option maxHeartbeats 4000000 in
theorem kernel_eq (arg0 : Memref sig .tc .smem S8x4096 .i32) (harg0 : arg0.IsWhole) (arg1 : Memref sig .tc .smem S32000 .f32) (harg1 : arg1.IsWhole) (arg2 : Memref sig .tc .hbm S3072x32000 .i8) (harg2 : arg2.IsWhole) (arg3 : Memref sig .tc .vmem S250x128 .f32) (harg3 : arg3.IsWhole) (arg4 : Memref sig .tc .vmem S24x128 .bf16) (harg4 : arg4.IsWhole) (arg5 : Memref sig .tc .hbm S8x4096x3072 .bf16) (harg5 : arg5.IsWhole) (arg6 : Memref sig .tc .hbm S8x4096x3072 .bf16) (harg6 : arg6.IsWhole) (arg7 : Memref sig .tc .vmem S96000x128 .i32) (harg7 : arg7.IsWhole) (arg8 : Memref sig .tc .vmem S6x3072x256 .i8) (harg8 : arg8.IsWhole) (arg9 : Memref sig .tc .vmem S250x128 .f32) (harg9 : arg9.IsWhole) (arg10 : Memref sig .tc .smem S32000 .f32) (harg10 : arg10.IsWhole) (arg11 : Memref sig .tc .vmem S16x128 .bf16) (harg11 : arg11.IsWhole) (arg12 : Memref sig .tc .vmem S24x128 .f32) (harg12 : arg12.IsWhole) (arg13 : Memref sig .tc .vmem S6x128x128 .i32) (harg13 : arg13.IsWhole) (arg14 : Memref sig .tc .vmem S120x128 .i32) (harg14 : arg14.IsWhole) (arg15 : Memref sig .tc .vmem S4x256x1536 .bf16) (harg15 : arg15.IsWhole) (arg16 : Memref sig .tc .vmem S4x256x1536 .bf16) (harg16 : arg16.IsWhole) (arg17 : DmaSems sig S6) (arg18 : DmaSems sig S_) (arg19 : DmaSems sig S4) (arg20 : DmaSems sig S4) : Cert.KernelIdeal.cc0_embed_rmsnorm (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 = Cert.Kernel.cc0_embed_rmsnorm (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 := rfl

theorem defs₀_eq : Cert.KernelIdeal.defs₀ (F := Ideal) = Cert.Kernel.defs₀ (F := Ideal) := by
  unfold Cert.KernelIdeal.defs₀ Cert.Kernel.defs₀
  refine congrArg Defs.onTc ?_
  funext l a
  match l, a with
  | 0, (t, s) => exact kernel_eq _ _ _ _ _ _ _ _ _ _ _ _ _ _ _ _ _ _ _ _ _ _ _ _ _ _ _ _ _ _ _ _ _ _ _ _ _ _
  | ⟨n + 1, h⟩, _ => exact absurd h (Nat.not_lt.2 (Nat.le_add_left _ _))

theorem defs_eq : Cert.KernelIdeal.defs (F := Ideal) = Cert.Kernel.defs (F := Ideal) :=
  congrArg (Pipeline.defs (Cert.Kernel.pcfgs (F := Ideal))) defs₀_eq

theorem main_eq : Cert.KernelIdeal.main (F := Ideal) = Cert.Kernel.main (F := Ideal) := rfl

/-- The reciprocal roots of a memory's table. -/
def invsOf (m : (ℓ : Loc nD τ sig) → Buf (Elt Ideal) ℓ) (c : Dev nD) : ℕ → EReal := invI (specOf m False inv0 c).code (specOf m False inv0 c).scl

/-- The run of the program over the extended reals, its results told. -/
theorem value_ideal (m : (ℓ : Loc nD τ sig) → Buf (Elt Ideal) ℓ) (ρ : Dev nD → PrngReg) (hm : Ids m) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v2_0) = outArr (specOf m True (invsOf m) c)
      ∧ r.2.mem ((c.tc : Thread nD τ).loc main_v2_1) = embArr (specOf m True (invsOf m) c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := value m ρ (invsOf m) (fun c => statTile_ideal c (specOf m False inv0 c).code (specOf m False inv0 c).scl) hm
  rw [← defs_eq] at h
  exact h

/-- The idealization's run ends, the arguments as they were, every counter at zero. -/
theorem quiet_ideal (m : (ℓ : Loc nD τ sig) → Buf (Elt Ideal) ℓ) (ρ : Dev nD → PrngReg) (hm : Ids m) :
    θ_run (Cert.KernelIdeal.defs (F := Ideal)) (onTc (τ := τ) (Cert.KernelIdeal.main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := quiet m ρ hm
  rw [← defs_eq] at h
  exact h

end Cert.Proof.Kernel
-- ==== Proof.RefVal.lean ====
/-
  The reference read at an index: a row of the table, its scale, and the row's mean square.
-/
module

public import proofs.«01_k».proof.Proof.Gen.ReferenceIdeal.Run
public import Idealize.ShloMosaic.Lib.ReduceAll
public import Idealize.ShloMosaic.Lib.IdealHost
public import Idealize.ShloMosaic.Lib.ValueIdxCore
public import Idealize.ShloMosaic.Lib.Pipeline.Value
public import Idealize.ShloMosaic.Lib.Pointwise.Reduce

@[expose] public section

noncomputable section

namespace Cert.Proof.Reference

open Cert.ReferenceIdeal Cert.ReferenceIdeal.Gen
open Idealize.ShloMosaic hiding ix1 ix2 ix3 eq_ix1 eq_ix2 eq_ix3
open Idealize.ShloMosaic.TcCoe Idealize.ShloMosaic.ValueIdx

/-! ### Words below the table's width -/

theorem toInt_of_lt {v : BitVec 32} (h : v.toNat < 32000) : v.toInt = v.toNat := by
  rw [BitVec.toInt_eq_toNat_cond, if_pos (by omega)]

theorem not_neg {v : BitVec 32} (h : v.toNat < 32000) : ¬ IntOp.cmpi .slt v 0#32 = 1 := by
  show ¬ BitVec.ofBool (v.slt 0#32) = 1#1
  have : v.slt 0#32 = false := by
    rw [BitVec.slt_eq_decide, toInt_of_lt h]
    exact decide_eq_false (by show ¬ ((v.toNat : ℤ) < 0); omega)
  rw [this]
  decide

theorem in_table {v : BitVec 32} (h : v.toNat < 32000) : IntOp.andi (IntOp.cmpi .sge v 0#32) (IntOp.cmpi .sle v 31999#32) = 1#1 := by
  show BitVec.ofBool ((0#32).sle v) &&& BitVec.ofBool (v.sle 31999#32) = 1#1
  have a : (0#32).sle v = true := by
    rw [BitVec.sle_eq_decide, toInt_of_lt h]
    exact decide_eq_true (by show (0 : ℤ) ≤ v.toNat; omega)
  have b : v.sle 31999#32 = true := by
    rw [BitVec.sle_eq_decide, toInt_of_lt h]
    exact decide_eq_true (by show (v.toNat : ℤ) ≤ 31999; omega)
  rw [a, b]
  decide

/-! ### The gather of a row of the table -/

theorem gather_rows {α : Type} (x : S3072x32000.Idx → α) (idx : IVec S8x4096x1 32) (y : S3072x8x4096.Idx) :
    Host.gather gather_S3072x32000_S8x4096x1_S3072x8x4096_0_1_n_n_1_2_30721 x idx y
      = x (ix2 (y 0 : Fin 3072) (⟨min (idx (ix3 (y 1 : Fin 8) (y 2 : Fin 4096) (⟨0, Nat.one_pos⟩ : Fin 1))).toInt.toNat 31999, Nat.lt_of_le_of_lt (Nat.min_le_right _ _) (by decide)⟩ : Fin 32000)) := by
  unfold Host.gather
  refine congrArg x ?_
  funext a
  refine Fin.ext ?_
  show GatherDims.start _ y idx a + GatherDims.batchCoord _ y a + GatherDims.offCoord _ y a = _
  rw [GatherDims.batchCoord_eq_zero _ _ _ List.not_mem_nil, Nat.add_zero]
  match a with
  | ⟨0, _⟩ =>
    unfold GatherDims.start
    refine (congrArg₂ (· + ·) (dif_neg (show ¬ ((0 : Fin 2) ∈ ([1] : List (Fin 2))) by decide)) rfl).trans ?_
    exact Nat.zero_add _
  | ⟨1, _⟩ =>
    rw [GatherDims.offCoord_eq_zero _ _ _ (fun h => ((GatherDims.mem_sKept _ _).mp h).1 (List.mem_singleton.mpr rfl)), Nat.add_zero]
    unfold GatherDims.start
    refine (dif_pos (show (1 : Fin 2) ∈ ([1] : List (Fin 2)) by decide)).trans ?_
    refine congrArg (fun z => min (idx z).toInt.toNat 31999) ?_
    funext b
    refine Fin.ext ?_
    match b with
    | ⟨0, _⟩ => rfl
    | ⟨1, _⟩ => rfl
    | ⟨2, _⟩ => rfl

/-! ### The reference's values -/

section
variable (ids : IVec S8x4096 32) (a1 : IVec S3072x32000 8) (a2 : FVec Ideal S32000 .f32) (a3 : FVec Ideal S3072 .bf16)

/-- The ids, a negative one counted from the table's end. -/
def wrapped : IVec S8x4096x1 32 :=
  broadcastInDim S8x4096x1 ![0, 1] bcast_S8x4096_S8x4096x1_0_1 (select (cmpi .slt ids (broadcastInDim S8x4096 ![] bcast_S_S8x4096 (constantI S_ 32 0#32)))
    (addi ids (broadcastInDim S8x4096 ![] bcast_S_S8x4096 (constantI S_ 32 32000#32))) ids)

/-- Where an id names an entry. -/
def mask : IVec S8x4096 1 :=
  Host.reduce IntOp.andi (andi (cmpi .sge (wrapped ids) (broadcastInDim S8x4096x1 ![] bcast_S_S8x4096x1 (constantI S_ 32 0#32)))
    (cmpi .sle (wrapped ids) (broadcastInDim S8x4096x1 ![0, 1, 2] bcast_S1x1x1_S8x4096x1_0_1_2 (broadcastInDim S1x1x1 ![2] bcast_S1_S1x1x1_2 (constantI S1 32 31999#32)))))
    (constantI S_ 1 1#1) reducesTo_S8x4096x1_S8x4096_d2 h_S_

def codes : IVec S3072x8x4096 8 :=
  select (broadcastInDim S3072x8x4096 ![1, 2] bcast_S8x4096_S3072x8x4096_1_2 (mask ids))
    (Host.gather gather_S3072x32000_S8x4096x1_S3072x8x4096_0_1_n_n_1_2_30721 a1 (wrapped ids)) (broadcastInDim S3072x8x4096 ![] bcast_S_S3072x8x4096 (constantI S_ 8 128#8))

def scales : FVec Ideal S8x4096 .f32 :=
  select (mask ids) (Host.gather gather_S32000_S8x4096x1_S8x4096_n_0_n_n_0_2_1 a2 (wrapped ids)) (broadcastInDim S8x4096 ![] bcast_S_S8x4096 (constant S_ .f32 0x7FC00000#32))

def emb : FVec Ideal S8x4096x3072 .bf16 :=
  mulf (sitofp .bf16 (extsi 32 (transpose S8x4096x3072 [1, 2, 0] (codes ids a1) transposes_S3072x8x4096_S8x4096x3072_1_2_0) natLt_8_32))
    (broadcastInDim S8x4096x3072 ![0, 1, 2] bcast_S8x4096x1_S8x4096x3072_0_1_2 (broadcastInDim S8x4096x1 ![0, 1] bcast_S8x4096_S8x4096x1_0_1 (truncf .bf16 (scales ids a2) bitsLt_bf16_f32)))

/-- The reciprocal root of a token's mean square. -/
def root (e : FVec Ideal S8x4096x3072 .bf16) : FVec Ideal S8x4096x1 .f32 :=
  Host.rsqrt (addf (mulf (broadcastInDim S8x4096x1 ![0, 1] bcast_S8x4096_S8x4096x1_0_1
    (Host.reduceAdd (mulf (extf .f32 e bitsLt_bf16_f32) (extf .f32 e bitsLt_bf16_f32)) (constant S_ .f32 0x00000000#32) reducesTo_S8x4096x3072_S8x4096_d2 h_S_))
    (broadcastInDim S8x4096x1 ![] bcast_S_S8x4096x1 (constant S_ .f32 0x39AAAAAB#32))) (broadcastInDim S8x4096x1 ![] bcast_S_S8x4096x1 (constant S_ .f32 0x358637BD#32)))

def out (e : FVec Ideal S8x4096x3072 .bf16) : FVec Ideal S8x4096x3072 .bf16 :=
  truncf .bf16 (mulf (mulf (extf .f32 e bitsLt_bf16_f32) (broadcastInDim S8x4096x3072 ![0, 1, 2] bcast_S8x4096x1_S8x4096x3072_0_1_2 (root e)))
    (broadcastInDim S8x4096x3072 ![0, 1, 2] bcast_S1x1x3072_S8x4096x3072_0_1_2 (broadcastInDim S1x1x3072 ![2] bcast_S3072_S1x1x3072_2 (extf .f32 a3 bitsLt_bf16_f32)))) bitsLt_bf16_f32

/-! ### Read at an index -/

variable (h : ∀ x, (ids x).toNat < 32000)

/-- A token's number, kept as a column. -/
theorem col_at {α : Type} (x : S8x4096.Idx → α) (z : S8x4096x1.Idx) :
    broadcastInDim S8x4096x1 ![0, 1] bcast_S8x4096_S8x4096x1_0_1 x z = x (ix2 (z 0 : Fin 8) (z 1 : Fin 4096)) :=
  broadcastInDim_apply _ _ _ z (ix2 (z 0 : Fin 8) (z 1 : Fin 4096)) (fun a => by
    match a with
    | ⟨0, _⟩ => rfl
    | ⟨1, _⟩ => rfl)

/-- A token's scale, told along its row. -/
theorem row_at (x : FVec Ideal S8x4096 .f32) (z : S8x4096x3072.Idx) :
    broadcastInDim S8x4096x3072 ![0, 1, 2] bcast_S8x4096x1_S8x4096x3072_0_1_2 (broadcastInDim S8x4096x1 ![0, 1] bcast_S8x4096_S8x4096x1_0_1 (truncf .bf16 x bitsLt_bf16_f32)) z
      = x (ix2 (z 0 : Fin 8) (z 1 : Fin 4096)) :=
  (broadcastInDim_apply _ _ _ z (ix3 (z 0 : Fin 8) (z 1 : Fin 4096) (⟨0, Nat.one_pos⟩ : Fin 1)) (fun b => by
    match b with
    | ⟨0, _⟩ => rfl
    | ⟨1, _⟩ => rfl
    | ⟨2, _⟩ => rfl)).trans (col_at (truncf .bf16 x bitsLt_bf16_f32) _)

/-- Codes widened, told as numbers, and scaled. -/
theorem scaled_at (x : IVec S8x4096x3072 8) (y : FVec Ideal S8x4096x3072 .bf16) (z : S8x4096x3072.Idx) :
    mulf (sitofp .bf16 (extsi 32 x natLt_8_32)) y z = (FloatOps.sitofp (F := Ideal) .bf16 (x z) : EReal) * y z := by
  show (((BitVec.signExtend 32 (x z)).toInt : ℝ) : EReal) * y z = (((x z).toInt : ℝ) : EReal) * y z
  rw [BitVec.toInt_signExtend_of_le (by decide)]

include h in
theorem wrapped_at (z : S8x4096x1.Idx) : wrapped ids z = ids (ix2 (z 0 : Fin 8) (z 1 : Fin 4096)) := by
  unfold wrapped
  refine (col_at _ z).trans ?_
  show Scalar.select (IntOp.cmpi .slt (ids _) 0#32) _ _ = _
  unfold Scalar.select
  exact if_neg (not_neg (h _))

include h in
theorem mask_at (y : S8x4096.Idx) : mask ids y = 1#1 := by
  unfold mask
  refine Host.reduce_andi_one _ _ _ _ y rfl fun z => ?_
  show IntOp.andi (IntOp.cmpi .sge (wrapped ids z) 0#32) (IntOp.cmpi .sle (wrapped ids z) 31999#32) = 1#1
  rw [wrapped_at ids h]
  exact in_table (h _)

include h in
theorem codes_at (y : S3072x8x4096.Idx) : codes ids a1 y = a1 (ix2 (y 0 : Fin 3072) (⟨(ids (ix2 (y 1 : Fin 8) (y 2 : Fin 4096))).toNat, h _⟩ : Fin 32000)) := by
  unfold codes
  have e : broadcastInDim S3072x8x4096 ![1, 2] bcast_S8x4096_S3072x8x4096_1_2 (mask ids) y = 1#1 := by
    unfold broadcastInDim
    exact mask_at ids h _
  show Scalar.select (broadcastInDim S3072x8x4096 ![1, 2] bcast_S8x4096_S3072x8x4096_1_2 (mask ids) y) _ _ = _
  rw [e]
  unfold Scalar.select
  rw [if_pos (by rfl), gather_rows, wrapped_at ids h]
  refine congrArg a1 (congrArg (ix2 _) (Fin.ext ?_))
  show min (ids (ix2 (y 1 : Fin 8) (y 2 : Fin 4096))).toInt.toNat 31999 = (ids (ix2 (y 1 : Fin 8) (y 2 : Fin 4096))).toNat
  have := h (ix2 (y 1 : Fin 8) (y 2 : Fin 4096))
  rw [toInt_of_lt this]
  omega

include h in
theorem scales_at (y : S8x4096.Idx) : scales ids a2 y = a2 (ix1 (⟨(ids y).toNat, h _⟩ : Fin 32000)) := by
  unfold scales
  show Scalar.select (mask ids y) _ _ = _
  rw [mask_at ids h]
  unfold Scalar.select
  rw [if_pos (by rfl)]
  refine (gather_take_apply (N := 32000) (R := 8) (C := 4096) (by decide) gather_S32000_S8x4096x1_S8x4096_n_0_n_n_0_2_1_wf a2 (wrapped ids) y).trans ?_
  refine congrArg a2 (congrArg ix1 (Fin.ext ?_))
  show min (wrapped ids (takeIdx y)).toInt.toNat (32000 - 1) = (ids y).toNat
  rw [wrapped_at ids h, show (ix2 (takeIdx y 0 : Fin 8) (takeIdx y 1 : Fin 4096) : S8x4096.Idx) = y from (eq_ix2 y).symm]
  have := h y
  rw [toInt_of_lt this]
  omega

include h in
theorem emb_at (z : S8x4096x3072.Idx) : emb ids a1 a2 z
    = FloatOps.sitofp (F := Ideal) .bf16 (a1 (ix2 (z 2 : Fin 3072) (⟨(ids (ix2 (z 0 : Fin 8) (z 1 : Fin 4096))).toNat, h _⟩ : Fin 32000)))
      * (a2 (ix1 (⟨(ids (ix2 (z 0 : Fin 8) (z 1 : Fin 4096))).toNat, h _⟩ : Fin 32000)) : EReal) := by
  have e1 : transpose S8x4096x3072 [1, 2, 0] (codes ids a1) transposes_S3072x8x4096_S8x4096x3072_1_2_0 z
      = a1 (ix2 (z 2 : Fin 3072) (⟨(ids (ix2 (z 0 : Fin 8) (z 1 : Fin 4096))).toNat, h _⟩ : Fin 32000)) :=
    (transpose_apply _ _ _ z (ix3 (z 2 : Fin 3072) (z 0 : Fin 8) (z 1 : Fin 4096)) (fun b => by
      match b with
      | ⟨0, _⟩ => rfl
      | ⟨1, _⟩ => rfl
      | ⟨2, _⟩ => rfl)).trans (codes_at ids a1 h _)
  exact (scaled_at (transpose S8x4096x3072 [1, 2, 0] (codes ids a1) transposes_S3072x8x4096_S8x4096x3072_1_2_0) _ z).trans
    (congrArg₂ (fun (b : BitVec 8) (t : EReal) => (FloatOps.sitofp (F := Ideal) .bf16 b : EReal) * t) e1
      ((row_at (scales ids a2) z).trans (scales_at ids a2 h _)))

theorem root_at (e : FVec Ideal S8x4096x3072 .bf16) (z : S8x4096x1.Idx) :
    root e z = Ideal.rsqrt ((∑ k : Fin 3072, (e (ix3 (z 0 : Fin 8) (z 1 : Fin 4096) k) : EReal) * e (ix3 (z 0 : Fin 8) (z 1 : Fin 4096) k)) * Ideal.ofBits .f32 0x39AAAAAB#32 + Ideal.ofBits .f32 0x358637BD#32) := by
  unfold root
  refine congrArg (fun t : EReal => Ideal.rsqrt (t * _ + _)) ?_
  refine (col_at _ z).trans ?_
  refine (hostReduceAdd_apply _ _ _ _ _).trans ?_
  refine (Ideal.hostReduceAdd_r3_a2 (n0 := 8) (n1 := 4096) (n2 := 3072) reducesTo_S8x4096x3072_S8x4096_d2 _ _ _).trans ?_
  rw [show (constant (F := Ideal) S_ .f32 0x00000000#32 (Shape.Idx.first h_S_) : EReal) = 0 from Ideal.ofBits_zero_f32, zero_add]
  rfl

theorem out_at (e : FVec Ideal S8x4096x3072 .bf16) (z : S8x4096x3072.Idx) :
    out a3 e z = (e z : EReal) * root e (ix3 (z 0 : Fin 8) (z 1 : Fin 4096) (⟨0, Nat.one_pos⟩ : Fin 1)) * a3 (ix1 (z 2 : Fin 3072)) := by
  unfold out
  refine congrArg₂ (fun p q : EReal => (e z : EReal) * p * q) ?_ ?_
  · exact broadcastInDim_apply _ _ _ z (ix3 (z 0 : Fin 8) (z 1 : Fin 4096) (⟨0, Nat.one_pos⟩ : Fin 1)) (fun b => by
      match b with
      | ⟨0, _⟩ => rfl
      | ⟨1, _⟩ => rfl
      | ⟨2, _⟩ => rfl)
  · exact (broadcastInDim_apply _ _ _ z (ix3 (⟨0, Nat.one_pos⟩ : Fin 1) (⟨0, Nat.one_pos⟩ : Fin 1) (z 2 : Fin 3072)) (fun b => by
      match b with
      | ⟨0, _⟩ => rfl
      | ⟨1, _⟩ => rfl
      | ⟨2, _⟩ => rfl)).trans (broadcastInDim_apply _ _ _ _ (ix1 (z 2 : Fin 3072)) (fun b => by
      match b with
      | ⟨0, _⟩ => rfl))
end

/-! ### The run -/

open Idealize.SL.Sem

theorem res_eq (m : (ℓ : Loc nD τ sig) → Buf (Elt Ideal) ℓ) (c : Dev nD) :
    Cert.ReferenceIdeal.Value.res_out0 (F := Ideal) m c
      = out (m ((c.tc : Thread nD τ).loc main_arg3)) (emb (m ((c.tc : Thread nD τ).loc main_arg0)) (m ((c.tc : Thread nD τ).loc main_arg1)) (m ((c.tc : Thread nD τ).loc main_arg2))) := rfl

/-- The reference's run, its results told. -/
theorem value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = out (m ((c.tc : Thread nD τ).loc main_arg3)) (emb (m ((c.tc : Thread nD τ).loc main_arg0)) (m ((c.tc : Thread nD τ).loc main_arg1)) (m ((c.tc : Thread nD τ).loc main_arg2)))
      ∧ r.2.mem ((c.tc : Thread nD τ).loc main_v8) = emb (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_eq m c), (h c).2.1, (h c).2.2⟩) (Cert.ReferenceIdeal.Value.run (F := Ideal) m ρ)

/-- The reference ends, the arguments as they were; it has no counter. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems (by decide) r.2⟩) (Cert.ReferenceIdeal.Value.run (F := Ideal) m ρ)

end Cert.Proof.Reference
-- ==== Proof.Equal.lean ====
/-
  The program's results are the reference's, over the extended reals.
-/
module

public import proofs.«01_k».proof.Proof.Bridge
public import proofs.«01_k».proof.Proof.RefVal

@[expose] public section

noncomputable section

namespace Cert.Proof.Kernel

open Cert.Kernel Cert.Kernel.Gen
open Idealize.ShloMosaic Idealize.ShloMosaic.TcCoe

/-! ### The description's entries within their bounds -/

section
variable (m : (ℓ : Loc nD τ sig) → Buf (Elt Ideal) ℓ) (val : Prop) (inv : Dev nD → ℕ → EReal) (c : Dev nD)

theorem code_in (d : Fin 3072) (v : ℕ) (hv : v < 32000) : (specOf m val inv c).code d.val v = m ((c : Thread nD τ).loc main_arg1) (ValueIdx.ix2 d (⟨v, hv⟩ : Fin 32000)) :=
  dif_pos ⟨d.isLt, hv⟩

theorem tok_in (b : Fin 8) (t : Fin 4096) : (specOf m val inv c).tok b.val t.val = (m ((c : Thread nD τ).loc main_arg0) (ValueIdx.ix2 b t) : BitVec 32).toNat :=
  dif_pos ⟨b.isLt, t.isLt⟩

theorem scl_in (v : ℕ) (hv : v < 32000) : (specOf m val inv c).scl v = m ((c : Thread nD τ).loc main_arg2) (ValueIdx.ix1 (⟨v, hv⟩ : Fin 32000)) :=
  dif_pos hv

theorem wt_in (d : Fin 3072) : (specOf m val inv c).wt d.val = m ((c : Thread nD τ).loc main_arg3) (ValueIdx.ix1 d) :=
  dif_pos d.isLt

theorem emb_in (hm : Ids m) (z : S8x4096x3072.Idx) : (embArr (specOf m val inv c) z : EReal)
    = FloatOps.sitofp (F := Ideal) .bf16 (m ((c : Thread nD τ).loc main_arg1) (ValueIdx.ix2 (z 2 : Fin 3072) (⟨(m ((c : Thread nD τ).loc main_arg0) (ValueIdx.ix2 (z 0 : Fin 8) (z 1 : Fin 4096)) : BitVec 32).toNat, hm c _⟩ : Fin 32000)) : BitVec 8)
      * (m ((c : Thread nD τ).loc main_arg2) (ValueIdx.ix1 (⟨(m ((c : Thread nD τ).loc main_arg0) (ValueIdx.ix2 (z 0 : Fin 8) (z 1 : Fin 4096)) : BitVec 32).toNat, hm c _⟩ : Fin 32000)) : EReal) := by
  show (FloatOps.sitofp (F := Ideal) .bf16 ((specOf m val inv c).code (z 2).val ((specOf m val inv c).tok (z 0).val (z 1).val)) : EReal) * (specOf m val inv c).scl ((specOf m val inv c).tok (z 0).val (z 1).val) = _
  rw [tok_in m val inv c (z 0) (z 1)]
  exact congrArg₂ (fun (b : BitVec 8) (t : EReal) => (FloatOps.sitofp (F := Ideal) .bf16 b : EReal) * t) (code_in m val inv c (z 2) _ (hm c _)) (scl_in m val inv c _ (hm c _))
end

section
variable (m : (ℓ : Loc nD τ sig) → Buf (Elt Ideal) ℓ) (c : Dev nD)

theorem emb_eq (hm : Ids m) (val : Prop) (inv : Dev nD → ℕ → EReal) :
    Reference.emb (m ((c : Thread nD τ).loc main_arg0)) (m ((c : Thread nD τ).loc main_arg1)) (m ((c : Thread nD τ).loc main_arg2)) = embArr (specOf m val inv c) :=
  funext fun z => (Reference.emb_at _ _ _ (hm c) z).trans (emb_in m val inv c hm z).symm

/-- The reciprocal root the program keeps for a token's entry is the reference's for the token. -/
theorem root_eq (hm : Ids m) (val : Prop) (inv : Dev nD → ℕ → EReal) (b : Fin 8) (t : Fin 4096) :
    Reference.root (embArr (specOf m val inv c)) (ValueIdx.ix3 b t (⟨0, Nat.one_pos⟩ : Fin 1)) = invsOf m c ((specOf m val inv c).tok b.val t.val) := by
  refine (Reference.root_at _ _).trans ?_
  unfold invsOf invI
  refine congrArg (fun s : EReal => Ideal.rsqrt (s * _ + _)) ?_
  exact (Finset.sum_range (fun d => sqOf ((specOf m val inv c).code d ((specOf m val inv c).tok b.val t.val)) ((specOf m val inv c).scl ((specOf m val inv c).tok b.val t.val)))).symm

theorem out_eq (hm : Ids m) :
    Reference.out (m ((c : Thread nD τ).loc main_arg3)) (embArr (specOf m True (invsOf m) c)) = outArr (specOf m True (invsOf m) c) := by
  funext z
  refine (Reference.out_at _ _ z).trans ?_
  rw [root_eq m c hm True (invsOf m) (z 0) (z 1)]
  exact congrArg (fun w : EReal => (embArr (specOf m True (invsOf m) c) z : EReal) * invsOf m c ((specOf m True (invsOf m) c).tok (z 0).val (z 1).val) * w) (wt_in m True (invsOf m) c (z 2)).symm
end

end Cert.Proof.Kernel
-- ==== Proof.lean ====
/-
  The claims, from the launch of the program, its reading over the extended reals and the reference's.
-/
module

public import proofs.«01_k».proof.Defs
public import proofs.«01_k».proof.Proof.Gen.Pre_ids_in_table
public import proofs.«01_k».proof.Proof.Equal

@[expose] public section

noncomputable section

namespace Cert.Proof

open Idealize.ShloMosaic Idealize.SL.Sem

/-- A word the predicate admits is below the table's width. -/
theorem lt_of_pre {v : BitVec 32} (e : IntOp.andi (IntOp.cmpi .sge v 0#32) (IntOp.cmpi .slt v 32000#32) = 1#1) : v.toNat < 32000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The predicate at one id. -/
theorem ids_of_fn {F : FTy → Type} [FloatOps F] {a0 : IVec Cert.Pre_ids_in_table.S8x4096 32} {a1 : IVec Cert.Pre_ids_in_table.S3072x32000 8}
    {a2 : FVec F Cert.Pre_ids_in_table.S32000 .f32} {a3 : FVec F Cert.Pre_ids_in_table.S3072 .bf16} [Cert.Pre_ids_in_table.Facts]
    (h : Cert.Pre_ids_in_table.fn a0 a1 a2 a3 = fun _ => 1#1) (x : Cert.Pre_ids_in_table.S8x4096.Idx) : (a0 x).toNat < 32000 := by
  have e := congrFun h x
  simp only [Cert.Pre_ids_in_table.fn, andi, cmpi, broadcastInDim, constantI] at e
  exact lt_of_pre e

/-- Program and reference, from arguments that agree, return the same results. -/
theorem same [Cert.Pre_ids_in_table.Facts] : Cert.algebraic_KernelIdeal_ReferenceIdeal := by
  intro m g m' g' hP ha
  have hm : Kernel.Ids m := fun c x => ids_of_fn (hP c) x
  refine ⟨fun c => Kernel.outArr (Kernel.specOf m True (Kernel.invsOf m) c), fun c => Kernel.embArr (Kernel.specOf m True (Kernel.invsOf m) c),
    Kernel.value_ideal m g hm, ?_⟩
  refine (θ_run Cert.ReferenceIdeal.defs _ _).mono (fun r h c => ?_) (Reference.value m' g')
  obtain ⟨h0, h1, h2⟩ := h c
  obtain ⟨a0, a1, a2, a3⟩ := ha c
  rw [a0, a1, a2] at h0 h1
  rw [a3] at h0
  have e := Kernel.emb_eq m c hm True (Kernel.invsOf m)
  exact ⟨h0.trans ((congrArg (Reference.out _) e).trans (Kernel.out_eq m c hm)), h1.trans e, h2⟩

theorem claim : Cert.Claim := ⟨Cert.Kernel.Gen.facts, Cert.KernelIdeal.Gen.facts, Cert.ReferenceIdeal.Gen.facts, Cert.Pre_ids_in_table.Gen.facts,
  fun m g h => Kernel.quiet m g fun c x => ids_of_fn (h c) x,
  fun m g h => Kernel.quiet_ideal m g fun c x => ids_of_fn (h c) x,
  fun m g _ => Reference.quiet m g,
  fun m g _ => Reference.quiet m g,
  trivial,
  same⟩

end Cert.Proof

end
